-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_BranchKernel (m : (ℓ : Loc Cert.BranchKernel.nD Cert.BranchKernel.τ Cert.BranchKernel.sig) → Buf (Elt Bits) ℓ) : Prop :=
  True

def Pre_BranchKernelIdeal (m : (ℓ : Loc Cert.BranchKernelIdeal.nD Cert.BranchKernelIdeal.τ Cert.BranchKernelIdeal.sig) → Buf (Elt Ideal) ℓ) : Prop :=
  True

def Pre_BranchReferenceIdeal (m : (ℓ : Loc Cert.BranchReferenceIdeal.nD Cert.BranchReferenceIdeal.τ Cert.BranchReferenceIdeal.sig) → Buf (Elt Ideal) ℓ) : Prop :=
  True

def Pre_FwdKernel (m : (ℓ : Loc Cert.FwdKernel.nD Cert.FwdKernel.τ Cert.FwdKernel.sig) → Buf (Elt Bits) ℓ) : Prop :=
  True

def Pre_FwdKernelIdeal (m : (ℓ : Loc Cert.FwdKernelIdeal.nD Cert.FwdKernelIdeal.τ Cert.FwdKernelIdeal.sig) → Buf (Elt Ideal) ℓ) : Prop :=
  True

def Pre_FwdReferenceIdeal (m : (ℓ : Loc Cert.FwdReferenceIdeal.nD Cert.FwdReferenceIdeal.τ Cert.FwdReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1)
      ∧ r.2.mem ((c.tc : Thread Cert.UpKernel.nD Cert.UpKernel.τ).loc Cert.UpKernel.main_arg2) = m ((c.tc : Thread Cert.UpKernel.nD Cert.UpKernel.τ).loc Cert.UpKernel.main_arg2))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2)
      ∧ r.2.mem ((c.tc : Thread Cert.DownKernel.nD Cert.DownKernel.τ).loc Cert.DownKernel.main_arg3) = m ((c.tc : Thread Cert.DownKernel.nD Cert.DownKernel.τ).loc Cert.DownKernel.main_arg3))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
      ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1))
      ∧ r.2.sem = fun _ => 0)

def quiescent_BranchKernel [hBranchKernel : Cert.BranchKernel.Facts] : Prop :=
  ∀ (m : (ℓ : Loc Cert.BranchKernel.nD Cert.BranchKernel.τ Cert.BranchKernel.sig) → Buf (Elt Bits) ℓ) (g : Dev Cert.BranchKernel.nD → PrngReg), Pre_BranchKernel m →
    θ_run (Cert.BranchKernel.defs (F := Bits)) (onTc (τ := Cert.BranchKernel.τ) (Cert.BranchKernel.main (F := Bits))) ⟨m, fun _ => 0, g⟩ (fun r => (∀ c : Dev Cert.BranchKernel.nD,
      r.2.mem ((c.tc : Thread Cert.BranchKernel.nD Cert.BranchKernel.τ).loc Cert.BranchKernel.main_arg0) = m ((c.tc : Thread Cert.BranchKernel.nD Cert.BranchKernel.τ).loc Cert.BranchKernel.main_arg0)
      ∧ r.2.mem ((c.tc : Thread Cert.BranchKernel.nD Cert.BranchKernel.τ).loc Cert.BranchKernel.main_arg1) = m ((c.tc : Thread Cert.BranchKernel.nD Cert.BranchKernel.τ).loc Cert.BranchKernel.main_arg1)
      ∧ r.2.mem ((c.tc : Thread Cert.BranchKernel.nD Cert.BranchKernel.τ).loc Cert.BranchKernel.main_arg2) = m ((c.tc : Thread Cert.BranchKernel.nD Cert.BranchKernel.τ).loc Cert.BranchKernel.main_arg2)
      ∧ r.2.mem ((c.tc : Thread Cert.BranchKernel.nD Cert.BranchKernel.τ).loc Cert.BranchKernel.main_arg3) = m ((c.tc : Thread Cert.BranchKernel.nD Cert.BranchKernel.τ).loc Cert.BranchKernel.main_arg3))
      ∧ r.2.sem = fun _ => 0)

def quiescent_BranchKernelIdeal [hBranchKernelIdeal : Cert.BranchKernelIdeal.Facts] : Prop :=
  ∀ (m : (ℓ : Loc Cert.BranchKernelIdeal.nD Cert.BranchKernelIdeal.τ Cert.BranchKernelIdeal.sig) → Buf (Elt Ideal) ℓ) (g : Dev Cert.BranchKernelIdeal.nD → PrngReg), Pre_BranchKernelIdeal m →
    θ_run (Cert.BranchKernelIdeal.defs (F := Ideal)) (onTc (τ := Cert.BranchKernelIdeal.τ) (Cert.BranchKernelIdeal.main (F := Ideal))) ⟨m, fun _ => 0, g⟩ (fun r => (∀ c : Dev Cert.BranchKernelIdeal.nD,
      r.2.mem ((c.tc : Thread Cert.BranchKernelIdeal.nD Cert.BranchKernelIdeal.τ).loc Cert.BranchKernelIdeal.main_arg0) = m ((c.tc : Thread Cert.BranchKernelIdeal.nD Cert.BranchKernelIdeal.τ).loc Cert.BranchKernelIdeal.main_arg0)
      ∧ r.2.mem ((c.tc : Thread Cert.BranchKernelIdeal.nD Cert.BranchKernelIdeal.τ).loc Cert.BranchKernelIdeal.main_arg1) = m ((c.tc : Thread Cert.BranchKernelIdeal.nD Cert.BranchKernelIdeal.τ).loc Cert.BranchKernelIdeal.main_arg1)
      ∧ r.2.mem ((c.tc : Thread Cert.BranchKernelIdeal.nD Cert.BranchKernelIdeal.τ).loc Cert.BranchKernelIdeal.main_arg2) = m ((c.tc : Thread Cert.BranchKernelIdeal.nD Cert.BranchKernelIdeal.τ).loc Cert.BranchKernelIdeal.main_arg2)
      ∧ r.2.mem ((c.tc : Thread Cert.BranchKernelIdeal.nD Cert.BranchKernelIdeal.τ).loc Cert.BranchKernelIdeal.main_arg3) = m ((c.tc : Thread Cert.BranchKernelIdeal.nD Cert.BranchKernelIdeal.τ).loc Cert.BranchKernelIdeal.main_arg3))
      ∧ r.2.sem = fun _ => 0)

def quiescent_BranchReferenceIdeal [hBranchReferenceIdeal : Cert.BranchReferenceIdeal.Facts] : Prop :=
  ∀ (m : (ℓ : Loc Cert.BranchReferenceIdeal.nD Cert.BranchReferenceIdeal.τ Cert.BranchReferenceIdeal.sig) → Buf (Elt Ideal) ℓ) (g : Dev Cert.BranchReferenceIdeal.nD → PrngReg), Pre_BranchReferenceIdeal m →
    θ_run (Cert.BranchReferenceIdeal.defs (F := Ideal)) (onTc (τ := Cert.BranchReferenceIdeal.τ) (Cert.BranchReferenceIdeal.main (F := Ideal))) ⟨m, fun _ => 0, g⟩ (fun r => (∀ c : Dev Cert.BranchReferenceIdeal.nD,
      r.2.mem ((c.tc : Thread Cert.BranchReferenceIdeal.nD Cert.BranchReferenceIdeal.τ).loc Cert.BranchReferenceIdeal.main_arg0) = m ((c.tc : Thread Cert.BranchReferenceIdeal.nD Cert.BranchReferenceIdeal.τ).loc Cert.BranchReferenceIdeal.main_arg0)
      ∧ r.2.mem ((c.tc : Thread Cert.BranchReferenceIdeal.nD Cert.BranchReferenceIdeal.τ).loc Cert.BranchReferenceIdeal.main_arg1) = m ((c.tc : Thread Cert.BranchReferenceIdeal.nD Cert.BranchReferenceIdeal.τ).loc Cert.BranchReferenceIdeal.main_arg1)
      ∧ r.2.mem ((c.tc : Thread Cert.BranchReferenceIdeal.nD Cert.BranchReferenceIdeal.τ).loc Cert.BranchReferenceIdeal.main_arg2) = m ((c.tc : Thread Cert.BranchReferenceIdeal.nD Cert.BranchReferenceIdeal.τ).loc Cert.BranchReferenceIdeal.main_arg2)
      ∧ r.2.mem ((c.tc : Thread Cert.BranchReferenceIdeal.nD Cert.BranchReferenceIdeal.τ).loc Cert.BranchReferenceIdeal.main_arg3) = m ((c.tc : Thread Cert.BranchReferenceIdeal.nD Cert.BranchReferenceIdeal.τ).loc Cert.BranchReferenceIdeal.main_arg3))
      ∧ r.2.sem = fun _ => 0)

def quiescent_FwdKernel [hFwdKernel : Cert.FwdKernel.Facts] : Prop :=
  ∀ (m : (ℓ : Loc Cert.FwdKernel.nD Cert.FwdKernel.τ Cert.FwdKernel.sig) → Buf (Elt Bits) ℓ) (g : Dev Cert.FwdKernel.nD → PrngReg), Pre_FwdKernel m →
    θ_run (Cert.FwdKernel.defs (F := Bits)) (onTc (τ := Cert.FwdKernel.τ) (Cert.FwdKernel.main (F := Bits))) ⟨m, fun _ => 0, g⟩ (fun r => (∀ c : Dev Cert.FwdKernel.nD,
      r.2.mem ((c.tc : Thread Cert.FwdKernel.nD Cert.FwdKernel.τ).loc Cert.FwdKernel.main_arg0) = m ((c.tc : Thread Cert.FwdKernel.nD Cert.FwdKernel.τ).loc Cert.FwdKernel.main_arg0)
      ∧ r.2.mem ((c.tc : Thread Cert.FwdKernel.nD Cert.FwdKernel.τ).loc Cert.FwdKernel.main_arg1) = m ((c.tc : Thread Cert.FwdKernel.nD Cert.FwdKernel.τ).loc Cert.FwdKernel.main_arg1)
      ∧ r.2.mem ((c.tc : Thread Cert.FwdKernel.nD Cert.FwdKernel.τ).loc Cert.FwdKernel.main_arg2) = m ((c.tc : Thread Cert.FwdKernel.nD Cert.FwdKernel.τ).loc Cert.FwdKernel.main_arg2)
      ∧ r.2.mem ((c.tc : Thread Cert.FwdKernel.nD Cert.FwdKernel.τ).loc Cert.FwdKernel.main_arg3) = m ((c.tc : Thread Cert.FwdKernel.nD Cert.FwdKernel.τ).loc Cert.FwdKernel.main_arg3)
      ∧ r.2.mem ((c.tc : Thread Cert.FwdKernel.nD Cert.FwdKernel.τ).loc Cert.FwdKernel.main_arg4) = m ((c.tc : Thread Cert.FwdKernel.nD Cert.FwdKernel.τ).loc Cert.FwdKernel.main_arg4)
      ∧ r.2.mem ((c.tc : Thread Cert.FwdKernel.nD Cert.FwdKernel.τ).loc Cert.FwdKernel.main_arg5) = m ((c.tc : Thread Cert.FwdKernel.nD Cert.FwdKernel.τ).loc Cert.FwdKernel.main_arg5))
      ∧ r.2.sem = fun _ => 0)

def quiescent_FwdKernelIdeal [hFwdKernelIdeal : Cert.FwdKernelIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg), Pre_FwdKernelIdeal m →
    θ_run (Cert.FwdKernelIdeal.defs (F := Ideal)) (onTc (τ := Cert.FwdKernelIdeal.τ) (Cert.FwdKernelIdeal.main (F := Ideal))) ⟨m, fun _ => 0, g⟩ (fun r => (∀ c : Dev Cert.FwdKernelIdeal.nD,
      r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
      ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
      ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
      ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3)
      ∧ r.2.mem ((c.tc : Thread Cert.FwdKernelIdeal.nD Cert.FwdKernelIdeal.τ).loc Cert.FwdKernelIdeal.main_arg4) = m ((c.tc : Thread Cert.FwdKernelIdeal.nD Cert.FwdKernelIdeal.τ).loc Cert.FwdKernelIdeal.main_arg4)
      ∧ r.2.mem ((c.tc : Thread Cert.FwdKernelIdeal.nD Cert.FwdKernelIdeal.τ).loc Cert.FwdKernelIdeal.main_arg5) = m ((c.tc : Thread Cert.FwdKernelIdeal.nD Cert.FwdKernelIdeal.τ).loc Cert.FwdKernelIdeal.main_arg5))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2)
      ∧ r.2.mem ((c.tc : Thread Cert.FwdReferenceIdeal.nD Cert.FwdReferenceIdeal.τ).loc Cert.FwdReferenceIdeal.main_arg3) = m ((c.tc : Thread Cert.FwdReferenceIdeal.nD Cert.FwdReferenceIdeal.τ).loc Cert.FwdReferenceIdeal.main_arg3)
      ∧ r.2.mem ((c.tc : Thread Cert.FwdReferenceIdeal.nD Cert.FwdReferenceIdeal.τ).loc Cert.FwdReferenceIdeal.main_arg4) = m ((c.tc : Thread Cert.FwdReferenceIdeal.nD Cert.FwdReferenceIdeal.τ).loc Cert.FwdReferenceIdeal.main_arg4)
      ∧ r.2.mem ((c.tc : Thread Cert.FwdReferenceIdeal.nD Cert.FwdReferenceIdeal.τ).loc Cert.FwdReferenceIdeal.main_arg5) = m ((c.tc : Thread Cert.FwdReferenceIdeal.nD Cert.FwdReferenceIdeal.τ).loc Cert.FwdReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v60_0)) (v1 : (c : Dev Cert.KernelIdeal.nD) → Buf (Elt Ideal) ((c.tc : Thread Cert.KernelIdeal.nD Cert.KernelIdeal.τ).loc Cert.KernelIdeal.main_v60_1)) (v2 : (c : Dev Cert.KernelIdeal.nD) → Buf (Elt Ideal) ((c.tc : Thread Cert.KernelIdeal.nD Cert.KernelIdeal.τ).loc Cert.KernelIdeal.main_v60_2)) (v3 : (c : Dev Cert.KernelIdeal.nD) → Buf (Elt Ideal) ((c.tc : Thread Cert.KernelIdeal.nD Cert.KernelIdeal.τ).loc Cert.KernelIdeal.main_v61)) (v4 : (c : Dev Cert.KernelIdeal.nD) → Buf (Elt Ideal) ((c.tc : Thread Cert.KernelIdeal.nD Cert.KernelIdeal.τ).loc Cert.KernelIdeal.main_v62)) (v5 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60_0) = v0 c
          ∧ r.2.mem ((c.tc : Thread Cert.KernelIdeal.nD Cert.KernelIdeal.τ).loc Cert.KernelIdeal.main_v60_1) = v1 c
          ∧ r.2.mem ((c.tc : Thread Cert.KernelIdeal.nD Cert.KernelIdeal.τ).loc Cert.KernelIdeal.main_v60_2) = v2 c
          ∧ r.2.mem ((c.tc : Thread Cert.KernelIdeal.nD Cert.KernelIdeal.τ).loc Cert.KernelIdeal.main_v61) = v3 c
          ∧ r.2.mem ((c.tc : Thread Cert.KernelIdeal.nD Cert.KernelIdeal.τ).loc Cert.KernelIdeal.main_v62) = v4 c
          ∧ r.2.mem ((c.tc : Thread Cert.KernelIdeal.nD Cert.KernelIdeal.τ).loc Cert.KernelIdeal.main_v63) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_v112) = v2 c
          ∧ r.2.mem ((c.tc : Thread Cert.ReferenceIdeal.nD Cert.ReferenceIdeal.τ).loc Cert.ReferenceIdeal.main_v95) = v3 c
          ∧ r.2.mem ((c.tc : Thread Cert.ReferenceIdeal.nD Cert.ReferenceIdeal.τ).loc Cert.ReferenceIdeal.main_v82) = v4 c
          ∧ r.2.mem ((c.tc : Thread Cert.ReferenceIdeal.nD Cert.ReferenceIdeal.τ).loc Cert.ReferenceIdeal.main_v53) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)
      ∧ m' ((c.tc : Thread Cert.UpReferenceIdeal.nD Cert.UpReferenceIdeal.τ).loc Cert.UpReferenceIdeal.main_arg2) = m ((c.tc : Thread Cert.UpKernelIdeal.nD Cert.UpKernelIdeal.τ).loc Cert.UpKernelIdeal.main_arg2)) →
    ∃ (v0 : (c : Dev Cert.UpKernelIdeal.nD) → Buf (Elt Ideal) ((c.tc : Thread Cert.UpKernelIdeal.nD Cert.UpKernelIdeal.τ).loc Cert.UpKernelIdeal.main_v15)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v15) = v0 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
          ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v18) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)) →
    ∃ (v0 : (c : Dev Cert.InKernelIdeal.nD) → Buf (Elt Ideal) ((c.tc : Thread Cert.InKernelIdeal.nD Cert.InKernelIdeal.τ).loc Cert.InKernelIdeal.main_v15)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v15) = v0 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v18) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)
      ∧ m' ((c.tc : Thread Cert.DownReferenceIdeal.nD Cert.DownReferenceIdeal.τ).loc Cert.DownReferenceIdeal.main_arg3) = m ((c.tc : Thread Cert.DownKernelIdeal.nD Cert.DownKernelIdeal.τ).loc Cert.DownKernelIdeal.main_arg3)) →
    ∃ (v0 : (c : Dev Cert.DownKernelIdeal.nD) → Buf (Elt Ideal) ((c.tc : Thread Cert.DownKernelIdeal.nD Cert.DownKernelIdeal.τ).loc Cert.DownKernelIdeal.main_v30)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v30) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
          ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v31) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)) →
    ∃ (v0 : (c : Dev Cert.OutKernelIdeal.nD) → Buf (Elt Ideal) ((c.tc : Thread Cert.OutKernelIdeal.nD Cert.OutKernelIdeal.τ).loc Cert.OutKernelIdeal.main_v2)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v2) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v3) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1))

def preserves_BranchKernel_BranchKernelIdeal : Prop :=
  True

def algebraic_BranchKernelIdeal_BranchReferenceIdeal [hBranchKernelIdeal : Cert.BranchKernelIdeal.Facts] [hBranchReferenceIdeal : Cert.BranchReferenceIdeal.Facts] : Prop :=
  ∀ (m : (ℓ : Loc Cert.BranchKernelIdeal.nD Cert.BranchKernelIdeal.τ Cert.BranchKernelIdeal.sig) → Buf (Elt Ideal) ℓ) (g : Dev Cert.BranchKernelIdeal.nD → PrngReg)
    (m' : (ℓ : Loc Cert.BranchReferenceIdeal.nD Cert.BranchReferenceIdeal.τ Cert.BranchReferenceIdeal.sig) → Buf (Elt Ideal) ℓ) (g' : Dev Cert.BranchReferenceIdeal.nD → PrngReg), Pre_BranchKernelIdeal m →
    (∀ c : Dev Cert.BranchKernelIdeal.nD,
      m' ((c.tc : Thread Cert.BranchReferenceIdeal.nD Cert.BranchReferenceIdeal.τ).loc Cert.BranchReferenceIdeal.main_arg0) = m ((c.tc : Thread Cert.BranchKernelIdeal.nD Cert.BranchKernelIdeal.τ).loc Cert.BranchKernelIdeal.main_arg0)
      ∧ m' ((c.tc : Thread Cert.BranchReferenceIdeal.nD Cert.BranchReferenceIdeal.τ).loc Cert.BranchReferenceIdeal.main_arg1) = m ((c.tc : Thread Cert.BranchKernelIdeal.nD Cert.BranchKernelIdeal.τ).loc Cert.BranchKernelIdeal.main_arg1)
      ∧ m' ((c.tc : Thread Cert.BranchReferenceIdeal.nD Cert.BranchReferenceIdeal.τ).loc Cert.BranchReferenceIdeal.main_arg2) = m ((c.tc : Thread Cert.BranchKernelIdeal.nD Cert.BranchKernelIdeal.τ).loc Cert.BranchKernelIdeal.main_arg2)
      ∧ m' ((c.tc : Thread Cert.BranchReferenceIdeal.nD Cert.BranchReferenceIdeal.τ).loc Cert.BranchReferenceIdeal.main_arg3) = m ((c.tc : Thread Cert.BranchKernelIdeal.nD Cert.BranchKernelIdeal.τ).loc Cert.BranchKernelIdeal.main_arg3)) →
    ∃ (v0 : (c : Dev Cert.BranchKernelIdeal.nD) → Buf (Elt Ideal) ((c.tc : Thread Cert.BranchKernelIdeal.nD Cert.BranchKernelIdeal.τ).loc Cert.BranchKernelIdeal.main_v4)),
      θ_run (Cert.BranchKernelIdeal.defs (F := Ideal)) (onTc (τ := Cert.BranchKernelIdeal.τ) (Cert.BranchKernelIdeal.main (F := Ideal))) ⟨m, fun _ => 0, g⟩ (fun r => ∀ c : Dev Cert.BranchKernelIdeal.nD,
          r.2.mem ((c.tc : Thread Cert.BranchKernelIdeal.nD Cert.BranchKernelIdeal.τ).loc Cert.BranchKernelIdeal.main_v4) = v0 c
          ∧ r.2.mem ((c.tc : Thread Cert.BranchKernelIdeal.nD Cert.BranchKernelIdeal.τ).loc Cert.BranchKernelIdeal.main_arg0) = m ((c.tc : Thread Cert.BranchKernelIdeal.nD Cert.BranchKernelIdeal.τ).loc Cert.BranchKernelIdeal.main_arg0)
          ∧ r.2.mem ((c.tc : Thread Cert.BranchKernelIdeal.nD Cert.BranchKernelIdeal.τ).loc Cert.BranchKernelIdeal.main_arg1) = m ((c.tc : Thread Cert.BranchKernelIdeal.nD Cert.BranchKernelIdeal.τ).loc Cert.BranchKernelIdeal.main_arg1)
          ∧ r.2.mem ((c.tc : Thread Cert.BranchKernelIdeal.nD Cert.BranchKernelIdeal.τ).loc Cert.BranchKernelIdeal.main_arg2) = m ((c.tc : Thread Cert.BranchKernelIdeal.nD Cert.BranchKernelIdeal.τ).loc Cert.BranchKernelIdeal.main_arg2)
          ∧ r.2.mem ((c.tc : Thread Cert.BranchKernelIdeal.nD Cert.BranchKernelIdeal.τ).loc Cert.BranchKernelIdeal.main_arg3) = m ((c.tc : Thread Cert.BranchKernelIdeal.nD Cert.BranchKernelIdeal.τ).loc Cert.BranchKernelIdeal.main_arg3))
      ∧ θ_run (Cert.BranchReferenceIdeal.defs (F := Ideal)) (onTc (τ := Cert.BranchReferenceIdeal.τ) (Cert.BranchReferenceIdeal.main (F := Ideal))) ⟨m', fun _ => 0, g'⟩ (fun r => ∀ c : Dev Cert.BranchReferenceIdeal.nD,
          r.2.mem ((c.tc : Thread Cert.BranchReferenceIdeal.nD Cert.BranchReferenceIdeal.τ).loc Cert.BranchReferenceIdeal.main_v9) = v0 c
          ∧ r.2.mem ((c.tc : Thread Cert.BranchReferenceIdeal.nD Cert.BranchReferenceIdeal.τ).loc Cert.BranchReferenceIdeal.main_arg0) = m' ((c.tc : Thread Cert.BranchReferenceIdeal.nD Cert.BranchReferenceIdeal.τ).loc Cert.BranchReferenceIdeal.main_arg0)
          ∧ r.2.mem ((c.tc : Thread Cert.BranchReferenceIdeal.nD Cert.BranchReferenceIdeal.τ).loc Cert.BranchReferenceIdeal.main_arg1) = m' ((c.tc : Thread Cert.BranchReferenceIdeal.nD Cert.BranchReferenceIdeal.τ).loc Cert.BranchReferenceIdeal.main_arg1)
          ∧ r.2.mem ((c.tc : Thread Cert.BranchReferenceIdeal.nD Cert.BranchReferenceIdeal.τ).loc Cert.BranchReferenceIdeal.main_arg2) = m' ((c.tc : Thread Cert.BranchReferenceIdeal.nD Cert.BranchReferenceIdeal.τ).loc Cert.BranchReferenceIdeal.main_arg2)
          ∧ r.2.mem ((c.tc : Thread Cert.BranchReferenceIdeal.nD Cert.BranchReferenceIdeal.τ).loc Cert.BranchReferenceIdeal.main_arg3) = m' ((c.tc : Thread Cert.BranchReferenceIdeal.nD Cert.BranchReferenceIdeal.τ).loc Cert.BranchReferenceIdeal.main_arg3))

def preserves_FwdKernel_FwdKernelIdeal : Prop :=
  True

def algebraic_FwdKernelIdeal_FwdReferenceIdeal [hFwdKernelIdeal : Cert.FwdKernelIdeal.Facts] [hFwdReferenceIdeal : Cert.FwdReferenceIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdKernelIdeal m →
    (∀ c : Dev Cert.FwdKernelIdeal.nD,
      m' ((c.tc : Thread Cert.FwdReferenceIdeal.nD Cert.FwdReferenceIdeal.τ).loc Cert.FwdReferenceIdeal.main_arg0) = m ((c.tc : Thread Cert.FwdKernelIdeal.nD Cert.FwdKernelIdeal.τ).loc Cert.FwdKernelIdeal.main_arg0)
      ∧ m' ((c.tc : Thread Cert.FwdReferenceIdeal.nD Cert.FwdReferenceIdeal.τ).loc Cert.FwdReferenceIdeal.main_arg1) = m ((c.tc : Thread Cert.FwdKernelIdeal.nD Cert.FwdKernelIdeal.τ).loc Cert.FwdKernelIdeal.main_arg1)
      ∧ m' ((c.tc : Thread Cert.FwdReferenceIdeal.nD Cert.FwdReferenceIdeal.τ).loc Cert.FwdReferenceIdeal.main_arg2) = m ((c.tc : Thread Cert.FwdKernelIdeal.nD Cert.FwdKernelIdeal.τ).loc Cert.FwdKernelIdeal.main_arg2)
      ∧ m' ((c.tc : Thread Cert.FwdReferenceIdeal.nD Cert.FwdReferenceIdeal.τ).loc Cert.FwdReferenceIdeal.main_arg3) = m ((c.tc : Thread Cert.FwdKernelIdeal.nD Cert.FwdKernelIdeal.τ).loc Cert.FwdKernelIdeal.main_arg3)
      ∧ m' ((c.tc : Thread Cert.FwdReferenceIdeal.nD Cert.FwdReferenceIdeal.τ).loc Cert.FwdReferenceIdeal.main_arg4) = m ((c.tc : Thread Cert.FwdKernelIdeal.nD Cert.FwdKernelIdeal.τ).loc Cert.FwdKernelIdeal.main_arg4)
      ∧ m' ((c.tc : Thread Cert.FwdReferenceIdeal.nD Cert.FwdReferenceIdeal.τ).loc Cert.FwdReferenceIdeal.main_arg5) = m ((c.tc : Thread Cert.FwdKernelIdeal.nD Cert.FwdKernelIdeal.τ).loc Cert.FwdKernelIdeal.main_arg5)) →
    ∃ (v0 : (c : Dev Cert.FwdKernelIdeal.nD) → Buf (Elt Ideal) ((c.tc : Thread Cert.FwdKernelIdeal.nD Cert.FwdKernelIdeal.τ).loc Cert.FwdKernelIdeal.main_v8_0)) (v1 : (c : Dev Cert.FwdKernelIdeal.nD) → Buf (Elt Ideal) ((c.tc : Thread Cert.FwdKernelIdeal.nD Cert.FwdKernelIdeal.τ).loc Cert.FwdKernelIdeal.main_v8_1)) (v2 : (c : Dev Cert.FwdKernelIdeal.nD) → Buf (Elt Ideal) ((c.tc : Thread Cert.FwdKernelIdeal.nD Cert.FwdKernelIdeal.τ).loc Cert.FwdKernelIdeal.main_v8_2)) (v3 : (c : Dev Cert.FwdKernelIdeal.nD) → Buf (Elt Ideal) ((c.tc : Thread Cert.FwdKernelIdeal.nD Cert.FwdKernelIdeal.τ).loc Cert.FwdKernelIdeal.main_v8_3)) (v4 : (c : Dev Cert.FwdKernelIdeal.nD) → Buf (Elt Ideal) ((c.tc : Thread Cert.FwdKernelIdeal.nD Cert.FwdKernelIdeal.τ).loc Cert.FwdKernelIdeal.main_v8_4)) (v5 : (c : Dev Cert.FwdKernelIdeal.nD) → Buf (Elt Ideal) ((c.tc : Thread Cert.FwdKernelIdeal.nD Cert.FwdKernelIdeal.τ).loc Cert.FwdKernelIdeal.main_v8_5)),
      θ_run (Cert.FwdKernelIdeal.defs (F := Ideal)) (onTc (τ := Cert.FwdKernelIdeal.τ) (Cert.FwdKernelIdeal.main (F := Ideal))) ⟨m, fun _ => 0, g⟩ (fun r => ∀ c : Dev Cert.FwdKernelIdeal.nD,
          r.2.mem ((c.tc : Thread Cert.FwdKernelIdeal.nD Cert.FwdKernelIdeal.τ).loc Cert.FwdKernelIdeal.main_v8_0) = v0 c
          ∧ r.2.mem ((c.tc : Thread Cert.FwdKernelIdeal.nD Cert.FwdKernelIdeal.τ).loc Cert.FwdKernelIdeal.main_v8_1) = v1 c
          ∧ r.2.mem ((c.tc : Thread Cert.FwdKernelIdeal.nD Cert.FwdKernelIdeal.τ).loc Cert.FwdKernelIdeal.main_v8_2) = v2 c
          ∧ r.2.mem ((c.tc : Thread Cert.FwdKernelIdeal.nD Cert.FwdKernelIdeal.τ).loc Cert.FwdKernelIdeal.main_v8_3) = v3 c
          ∧ r.2.mem ((c.tc : Thread Cert.FwdKernelIdeal.nD Cert.FwdKernelIdeal.τ).loc Cert.FwdKernelIdeal.main_v8_4) = v4 c
          ∧ r.2.mem ((c.tc : Thread Cert.FwdKernelIdeal.nD Cert.FwdKernelIdeal.τ).loc Cert.FwdKernelIdeal.main_v8_5) = v5 c
          ∧ r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
          ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
          ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
          ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3)
          ∧ r.2.mem ((c.tc : Thread Cert.FwdKernelIdeal.nD Cert.FwdKernelIdeal.τ).loc Cert.FwdKernelIdeal.main_arg4) = m ((c.tc : Thread Cert.FwdKernelIdeal.nD Cert.FwdKernelIdeal.τ).loc Cert.FwdKernelIdeal.main_arg4)
          ∧ r.2.mem ((c.tc : Thread Cert.FwdKernelIdeal.nD Cert.FwdKernelIdeal.τ).loc Cert.FwdKernelIdeal.main_arg5) = m ((c.tc : Thread Cert.FwdKernelIdeal.nD Cert.FwdKernelIdeal.τ).loc Cert.FwdKernelIdeal.main_arg5))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v44) = v0 c
          ∧ r.2.mem ((c.tc : Thread Cert.FwdReferenceIdeal.nD Cert.FwdReferenceIdeal.τ).loc Cert.FwdReferenceIdeal.main_v45) = v1 c
          ∧ r.2.mem ((c.tc : Thread Cert.FwdReferenceIdeal.nD Cert.FwdReferenceIdeal.τ).loc Cert.FwdReferenceIdeal.main_v46) = v2 c
          ∧ r.2.mem ((c.tc : Thread Cert.FwdReferenceIdeal.nD Cert.FwdReferenceIdeal.τ).loc Cert.FwdReferenceIdeal.main_v47) = v3 c
          ∧ r.2.mem ((c.tc : Thread Cert.FwdReferenceIdeal.nD Cert.FwdReferenceIdeal.τ).loc Cert.FwdReferenceIdeal.main_v48) = v4 c
          ∧ r.2.mem ((c.tc : Thread Cert.FwdReferenceIdeal.nD Cert.FwdReferenceIdeal.τ).loc Cert.FwdReferenceIdeal.main_v50) = v5 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0)
          ∧ r.2.mem ((c.tc : Thread Cert.FwdReferenceIdeal.nD Cert.FwdReferenceIdeal.τ).loc Cert.FwdReferenceIdeal.main_arg1) = m' ((c.tc : Thread Cert.FwdReferenceIdeal.nD Cert.FwdReferenceIdeal.τ).loc Cert.FwdReferenceIdeal.main_arg1)
          ∧ r.2.mem ((c.tc : Thread Cert.FwdReferenceIdeal.nD Cert.FwdReferenceIdeal.τ).loc Cert.FwdReferenceIdeal.main_arg2) = m' ((c.tc : Thread Cert.FwdReferenceIdeal.nD Cert.FwdReferenceIdeal.τ).loc Cert.FwdReferenceIdeal.main_arg2)
          ∧ r.2.mem ((c.tc : Thread Cert.FwdReferenceIdeal.nD Cert.FwdReferenceIdeal.τ).loc Cert.FwdReferenceIdeal.main_arg3) = m' ((c.tc : Thread Cert.FwdReferenceIdeal.nD Cert.FwdReferenceIdeal.τ).loc Cert.FwdReferenceIdeal.main_arg3)
          ∧ r.2.mem ((c.tc : Thread Cert.FwdReferenceIdeal.nD Cert.FwdReferenceIdeal.τ).loc Cert.FwdReferenceIdeal.main_arg4) = m' ((c.tc : Thread Cert.FwdReferenceIdeal.nD Cert.FwdReferenceIdeal.τ).loc Cert.FwdReferenceIdeal.main_arg4)
          ∧ r.2.mem ((c.tc : Thread Cert.FwdReferenceIdeal.nD Cert.FwdReferenceIdeal.τ).loc Cert.FwdReferenceIdeal.main_arg5) = m' ((c.tc : Thread Cert.FwdReferenceIdeal.nD Cert.FwdReferenceIdeal.τ).loc Cert.FwdReferenceIdeal.main_arg5))

def Claim : Prop :=
  ∃ (hKernel : Cert.Kernel.Facts) (hKernelIdeal : Cert.KernelIdeal.Facts) (hReferenceIdeal : Cert.ReferenceIdeal.Facts) (hUpKernel : Cert.UpKernel.Facts) (hUpKernelIdeal : Cert.UpKernelIdeal.Facts) (hUpReferenceIdeal : Cert.UpReferenceIdeal.Facts) (hInKernel : Cert.InKernel.Facts) (hInKernelIdeal : Cert.InKernelIdeal.Facts) (hInReferenceIdeal : Cert.InReferenceIdeal.Facts) (hDownKernel : Cert.DownKernel.Facts) (hDownKernelIdeal : Cert.DownKernelIdeal.Facts) (hDownReferenceIdeal : Cert.DownReferenceIdeal.Facts) (hOutKernel : Cert.OutKernel.Facts) (hOutKernelIdeal : Cert.OutKernelIdeal.Facts) (hOutReferenceIdeal : Cert.OutReferenceIdeal.Facts) (hBranchKernel : Cert.BranchKernel.Facts) (hBranchKernelIdeal : Cert.BranchKernelIdeal.Facts) (hBranchReferenceIdeal : Cert.BranchReferenceIdeal.Facts) (hFwdKernel : Cert.FwdKernel.Facts) (hFwdKernelIdeal : Cert.FwdKernelIdeal.Facts) (hFwdReferenceIdeal : Cert.FwdReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_BranchKernel (hBranchKernel := hBranchKernel)
    ∧ quiescent_BranchKernelIdeal (hBranchKernelIdeal := hBranchKernelIdeal)
    ∧ quiescent_BranchReferenceIdeal (hBranchReferenceIdeal := hBranchReferenceIdeal)
    ∧ quiescent_FwdKernel (hFwdKernel := hFwdKernel)
    ∧ quiescent_FwdKernelIdeal (hFwdKernelIdeal := hFwdKernelIdeal)
    ∧ quiescent_FwdReferenceIdeal (hFwdReferenceIdeal := hFwdReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_UpKernel_UpKernelIdeal
    ∧ algebraic_UpKernelIdeal_UpReferenceIdeal (hUpKernelIdeal := hUpKernelIdeal) (hUpReferenceIdeal := hUpReferenceIdeal)
    ∧ preserves_InKernel_InKernelIdeal
    ∧ algebraic_InKernelIdeal_InReferenceIdeal (hInKernelIdeal := hInKernelIdeal) (hInReferenceIdeal := hInReferenceIdeal)
    ∧ preserves_DownKernel_DownKernelIdeal
    ∧ algebraic_DownKernelIdeal_DownReferenceIdeal (hDownKernelIdeal := hDownKernelIdeal) (hDownReferenceIdeal := hDownReferenceIdeal)
    ∧ preserves_OutKernel_OutKernelIdeal
    ∧ algebraic_OutKernelIdeal_OutReferenceIdeal (hOutKernelIdeal := hOutKernelIdeal) (hOutReferenceIdeal := hOutReferenceIdeal)
    ∧ preserves_BranchKernel_BranchKernelIdeal
    ∧ algebraic_BranchKernelIdeal_BranchReferenceIdeal (hBranchKernelIdeal := hBranchKernelIdeal) (hBranchReferenceIdeal := hBranchReferenceIdeal)
    ∧ preserves_FwdKernel_FwdKernelIdeal
    ∧ algebraic_FwdKernelIdeal_FwdReferenceIdeal (hFwdKernelIdeal := hFwdKernelIdeal) (hFwdReferenceIdeal := hFwdReferenceIdeal)
-- ==== Pre_finite.lean ====
abbrev S8192x1024 : Shape := ⟨2, ![8192, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S3x2816 : S_.BroadcastsInDim S3x2816 (![] : Fin 0 → Fin S3x2816.rank)
  reducesTo_S3x2816_S_d0_1 : S3x2816.ReducesTo [0, 1] S_
  bcast_S_S2816 : S_.BroadcastsInDim S2816 (![] : Fin 0 → Fin S2816.rank)
  reducesTo_S2816_S_d0 : S2816.ReducesTo [0] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816 .f32) (main_arg5 : FVec F S2816x1024 .f32) (main_arg6 : FVec F S8192x1024 .f32) (main_v13 : IVec S_ 1) (main_v16 : IVec S3x2816 1) : IVec S_ 1 :=
  let main_c_5 : IVec S_ 1 := constantI S_ 1 1#1
  let main_v17 : IVec S_ 1 := (fun x v => Host.reduce IntOp.andi x v reducesTo_S3x2816_S_d0_1 h_S_) main_v16 main_c_5
  let main_v18 : IVec S_ 1 := andi main_v13 main_v17
  let main_v19 : FVec F S2816 .f32 := Host.absf main_arg4
  let main_cst_6 : FVec F S_ .f32 := constant S_ .f32 0x7F800000#32
  let main_v20 : FVec F S2816 .f32 := broadcastInDim S2816 ![] bcast_S_S2816 main_cst_6
  let main_v21 : IVec S2816 1 := cmpf .olt main_v19 main_v20
  let main_c_7 : IVec S_ 1 := constantI S_ 1 1#1
  let main_v22 : IVec S_ 1 := (fun x v => Host.reduce IntOp.andi x v reducesTo_S2816_S_d0 h_S_) main_v21 main_c_7
  let main_v23 : IVec S_ 1 := andi main_v18 main_v22
  let main_v24 : FVec F S2816x1024 .f32 := Host.absf main_arg5
  let main_cst_8 : FVec F S_ .f32 := constant S_ .f32 0x7F800000#32
  let main_v25 : FVec F S2816x1024 .f32 := broadcastInDim S2816x1024 ![] bcast_S_S2816x1024 main_cst_8
  let main_v26 : IVec S2816x1024 1 := cmpf .olt main_v24 main_v25
  let main_c_9 : IVec S_ 1 := constantI S_ 1 1#1
  let main_v27 : IVec S_ 1 := (fun x v => Host.reduce IntOp.andi x v reducesTo_S2816x1024_S_d0_1 h_S_) main_v26 main_c_9
  let main_v28 : IVec S_ 1 := andi main_v23 main_v27
  let main_v29 : FVec F S8192x1024 .f32 := Host.absf main_arg6
  let main_cst_10 : FVec F S_ .f32 := constant S_ .f32 0x7F800000#32
  let main_v30 : FVec F S8192x1024 .f32 := broadcastInDim S8192x1024 ![] bcast_S_S8192x1024 main_cst_10
  let main_v31 : IVec S8192x1024 1 := cmpf .olt main_v29 main_v30
  let main_c_11 : IVec S_ 1 := constantI S_ 1 1#1
  let main_v32 : IVec S_ 1 := (fun x v => Host.reduce IntOp.andi x v reducesTo_S8192x1024_S_d0_1 h_S_) main_v31 main_c_11
  let main_v33 : IVec S_ 1 := andi main_v28 main_v32
  main_v33

def fn {F : FTy → Type} [FloatOps F] (main_arg0 : FVec F S8192x1024 .f32) (main_arg1 : FVec F S1024 .f32) (main_arg2 : FVec F S1024x5632 .f32) (main_arg3 : FVec F S3x2816 .f32) (main_arg4 : FVec F S2816 .f32) (main_arg5 : FVec F S2816x1024 .f32) (main_arg6 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S3x2816 .f32 := Host.absf main_arg3
  let main_cst_4 : FVec F S_ .f32 := constant S_ .f32 0x7F800000#32
  let main_v15 : FVec F S3x2816 .f32 := broadcastInDim S3x2816 ![] bcast_S_S3x2816 main_cst_4
  let main_v16 : IVec S3x2816 1 := cmpf .olt main_v14 main_v15
  fn_part1 (F := F) main_arg4 main_arg5 main_arg6 main_v13 main_v16
-- ==== Kernel.lean ====
abbrev S8192x1024 : Shape := ⟨2, ![8192, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S2x2816 : Shape := ⟨2, ![2, 2816]⟩
abbrev S8194x2816 : Shape := ⟨2, ![8194, 2816]⟩
abbrev S1x2816 : Shape := ⟨2, ![1, 2816]⟩
abbrev S8x2816 : Shape := ⟨2, ![8, 2816]⟩
abbrev S1024x4x1408 : Shape := ⟨3, ![1024, 4, 1408]⟩
abbrev S4x1024x1408 : Shape := ⟨3, ![4, 1024, 1408]⟩
abbrev S4x704x1024 : Shape := ⟨3, ![4, 704, 1024]⟩
abbrev S8x1024 : Shape := ⟨2, ![8, 1024]⟩
abbrev S3x8x2816 : Shape := ⟨3, ![3, 8, 2816]⟩
abbrev S256x1024 : Shape := ⟨2, ![256, 1024]⟩
abbrev S256x5632 : Shape := ⟨2, ![256, 5632]⟩
abbrev S256x2816 : Shape := ⟨2, ![256, 2816]⟩
abbrev S8 : Shape := ⟨1, ![8]⟩
abbrev S1 : Shape := ⟨1, ![1]⟩
abbrev S1024x1408 : Shape := ⟨2, ![1024, 1408]⟩
abbrev S1x1024x1408 : Shape := ⟨3, ![1, 1024, 1408]⟩
abbrev S704x1024 : Shape := ⟨2, ![704, 1024]⟩
abbrev S1x704x1024 : Shape := ⟨3, ![1, 704, 1024]⟩
abbrev S256x768 : Shape := ⟨2, ![256, 768]⟩
abbrev S1024x768 : Shape := ⟨2, ![1024, 768]⟩
abbrev S8x768 : Shape := ⟨2, ![8, 768]⟩
abbrev S1x768 : Shape := ⟨2, ![1, 768]⟩
abbrev S248x768 : Shape := ⟨2, ![248, 768]⟩
abbrev S32x8x768 : Shape := ⟨3, ![32, 8, 768]⟩
abbrev S1x8x768 : Shape := ⟨3, ![1, 8, 768]⟩
abbrev S768x1024 : Shape := ⟨2, ![768, 1024]⟩
abbrev S256x512 : Shape := ⟨2, ![256, 512]⟩
abbrev S1024x512 : Shape := ⟨2, ![1024, 512]⟩
abbrev S8x512 : Shape := ⟨2, ![8, 512]⟩
abbrev S1x512 : Shape := ⟨2, ![1, 512]⟩
abbrev S248x512 : Shape := ⟨2, ![248, 512]⟩
abbrev S32x8x512 : Shape := ⟨3, ![32, 8, 512]⟩
abbrev S1x8x512 : Shape := ⟨3, ![1, 8, 512]⟩
abbrev S512x1024 : Shape := ⟨2, ![512, 1024]⟩
abbrev S256 : Shape := ⟨1, ![256]⟩
abbrev S256x1 : Shape := ⟨2, ![256, 1]⟩
abbrev S32x8x1024 : Shape := ⟨3, ![32, 8, 1024]⟩

abbrev nBuf : Space → Nat
  | .hbm => 88
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x5632, .f32⟩
  | .hbm, ⟨24, _⟩ => ⟨S8192x2816, .f32⟩
  | .hbm, ⟨25, _⟩ => ⟨S_, .f32⟩
  | .hbm, ⟨26, _⟩ => ⟨S2x2816, .f32⟩
  | .hbm, ⟨27, _⟩ => ⟨S8194x2816, .f32⟩
  | .hbm, ⟨28, _⟩ => ⟨S1x2816, .f32⟩
  | .hbm, ⟨29, _⟩ => ⟨S2816, .f32⟩
  | .hbm, ⟨30, _⟩ => ⟨S8192x2816, .f32⟩
  | .hbm, ⟨31, _⟩ => ⟨S1x2816, .f32⟩
  | .hbm, ⟨32, _⟩ => ⟨S8192x2816, .f32⟩
  | .hbm, ⟨33, _⟩ => ⟨S8192x2816, .f32⟩
  | .hbm, ⟨34, _⟩ => ⟨S1x2816, .f32⟩
  | .hbm, ⟨35, _⟩ => ⟨S2816, .f32⟩
  | .hbm, ⟨36, _⟩ => ⟨S8192x2816, .f32⟩
  | .hbm, ⟨37, _⟩ => ⟨S1x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S1x2816, .f32⟩
  | .hbm, ⟨42, _⟩ => ⟨S2816, .f32⟩
  | .hbm, ⟨43, _⟩ => ⟨S1x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S1x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S_, .f32⟩
  | .hbm, ⟨53, _⟩ => ⟨S8192x2816, .f32⟩
  | .hbm, ⟨54, _⟩ => ⟨S8192x2816, .f32⟩
  | .hbm, ⟨55, _⟩ => ⟨S_, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S_, .f32⟩
  | .hbm, ⟨60, _⟩ => ⟨S8192x2816, .f32⟩
  | .hbm, ⟨61, _⟩ => ⟨S8192x2816, .f32⟩
  | .hbm, ⟨62, _⟩ => ⟨S8192x2816, .f32⟩
  | .hbm, ⟨63, _⟩ => ⟨S8192x2816, .f32⟩
  | .hbm, ⟨64, _⟩ => ⟨S8192x5632, .bf16⟩
  | .hbm, ⟨65, _⟩ => ⟨S8192x2816, .bf16⟩
  | .hbm, ⟨66, _⟩ => ⟨S8192x2816, .bf16⟩
  | .hbm, ⟨67, _⟩ => ⟨S1x1024, .f32⟩
  | .hbm, ⟨68, _⟩ => ⟨S_, .i32⟩
  | .hbm, ⟨69, _⟩ => ⟨S_, .f32⟩
  | .hbm, ⟨70, _⟩ => ⟨S8x2816, .f32⟩
  | .hbm, ⟨71, _⟩ => ⟨S1024x4x1408, .f32⟩
  | .hbm, ⟨72, _⟩ => ⟨S4x1024x1408, .f32⟩
  | .hbm, ⟨73, _⟩ => ⟨S4x1024x1408, .bf16⟩
  | .hbm, ⟨74, _⟩ => ⟨S4x704x1024, .f32⟩
  | .hbm, ⟨75, _⟩ => ⟨S4x704x1024, .bf16⟩
  | .hbm, ⟨76, _⟩ => ⟨S8192x1024, .f32⟩
  | .hbm, ⟨77, _⟩ => ⟨S8192x5632, .bf16⟩
  | .hbm, ⟨78, _⟩ => ⟨S8192x1024, .bf16⟩
  | .hbm, ⟨79, _⟩ => ⟨S8x1024, .f32⟩
  | .hbm, ⟨80, _⟩ => ⟨S8x2816, .f32⟩
  | .hbm, ⟨81, _⟩ => ⟨S3x8x2816, .f32⟩
  | .hbm, ⟨82, _⟩ => ⟨S_, .f32⟩
  | .hbm, ⟨83, _⟩ => ⟨S1024, .f32⟩
  | .hbm, ⟨84, _⟩ => ⟨S_, .f32⟩
  | .hbm, ⟨85, _⟩ => ⟨S3x2816, .f32⟩
  | .hbm, ⟨86, _⟩ => ⟨S_, .f32⟩
  | .hbm, ⟨87, _⟩ => ⟨S2816, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x5632, .bf16⟩
  | .local _ .vmem, ⟨7, _⟩ => ⟨S256x5632, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S1x1024, .f32⟩
  | .local _ .vmem, ⟨13, _⟩ => ⟨S8x2816, .f32⟩
  | .local _ .vmem, ⟨14, _⟩ => ⟨S256x1024, .f32⟩
  | .local _ .vmem, ⟨15, _⟩ => ⟨S256x1024, .f32⟩
  | .local _ .vmem, ⟨16, _⟩ => ⟨S256x5632, .bf16⟩
  | .local _ .vmem, ⟨17, _⟩ => ⟨S256x5632, .bf16⟩
  | .local _ .vmem, ⟨18, _⟩ => ⟨S256x1024, .bf16⟩
  | .local _ .vmem, ⟨19, _⟩ => ⟨S256x1024, .bf16⟩
  | .local _ .vmem, ⟨20, _⟩ => ⟨S8x1024, .f32⟩
  | .local _ .vmem, ⟨21, _⟩ => ⟨S8x2816, .f32⟩
  | .local _ .vmem, ⟨22, _⟩ => ⟨S3x8x2816, .f32⟩
  | .local _ .vmem, ⟨23, _⟩ => ⟨S1024x5632, .bf16⟩
  | .local _ .vmem, ⟨24, _⟩ => ⟨S2816x1024, .bf16⟩
  | .local _ .vmem, ⟨25, _⟩ => ⟨S8x2816, .f32⟩
  | .local _ .vmem, ⟨26, _⟩ => ⟨S256x2816, .f32⟩
  | .local _ .vmem, ⟨27, _⟩ => ⟨S256x5632, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_3 : Ref sig .tc := ⟨.hbm, 52, rfl⟩
abbrev main_v41 : Ref sig .tc := ⟨.hbm, 53, rfl⟩
abbrev main_v42 : Ref sig .tc := ⟨.hbm, 54, rfl⟩
abbrev main_cst_4 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_5 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_c : Ref sig .tc := ⟨.hbm, 68, rfl⟩
abbrev main_call0_v0 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60_0 : Ref sig .tc := ⟨.hbm, 76, rfl⟩
abbrev main_v60_1 : Ref sig .tc := ⟨.hbm, 77, rfl⟩
abbrev main_v60_2 : Ref sig .tc := ⟨.hbm, 78, rfl⟩
abbrev main_v60_3 : Ref sig .tc := ⟨.hbm, 79, rfl⟩
abbrev main_v60_4 : Ref sig .tc := ⟨.hbm, 80, rfl⟩
abbrev main_v60_5 : Ref sig .tc := ⟨.hbm, 81, rfl⟩
abbrev main_cst_6 : Ref sig .tc := ⟨.hbm, 82, rfl⟩
abbrev main_v61 : Ref sig .tc := ⟨.hbm, 83, rfl⟩
abbrev main_cst_7 : Ref sig .tc := ⟨.hbm, 84, rfl⟩
abbrev main_v62 : Ref sig .tc := ⟨.hbm, 85, rfl⟩
abbrev main_cst_8 : Ref sig .tc := ⟨.hbm, 86, rfl⟩
abbrev main_v63 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c31_i32_1 : BitVec 32 := 31#32
  let v3 : BitVec 32 := Scalar.subi c31_i32_1 v2
  let c0_i32_2 : BitVec 32 := 0#32
  let c0_i32_3 : BitVec 32 := 0#32
  ![v3.toNat, c0_i32_2.toNat]

def cc0_transform_1 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c31_i32 : BitVec 32 := 31#32
  let v1 : BitVec 32 := Scalar.maxsi c0_i32 v0
  let v2 : BitVec 32 := Scalar.minsi c31_i32 v1
  let c31_i32_0 : BitVec 32 := 31#32
  let v3 : BitVec 32 := Scalar.subi c31_i32_0 v2
  let c0_i32_1 : BitVec 32 := 0#32
  let c0_i32_2 : BitVec 32 := 0#32
  ![v3.toNat, c0_i32_1.toNat]

def cc0_transform_2 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c31_i32 : BitVec 32 := 31#32
  let v1 : BitVec 32 := Scalar.maxsi c0_i32 v0
  let v2 : BitVec 32 := Scalar.minsi c31_i32 v1
  let c31_i32_0 : BitVec 32 := 31#32
  let v3 : BitVec 32 := Scalar.subi c31_i32_0 v2
  let c0_i32_1 : BitVec 32 := 0#32
  let c0_i32_2 : BitVec 32 := 0#32
  ![v3.toNat, c0_i32_1.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c31_i32 : BitVec 32 := 31#32
  let v1 : BitVec 32 := Scalar.maxsi c0_i32 v0
  let v2 : BitVec 32 := Scalar.minsi c31_i32 v1
  let c31_i32_0 : BitVec 32 := 31#32
  let v3 : BitVec 32 := Scalar.subi c31_i32_0 v2
  let c0_i32_1 : BitVec 32 := 0#32
  let c0_i32_2 : BitVec 32 := 0#32
  ![v3.toNat, c0_i32_1.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c31_i32 : BitVec 32 := 31#32
  let v1 : BitVec 32 := Scalar.maxsi c0_i32 v0
  let v2 : BitVec 32 := Scalar.minsi c31_i32 v1
  let c31_i32_0 : BitVec 32 := 31#32
  let v3 : BitVec 32 := Scalar.subi c31_i32_0 v2
  let c0_i32_1 : BitVec 32 := 0#32
  let c0_i32_2 : BitVec 32 := 0#32
  ![v3.toNat, c0_i32_1.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c31_i32 : BitVec 32 := 31#32
  let v1 : BitVec 32 := Scalar.maxsi c0_i32 v0
  let v2 : BitVec 32 := Scalar.minsi c31_i32 v1
  let c31_i32_0 : BitVec 32 := 31#32
  let v3 : BitVec 32 := Scalar.subi c31_i32_0 v2
  let c0_i32_1 : BitVec 32 := 0#32
  let c0_i32_2 : BitVec 32 := 0#32
  ![v3.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c31_i32 : BitVec 32 := 31#32
  let v1 : BitVec 32 := Scalar.maxsi c0_i32 v0
  let v2 : BitVec 32 := Scalar.minsi c31_i32 v1
  let c31_i32_0 : BitVec 32 := 31#32
  let v3 : BitVec 32 := Scalar.subi c31_i32_0 v2
  let c0_i32_1 : BitVec 32 := 0#32
  let c0_i32_2 : BitVec 32 := 0#32
  ![v3.toNat, c0_i32_1.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c31_i32 : BitVec 32 := 31#32
  let v1 : BitVec 32 := Scalar.maxsi c0_i32 v0
  let v2 : BitVec 32 := Scalar.minsi c31_i32 v1
  let c31_i32_0 : BitVec 32 := 31#32
  let v3 : BitVec 32 := Scalar.subi c31_i32_0 v2
  let c0_i32_1 : BitVec 32 := 0#32
  let c0_i32_2 : BitVec 32 := 0#32
  ![v3.toNat, c0_i32_1.toNat]

def cc0_transform_12 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c31_i32_1 : BitVec 32 := 31#32
  let v3 : BitVec 32 := Scalar.subi c31_i32_1 v2
  let c0_i32_2 : BitVec 32 := 0#32
  let c0_i32_3 : BitVec 32 := 0#32
  ![v3.toNat, c0_i32_2.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x2816 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3x8x2816 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S8192x1024 : Shape := ⟨2, ![8192, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S2x2816 : Shape := ⟨2, ![2, 2816]⟩
abbrev S8194x2816 : Shape := ⟨2, ![8194, 2816]⟩
abbrev S1x2816 : Shape := ⟨2, ![1, 2816]⟩

abbrev nBuf : Space → Nat
  | .hbm => 161
  | .vmem => 0
  | .smem => 0
  | _ => 0

abbrev hbmTy0_0 (i : Nat) : BufTy := match i % 128 with
  | 0 => ⟨S8192x1024, .f32⟩
  | 1 => ⟨S1024, .f32⟩
  | 2 => ⟨S1024x5632, .f32⟩
  | 3 => ⟨S3x2816, .f32⟩
  | 4 => ⟨S2816, .f32⟩
  | 5 => ⟨S2816x1024, .f32⟩
  | 6 => ⟨S8192x1024, .f32⟩
  | 7 => ⟨S8192x1024, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S_, .f32⟩
  | 15 => ⟨S8192x1, .f32⟩
  | 16 => ⟨S8192x1, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1024, .f32⟩
  | 23 => ⟨S8192x1024, .f32⟩
  | 24 => ⟨S1x1024, .f32⟩
  | 25 => ⟨S8192x1024, .f32⟩
  | 26 => ⟨S8192x1024, .f32⟩
  | 27 => ⟨S8192x5632, .f32⟩
  | 28 => ⟨S8192x2816, .f32⟩
  | 29 => ⟨S8192x2816, .f32⟩
  | 30 => ⟨S_, .f32⟩
  | 31 => ⟨S2x2816, .f32⟩
  | 32 => ⟨S8194x2816, .f32⟩
  | 33 => ⟨S_, .f32⟩
  | 34 => ⟨S2x2816, .f32⟩
  | 35 => ⟨S1x2816, .f32⟩
  | 36 => ⟨S2816, .f32⟩
  | 37 => ⟨S8192x2816, .f32⟩
  | 38 => ⟨S1x2816, .f32⟩
  | 39 => ⟨S8192x2816, .f32⟩
  | 40 => ⟨S8192x2816, .f32⟩
  | 41 => ⟨S1x2816, .f32⟩
  | 42 => ⟨S2816, .f32⟩
  | 43 => ⟨S8192x2816, .f32⟩
  | 44 => ⟨S1x2816, .f32⟩
  | 45 => ⟨S8192x2816, .f32⟩
  | 46 => ⟨S8192x2816, .f32⟩
  | 47 => ⟨S8192x2816, .f32⟩
  | 48 => ⟨S1x2816, .f32⟩
  | 49 => ⟨S2816, .f32⟩
  | 50 => ⟨S1x2816, .f32⟩
  | 51 => ⟨S8192x2816, .f32⟩
  | 52 => ⟨S8192x2816, .f32⟩
  | 53 => ⟨S8192x2816, .f32⟩
  | 54 => ⟨S1x2816, .f32⟩
  | 55 => ⟨S8192x2816, .f32⟩
  | 56 => ⟨S8192x2816, .f32⟩
  | 57 => ⟨S8192x2816, .f32⟩
  | 58 => ⟨S8192x2816, .f32⟩
  | 59 => ⟨S_, .f32⟩
  | 60 => ⟨S8192x2816, .f32⟩
  | 61 => ⟨S8192x2816, .f32⟩
  | 62 => ⟨S_, .f32⟩
  | 63 => ⟨S8192x2816, .f32⟩
  | 64 => ⟨S8192x2816, .f32⟩
  | 65 => ⟨S_, .f32⟩
  | 66 => ⟨S8192x2816, .f32⟩
  | 67 => ⟨S8192x2816, .f32⟩
  | 68 => ⟨S8192x2816, .f32⟩
  | 69 => ⟨S8192x2816, .f32⟩
  | 70 => ⟨S8192x2816, .f32⟩
  | 71 => ⟨S8192x1024, .f32⟩
  | 72 => ⟨S8192x2816, .f32⟩
  | 73 => ⟨S8192x2816, .f32⟩
  | 74 => ⟨S8192x2816, .f32⟩
  | 75 => ⟨S8192x2816, .f32⟩
  | 76 => ⟨S8192x2816, .f32⟩
  | 77 => ⟨S8192x2816, .f32⟩
  | 78 => ⟨S8192x2816, .f32⟩
  | 79 => ⟨S_, .f32⟩
  | 80 => ⟨S2816, .f32⟩
  | 81 => ⟨S1x2816, .f32⟩
  | 82 => ⟨S_, .f32⟩
  | 83 => ⟨S2816, .f32⟩
  | 84 => ⟨S8192x2816, .f32⟩
  | 85 => ⟨S8192x2816, .f32⟩
  | 86 => ⟨S8192x2816, .f32⟩
  | 87 => ⟨S_, .f32⟩
  | 88 => ⟨S2816, .f32⟩
  | 89 => ⟨S1x2816, .f32⟩
  | 90 => ⟨S_, .f32⟩
  | 91 => ⟨S2816, .f32⟩
  | 92 => ⟨S1x2816, .f32⟩
  | 93 => ⟨S_, .f32⟩
  | 94 => ⟨S3x2816, .f32⟩
  | 95 => ⟨S8192x2816, .f32⟩
  | 96 => ⟨S8192x2816, .f32⟩
  | 97 => ⟨S8192x2816, .f32⟩
  | 98 => ⟨S_, .f32⟩
  | 99 => ⟨S2816, .f32⟩
  | 100 => ⟨S1x2816, .f32⟩
  | 101 => ⟨S_, .f32⟩
  | 102 => ⟨S2816, .f32⟩
  | 103 => ⟨S_, .f32⟩
  | 104 => ⟨S8194x2816, .f32⟩
  | 105 => ⟨S1x2816, .f32⟩
  | 106 => ⟨S_, .f32⟩
  | 107 => ⟨S3x2816, .f32⟩
  | 108 => ⟨S3x2816, .f32⟩
  | 109 => ⟨S8192x2816, .f32⟩
  | 110 => ⟨S8192x2816, .f32⟩
  | 111 => ⟨S8192x2816, .f32⟩
  | 112 => ⟨S_, .f32⟩
  | 113 => ⟨S2816, .f32⟩
  | 114 => ⟨S1x2816, .f32⟩
  | 115 => ⟨S_, .f32⟩
  | 116 => ⟨S2816, .f32⟩
  | 117 => ⟨S_, .f32⟩
  | 118 => ⟨S8194x2816, .f32⟩
  | 119 => ⟨S8194x2816, .f32⟩
  | 120 => ⟨S1x2816, .f32⟩
  | 121 => ⟨S_, .f32⟩
  | 122 => ⟨S3x2816, .f32⟩
  | 123 => ⟨S3x2816, .f32⟩
  | 124 => ⟨S2x2816, .f32⟩
  | 125 => ⟨S8192x2816, .f32⟩
  | 126 => ⟨S8192x2816, .f32⟩
  | 127 => ⟨S_, .f32⟩
  | _ => ⟨S8192x1024, .f32⟩

abbrev hbmTy0_1 (i : Nat) : BufTy := match i % 128 with
  | 0 => ⟨S8192x5632, .f32⟩
  | 1 => ⟨S_, .f32⟩
  | 2 => ⟨S8192x5632, .f32⟩
  | 3 => ⟨S8192x5632, .f32⟩
  | 4 => ⟨S8192x1024, .f32⟩
  | 5 => ⟨S8192x1024, .f32⟩
  | 6 => ⟨S_, .f32⟩
  | 7 => ⟨S1024, .f32⟩
  | 8 => ⟨S1x1024, .f32⟩
  | 9 => ⟨S8192x1024, .f32⟩
  | 10 => ⟨S8192x1024, .f32⟩
  | 11 => ⟨S_, .f32⟩
  | 12 => ⟨S1024, .f32⟩
  | 13 => ⟨S8192x1024, .f32⟩
  | 14 => ⟨S_, .f32⟩
  | 15 => ⟨S8192, .f32⟩
  | 16 => ⟨S8192x1, .f32⟩
  | 17 => ⟨S8192x1024, .f32⟩
  | 18 => ⟨S8192x1024, .f32⟩
  | 19 => ⟨S8192x1, .f32⟩
  | 20 => ⟨S_, .f32⟩
  | 21 => ⟨S8192x1, .f32⟩
  | 22 => ⟨S8192x1, .f32⟩
  | 23 => ⟨S_, .f32⟩
  | 24 => ⟨S8192, .f32⟩
  | 25 => ⟨S8192x1024, .f32⟩
  | 26 => ⟨S8192x1024, .f32⟩
  | 27 => ⟨S8192x1024, .f32⟩
  | 28 => ⟨S8192x1024, .f32⟩
  | 29 => ⟨S8192x1024, .f32⟩
  | 30 => ⟨S8192x1024, .f32⟩
  | 31 => ⟨S8192x5632, .bf16⟩
  | 32 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_v44_2 : Ref sig .tc := ⟨.hbm, 64, rfl⟩
abbrev main_call0_cst_1 : Ref sig .tc := ⟨.hbm, 65, rfl⟩
abbrev main_call0_v6 : Ref sig .tc := ⟨.hbm, 66, rfl⟩
abbrev main_call0_v7 : Ref sig .tc := ⟨.hbm, 67, rfl⟩
abbrev main_v44_1 : Ref sig .tc := ⟨.hbm, 68, rfl⟩
abbrev main_v44_0 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_v50 : Ref sig .tc := ⟨.hbm, 78, rfl⟩
abbrev main_cst_5 : Ref sig .tc := ⟨.hbm, 79, rfl⟩
abbrev main_v51 : Ref sig .tc := ⟨.hbm, 80, rfl⟩
abbrev main_v52 : Ref sig .tc := ⟨.hbm, 81, rfl⟩
abbrev main_cst_6 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_7 : Ref sig .tc := ⟨.hbm, 87, rfl⟩
abbrev main_v57 : Ref sig .tc := ⟨.hbm, 88, rfl⟩
abbrev main_v58 : Ref sig .tc := ⟨.hbm, 89, rfl⟩
abbrev main_cst_8 : Ref sig .tc := ⟨.hbm, 90, rfl⟩
abbrev main_v59 : Ref sig .tc := ⟨.hbm, 91, rfl⟩
abbrev main_v60 : Ref sig .tc := ⟨.hbm, 92, rfl⟩
abbrev main_cst_9 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_10 : Ref sig .tc := ⟨.hbm, 98, rfl⟩
abbrev main_v65 : Ref sig .tc := ⟨.hbm, 99, rfl⟩
abbrev main_v66 : Ref sig .tc := ⟨.hbm, 100, rfl⟩
abbrev main_cst_11 : Ref sig .tc := ⟨.hbm, 101, rfl⟩
abbrev main_v67 : Ref sig .tc := ⟨.hbm, 102, rfl⟩
abbrev main_cst_12 : Ref sig .tc := ⟨.hbm, 103, rfl⟩
abbrev main_v68 : Ref sig .tc := ⟨.hbm, 104, rfl⟩
abbrev main_v69 : Ref sig .tc := ⟨.hbm, 105, rfl⟩
abbrev main_cst_13 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_14 : Ref sig .tc := ⟨.hbm, 112, rfl⟩
abbrev main_v75 : Ref sig .tc := ⟨.hbm, 113, rfl⟩
abbrev main_v76 : Ref sig .tc := ⟨.hbm, 114, rfl⟩
abbrev main_cst_15 : Ref sig .tc := ⟨.hbm, 115, rfl⟩
abbrev main_v77 : Ref sig .tc := ⟨.hbm, 116, rfl⟩
abbrev main_cst_16 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_17 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_cst_18 : Ref sig .tc := ⟨.hbm, 127, rfl⟩
abbrev main_v86 : Ref sig .tc := ⟨.hbm, 128, rfl⟩
abbrev main_cst_19 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_cst_20 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_cst_21 : Ref sig .tc := ⟨.hbm, 139, rfl⟩
abbrev main_v95 : Ref sig .tc := ⟨.hbm, 140, rfl⟩
abbrev main_v96 : Ref sig .tc := ⟨.hbm, 141, rfl⟩
abbrev main_cst_22 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_cst_23 : Ref sig .tc := ⟨.hbm, 148, rfl⟩
abbrev main_v102 : Ref sig .tc := ⟨.hbm, 149, rfl⟩
abbrev main_v103 : Ref sig .tc := ⟨.hbm, 150, rfl⟩
abbrev main_cst_24 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩

abbrev nD : Nat := 1
abbrev τ : Topo := Topo.v7x

variable {F : FTy → Type} [FloatOps F]
-- ==== UpKernel.lean ====
abbrev S8192x1024 : Shape := ⟨2, ![8192, 1024]⟩
abbrev S1024 : Shape := ⟨1, ![1024]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S4x1024x1408 : Shape := ⟨3, ![4, 1024, 1408]⟩
abbrev S2048x512 : Shape := ⟨2, ![2048, 512]⟩
abbrev S2048x2816 : Shape := ⟨2, ![2048, 2816]⟩
abbrev S2x512x1408 : Shape := ⟨3, ![2, 512, 1408]⟩
abbrev S512x2816 : Shape := ⟨2, ![512, 2816]⟩
abbrev S1x512x1408 : Shape := ⟨3, ![1, 512, 1408]⟩
abbrev S512x1408 : Shape := ⟨2, ![512, 1408]⟩

abbrev nBuf : Space → Nat
  | .hbm => 22
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x5632, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x5632, .bf16⟩
  | .hbm, ⟨21, _⟩ => ⟨S4x1024x1408, .f32⟩
  | .local _ .vmem, ⟨0, _⟩ => ⟨S2048x512, .bf16⟩
  | .local _ .vmem, ⟨1, _⟩ => ⟨S2048x512, .bf16⟩
  | .local _ .vmem, ⟨2, _⟩ => ⟨S2048x2816, .bf16⟩
  | .local _ .vmem, ⟨3, _⟩ => ⟨S2048x2816, .bf16⟩
  | .local _ .vmem, ⟨4, _⟩ => ⟨S2x512x1408, .f32⟩
  | .local _ .vmem, ⟨5, _⟩ => ⟨S2x512x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpReferenceIdeal.lean ====
abbrev S8192x1024 : Shape := ⟨2, ![8192, 1024]⟩
abbrev S1024 : Shape := ⟨1, ![1024]⟩
abbrev S8192x5632 : Shape := ⟨2, ![8192, 5632]⟩
abbrev S_ : Shape := ⟨0, ![]⟩
abbrev S1024x5632 : Shape := ⟨2, ![1024, 5632]⟩
abbrev S8192 : Shape := ⟨1, ![8192]⟩
abbrev S8192x1 : Shape := ⟨2, ![8192, 1]⟩
abbrev S1x1024 : Shape := ⟨2, ![1, 1024]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x5632, .f32⟩
  | .hbm, ⟨3, _⟩ => ⟨S_, .f32⟩
  | .hbm, ⟨4, _⟩ => ⟨S1024x5632, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x5632, .f32⟩
  | .hbm, ⟨22, _⟩ => ⟨S5632x1024, .f32⟩
  | .hbm, ⟨23, _⟩ => ⟨S1024x5632, .f32⟩
  | .hbm, ⟨24, _⟩ => ⟨S1024x4x1408, .f32⟩
  | .hbm, ⟨25, _⟩ => ⟨S4x1024x1408, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== InKernel.lean ====
abbrev S8192x1024 : Shape := ⟨2, ![8192, 1024]⟩
abbrev S1024 : Shape := ⟨1, ![1024]⟩
abbrev S8192x4608 : Shape := ⟨2, ![8192, 4608]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S4x1024x1152 : Shape := ⟨3, ![4, 1024, 1152]⟩
abbrev S2048x512 : Shape := ⟨2, ![2048, 512]⟩
abbrev S2048x2304 : Shape := ⟨2, ![2048, 2304]⟩
abbrev S2x512x1152 : Shape := ⟨3, ![2, 512, 1152]⟩
abbrev S512x2304 : Shape := ⟨2, ![512, 2304]⟩
abbrev S1x512x1152 : Shape := ⟨3, ![1, 512, 1152]⟩
abbrev S512x1152 : Shape := ⟨2, ![512, 1152]⟩

abbrev nBuf : Space → Nat
  | .hbm => 22
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x4608, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x4608, .bf16⟩
  | .hbm, ⟨21, _⟩ => ⟨S4x1024x1152, .f32⟩
  | .local _ .vmem, ⟨0, _⟩ => ⟨S2048x512, .bf16⟩
  | .local _ .vmem, ⟨1, _⟩ => ⟨S2048x512, .bf16⟩
  | .local _ .vmem, ⟨2, _⟩ => ⟨S2048x2304, .bf16⟩
  | .local _ .vmem, ⟨3, _⟩ => ⟨S2048x2304, .bf16⟩
  | .local _ .vmem, ⟨4, _⟩ => ⟨S2x512x1152, .f32⟩
  | .local _ .vmem, ⟨5, _⟩ => ⟨S2x512x1152, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x512x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InReferenceIdeal.lean ====
abbrev S8192x1024 : Shape := ⟨2, ![8192, 1024]⟩
abbrev S1024 : Shape := ⟨1, ![1024]⟩
abbrev S8192x4608 : Shape := ⟨2, ![8192, 4608]⟩
abbrev S_ : Shape := ⟨0, ![]⟩
abbrev S1024x4608 : Shape := ⟨2, ![1024, 4608]⟩
abbrev S8192 : Shape := ⟨1, ![8192]⟩
abbrev S8192x1 : Shape := ⟨2, ![8192, 1]⟩
abbrev S1x1024 : Shape := ⟨2, ![1, 1024]⟩
abbrev S4608x1024 : Shape := ⟨2, ![4608, 1024]⟩
abbrev S1024x4x1152 : Shape := ⟨3, ![1024, 4, 1152]⟩
abbrev S4x1024x1152 : Shape := ⟨3, ![4, 1024, 1152]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x4608, .f32⟩
  | .hbm, ⟨3, _⟩ => ⟨S_, .f32⟩
  | .hbm, ⟨4, _⟩ => ⟨S1024x4608, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x4608, .f32⟩
  | .hbm, ⟨22, _⟩ => ⟨S4608x1024, .f32⟩
  | .hbm, ⟨23, _⟩ => ⟨S1024x4608, .f32⟩
  | .hbm, ⟨24, _⟩ => ⟨S1024x4x1152, .f32⟩
  | .hbm, ⟨25, _⟩ => ⟨S4x1024x1152, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== DownKernel.lean ====
abbrev S8192x5632 : Shape := ⟨2, ![8192, 5632]⟩
abbrev S3x2816 : Shape := ⟨2, ![3, 2816]⟩
abbrev S2816 : Shape := ⟨1, ![2816]⟩
abbrev S8192x1024 : Shape := ⟨2, ![8192, 1024]⟩
abbrev S8192x2816 : Shape := ⟨2, ![8192, 2816]⟩
abbrev S_ : Shape := ⟨0, ![]⟩
abbrev S2x2816 : Shape := ⟨2, ![2, 2816]⟩
abbrev S8194x2816 : Shape := ⟨2, ![8194, 2816]⟩
abbrev S1x2816 : Shape := ⟨2, ![1, 2816]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 44
  | .vmem => 6
  | .smem => 0
  | _ => 0

abbrev bufTy : (tb : Table) → Fin (tcTables nBuf tb) → BufTy
  | .hbm, ⟨0, _⟩ => ⟨S8192x5632, .f32⟩
  | .hbm, ⟨1, _⟩ => ⟨S3x2816, .f32⟩
  | .hbm, ⟨2, _⟩ => ⟨S2816, .f32⟩
  | .hbm, ⟨3, _⟩ => ⟨S8192x1024, .f32⟩
  | .hbm, ⟨4, _⟩ => ⟨S8192x2816, .f32⟩
  | .hbm, ⟨5, _⟩ => ⟨S_, .f32⟩
  | .hbm, ⟨6, _⟩ => ⟨S2x2816, .f32⟩
  | .hbm, ⟨7, _⟩ => ⟨S8194x2816, .f32⟩
  | .hbm, ⟨8, _⟩ => ⟨S1x2816, .f32⟩
  | .hbm, ⟨9, _⟩ => ⟨S2816, .f32⟩
  | .hbm, ⟨10, _⟩ => ⟨S8192x2816, .f32⟩
  | .hbm, ⟨11, _⟩ => ⟨S1x2816, .f32⟩
  | .hbm, ⟨12, _⟩ => ⟨S8192x2816, .f32⟩
  | .hbm, ⟨13, _⟩ => ⟨S8192x2816, .f32⟩
  | .hbm, ⟨14, _⟩ => ⟨S1x2816, .f32⟩
  | .hbm, ⟨15, _⟩ => ⟨S2816, .f32⟩
  | .hbm, ⟨16, _⟩ => ⟨S8192x2816, .f32⟩
  | .hbm, ⟨17, _⟩ => ⟨S1x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S1x2816, .f32⟩
  | .hbm, ⟨22, _⟩ => ⟨S2816, .f32⟩
  | .hbm, ⟨23, _⟩ => ⟨S1x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S1x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .bf16⟩
  | .hbm, ⟨42, _⟩ => ⟨S8192x1024, .bf16⟩
  | .hbm, ⟨43, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S8192x5632 : Shape := ⟨2, ![8192, 5632]⟩
abbrev S3x2816 : Shape := ⟨2, ![3, 2816]⟩
abbrev S2816 : Shape := ⟨1, ![2816]⟩
abbrev S8192x1024 : Shape := ⟨2, ![8192, 1024]⟩
abbrev S_ : Shape := ⟨0, ![]⟩
abbrev S2816x1024 : Shape := ⟨2, ![2816, 1024]⟩
abbrev S8192x2816 : Shape := ⟨2, ![8192, 2816]⟩
abbrev S2x2816 : Shape := ⟨2, ![2, 2816]⟩
abbrev S8194x2816 : Shape := ⟨2, ![8194, 2816]⟩
abbrev S1x2816 : Shape := ⟨2, ![1, 2816]⟩
abbrev S1024x2816 : Shape := ⟨2, ![1024, 2816]⟩

abbrev nBuf : Space → Nat
  | .hbm => 46
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S3x2816, .f32⟩
  | .hbm, ⟨2, _⟩ => ⟨S2816, .f32⟩
  | .hbm, ⟨3, _⟩ => ⟨S8192x1024, .f32⟩
  | .hbm, ⟨4, _⟩ => ⟨S_, .f32⟩
  | .hbm, ⟨5, _⟩ => ⟨S2816x1024, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S2x2816, .f32⟩
  | .hbm, ⟨10, _⟩ => ⟨S8194x2816, .f32⟩
  | .hbm, ⟨11, _⟩ => ⟨S1x2816, .f32⟩
  | .hbm, ⟨12, _⟩ => ⟨S2816, .f32⟩
  | .hbm, ⟨13, _⟩ => ⟨S8192x2816, .f32⟩
  | .hbm, ⟨14, _⟩ => ⟨S1x2816, .f32⟩
  | .hbm, ⟨15, _⟩ => ⟨S8192x2816, .f32⟩
  | .hbm, ⟨16, _⟩ => ⟨S8192x2816, .f32⟩
  | .hbm, ⟨17, _⟩ => ⟨S1x2816, .f32⟩
  | .hbm, ⟨18, _⟩ => ⟨S2816, .f32⟩
  | .hbm, ⟨19, _⟩ => ⟨S8192x2816, .f32⟩
  | .hbm, ⟨20, _⟩ => ⟨S1x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S1x2816, .f32⟩
  | .hbm, ⟨25, _⟩ => ⟨S2816, .f32⟩
  | .hbm, ⟨26, _⟩ => ⟨S1x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S1x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x1024, .f32⟩
  | .hbm, ⟨44, _⟩ => ⟨S1024x2816, .f32⟩
  | .hbm, ⟨45, _⟩ => ⟨S2816x1024, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== OutKernel.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutReferenceIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== BranchKernel.lean ====
abbrev S8192x512 : Shape := ⟨2, ![8192, 512]⟩
abbrev S8192x1024 : Shape := ⟨2, ![8192, 1024]⟩
abbrev S4x1024x256 : Shape := ⟨3, ![4, 1024, 256]⟩
abbrev S2048x512 : Shape := ⟨2, ![2048, 512]⟩
abbrev S2048x1024 : Shape := ⟨2, ![2048, 1024]⟩
abbrev S512x1024 : Shape := ⟨2, ![512, 1024]⟩
abbrev S1x512x256 : Shape := ⟨3, ![1, 512, 256]⟩
abbrev S512x256 : Shape := ⟨2, ![512, 256]⟩

abbrev nBuf : Space → Nat
  | .hbm => 9
  | .vmem => 9
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1024, .f32⟩
  | .hbm, ⟨3, _⟩ => ⟨S8192x1024, .f32⟩
  | .hbm, ⟨4, _⟩ => ⟨S8192x512, .bf16⟩
  | .hbm, ⟨5, _⟩ => ⟨S8192x1024, .bf16⟩
  | .hbm, ⟨6, _⟩ => ⟨S8192x512, .bf16⟩
  | .hbm, ⟨7, _⟩ => ⟨S8192x1024, .bf16⟩
  | .hbm, ⟨8, _⟩ => ⟨S4x1024x256, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S2048x512, .bf16⟩
  | .local _ .vmem, ⟨5, _⟩ => ⟨S2048x512, .bf16⟩
  | .local _ .vmem, ⟨6, _⟩ => ⟨S2048x1024, .bf16⟩
  | .local _ .vmem, ⟨7, _⟩ => ⟨S2048x1024, .bf16⟩
  | .local _ .vmem, ⟨8, _⟩ => ⟨S4x1024x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== BranchReferenceIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩
abbrev S1024x1024 : Shape := ⟨2, ![1024, 1024]⟩
abbrev S1024x4x256 : Shape := ⟨3, ![1024, 4, 256]⟩
abbrev S4x1024x256 : Shape := ⟨3, ![4, 1024, 256]⟩

abbrev nBuf : Space → Nat
  | .hbm => 15
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S512x1024, .f32⟩
  | .hbm, ⟨6, _⟩ => ⟨S8192x1024, .f32⟩
  | .hbm, ⟨7, _⟩ => ⟨S8192x1024, .f32⟩
  | .hbm, ⟨8, _⟩ => ⟨S1024x512, .f32⟩
  | .hbm, ⟨9, _⟩ => ⟨S512x1024, .f32⟩
  | .hbm, ⟨10, _⟩ => ⟨S1024x512, .f32⟩
  | .hbm, ⟨11, _⟩ => ⟨S512x1024, .f32⟩
  | .hbm, ⟨12, _⟩ => ⟨S1024x1024, .f32⟩
  | .hbm, ⟨13, _⟩ => ⟨S1024x4x256, .f32⟩
  | .hbm, ⟨14, _⟩ => ⟨S4x1024x256, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== FwdKernel.lean ====
abbrev S8192x1024 : Shape := ⟨2, ![8192, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S_ : Shape := ⟨0, ![]⟩
abbrev S8x2816 : Shape := ⟨2, ![8, 2816]⟩
abbrev S1x2816 : Shape := ⟨2, ![1, 2816]⟩
abbrev S1024x4x1408 : Shape := ⟨3, ![1024, 4, 1408]⟩
abbrev S4x1024x1408 : Shape := ⟨3, ![4, 1024, 1408]⟩
abbrev S4x704x1024 : Shape := ⟨3, ![4, 704, 1024]⟩
abbrev S8192x5632 : Shape := ⟨2, ![8192, 5632]⟩
abbrev S8192x2816 : Shape := ⟨2, ![8192, 2816]⟩
abbrev S256x1024 : Shape := ⟨2, ![256, 1024]⟩
abbrev S256x5632 : Shape := ⟨2, ![256, 5632]⟩
abbrev S256x2816 : Shape := ⟨2, ![256, 2816]⟩
abbrev S8 : Shape := ⟨1, ![8]⟩
abbrev S1 : Shape := ⟨1, ![1]⟩
abbrev S1024x1408 : Shape := ⟨2, ![1024, 1408]⟩
abbrev S1x1024x1408 : Shape := ⟨3, ![1, 1024, 1408]⟩
abbrev S704x1024 : Shape := ⟨2, ![704, 1024]⟩
abbrev S1x704x1024 : Shape := ⟨3, ![1, 704, 1024]⟩
abbrev S256 : Shape := ⟨1, ![256]⟩
abbrev S256x1 : Shape := ⟨2, ![256, 1]⟩
abbrev S1024x2816 : Shape := ⟨2, ![1024, 2816]⟩
abbrev S248x2816 : Shape := ⟨2, ![248, 2816]⟩

abbrev nBuf : Space → Nat
  | .hbm => 22
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1x1024, .f32⟩
  | .hbm, ⟨7, _⟩ => ⟨S_, .i32⟩
  | .hbm, ⟨8, _⟩ => ⟨S_, .f32⟩
  | .hbm, ⟨9, _⟩ => ⟨S8x2816, .f32⟩
  | .hbm, ⟨10, _⟩ => ⟨S1x2816, .f32⟩
  | .hbm, ⟨11, _⟩ => ⟨S1024x4x1408, .f32⟩
  | .hbm, ⟨12, _⟩ => ⟨S4x1024x1408, .f32⟩
  | .hbm, ⟨13, _⟩ => ⟨S4x1024x1408, .bf16⟩
  | .hbm, ⟨14, _⟩ => ⟨S4x704x1024, .f32⟩
  | .hbm, ⟨15, _⟩ => ⟨S4x704x1024, .bf16⟩
  | .hbm, ⟨16, _⟩ => ⟨S8192x5632, .bf16⟩
  | .hbm, ⟨17, _⟩ => ⟨S8192x2816, .bf16⟩
  | .hbm, ⟨18, _⟩ => ⟨S8192x2816, .bf16⟩
  | .hbm, ⟨19, _⟩ => ⟨S8192x2816, .bf16⟩
  | .hbm, ⟨20, _⟩ => ⟨S8192x1024, .bf16⟩
  | .hbm, ⟨21, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S8x2816, .f32⟩
  | .local _ .vmem, ⟨4, _⟩ => ⟨S1x2816, .f32⟩
  | .local _ .vmem, ⟨5, _⟩ => ⟨S256x5632, .bf16⟩
  | .local _ .vmem, ⟨6, _⟩ => ⟨S256x5632, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .f32⟩
  | .local _ .vmem, ⟨16, _⟩ => ⟨S256x1024, .f32⟩
  | .local _ .vmem, ⟨17, _⟩ => ⟨S1024x5632, .bf16⟩
  | .local _ .vmem, ⟨18, _⟩ => ⟨S2816x1024, .bf16⟩
  | .local _ .vmem, ⟨19, _⟩ => ⟨S8x2816, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v8_5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FwdReferenceIdeal.lean ====
abbrev S8192x1024 : Shape := ⟨2, ![8192, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S2x2816 : Shape := ⟨2, ![2, 2816]⟩
abbrev S8194x2816 : Shape := ⟨2, ![8194, 2816]⟩
abbrev S1x2816 : Shape := ⟨2, ![1, 2816]⟩

abbrev nBuf : Space → Nat
  | .hbm => 77
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x5632, .f32⟩
  | .hbm, ⟨23, _⟩ => ⟨S8192x2816, .f32⟩
  | .hbm, ⟨24, _⟩ => ⟨S_, .f32⟩
  | .hbm, ⟨25, _⟩ => ⟨S2x2816, .f32⟩
  | .hbm, ⟨26, _⟩ => ⟨S8194x2816, .f32⟩
  | .hbm, ⟨27, _⟩ => ⟨S1x2816, .f32⟩
  | .hbm, ⟨28, _⟩ => ⟨S2816, .f32⟩
  | .hbm, ⟨29, _⟩ => ⟨S8192x2816, .f32⟩
  | .hbm, ⟨30, _⟩ => ⟨S1x2816, .f32⟩
  | .hbm, ⟨31, _⟩ => ⟨S8192x2816, .f32⟩
  | .hbm, ⟨32, _⟩ => ⟨S8192x2816, .f32⟩
  | .hbm, ⟨33, _⟩ => ⟨S1x2816, .f32⟩
  | .hbm, ⟨34, _⟩ => ⟨S2816, .f32⟩
  | .hbm, ⟨35, _⟩ => ⟨S8192x2816, .f32⟩
  | .hbm, ⟨36, _⟩ => ⟨S1x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S1x2816, .f32⟩
  | .hbm, ⟨41, _⟩ => ⟨S2816, .f32⟩
  | .hbm, ⟨42, _⟩ => ⟨S1x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S1x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S_, .f32⟩
  | .hbm, ⟨52, _⟩ => ⟨S8192x2816, .f32⟩
  | .hbm, ⟨53, _⟩ => ⟨S8192x2816, .f32⟩
  | .hbm, ⟨54, _⟩ => ⟨S_, .f32⟩
  | .hbm, ⟨55, _⟩ => ⟨S8192x2816, .f32⟩
  | .hbm, ⟨56, _⟩ => ⟨S8192x2816, .f32⟩
  | .hbm, ⟨57, _⟩ => ⟨S_, .f32⟩
  | .hbm, ⟨58, _⟩ => ⟨S8192x2816, .f32⟩
  | .hbm, ⟨59, _⟩ => ⟨S8192x2816, .f32⟩
  | .hbm, ⟨60, _⟩ => ⟨S8192x2816, .f32⟩
  | .hbm, ⟨61, _⟩ => ⟨S8192x2816, .f32⟩
  | .hbm, ⟨62, _⟩ => ⟨S8192x2816, .f32⟩
  | .hbm, ⟨63, _⟩ => ⟨S8192x2816, .f32⟩
  | .hbm, ⟨64, _⟩ => ⟨S_, .f32⟩
  | .hbm, ⟨65, _⟩ => ⟨S8192x2816, .f32⟩
  | .hbm, ⟨66, _⟩ => ⟨S8192x2816, .f32⟩
  | .hbm, ⟨67, _⟩ => ⟨S8192x2816, .f32⟩
  | .hbm, ⟨68, _⟩ => ⟨S8192x2816, .f32⟩
  | .hbm, ⟨69, _⟩ => ⟨S8192x2816, .f32⟩
  | .hbm, ⟨70, _⟩ => ⟨S8192x5632, .bf16⟩
  | .hbm, ⟨71, _⟩ => ⟨S8192x2816, .bf16⟩
  | .hbm, ⟨72, _⟩ => ⟨S8192x2816, .bf16⟩
  | .hbm, ⟨73, _⟩ => ⟨S8192x2816, .bf16⟩
  | .hbm, ⟨74, _⟩ => ⟨S8192x1024, .bf16⟩
  | .hbm, ⟨75, _⟩ => ⟨S8192x1024, .f32⟩
  | .hbm, ⟨76, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_v39_2 : Ref sig .tc := ⟨.hbm, 56, rfl⟩
abbrev main_call0_cst_1 : Ref sig .tc := ⟨.hbm, 57, rfl⟩
abbrev main_call0_v6 : Ref sig .tc := ⟨.hbm, 58, rfl⟩
abbrev main_call0_v7 : Ref sig .tc := ⟨.hbm, 59, rfl⟩
abbrev main_v39_1 : Ref sig .tc := ⟨.hbm, 60, rfl⟩
abbrev main_v39_0 : Ref sig .tc := ⟨.hbm, 61, rfl⟩
abbrev main_v40 : Ref sig .tc := ⟨.hbm, 62, rfl⟩
abbrev main_v41 : Ref sig .tc := ⟨.hbm, 63, rfl⟩
abbrev main_cst_3 : Ref sig .tc := ⟨.hbm, 64, rfl⟩
abbrev main_v42 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩

abbrev nD : Nat := 1
abbrev τ : Topo := Topo.v7x

variable {F : FTy → Type} [FloatOps F]
-- ==== Proof.Ffn.KernelIdeal.RunA.lean ====
/- The kernel body at the first grid point: there it copies both weights into its scratch, shard by shard, and clears the
   accumulators and the carried blocks. The run lists what every buffer is left with. -/
module

public import proofs.«01_k».proof.Proof.Gen.KernelIdeal.Frame.Runs

@[expose] public section

set_option maxRecDepth 16384

noncomputable section

namespace Cert.KernelIdeal.Ffn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- the copies into one scratch go to disjoint windows of it
set_option sl_exec.dmaWindow true in
set_option sl_exec.dmaWindowSet true in
set_option maxHeartbeats 1488000 in
/-- At the first point the body, from its input blocks `x0 … x7` and the two sharded weight arrays `fh0`, `fh1`, runs to its
    end: each output block and each scratch buffer ends with the listed pieces written over what it held, the inputs and the
    weight arrays are as they were and every copy has been waited for. The lists are what the run itself finds. -/
noncomputable def kernelRun0_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x5632 .bf16) (harg4 : arg4.IsWhole) (arg5 : Memref sig .tc .vmem S256x2816 .bf16) (harg5 : arg5.IsWhole) (arg6 : Memref sig .tc .vmem S256x2816 .bf16) (harg6 : arg6.IsWhole) (arg7 : Memref sig .tc .vmem S1x1024 .f32) (harg7 : arg7.IsWhole) (arg8 : Memref sig .tc .vmem S8x2816 .f32) (harg8 : arg8.IsWhole) (arg11 : Memref sig .tc .vmem S256x1024 .f32) (harg11 : arg11.IsWhole) (arg12 : Memref sig .tc .vmem S256x5632 .bf16) (harg12 : arg12.IsWhole) (arg13 : Memref sig .tc .vmem S256x1024 .bf16) (harg13 : arg13.IsWhole) (arg14 : Memref sig .tc .vmem S8x1024 .f32) (harg14 : arg14.IsWhole) (arg15 : Memref sig .tc .vmem S8x2816 .f32) (harg15 : arg15.IsWhole) (arg16 : Memref sig .tc .vmem S3x8x2816 .f32) (harg16 : arg16.IsWhole) (arg17 : Memref sig .tc .vmem S1024x5632 .bf16) (harg17 : arg17.IsWhole) (arg18 : Memref sig .tc .vmem S2816x1024 .bf16) (harg18 : arg18.IsWhole) (arg19 : Memref sig .tc .vmem S8x2816 .f32) (harg19 : arg19.IsWhole) (arg20 : Memref sig .tc .vmem S256x2816 .f32) (harg20 : arg20.IsWhole) (arg21 : Memref sig .tc .vmem S256x5632 .bf16) (harg21 : arg21.IsWhole) (hc0 : cond0_0 i)
    (x0 : Vec F S256x1024 .f32) (x1 : Vec F S256x1024 .f32) (x2 : Vec F S256x1024 .f32) (x3 : Vec F S256x5632 .bf16) (x4 : Vec F S256x2816 .bf16) (x5 : Vec F S256x2816 .bf16) (x6 : Vec F S1x1024 .f32) (x7 : Vec F S8x2816 .f32) (fh0 : HbBuf0 (F := F) c hbM0_0) (fh1 : HbBuf0 (F := F) c hbM0_1) :
    Σ' (L8 : List (View.Piece (Elt F) S256x1024 .f32)), Σ' (L9 : List (View.Piece (Elt F) S256x5632 .bf16)), Σ' (L10 : List (View.Piece (Elt F) S256x1024 .bf16)), Σ' (L11 : List (View.Piece (Elt F) S8x1024 .f32)), Σ' (L12 : List (View.Piece (Elt F) S8x2816 .f32)), Σ' (L13 : List (View.Piece (Elt F) S3x8x2816 .f32)), Σ' (LS0 : List (View.Piece (Elt F) S1024x5632 .bf16)), Σ' (LS1 : List (View.Piece (Elt F) S2816x1024 .bf16)), Σ' (LS2 : List (View.Piece (Elt F) S8x2816 .f32)), Σ' (LS3 : List (View.Piece (Elt F) S256x2816 .f32)), { LS4 : List (View.Piece (Elt F) S256x5632 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ (∃ f, arg15.view.loc (c : Thread nD τ) ↦[arg15.view.set]{fullShare} arg15.view.writes (Elt F) f L12) ∗ (∃ f, arg16.view.loc (c : Thread nD τ) ↦[arg16.view.set]{fullShare} arg16.view.writes (Elt F) f L13) ∗ (∃ f, arg17.view.loc (c : Thread nD τ) ↦[arg17.view.set]{fullShare} arg17.view.writes (Elt F) f LS0) ∗ (∃ f, arg18.view.loc (c : Thread nD τ) ↦[arg18.view.set]{fullShare} arg18.view.writes (Elt F) f LS1) ∗ (∃ f, arg19.view.loc (c : Thread nD τ) ↦[arg19.view.set]{fullShare} arg19.view.writes (Elt F) f LS2) ∗ (∃ f, arg20.view.loc (c : Thread nD τ) ↦[arg20.view.set]{fullShare} arg20.view.writes (Elt F) f LS3) ∗ (∃ f, arg21.view.loc (c : Thread nD τ) ↦[arg21.view.set]{fullShare} arg21.view.writes (Elt F) f LS4) ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn_bwd_l0 i arg1 harg1 arg2 harg2 arg3 harg3 arg4 harg4 arg5 harg5 arg6 harg6 arg7 harg7 arg8 harg8 (Memref.whole main_v57) (Memref.isWhole_whole _) (Memref.whole main_v59) (Memref.isWhole_whole _) arg11 harg11 arg12 harg12 arg13 harg13 arg14 harg14 arg15 harg15 arg16 harg16 arg17 harg17 arg18 harg18 arg19 harg19 arg20 harg20 arg21 harg21 cc0_scratch5) K } := by
  refine ⟨?_, ?_, ?_, ?_, ?_, ?_, ?_, ?_, ?_, ?_, ?_, fun W K => ?run⟩
  case run =>
    simp only [cc0_ffn_bwd_l0_eq_skeleton]; unfold cc0_ffn_bwd_l0_skel
    simp only [k0_part19_eq_skeleton, k0_part4_eq_skeleton, k0_part1_eq_skeleton, k0_part2_eq_skeleton, k0_part3_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%ds0, %fs0, -, HS0⟩, ⟨%ds1, %fs1, -, HS1⟩, ⟨%ds2, %fs2, -, HS2⟩, ⟨%ds3, %fs3, -, HS3⟩, ⟨%ds4, %fs4, -, HS4⟩, Hq0, Hq1, Hq2, Hq3, Hq4, Hq5, Hq6, Hq7, Hh0, Hh1, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    isplitl [Hh1]; · iexact Hh1
    iexists _; iexact HW

end Cert.KernelIdeal.Ffn

end
-- ==== Proof.Ffn.KernelIdeal.RunB.lean ====
/- The kernel body at every grid point but the first. The run lists what every buffer is left with, over the input blocks,
   the accumulators and the carried scratch as the point before left them. -/
module

public import proofs.«01_k».proof.Proof.Ffn.KernelIdeal.RunA

@[expose] public section

set_option maxRecDepth 16384

noncomputable section

namespace Cert.KernelIdeal.Ffn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1600000 in
/-- At a later point the body, from its input blocks, the three accumulators `xo11 … xo13` and the five scratch buffers
    `xs0 … xs4`, runs to its end: each output block and each scratch buffer ends with the listed pieces written over what it
    held (none over the two weights). The lists are what the run itself finds. -/
noncomputable def kernelRun0_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x5632 .bf16) (harg4 : arg4.IsWhole) (arg5 : Memref sig .tc .vmem S256x2816 .bf16) (harg5 : arg5.IsWhole) (arg6 : Memref sig .tc .vmem S256x2816 .bf16) (harg6 : arg6.IsWhole) (arg7 : Memref sig .tc .vmem S1x1024 .f32) (harg7 : arg7.IsWhole) (arg8 : Memref sig .tc .vmem S8x2816 .f32) (harg8 : arg8.IsWhole) (arg11 : Memref sig .tc .vmem S256x1024 .f32) (harg11 : arg11.IsWhole) (arg12 : Memref sig .tc .vmem S256x5632 .bf16) (harg12 : arg12.IsWhole) (arg13 : Memref sig .tc .vmem S256x1024 .bf16) (harg13 : arg13.IsWhole) (arg14 : Memref sig .tc .vmem S8x1024 .f32) (harg14 : arg14.IsWhole) (arg15 : Memref sig .tc .vmem S8x2816 .f32) (harg15 : arg15.IsWhole) (arg16 : Memref sig .tc .vmem S3x8x2816 .f32) (harg16 : arg16.IsWhole) (arg17 : Memref sig .tc .vmem S1024x5632 .bf16) (harg17 : arg17.IsWhole) (arg18 : Memref sig .tc .vmem S2816x1024 .bf16) (harg18 : arg18.IsWhole) (arg19 : Memref sig .tc .vmem S8x2816 .f32) (harg19 : arg19.IsWhole) (arg20 : Memref sig .tc .vmem S256x2816 .f32) (harg20 : arg20.IsWhole) (arg21 : Memref sig .tc .vmem S256x5632 .bf16) (harg21 : arg21.IsWhole) (hc0 : ¬cond0_0 i)
    (x0 : Vec F S256x1024 .f32) (x1 : Vec F S256x1024 .f32) (x2 : Vec F S256x1024 .f32) (x3 : Vec F S256x5632 .bf16) (x4 : Vec F S256x2816 .bf16) (x5 : Vec F S256x2816 .bf16) (x6 : Vec F S1x1024 .f32) (x7 : Vec F S8x2816 .f32) (xo11 : Vec F S8x1024 .f32) (xo12 : Vec F S8x2816 .f32) (xo13 : Vec F S3x8x2816 .f32) (xs0 : Vec F S1024x5632 .bf16) (xs1 : Vec F S2816x1024 .bf16) (xs2 : Vec F S8x2816 .f32) (xs3 : Vec F S256x2816 .f32) (xs4 : Vec F S256x5632 .bf16) (fh0 : HbBuf0 (F := F) c hbM0_0) (fh1 : HbBuf0 (F := F) c hbM0_1) :
    Σ' (L8 : List (View.Piece (Elt F) S256x1024 .f32)), Σ' (L9 : List (View.Piece (Elt F) S256x5632 .bf16)), Σ' (L10 : List (View.Piece (Elt F) S256x1024 .bf16)), Σ' (L11 : List (View.Piece (Elt F) S8x1024 .f32)), Σ' (L12 : List (View.Piece (Elt F) S8x2816 .f32)), Σ' (L13 : List (View.Piece (Elt F) S3x8x2816 .f32)), Σ' (LS0 : List (View.Piece (Elt F) S1024x5632 .bf16)), Σ' (LS1 : List (View.Piece (Elt F) S2816x1024 .bf16)), Σ' (LS2 : List (View.Piece (Elt F) S8x2816 .f32)), Σ' (LS3 : List (View.Piece (Elt F) S256x2816 .f32)), { LS4 : List (View.Piece (Elt F) S256x5632 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xo11 ∗ owns (c : Thread nD τ) arg15 fullShare xo12 ∗ owns (c : Thread nD τ) arg16 fullShare xo13 ∗ owns (c : Thread nD τ) arg17 fullShare xs0 ∗ owns (c : Thread nD τ) arg18 fullShare xs1 ∗ owns (c : Thread nD τ) arg19 fullShare xs2 ∗ owns (c : Thread nD τ) arg20 fullShare xs3 ∗ owns (c : Thread nD τ) arg21 fullShare xs4 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ (∃ f, arg15.view.loc (c : Thread nD τ) ↦[arg15.view.set]{fullShare} arg15.view.writes (Elt F) f L12) ∗ (∃ f, arg16.view.loc (c : Thread nD τ) ↦[arg16.view.set]{fullShare} arg16.view.writes (Elt F) f L13) ∗ owns (c : Thread nD τ) arg17 fullShare xs0 ∗ owns (c : Thread nD τ) arg18 fullShare xs1 ∗ (∃ f, arg19.view.loc (c : Thread nD τ) ↦[arg19.view.set]{fullShare} arg19.view.writes (Elt F) f LS2) ∗ (∃ f, arg20.view.loc (c : Thread nD τ) ↦[arg20.view.set]{fullShare} arg20.view.writes (Elt F) f LS3) ∗ (∃ f, arg21.view.loc (c : Thread nD τ) ↦[arg21.view.set]{fullShare} arg21.view.writes (Elt F) f LS4) ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn_bwd_l0 i arg1 harg1 arg2 harg2 arg3 harg3 arg4 harg4 arg5 harg5 arg6 harg6 arg7 harg7 arg8 harg8 (Memref.whole main_v57) (Memref.isWhole_whole _) (Memref.whole main_v59) (Memref.isWhole_whole _) arg11 harg11 arg12 harg12 arg13 harg13 arg14 harg14 arg15 harg15 arg16 harg16 arg17 harg17 arg18 harg18 arg19 harg19 arg20 harg20 arg21 harg21 cc0_scratch5) K } := by
  refine ⟨?_, ?_, ?_, ?_, ?_, ?_, [], [], ?_, ?_, ?_, fun W K => ?run⟩
  case run =>
    simp only [cc0_ffn_bwd_l0_eq_skeleton]; unfold cc0_ffn_bwd_l0_skel
    simp only [k0_part19_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%f12, %hf12, H12⟩, ⟨%f13, %hf13, H13⟩, ⟨%fs0, %hfs0, HS0⟩, ⟨%fs1, %hfs1, HS1⟩, ⟨%fs2, %hfs2, HS2⟩, ⟨%fs3, %hfs3, HS3⟩, ⟨%fs4, %hfs4, HS4⟩, Hq0, Hq1, Hq2, Hq3, Hq4, Hq5, Hq6, Hq7, Hh0, Hh1, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg14.eq_unread hf11; obtain rfl := harg15.eq_unread hf12; obtain rfl := harg16.eq_unread hf13; obtain rfl := harg17.eq_unread hfs0; obtain rfl := harg18.eq_unread hfs1; obtain rfl := harg19.eq_unread hfs2; obtain rfl := harg20.eq_unread hfs3; obtain rfl := harg21.eq_unread hfs4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [HS0]
    · iexists _; isplitr; · ipureintro; exact harg17.read_unread _
      iexact HS0
    isplitl [HS1]
    · iexists _; isplitr; · ipureintro; exact harg18.read_unread _
      iexact HS1
    isplitl [HS2]; · iexists _; iexact HS2
    isplitl [HS3]; · iexists _; iexact HS3
    isplitl [HS4]; · iexists _; iexact HS4
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    isplitl [Hh1]; · iexact Hh1
    iexists _; iexact HW

end Cert.KernelIdeal.Ffn

end
-- ==== Proof.Ffn.KernelIdeal.Out.lean ====
/- What the ConvFFN backward kernel's output blocks and its scratch hold after every grid point: the pieces the body writes at
   a point cover each buffer, and the buffers after a point are these pieces laid out. -/
module

public import proofs.«01_k».proof.Proof.Ffn.KernelIdeal.RunB
public import Idealize.ShloMosaic.Lib.Claim

@[expose] public section

set_option maxRecDepth 16384

noncomputable section

namespace Cert.KernelIdeal.Ffn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What one grid point leaves -/

/-- What a grid point leaves: the six output blocks (`dx2`, `dup`, the cast cotangent, the three running sums), then the
    five scratch buffers (the two weights, the carried rows, the product with `w_down`, the gate and value gradients). -/
abbrev Outs (F : FTy → Type) [FloatOps F] : Type :=
  Vec F S256x1024 .f32 × Vec F S256x5632 .bf16 × Vec F S256x1024 .bf16 × Vec F S8x1024 .f32 × Vec F S8x2816 .f32 × Vec F S3x8x2816 .f32 × Vec F S1024x5632 .bf16 × Vec F S2816x1024 .bf16 × Vec F S8x2816 .f32 × Vec F S256x2816 .f32 × Vec F S256x5632 .bf16

/-- The body's run at the first point, on that point's blocks. -/
def runA (c : Dev nD) (t : Fin cfg0.N) (h0 : t.val % 34 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) ((hcond0_0 t).mpr h0)
    (iblk m c 0 t) (iblk m c 1 t) (iblk m c 2 t) (iblk m c 3 t) (iblk m c 4 t) (iblk m c 5 t) (iblk m c 6 t) (iblk m c 7 t) (V m c main_v57) (V m c main_v59)

/-- The body's run at a later point, on that point's blocks and on what the point before left. -/
def runB (c : Dev nD) (t : Fin cfg0.N) (h0 : ¬t.val % 34 = 0) (p : Outs F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h))
    (iblk m c 0 t) (iblk m c 1 t) (iblk m c 2 t) (iblk m c 3 t) (iblk m c 4 t) (iblk m c 5 t) (iblk m c 6 t) (iblk m c 7 t)
    p.2.2.2.1 p.2.2.2.2.1 p.2.2.2.2.2.1 p.2.2.2.2.2.2.1 p.2.2.2.2.2.2.2.1 p.2.2.2.2.2.2.2.2.1 p.2.2.2.2.2.2.2.2.2.1 p.2.2.2.2.2.2.2.2.2.2 (V m c main_v57) (V m c main_v59)

/-- At the first point the pieces written to the block of `dx2` cover it. -/
theorem coverA_0 (c : Dev nD) (t : Fin cfg0.N) (h0 : t.val % 34 = 0) (y : S256x1024.Idx) :
    ∃ pc ∈ (runA m c t h0).1, y ∈ pc.1.set :=
  View.cover_of_tiledL (runA m c t h0).1 S256x1024.size (by sl_kernel_rfl) y

/-- At the first point the pieces written to the block of `dup` cover it. -/
theorem coverA_1 (c : Dev nD) (t : Fin cfg0.N) (h0 : t.val % 34 = 0) (y : S256x5632.Idx) :
    ∃ pc ∈ (runA m c t h0).2.1, y ∈ pc.1.set :=
  View.cover_of_tiledBy (runA m c t h0).2.1 ![256, 256] (by sl_kernel_rfl) y

/-- At the first point the pieces written to the block of the cast cotangent cover it. -/
theorem coverA_2 (c : Dev nD) (t : Fin cfg0.N) (h0 : t.val % 34 = 0) (y : S256x1024.Idx) :
    ∃ pc ∈ (runA m c t h0).2.2.1, y ∈ pc.1.set :=
  View.cover_of_tiledL (runA m c t h0).2.2.1 S256x1024.size (by sl_kernel_rfl) y

/-- At the first point the pieces written to the running sum for `dg2` cover it. -/
theorem coverA_3 (c : Dev nD) (t : Fin cfg0.N) (h0 : t.val % 34 = 0) (y : S8x1024.Idx) :
    ∃ pc ∈ (runA m c t h0).2.2.2.1, y ∈ pc.1.set :=
  View.cover_of_tiledL (runA m c t h0).2.2.2.1 S8x1024.size (by sl_kernel_rfl) y

/-- At the first point the pieces written to the running sum for `dbfc` cover it. -/
theorem coverA_4 (c : Dev nD) (t : Fin cfg0.N) (h0 : t.val % 34 = 0) (y : S8x2816.Idx) :
    ∃ pc ∈ (runA m c t h0).2.2.2.2.1, y ∈ pc.1.set :=
  View.cover_of_tiledBy (runA m c t h0).2.2.2.2.1 ![8, 256] (by sl_kernel_rfl) y

/-- At the first point the pieces written to the running sum for `dwfc` cover it. -/
theorem coverA_5 (c : Dev nD) (t : Fin cfg0.N) (h0 : t.val % 34 = 0) (y : S3x8x2816.Idx) :
    ∃ pc ∈ (runA m c t h0).2.2.2.2.2.1, y ∈ pc.1.set :=
  View.cover_of_tiledBy (runA m c t h0).2.2.2.2.2.1 ![1, 8, 256] (by sl_kernel_rfl) y

/-- At the first point the pieces written to the copy of `w_up` cover it. -/
theorem coverA_6 (c : Dev nD) (t : Fin cfg0.N) (h0 : t.val % 34 = 0) (y : S1024x5632.Idx) :
    ∃ pc ∈ (runA m c t h0).2.2.2.2.2.2.1, y ∈ pc.1.set :=
  View.cover_of_tiledL (runA m c t h0).2.2.2.2.2.2.1 S1024x1408.size (by sl_kernel_rfl) y

/-- At the first point the pieces written to the copy of `w_down` cover it. -/
theorem coverA_7 (c : Dev nD) (t : Fin cfg0.N) (h0 : t.val % 34 = 0) (y : S2816x1024.Idx) :
    ∃ pc ∈ (runA m c t h0).2.2.2.2.2.2.2.1, y ∈ pc.1.set :=
  View.cover_of_tiledL (runA m c t h0).2.2.2.2.2.2.2.1 S704x1024.size (by sl_kernel_rfl) y

/-- At the first point the pieces written to the carried rows cover it. -/
theorem coverA_8 (c : Dev nD) (t : Fin cfg0.N) (h0 : t.val % 34 = 0) (y : S8x2816.Idx) :
    ∃ pc ∈ (runA m c t h0).2.2.2.2.2.2.2.2.1, y ∈ pc.1.set :=
  View.cover_of_wholeMem (runA m c t h0).2.2.2.2.2.2.2.2.1 (by sl_whole_mem) y

/-- At the first point the pieces written to the carried product with `w_down` cover it. -/
theorem coverA_9 (c : Dev nD) (t : Fin cfg0.N) (h0 : t.val % 34 = 0) (y : S256x2816.Idx) :
    ∃ pc ∈ (runA m c t h0).2.2.2.2.2.2.2.2.2.1, y ∈ pc.1.set :=
  View.cover_of_wholeMem (runA m c t h0).2.2.2.2.2.2.2.2.2.1 (by sl_whole_mem) y

/-- At the first point the pieces written to the carried gate and value gradients cover it. -/
theorem coverA_10 (c : Dev nD) (t : Fin cfg0.N) (h0 : t.val % 34 = 0) (y : S256x5632.Idx) :
    ∃ pc ∈ (runA m c t h0).2.2.2.2.2.2.2.2.2.2.1, y ∈ pc.1.set :=
  View.cover_of_wholeMem (runA m c t h0).2.2.2.2.2.2.2.2.2.2.1 (by sl_whole_mem) y

/-- At the first point: every output block and scratch buffer after the body, its pieces read back. -/
def outA (c : Dev nD) (t : Fin cfg0.N) (h0 : t.val % 34 = 0) : Outs F :=
  (VO0_8.read (Elt F) (VO0_8.writes (Elt F) VO0_8.junk (runA m c t h0).1),
    VO0_9.read (Elt F) (VO0_9.writes (Elt F) VO0_9.junk (runA m c t h0).2.1),
    VO0_10.read (Elt F) (VO0_10.writes (Elt F) VO0_10.junk (runA m c t h0).2.2.1),
    VO0_11.read (Elt F) (VO0_11.writes (Elt F) VO0_11.junk (runA m c t h0).2.2.2.1),
    VO0_12.read (Elt F) (VO0_12.writes (Elt F) VO0_12.junk (runA m c t h0).2.2.2.2.1),
    VO0_13.read (Elt F) (VO0_13.writes (Elt F) VO0_13.junk (runA m c t h0).2.2.2.2.2.1),
    VS0_0.read (Elt F) (VS0_0.writes (Elt F) VS0_0.junk (runA m c t h0).2.2.2.2.2.2.1),
    VS0_1.read (Elt F) (VS0_1.writes (Elt F) VS0_1.junk (runA m c t h0).2.2.2.2.2.2.2.1),
    VS0_2.read (Elt F) (VS0_2.writes (Elt F) VS0_2.junk (runA m c t h0).2.2.2.2.2.2.2.2.1),
    VS0_3.read (Elt F) (VS0_3.writes (Elt F) VS0_3.junk (runA m c t h0).2.2.2.2.2.2.2.2.2.1),
    VS0_4.read (Elt F) (VS0_4.writes (Elt F) VS0_4.junk (runA m c t h0).2.2.2.2.2.2.2.2.2.2.1))

/-- At a later point the pieces written to the block of `dx2` cover it. -/
theorem coverB_0 (c : Dev nD) (t : Fin cfg0.N) (h0 : ¬t.val % 34 = 0) (p : Outs F) (y : S256x1024.Idx) :
    ∃ pc ∈ (runB m c t h0 p).1, y ∈ pc.1.set :=
  View.cover_of_tiledL (runB m c t h0 p).1 S256x1024.size (by sl_kernel_rfl) y

/-- At a later point the pieces written to the block of `dup` cover it. -/
theorem coverB_1 (c : Dev nD) (t : Fin cfg0.N) (h0 : ¬t.val % 34 = 0) (p : Outs F) (y : S256x5632.Idx) :
    ∃ pc ∈ (runB m c t h0 p).2.1, y ∈ pc.1.set :=
  View.cover_of_tiledBy (runB m c t h0 p).2.1 ![256, 256] (by sl_kernel_rfl) y

/-- At a later point the pieces written to the block of the cast cotangent cover it. -/
theorem coverB_2 (c : Dev nD) (t : Fin cfg0.N) (h0 : ¬t.val % 34 = 0) (p : Outs F) (y : S256x1024.Idx) :
    ∃ pc ∈ (runB m c t h0 p).2.2.1, y ∈ pc.1.set :=
  View.cover_of_tiledL (runB m c t h0 p).2.2.1 S256x1024.size (by sl_kernel_rfl) y

/-- At a later point the pieces written to the running sum for `dg2` cover it. -/
theorem coverB_3 (c : Dev nD) (t : Fin cfg0.N) (h0 : ¬t.val % 34 = 0) (p : Outs F) (y : S8x1024.Idx) :
    ∃ pc ∈ (runB m c t h0 p).2.2.2.1, y ∈ pc.1.set :=
  View.cover_of_tiledL (runB m c t h0 p).2.2.2.1 S8x1024.size (by sl_kernel_rfl) y

/-- At a later point the pieces written to the running sum for `dbfc` cover it. -/
theorem coverB_4 (c : Dev nD) (t : Fin cfg0.N) (h0 : ¬t.val % 34 = 0) (p : Outs F) (y : S8x2816.Idx) :
    ∃ pc ∈ (runB m c t h0 p).2.2.2.2.1, y ∈ pc.1.set :=
  View.cover_of_tiledBy (runB m c t h0 p).2.2.2.2.1 ![8, 256] (by sl_kernel_rfl) y

/-- At a later point the pieces written to the running sum for `dwfc` cover it. -/
theorem coverB_5 (c : Dev nD) (t : Fin cfg0.N) (h0 : ¬t.val % 34 = 0) (p : Outs F) (y : S3x8x2816.Idx) :
    ∃ pc ∈ (runB m c t h0 p).2.2.2.2.2.1, y ∈ pc.1.set :=
  View.cover_of_tiledBy (runB m c t h0 p).2.2.2.2.2.1 ![1, 8, 256] (by sl_kernel_rfl) y

/-- At a later point the pieces written to the carried rows cover it. -/
theorem coverB_8 (c : Dev nD) (t : Fin cfg0.N) (h0 : ¬t.val % 34 = 0) (p : Outs F) (y : S8x2816.Idx) :
    ∃ pc ∈ (runB m c t h0 p).2.2.2.2.2.2.2.2.1, y ∈ pc.1.set :=
  View.cover_of_tiledBy (runB m c t h0 p).2.2.2.2.2.2.2.2.1 ![8, 256] (by sl_kernel_rfl) y

/-- At a later point the pieces written to the carried product with `w_down` cover it. -/
theorem coverB_9 (c : Dev nD) (t : Fin cfg0.N) (h0 : ¬t.val % 34 = 0) (p : Outs F) (y : S256x2816.Idx) :
    ∃ pc ∈ (runB m c t h0 p).2.2.2.2.2.2.2.2.2.1, y ∈ pc.1.set :=
  View.cover_of_tiledBy (runB m c t h0 p).2.2.2.2.2.2.2.2.2.1 ![256, 256] (by sl_kernel_rfl) y

/-- At a later point the pieces written to the carried gate and value gradients cover it. -/
theorem coverB_10 (c : Dev nD) (t : Fin cfg0.N) (h0 : ¬t.val % 34 = 0) (p : Outs F) (y : S256x5632.Idx) :
    ∃ pc ∈ (runB m c t h0 p).2.2.2.2.2.2.2.2.2.2.1, y ∈ pc.1.set :=
  View.cover_of_tiledBy (runB m c t h0 p).2.2.2.2.2.2.2.2.2.2.1 ![256, 256] (by sl_kernel_rfl) y

/-- At a later point: every output block and scratch buffer after the body, its pieces read back. -/
def outB (c : Dev nD) (t : Fin cfg0.N) (h0 : ¬t.val % 34 = 0) (p : Outs F) : Outs F :=
  (VO0_8.read (Elt F) (VO0_8.writes (Elt F) VO0_8.junk (runB m c t h0 p).1),
    VO0_9.read (Elt F) (VO0_9.writes (Elt F) VO0_9.junk (runB m c t h0 p).2.1),
    VO0_10.read (Elt F) (VO0_10.writes (Elt F) VO0_10.junk (runB m c t h0 p).2.2.1),
    VO0_11.read (Elt F) (VO0_11.writes (Elt F) VO0_11.junk (runB m c t h0 p).2.2.2.1),
    VO0_12.read (Elt F) (VO0_12.writes (Elt F) VO0_12.junk (runB m c t h0 p).2.2.2.2.1),
    VO0_13.read (Elt F) (VO0_13.writes (Elt F) VO0_13.junk (runB m c t h0 p).2.2.2.2.2.1),
    p.2.2.2.2.2.2.1,
    p.2.2.2.2.2.2.2.1,
    VS0_2.read (Elt F) (VS0_2.writes (Elt F) VS0_2.junk (runB m c t h0 p).2.2.2.2.2.2.2.2.1),
    VS0_3.read (Elt F) (VS0_3.writes (Elt F) VS0_3.junk (runB m c t h0 p).2.2.2.2.2.2.2.2.2.1),
    VS0_4.read (Elt F) (VS0_4.writes (Elt F) VS0_4.junk (runB m c t h0 p).2.2.2.2.2.2.2.2.2.2.1))

/-! ## What every grid point leaves -/

/-- The output blocks and the scratch after point `n`, by recursion on `n`: a later point works on what the one before left. -/
def outsAt0 (c : Dev nD) : (n : ℕ) → n < cfg0.N → Outs F
  | 0, hn => outA m c ⟨0, hn⟩ (Nat.zero_mod _)
  | n + 1, hn =>
    if h0 : (n + 1) % 34 = 0 then outA m c ⟨n + 1, hn⟩ h0
    else outB m c ⟨n + 1, hn⟩ h0 (outsAt0 c n (Nat.lt_of_succ_lt hn))

/-- `outsAt0` at the first point. -/
theorem outsAt0_A (c : Dev nD) (t : Fin cfg0.N) (h0 : t.val % 34 = 0) :
    outsAt0 m c t.val t.isLt = outA m c t h0 := by
  obtain ⟨n, hn⟩ := t
  cases n with
  | zero => exact rfl
  | succ n => exact (dif_pos h0).trans rfl

/-- `outsAt0` at a later point, over what the point before left. -/
theorem outsAt0_B (c : Dev nD) (t : Fin cfg0.N) (h0 : ¬t.val % 34 = 0) :
    outsAt0 m c t.val t.isLt
      = outB m c t h0 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans rfl

end Cert.KernelIdeal.Ffn

end
-- ==== Proof.Ffn.KernelIdeal.Frame.lean ====
/- The frame of the ConvFFN backward kernel: what its output blocks and its scratch hold after every grid point, the proof
   data of the pipeline, the body at every point, and the claim that every run ends with the argument arrays as they were. -/
module

public import proofs.«01_k».proof.Proof.Ffn.KernelIdeal.Out
public import Idealize.ShloMosaic.Lib.Claim

@[expose] public section

set_option maxRecDepth 16384

noncomputable section

namespace Cert.KernelIdeal.Ffn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The pipeline and its body -/

/-- The carried scratch, the generator register, the copies' counters at zero and the weight arrays, over a point's results. -/
def carried (c : Dev nD) (p : Outs F) : sProp 𝕄 :=
  iprop(iprop(owns (c : Thread nD τ) scM0_0 fullShare (p.2.2.2.2.2.2.1) ∗ owns (c : Thread nD τ) scM0_1 fullShare (p.2.2.2.2.2.2.2.1) ∗ owns (c : Thread nD τ) scM0_2 fullShare (p.2.2.2.2.2.2.2.2.1) ∗ owns (c : Thread nD τ) scM0_3 fullShare (p.2.2.2.2.2.2.2.2.2.1) ∗ owns (c : Thread nD τ) scM0_4 fullShare (p.2.2.2.2.2.2.2.2.2.2)) ∗ (∃ r, prngReg c r) ∗ iprop(semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0) ∗ iprop(hbPt0 c hbM0_0 (V m c main_v57) ∗ hbPt0 c hbM0_1 (V m c main_v59)))

/-- The invariant before position `n`: at the start the launch's own, afterwards the scratch as the point before left it. -/
def PhiS (c : Dev nD) : (n : ℕ) → n ≤ cfg0.N → sProp 𝕄
  | 0, _ => Pipeline.ΦD osem0 spec0 H0 (V m) c
  | n + 1, hn => carried m c (outsAt0 m c n hn)

/-- Before the first point nothing is carried. -/
theorem PhiS_zero (c : Dev nD) (n : ℕ) (h : n ≤ cfg0.N) (hz : n = 0) : PhiS m c n h = Pipeline.ΦD osem0 spec0 H0 (V m) c := by
  subst hz; rfl

/-- After a point its outputs are carried. -/
theorem PhiS_succ (c : Dev nD) (n : ℕ) (hn : n < cfg0.N) : PhiS m c (n + 1) hn = carried m c (outsAt0 m c n hn) := rfl

/-- Before a later point the outputs of the one before are carried. -/
theorem PhiS_pos (c : Dev nD) (n : ℕ) (h : n ≤ cfg0.N) (hz : n ≠ 0) :
    PhiS m c n h = carried m c (outsAt0 m c (n - 1) (by omega)) := by
  cases n with
  | zero => exact absurd rfl hz
  | succ n => rfl

/-! ## The pipeline's proof data -/

/-- The proof data of the pipeline: each input block as the launch staged it, each output block as `outsAt0` says, the
    scratch by `PhiS`, and an equal share of an array for every window that reads it. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2.1
    | ⟨11, _⟩ => (outsAt0 m c t.val t.isLt).2.2.2.1
    | ⟨12, _⟩ => (outsAt0 m c t.val t.isLt).2.2.2.2.1
    | ⟨13, _⟩ => (outsAt0 m c t.val t.isLt).2.2.2.2.2.1
  Φ t := PhiS m c t.val (Nat.le_of_lt_succ t.isLt)
  q w := Pipeline.shareOf spec0 w
  owed _ := 0

/-- The arrays of the proof data are those the launch finds. -/
theorem A_eq (c : Dev nD) (w : Fin cfg0.W) : (dats m 0 c).A w = V m c (Pipeline.arrRef spec0 w) := by
  dsimp only [dats]

/-- The invariant at the start of a point. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What every block holds after the body. -/
theorem after0_0 (c : Dev nD) (t : Fin cfg0.N) : (dats m 0 c).after 0 t = iblk m c 0 t := by dsimp only [dats]
/-- What the window's slot holds after a point. -/
theorem after0_1 (c : Dev nD) (t : Fin cfg0.N) : (dats m 0 c).after 1 t = iblk m c 1 t := by dsimp only [dats]
/-- What the window's slot holds after a point. -/
theorem after0_2 (c : Dev nD) (t : Fin cfg0.N) : (dats m 0 c).after 2 t = iblk m c 2 t := by dsimp only [dats]
/-- What the window's slot holds after a point. -/
theorem after0_3 (c : Dev nD) (t : Fin cfg0.N) : (dats m 0 c).after 3 t = iblk m c 3 t := by dsimp only [dats]
/-- What the window's slot holds after a point. -/
theorem after0_4 (c : Dev nD) (t : Fin cfg0.N) : (dats m 0 c).after 4 t = iblk m c 4 t := by dsimp only [dats]
/-- What the window's slot holds after a point. -/
theorem after0_5 (c : Dev nD) (t : Fin cfg0.N) : (dats m 0 c).after 5 t = iblk m c 5 t := by dsimp only [dats]
/-- What the window's slot holds after a point. -/
theorem after0_6 (c : Dev nD) (t : Fin cfg0.N) : (dats m 0 c).after 6 t = iblk m c 6 t := by dsimp only [dats]
/-- What the window's slot holds after a point. -/
theorem after0_7 (c : Dev nD) (t : Fin cfg0.N) : (dats m 0 c).after 7 t = iblk m c 7 t := by dsimp only [dats]
/-- What the window's slot holds after a point. -/
theorem after0_8 (c : Dev nD) (t : Fin cfg0.N) : (dats m 0 c).after 8 t = (outsAt0 m c t.val t.isLt).1 := by dsimp only [dats]
/-- What the window's slot holds after a point. -/
theorem after0_9 (c : Dev nD) (t : Fin cfg0.N) : (dats m 0 c).after 9 t = (outsAt0 m c t.val t.isLt).2.1 := by dsimp only [dats]
/-- What the window's slot holds after a point. -/
theorem after0_10 (c : Dev nD) (t : Fin cfg0.N) : (dats m 0 c).after 10 t = (outsAt0 m c t.val t.isLt).2.2.1 := by dsimp only [dats]
/-- What the window's slot holds after a point. -/
theorem after0_11 (c : Dev nD) (t : Fin cfg0.N) : (dats m 0 c).after 11 t = (outsAt0 m c t.val t.isLt).2.2.2.1 := by dsimp only [dats]
/-- What the window's slot holds after a point. -/
theorem after0_12 (c : Dev nD) (t : Fin cfg0.N) : (dats m 0 c).after 12 t = (outsAt0 m c t.val t.isLt).2.2.2.2.1 := by dsimp only [dats]
/-- What the window's slot holds after a point. -/
theorem after0_13 (c : Dev nD) (t : Fin cfg0.N) : (dats m 0 c).after 13 t = (outsAt0 m c t.val t.isLt).2.2.2.2.2.1 := by dsimp only [dats]

/-- Every input block holds its part of the array when the body starts. -/
theorem before0_0 (c : Dev nD) (t : Fin cfg0.N) (d) : (dats m 0 c).before 0 t d = iblk m c 0 t :=
  before0_0_of m (dats m 0 c) (A_eq m c 0) (after0_0 m c) t d
/-- What the window's slot holds before a point. -/
theorem before0_1 (c : Dev nD) (t : Fin cfg0.N) (d) : (dats m 0 c).before 1 t d = iblk m c 1 t :=
  before0_1_of m (dats m 0 c) (A_eq m c 1) (after0_1 m c) t d
/-- What the window's slot holds before a point. -/
theorem before0_2 (c : Dev nD) (t : Fin cfg0.N) (d) : (dats m 0 c).before 2 t d = iblk m c 2 t :=
  before0_2_of m (dats m 0 c) (A_eq m c 2) (after0_2 m c) t d
/-- What the window's slot holds before a point. -/
theorem before0_3 (c : Dev nD) (t : Fin cfg0.N) (d) : (dats m 0 c).before 3 t d = iblk m c 3 t :=
  before0_3_of m (dats m 0 c) (A_eq m c 3) (after0_3 m c) t d
/-- What the window's slot holds before a point. -/
theorem before0_4 (c : Dev nD) (t : Fin cfg0.N) (d) : (dats m 0 c).before 4 t d = iblk m c 4 t :=
  before0_4_of m (dats m 0 c) (A_eq m c 4) (after0_4 m c) t d
/-- What the window's slot holds before a point. -/
theorem before0_5 (c : Dev nD) (t : Fin cfg0.N) (d) : (dats m 0 c).before 5 t d = iblk m c 5 t :=
  before0_5_of m (dats m 0 c) (A_eq m c 5) (after0_5 m c) t d
/-- What the window's slot holds before a point. -/
theorem before0_6 (c : Dev nD) (t : Fin cfg0.N) (d) : (dats m 0 c).before 6 t d = iblk m c 6 t :=
  before0_6_of m (dats m 0 c) (A_eq m c 6) (after0_6 m c) t d
/-- What the window's slot holds before a point. -/
theorem before0_7 (c : Dev nD) (t : Fin cfg0.N) (d) : (dats m 0 c).before 7 t d = iblk m c 7 t :=
  before0_7_of m (dats m 0 c) (A_eq m c 7) (after0_7 m c) t d
/-- The running sum for `dg2` is still there when a later point starts. -/
theorem before0_11_B (c : Dev nD) (t : Fin cfg0.N) (h0 : ¬t.val % 34 = 0) (d) :
    (dats m 0 c).before 11 t d = (outsAt0 m c (t.val - 1) (Nat.lt_of_le_of_lt (Nat.sub_le _ _) t.isLt)).2.2.2.1 := by
  have hN : t.val < 34 := lt_of_lt_of_eq t.isLt (show cfg0.N = 34 from N_0)
  rw [Dat.before_out_kept _ 11 rfl t (by omega) (Bool.eq_false_iff.mpr fun h => by have := (flush0_11 _).mp h; dsimp only at this; omega)
    (fun _ => rfl) (fun _ _ => rfl)]
  dsimp only [dats]
/-- The running sum for `dbfc` is still there when a later point starts. -/
theorem before0_12_B (c : Dev nD) (t : Fin cfg0.N) (h0 : ¬t.val % 34 = 0) (d) :
    (dats m 0 c).before 12 t d = (outsAt0 m c (t.val - 1) (Nat.lt_of_le_of_lt (Nat.sub_le _ _) t.isLt)).2.2.2.2.1 := by
  have hN : t.val < 34 := lt_of_lt_of_eq t.isLt (show cfg0.N = 34 from N_0)
  rw [Dat.before_out_kept _ 12 rfl t (by omega) (Bool.eq_false_iff.mpr fun h => by have := (flush0_12 _).mp h; dsimp only at this; omega)
    (fun _ => rfl) (fun _ _ => rfl)]
  dsimp only [dats]
/-- The running sum for `dwfc` is still there when a later point starts. -/
theorem before0_13_B (c : Dev nD) (t : Fin cfg0.N) (h0 : ¬t.val % 34 = 0) (d) :
    (dats m 0 c).before 13 t d = (outsAt0 m c (t.val - 1) (Nat.lt_of_le_of_lt (Nat.sub_le _ _) t.isLt)).2.2.2.2.2.1 := by
  have hN : t.val < 34 := lt_of_lt_of_eq t.isLt (show cfg0.N = 34 from N_0)
  rw [Dat.before_out_kept _ 13 rfl t (by omega) (Bool.eq_false_iff.mpr fun h => by have := (flush0_13 _).mp h; dsimp only at this; omega)
    (fun _ => rfl) (fun _ _ => rfl)]
  dsimp only [dats]

/-! ## The body obligation, at a generic point -/

/-- What the body is given at a point: the invariant and every window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- What the body gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

set_option maxHeartbeats 12800000 in
/-- The body at any point. At the first it finds the scratch at anything and runs as `runA`; at a later one it finds the
    scratch and the running sums as the point before left them and runs as `runB`. The lists of pieces cover their buffers, so
    what is written is all they hold. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = PhiS m c (t.val + 1) t.isLt from rfl, PhiS_succ,
    after0_0, after0_1, after0_2, after0_3, after0_4, after0_5, after0_6, after0_7, after0_8, after0_9, after0_10, after0_11, after0_12, after0_13]
  unfold Dat.owesAt Pipeline.owesWithin
  rw [show (dats m 0 c).owed t.castSucc = 0 from rfl, show (dats m 0 c).owed t.succ = 0 from rfl]
  have hN : t.val < 34 := lt_of_lt_of_eq t.isLt (show cfg0.N = 34 from N_0)
  by_cases h0 : t.val % 34 = 0
  · by_cases hz : t.val = 0
    · rw [PhiS_castSucc m c t, PhiS_zero m c _ _ hz, PhiD0_eq]
      rw [outsAt0_A m c t h0]
      unfold outA carried; dsimp only
      iintro ⟨⟨⟨HS0, HS1, HS2, HS3, HS4⟩, Hg, ⟨Hq0, Hq1, Hq2, Hq3, Hq4, Hq5, Hq6, Hq7⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((runA m c t h0).2.2.2.2.2.2.2.2.2.2.2 W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [HS0]; · iexact HS0
      isplitl [HS1]; · iexact HS1
      isplitl [HS2]; · iexact HS2
      isplitl [HS3]; · iexact HS3
      isplitl [HS4]; · iexact HS4
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hh0]; · iexact Hh0
      isplitl [Hh1]; · iexact Hh1
      isplitl [HW]; · iexact HW
      iintro ⟨H0, H1, H2, H3, H4, H5, H6, H7, ⟨%e8, H8⟩, ⟨%e9, H9⟩, ⟨%e10, H10⟩, ⟨%e11, H11⟩, ⟨%e12, H12⟩, ⟨%e13, H13⟩, ⟨%es0, HS0⟩, ⟨%es1, HS1⟩, ⟨%es2, HS2⟩, ⟨%es3, HS3⟩, ⟨%es4, HS4⟩, Hq0, Hq1, Hq2, Hq3, Hq4, Hq5, Hq6, Hq7, Hh0, Hh1, ⟨%W', HW'⟩⟩
      isplitl [HS0 HS1 HS2 HS3 HS4 Hg Hq0 Hq1 Hq2 Hq3 Hq4 Hq5 Hq6 Hq7 Hh0 Hh1]
      · isplitl [HS0 HS1 HS2 HS3 HS4]
        · isplitl [HS0]
          · unfold owns; iexists _; isplitr
            swap; · iexact HS0
            ipureintro; exact View.read_writes_of_cover _ _ _ _ _ (coverA_6 m c t h0)
          isplitl [HS1]
          · unfold owns; iexists _; isplitr
            swap; · iexact HS1
            ipureintro; exact View.read_writes_of_cover _ _ _ _ _ (coverA_7 m c t h0)
          isplitl [HS2]
          · unfold owns; iexists _; isplitr
            swap; · iexact HS2
            ipureintro; exact View.read_writes_of_cover _ _ _ _ _ (coverA_8 m c t h0)
          isplitl [HS3]
          · unfold owns; iexists _; isplitr
            swap; · iexact HS3
            ipureintro; exact View.read_writes_of_cover _ _ _ _ _ (coverA_9 m c t h0)
          unfold owns; iexists _; isplitr
          swap; · iexact HS4
          ipureintro; exact View.read_writes_of_cover _ _ _ _ _ (coverA_10 m c t h0)
        isplitl [Hg]
        · iexact Hg
        isplitl [Hq0 Hq1 Hq2 Hq3 Hq4 Hq5 Hq6 Hq7]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          iexact Hq7
        isplitl [Hh0]; · iexact Hh0
        iexact Hh1
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (coverA_0 m c t h0)
      isplitl [H9]
      · unfold owns; iexists _; isplitr
        swap; · iexact H9
        ipureintro; exact View.read_writes_of_cover _ _ _ _ _ (coverA_1 m c t h0)
      isplitl [H10]
      · unfold owns; iexists _; isplitr
        swap; · iexact H10
        ipureintro; exact View.read_writes_of_cover _ _ _ _ _ (coverA_2 m c t h0)
      isplitl [H11]
      · unfold owns; iexists _; isplitr
        swap; · iexact H11
        ipureintro; exact View.read_writes_of_cover _ _ _ _ _ (coverA_3 m c t h0)
      isplitl [H12]
      · unfold owns; iexists _; isplitr
        swap; · iexact H12
        ipureintro; exact View.read_writes_of_cover _ _ _ _ _ (coverA_4 m c t h0)
      unfold owns; iexists _; isplitr
      swap; · iexact H13
      ipureintro; exact View.read_writes_of_cover _ _ _ _ _ (coverA_5 m c t h0)
    · exfalso; have hN : t.val < 34 := lt_of_lt_of_eq t.isLt (show cfg0.N = 34 from N_0); omega
  · by_cases hz : t.val = 0
    · exfalso; have hN : t.val < 34 := lt_of_lt_of_eq t.isLt (show cfg0.N = 34 from N_0); omega
    · rw [PhiS_castSucc m c t, PhiS_pos m c _ _ hz]
      rw [outsAt0_B m c t h0]
      simp only [before0_11_B m c t h0, before0_12_B m c t h0, before0_13_B m c t h0]
      generalize outsAt0 m c (t.val - 1) (Nat.lt_of_le_of_lt (Nat.sub_le _ _) t.isLt) = p
      unfold outB carried; dsimp only
      iintro ⟨⟨⟨HS0, HS1, HS2, HS3, HS4⟩, Hg, ⟨Hq0, Hq1, Hq2, Hq3, Hq4, Hq5, Hq6, Hq7⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((runB m c t h0 p).2.2.2.2.2.2.2.2.2.2.2 W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexact H11
      isplitl [H12]; · iexact H12
      isplitl [H13]; · iexact H13
      isplitl [HS0]; · iexact HS0
      isplitl [HS1]; · iexact HS1
      isplitl [HS2]; · iexact HS2
      isplitl [HS3]; · iexact HS3
      isplitl [HS4]; · iexact HS4
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hh0]; · iexact Hh0
      isplitl [Hh1]; · iexact Hh1
      isplitl [HW]; · iexact HW
      iintro ⟨H0, H1, H2, H3, H4, H5, H6, H7, ⟨%e8, H8⟩, ⟨%e9, H9⟩, ⟨%e10, H10⟩, ⟨%e11, H11⟩, ⟨%e12, H12⟩, ⟨%e13, H13⟩, HS0, HS1, ⟨%es2, HS2⟩, ⟨%es3, HS3⟩, ⟨%es4, HS4⟩, Hq0, Hq1, Hq2, Hq3, Hq4, Hq5, Hq6, Hq7, Hh0, Hh1, ⟨%W', HW'⟩⟩
      isplitl [HS0 HS1 HS2 HS3 HS4 Hg Hq0 Hq1 Hq2 Hq3 Hq4 Hq5 Hq6 Hq7 Hh0 Hh1]
      · isplitl [HS0 HS1 HS2 HS3 HS4]
        · isplitl [HS0]; · iexact HS0
          isplitl [HS1]; · iexact HS1
          isplitl [HS2]
          · unfold owns; iexists _; isplitr
            swap; · iexact HS2
            ipureintro; exact View.read_writes_of_cover _ _ _ _ _ (coverB_8 m c t h0 p)
          isplitl [HS3]
          · unfold owns; iexists _; isplitr
            swap; · iexact HS3
            ipureintro; exact View.read_writes_of_cover _ _ _ _ _ (coverB_9 m c t h0 p)
          unfold owns; iexists _; isplitr
          swap; · iexact HS4
          ipureintro; exact View.read_writes_of_cover _ _ _ _ _ (coverB_10 m c t h0 p)
        isplitl [Hg]
        · iexact Hg
        isplitl [Hq0 Hq1 Hq2 Hq3 Hq4 Hq5 Hq6 Hq7]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          iexact Hq7
        isplitl [Hh0]; · iexact Hh0
        iexact Hh1
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (coverB_0 m c t h0 p)
      isplitl [H9]
      · unfold owns; iexists _; isplitr
        swap; · iexact H9
        ipureintro; exact View.read_writes_of_cover _ _ _ _ _ (coverB_1 m c t h0 p)
      isplitl [H10]
      · unfold owns; iexists _; isplitr
        swap; · iexact H10
        ipureintro; exact View.read_writes_of_cover _ _ _ _ _ (coverB_2 m c t h0 p)
      isplitl [H11]
      · unfold owns; iexists _; isplitr
        swap; · iexact H11
        ipureintro; exact View.read_writes_of_cover _ _ _ _ _ (coverB_3 m c t h0 p)
      isplitl [H12]
      · unfold owns; iexists _; isplitr
        swap; · iexact H12
        ipureintro; exact View.read_writes_of_cover _ _ _ _ _ (coverB_4 m c t h0 p)
      unfold owns; iexists _; isplitr
      swap; · iexact H13
      ipureintro; exact View.read_writes_of_cover _ _ _ _ _ (coverB_5 m c t h0 p)

/-- The body at a point, as the launch calls it. -/
theorem defs₀_row (t : Fin cfg0.N) :
    defs₀ (F := F) .tc cfg0.body (cfg0.bodyArgs t (cfg0.slots t)) = bodyAt0 t := by
  unfold defs₀; rw [Defs.onTc_tc]

/-- The body at every point, in the form the pipeline asks for. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch gives the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch its resources back: what the scratch holds is forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  unfold carried
  iintro ⟨⟨HS0, HS1, HS2, HS3, HS4⟩, Hg, ⟨Hq0, Hq1, Hq2, Hq3, Hq4, Hq5, Hq6, Hq7⟩, ⟨Hh0, Hh1⟩⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexists _; iexact HS4
  isplitl [Hg]; · iexact Hg
  isplitl [Hq0 Hq1 Hq2 Hq3 Hq4 Hq5 Hq6 Hq7]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    iexact Hq7
  isplitl [Hh0]; · iexact Hh0
  iexact Hh1

/-- The same after the last point. -/
theorem hout (c : Dev nD) : (dats m 0 c).Φ (Fin.last cfg0.N) ⊢ Pipeline.ΦD osem0 spec0 H0 (V m) c :=
  Phi_out m c _ (by rw [Fin.val_last]; have : cfg0.N = 34 := N_0; omega)

/-! ## The run and the frame -/

set_option backward.isDefEq.respectTransparency.types false in
set_option maxHeartbeats 800000 in
/-- Every run of the program ends, with every array as the proof data computes it and every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_dma_around_shared (Q' := _) cfgs (dats m) (0 : Fin 1) launch₀0 osem0 defs₀ Variants.none ownSemFacts0 H0 H0_sub m ρ main
    (hbody := fun c => (body_obligation m c).loose) (hq := fun _ _ _ => rfl)
    (howed := fun _ _ => rfl) (V₀ := V0 m) (opss := [hostOps1]) (hsub := sfx_but) (hfresh := sfx_fresh) (hkeep := sfx_keeps)
    (hmain := hmain m Variants.none) (hA := A_eq m) (hin := hin m) (hout := hout m)

/-- Every run of the program ends, with every array as the proof data computes it and, after the region, as the host lines
    leave it. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- Every run ends with the argument arrays as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: every run ends, the argument arrays are as they were and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Ffn

end
-- ==== Proof.Ffn.Chunks.lean ====
/- The values the kernel body computes in its four column chunks, over the reals: the gate gradient before the convolution,
   moved up by one row and by two. -/
module

public import proofs.«01_k».proof.Proof.Gen.KernelIdeal.Skeleton
public import Idealize.ShloMosaic.Lib.Pointwise

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic

/-- Row `r` of a tile moved up by one row; its last row is the first of the rows carried from the tile after it. -/
def rot1 (f : Fin 256 → EReal) (q : Fin 8 → EReal) (r : Fin 256) : EReal :=
  if h : (r : ℕ) < 248 then f ⟨(↑r + 256 - 255) % 256, by omega⟩
  else Scalar.select (IntOp.cmpi CmpIPredicate.eq (BitVec.ofNat 32 (↑r - 248)) 7#32) (q 0)
    (f ⟨(248 + (↑r - 248) + 256 - 255) % 256, by omega⟩)

/-- Row `r` of a tile moved up by two rows; its last two rows are the first two of the carried ones. -/
def rot2 (f : Fin 256 → EReal) (q : Fin 8 → EReal) (r : Fin 256) : EReal :=
  if h : (r : ℕ) < 248 then f ⟨(↑r + 256 - 254) % 256, by omega⟩
  else Scalar.select (IntOp.cmpi CmpIPredicate.eq (BitVec.ofNat 32 (↑r - 248)) 7#32) (q 1)
    (Scalar.select (IntOp.cmpi CmpIPredicate.eq (BitVec.ofNat 32 (↑r - 248)) 6#32) (q 0)
      (f ⟨(248 + (↑r - 248) + 256 - 254) % 256, by omega⟩))

/-- Chunk 0: the gate gradient moved up by one row. -/
theorem chunk0_rot1 (a : Vec Ideal S256x768 .f32) (u d : Vec Ideal S256x768 .bf16) (q : Vec Ideal S8x768 .f32) (x : S256x768.Idx) :
    k0_pay13 a u d q x
      = rot1 (fun r => a (ix2 r (x 1)) * u (ix2 r (x 1)) * d (ix2 r (x 1))) (fun r => q (ix2 r (x 1))) (x 0) := by
  idx_vars x
  pointwise [k0_pay13, k0_pay12, rot1]

/-- Chunk 0: the gate gradient moved up by two rows. -/
theorem chunk0_rot2 (a : Vec Ideal S256x768 .f32) (u d : Vec Ideal S256x768 .bf16) (q : Vec Ideal S8x768 .f32) (x : S256x768.Idx) :
    k0_pay14 a u d q x
      = rot2 (fun r => a (ix2 r (x 1)) * u (ix2 r (x 1)) * d (ix2 r (x 1))) (fun r => q (ix2 r (x 1))) (x 0) := by
  idx_vars x
  pointwise [k0_pay14, k0_pay12, rot2]

/-- Chunk 1: the gate gradient moved up by one row. -/
theorem chunk1_rot1 (a : Vec Ideal S256x768 .f32) (u d : Vec Ideal S256x768 .bf16) (q : Vec Ideal S8x768 .f32) (x : S256x768.Idx) :
    k0_pay34 (k0_pay30 a u d) (k0_pay31 a u d) k0_pay32 (k0_pay33 q) x
      = rot1 (fun r => a (ix2 r (x 1)) * u (ix2 r (x 1)) * d (ix2 r (x 1))) (fun r => q (ix2 r (x 1))) (x 0) := by
  idx_vars x
  pointwise [k0_pay34, k0_pay30, k0_pay31, k0_pay32, k0_pay33, k0_pay29, rot1]

/-- Chunk 1: the gate gradient moved up by two rows. -/
theorem chunk1_rot2 (w : FVec Ideal S256x768 .f32) (q : Vec Ideal S8x768 .f32) (x : S256x768.Idx) :
    k0_pay35 w q x
      = rot2 (fun r => w (ix2 r (x 1))) (fun r => q (ix2 r (x 1))) (x 0) := by
  idx_vars x
  pointwise [k0_pay35, rot2]

/-- Chunk 2: the gate gradient moved up by one row. -/
theorem chunk2_rot1 (a : Vec Ideal S256x768 .f32) (u d : Vec Ideal S256x768 .bf16) (q : Vec Ideal S8x768 .f32) (x : S256x768.Idx) :
    k0_pay52 a u d q x
      = rot1 (fun r => a (ix2 r (x 1)) * u (ix2 r (x 1)) * d (ix2 r (x 1))) (fun r => q (ix2 r (x 1))) (x 0) := by
  idx_vars x
  pointwise [k0_pay52, k0_pay51, rot1]

/-- Chunk 2: the gate gradient moved up by two rows. -/
theorem chunk2_rot2 (a : Vec Ideal S256x768 .f32) (u d : Vec Ideal S256x768 .bf16) (q : Vec Ideal S8x768 .f32) (x : S256x768.Idx) :
    k0_pay57 (k0_pay53 a u d) (k0_pay54 a u d q) k0_pay55 (k0_pay56 q) x
      = rot2 (fun r => a (ix2 r (x 1)) * u (ix2 r (x 1)) * d (ix2 r (x 1))) (fun r => q (ix2 r (x 1))) (x 0) := by
  idx_vars x
  pointwise [k0_pay57, k0_pay53, k0_pay54, k0_pay55, k0_pay56, k0_pay51, rot2]

/-- Chunk 3: the gate gradient moved up by one row. -/
theorem chunk3_rot1 (w : FVec Ideal S256x512 .f32) (d : Vec Ideal S256x512 .bf16) (q : Vec Ideal S8x512 .f32) (x : S256x512.Idx) :
    k0_pay74 w d q x
      = rot1 (fun r => w (ix2 r (x 1)) * d (ix2 r (x 1))) (fun r => q (ix2 r (x 1))) (x 0) := by
  idx_vars x
  pointwise [k0_pay74, k0_pay73, rot1]

/-- Chunk 3: the gate gradient moved up by two rows. -/
theorem chunk3_rot2 (w : FVec Ideal S256x512 .f32) (d : Vec Ideal S256x512 .bf16) (q : Vec Ideal S8x512 .f32) (x : S256x512.Idx) :
    k0_pay75 w d q x
      = rot2 (fun r => w (ix2 r (x 1)) * d (ix2 r (x 1))) (fun r => q (ix2 r (x 1))) (x 0) := by
  idx_vars x
  pointwise [k0_pay75, k0_pay73, rot2]

end Cert.KernelIdeal.Ffn

end
-- ==== Proof.Ffn.StepDefs.lean ====
/- Names for what a grid point reads and leaves. -/
module

public import proofs.«01_k».proof.Proof.Ffn.KernelIdeal.Out
public import proofs.«01_k».proof.Proof.Ffn.Chunks
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic

variable (m : (ℓ : Loc nD τ sig) → Buf (Elt Ideal) ℓ)

/-- A point's results by name: the six output blocks, then the five scratch buffers. -/
abbrev dx2Of (p : Outs Ideal) : Vec Ideal S256x1024 .f32 := p.1
abbrev dupOf (p : Outs Ideal) : Vec Ideal S256x5632 .bf16 := p.2.1
abbrev dx3bOf (p : Outs Ideal) : Vec Ideal S256x1024 .bf16 := p.2.2.1
abbrev dgOf (p : Outs Ideal) : Vec Ideal S8x1024 .f32 := p.2.2.2.1
abbrev dbOf (p : Outs Ideal) : Vec Ideal S8x2816 .f32 := p.2.2.2.2.1
abbrev dwOf (p : Outs Ideal) : Vec Ideal S3x8x2816 .f32 := p.2.2.2.2.2.1
abbrev wupOf (p : Outs Ideal) : Vec Ideal S1024x5632 .bf16 := p.2.2.2.2.2.2.1
abbrev wdnOf (p : Outs Ideal) : Vec Ideal S2816x1024 .bf16 := p.2.2.2.2.2.2.2.1
abbrev carryOf (p : Outs Ideal) : Vec Ideal S8x2816 .f32 := p.2.2.2.2.2.2.2.2.1
abbrev dasOf (p : Outs Ideal) : Vec Ideal S256x2816 .f32 := p.2.2.2.2.2.2.2.2.2.1
abbrev dupsOf (p : Outs Ideal) : Vec Ideal S256x5632 .bf16 := p.2.2.2.2.2.2.2.2.2.2

/-- The input blocks of a point: the cotangent's tile, the cotangent's and the input's tiles two points late, the three saved
    arrays' tiles one point late, the gain and the filter. -/
abbrev xb0 (c : Dev nD) (t : Fin cfg0.N) : Vec Ideal S256x1024 .f32 := iblk m c 0 t
abbrev xb1 (c : Dev nD) (t : Fin cfg0.N) : Vec Ideal S256x1024 .f32 := iblk m c 1 t
abbrev xb2 (c : Dev nD) (t : Fin cfg0.N) : Vec Ideal S256x1024 .f32 := iblk m c 2 t
abbrev xb3 (c : Dev nD) (t : Fin cfg0.N) : Vec Ideal S256x5632 .bf16 := iblk m c 3 t
abbrev xb4 (c : Dev nD) (t : Fin cfg0.N) : Vec Ideal S256x2816 .bf16 := iblk m c 4 t
abbrev xb5 (c : Dev nD) (t : Fin cfg0.N) : Vec Ideal S256x2816 .bf16 := iblk m c 5 t
abbrev xb6 (c : Dev nD) (t : Fin cfg0.N) : Vec Ideal S1x1024 .f32 := iblk m c 6 t
abbrev xb7 (c : Dev nD) (t : Fin cfg0.N) : Vec Ideal S8x2816 .f32 := iblk m c 7 t

/-- The gradient at the convolution's output, column `l`, of the tile one point late. -/
def dgcB (c : Dev nD) (t : Fin cfg0.N) (p : Outs Ideal) (l : Fin 2816) (r : Fin 256) : EReal :=
  dasOf p (ix2 r l) * xb3 m c t (ix2 r ⟨2816 + l, by omega⟩) * xb5 m c t (ix2 r l)

/-- The convolved gate's cotangent as a function of the row. -/
theorem dgcB_fun (c : Dev nD) (t : Fin cfg0.N) (p : Outs Ideal) (l : Fin 2816) :
    dgcB m c t p l
      = fun r => dasOf p (ix2 r l) * xb3 m c t (ix2 r ⟨2816 + l, by omega⟩) * xb5 m c t (ix2 r l) := rfl

/-- The gradient at the gate: the filter run backwards over the rows. -/
def gateB (c : Dev nD) (t : Fin cfg0.N) (p : Outs Ideal) (r : Fin 256) (l : Fin 2816) : EReal :=
  xb7 m c t (ix2 2 l) * dgcB m c t p l r
    + xb7 m c t (ix2 1 l) * rot1 (dgcB m c t p l) (fun q => carryOf p (ix2 q l)) r
    + xb7 m c t (ix2 0 l) * rot2 (dgcB m c t p l) (fun q => carryOf p (ix2 q l)) r

end Cert.KernelIdeal.Ffn

end
-- ==== Proof.Ffn.Host.lean ====
/- What the host lines before the kernel hand it, over the reals: the saved arrays of the forward pass are the reference's own
   terms, and the weights are laid out in four slots each. -/
module

public import proofs.«01_k».proof.Proof.Gen.KernelIdeal.Frame.Runs
public import proofs.«01_k».proof.Proof.Gen.ReferenceIdeal.Read
public import Idealize.ShloMosaic.Lib.Claim
public import Idealize.ShloMosaic.Lib.Pointwise
public import Idealize.ShloMosaic.Lib.StableHlo.RunRead

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Cert.ReferenceIdeal.Read

variable (m : (ℓ : Loc nD τ sig) → Buf (Elt Ideal) ℓ)

/-- An argument array at launch. -/
abbrev arg0 (c : Dev nD) : FVec Ideal S8192x1024 .f32 := m ((c : Thread nD τ).loc main_arg0)
abbrev arg1 (c : Dev nD) : FVec Ideal S1024 .f32 := m ((c : Thread nD τ).loc main_arg1)
abbrev arg2 (c : Dev nD) : FVec Ideal S1024x5632 .f32 := m ((c : Thread nD τ).loc main_arg2)
abbrev arg3 (c : Dev nD) : FVec Ideal S3x2816 .f32 := m ((c : Thread nD τ).loc main_arg3)
abbrev arg4 (c : Dev nD) : FVec Ideal S2816 .f32 := m ((c : Thread nD τ).loc main_arg4)
abbrev arg5 (c : Dev nD) : FVec Ideal S2816x1024 .f32 := m ((c : Thread nD τ).loc main_arg5)
abbrev arg6 (c : Dev nD) : FVec Ideal S8192x1024 .f32 := m ((c : Thread nD τ).loc main_arg6)

/-- The hidden array before the activation is the reference's. -/
theorem V_v50 (c : Dev nD) :
    @Eq (FVec Ideal S8192x5632 .bf16) (V m c main_v50)
      (truncf .bf16 (val_main_v16 (F := Ideal) (arg0 m c) (arg1 m c) (arg2 m c)) bitsLt_bf16_f32) := by
  unfold_abbrev_sides
  after_reads_simp
  rfl

/-- The saved up projection. -/
theorem up_at (c : Dev nD) (t : Fin 8192) (e : Fin 5632) :
    (V m c main_v50 : FVec Ideal S8192x5632 .bf16) (ix2 t e)
      = val_main_v16 (F := Ideal) (arg0 m c) (arg1 m c) (arg2 m c) (ix2 t e) := by
  rw [V_v50]; pointwise

/-- The activation: the gate's convolution times its sigmoid. -/
theorem V_v51 (c : Dev nD) :
    @Eq (FVec Ideal S8192x2816 .bf16) (V m c main_v51)
      (truncf .bf16 (val_main_v44_0 (F := Ideal) (arg0 m c) (arg1 m c) (arg2 m c) (arg3 m c) (arg4 m c)) bitsLt_bf16_f32) := by
  unfold_abbrev_sides
  after_reads_simp
  rfl

/-- The saved activation. -/
theorem silu_at (c : Dev nD) (t : Fin 8192) (k : Fin 2816) :
    (V m c main_v51 : FVec Ideal S8192x2816 .bf16) (ix2 t k)
      = val_main_v44_0 (F := Ideal) (arg0 m c) (arg1 m c) (arg2 m c) (arg3 m c) (arg4 m c) (ix2 t k) := by
  rw [V_v51]; pointwise

/-- The activation's derivative, as the version writes it. -/
theorem V_v52 (c : Dev nD) :
    @Eq (FVec Ideal S8192x2816 .bf16) (V m c main_v52)
      (truncf .bf16 (addf (val_main_v44_2 (F := Ideal) (arg0 m c) (arg1 m c) (arg2 m c) (arg3 m c) (arg4 m c))
          (mulf (val_main_v44_0 (F := Ideal) (arg0 m c) (arg1 m c) (arg2 m c) (arg3 m c) (arg4 m c))
            (subf (val_main_call0_v6 (F := Ideal))
              (val_main_v44_2 (F := Ideal) (arg0 m c) (arg1 m c) (arg2 m c) (arg3 m c) (arg4 m c))))) bitsLt_bf16_f32) := by
  unfold_abbrev_sides
  after_reads_simp
  rfl

/-- The saved derivative of the activation. -/
theorem dsilu_at (c : Dev nD) (t : Fin 8192) (k : Fin 2816) :
    (V m c main_v52 : FVec Ideal S8192x2816 .bf16) (ix2 t k)
      = val_main_v44_2 (F := Ideal) (arg0 m c) (arg1 m c) (arg2 m c) (arg3 m c) (arg4 m c) (ix2 t k)
        + val_main_v44_0 (F := Ideal) (arg0 m c) (arg1 m c) (arg2 m c) (arg3 m c) (arg4 m c) (ix2 t k)
          * (val_main_call0_v6 (F := Ideal) (ix2 t k)
            - val_main_v44_2 (F := Ideal) (arg0 m c) (arg1 m c) (arg2 m c) (arg3 m c) (arg4 m c) (ix2 t k)) := by
  rw [V_v52]; pointwise

/-- The gain as the kernel reads it. -/
theorem g_at (c : Dev nD) (k : Fin 1024) :
    (V m c main_v53 : FVec Ideal S1x1024 .f32) (ix2 0 k) = arg1 m c (ix1 k) := by
  have e : (V m c main_v53 : FVec Ideal S1x1024 .f32) = shapeCast S1x1024 (arg1 m c) shapeCasts_S1024_S1x1024 := by
    unfold_abbrev_sides
    after_reads_simp
    rfl
  rw [e]; pointwise

/-- The filter's three rows are the first three of the eight the kernel is given. -/
theorem wc_at (c : Dev nD) (j : Fin 3) (k : Fin 2816) :
    (V m c main_v54 : FVec Ideal S8x2816 .f32) (ix2 ⟨j, by omega⟩ k) = arg3 m c (ix2 j k) := by
  have e : @Eq (FVec Ideal S8x2816 .f32) (V m c main_v54)
      (pad S8x2816 ![0, 0] ![5, 0] ![0, 0] (arg3 m c) (sitofp .f32 (constantI S_ 32 0#32)) pads_S3x2816_S8x2816_050_000 h_S_) := by
    unfold_abbrev_sides
    after_reads_simp
    rfl
  rw [e]; pointwise

/-- Slot `q` of the first weight holds its columns `1408 q …`. -/
theorem wup_at (c : Dev nD) (q : Fin 4) (k : Fin 1024) (j : Fin 1408) :
    (V m c main_v57 : FVec Ideal S4x1024x1408 .bf16) (ix3 q k j) = arg2 m c (ix2 k ⟨q * 1408 + j, by omega⟩) := by
  have e : (V m c main_v57 : FVec Ideal S4x1024x1408 .bf16) = truncf .bf16 (transpose S4x1024x1408 [1, 0, 2]
      (shapeCast S1024x4x1408 (arg2 m c) shapeCasts_S1024x5632_S1024x4x1408) transposes_S1024x4x1408_S4x1024x1408_1_0_2) bitsLt_bf16_f32 := by
    unfold_abbrev_sides
    after_reads_simp
    rfl
  rw [e]; pointwise

/-- Slot `q` of the second weight holds its rows `704 q …`. -/
theorem wdn_at (c : Dev nD) (q : Fin 4) (j : Fin 704) (k : Fin 1024) :
    (V m c main_v59 : FVec Ideal S4x704x1024 .bf16) (ix3 q j k) = arg5 m c (ix2 ⟨q * 704 + j, by omega⟩ k) := by
  have e : (V m c main_v59 : FVec Ideal S4x704x1024 .bf16)
      = truncf .bf16 (shapeCast S4x704x1024 (arg5 m c) shapeCasts_S2816x1024_S4x704x1024) bitsLt_bf16_f32 := by
    unfold_abbrev_sides
    after_reads_simp
    rfl
  rw [e]; pointwise

end Cert.KernelIdeal.Ffn

end
-- ==== Proof.Ffn.Blocks.lean ====
/- The input blocks of a point, read as entries of the launch's arrays. -/
module

public import proofs.«01_k».proof.Proof.Ffn.StepDefs
public import proofs.«01_k».proof.Proof.Ffn.Host
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic

variable (m : (ℓ : Loc nD τ sig) → Buf (Elt Ideal) ℓ)

open Cert.ReferenceIdeal.Read

/-- The row tile that a point reaches `lag` points late. -/
def tile (n lag : ℕ) : ℕ := 31 - min 31 (n - lag)

/-- A tile number is at most 31. -/
theorem tile_le (n lag : ℕ) : tile n lag ≤ 31 := Nat.sub_le _ _

/-- The row of the whole arrays that is row `r` of that tile. -/
def row (n lag : ℕ) (r : Fin 256) : Fin 8192 := ⟨tile n lag * 256 + r, by have := tile_le n lag; omega⟩

/-- The sequence place of a row of a tile. -/
theorem row_val (n lag : ℕ) (r : Fin 256) : (row n lag r).val = tile n lag * 256 + r := rfl

/-- Which block each window reads and writes at each point. -/
theorem index_tiles : ∀ t : Fin cfg0.N,
    win0_0.index t = ![tile t.val 0, 0] ∧ win0_1.index t = ![tile t.val 2, 0] ∧ win0_2.index t = ![tile t.val 2, 0]
      ∧ win0_3.index t = ![tile t.val 1, 0] ∧ win0_4.index t = ![tile t.val 1, 0] ∧ win0_5.index t = ![tile t.val 1, 0]
      ∧ win0_6.index t = ![0, 0] ∧ win0_7.index t = ![0, 0] :=
  (by decide +kernel : ∀ t : Fin grid0.N, _)

/-- The cotangent's tile, on time. -/
theorem xb0_at (c : Dev nD) (t : Fin cfg0.N) (r : Fin 256) (k : Fin 1024) :
    xb0 m c t (ix2 r k) = (V m c main_arg6 : FVec Ideal S8192x1024 .f32) (ix2 (row t.val 0 r) k) := by
  obtain ⟨e0, e1, e2, e3, e4, e5, e6, e7⟩ := index_tiles t
  have e : (win0_0.blk t).view.emb (ix2 r k) = ix2 (row t.val 0 r) k := by
    blk_ext [e0, row_val]
  exact congrArg (V m c main_arg6) e

/-- The cotangent's tile, two points late. -/
theorem xb1_at (c : Dev nD) (t : Fin cfg0.N) (r : Fin 256) (k : Fin 1024) :
    xb1 m c t (ix2 r k) = (V m c main_arg6 : FVec Ideal S8192x1024 .f32) (ix2 (row t.val 2 r) k) := by
  obtain ⟨e0, e1, e2, e3, e4, e5, e6, e7⟩ := index_tiles t
  have e : (win0_1.blk t).view.emb (ix2 r k) = ix2 (row t.val 2 r) k := by
    blk_ext [e1, row_val]
  exact congrArg (V m c main_arg6) e

/-- The input's tile, two points late. -/
theorem xb2_at (c : Dev nD) (t : Fin cfg0.N) (r : Fin 256) (k : Fin 1024) :
    xb2 m c t (ix2 r k) = (V m c main_arg0 : FVec Ideal S8192x1024 .f32) (ix2 (row t.val 2 r) k) := by
  obtain ⟨e0, e1, e2, e3, e4, e5, e6, e7⟩ := index_tiles t
  have e : (win0_2.blk t).view.emb (ix2 r k) = ix2 (row t.val 2 r) k := by
    blk_ext [e2, row_val]
  exact congrArg (V m c main_arg0) e

/-- The hidden array's tile, one point late. -/
theorem xb3_at (c : Dev nD) (t : Fin cfg0.N) (r : Fin 256) (k : Fin 5632) :
    xb3 m c t (ix2 r k) = (V m c main_v50 : FVec Ideal S8192x5632 .bf16) (ix2 (row t.val 1 r) k) := by
  obtain ⟨e0, e1, e2, e3, e4, e5, e6, e7⟩ := index_tiles t
  have e : (win0_3.blk t).view.emb (ix2 r k) = ix2 (row t.val 1 r) k := by
    blk_ext [e3, row_val]
  exact congrArg (V m c main_v50) e

/-- The activation's tile, one point late. -/
theorem xb4_at (c : Dev nD) (t : Fin cfg0.N) (r : Fin 256) (k : Fin 2816) :
    xb4 m c t (ix2 r k) = (V m c main_v51 : FVec Ideal S8192x2816 .bf16) (ix2 (row t.val 1 r) k) := by
  obtain ⟨e0, e1, e2, e3, e4, e5, e6, e7⟩ := index_tiles t
  have e : (win0_4.blk t).view.emb (ix2 r k) = ix2 (row t.val 1 r) k := by
    blk_ext [e4, row_val]
  exact congrArg (V m c main_v51) e

/-- The activation derivative's tile, one point late. -/
theorem xb5_at (c : Dev nD) (t : Fin cfg0.N) (r : Fin 256) (k : Fin 2816) :
    xb5 m c t (ix2 r k) = (V m c main_v52 : FVec Ideal S8192x2816 .bf16) (ix2 (row t.val 1 r) k) := by
  obtain ⟨e0, e1, e2, e3, e4, e5, e6, e7⟩ := index_tiles t
  have e : (win0_5.blk t).view.emb (ix2 r k) = ix2 (row t.val 1 r) k := by
    blk_ext [e5, row_val]
  exact congrArg (V m c main_v52) e

/-- The gain's row. -/
theorem xb6_at (c : Dev nD) (t : Fin cfg0.N) (k : Fin 1024) :
    xb6 m c t (ix2 0 k) = (V m c main_v53 : FVec Ideal S1x1024 .f32) (ix2 0 k) := by
  obtain ⟨e0, e1, e2, e3, e4, e5, e6, e7⟩ := index_tiles t
  have e : (win0_6.blk t).view.emb (ix2 0 k) = ix2 0 k := by
    blk_ext [e6]
  exact congrArg (V m c main_v53) e

/-- The filter's rows. -/
theorem xb7_at (c : Dev nD) (t : Fin cfg0.N) (j : Fin 8) (k : Fin 2816) :
    xb7 m c t (ix2 j k) = (V m c main_v54 : FVec Ideal S8x2816 .f32) (ix2 j k) := by
  obtain ⟨e0, e1, e2, e3, e4, e5, e6, e7⟩ := index_tiles t
  have e : (win0_7.blk t).view.emb (ix2 j k) = ix2 j k := by
    blk_ext [e7]
  exact congrArg (V m c main_v54) e

end Cert.KernelIdeal.Ffn

end
-- ==== Proof.Ffn.Spec.lean ====
/- The backward pass, written over the rows of the whole arrays, and the sums and shifts its tiles are matched with. -/
module

public import proofs.«01_k».proof.Proof.Ffn.StepDefs
public import proofs.«01_k».proof.Proof.Ffn.Host
public import proofs.«01_k».proof.Proof.Ffn.Blocks
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic

variable (m : (ℓ : Loc nD τ sig) → Buf (Elt Ideal) ℓ)

/-- The arguments are staged unchanged. -/
theorem V_arg0 (c : Dev nD) : @Eq (FVec Ideal S8192x1024 .f32) (V m c main_arg0) (arg0 m c) := by
  unfold_abbrev_sides
  after_reads_simp

/-- The output's cotangent is not written by the host lines. -/
theorem V_arg6 (c : Dev nD) : @Eq (FVec Ideal S8192x1024 .f32) (V m c main_arg6) (arg6 m c) := by
  unfold_abbrev_sides
  after_reads_simp

/-- The blocks of the arguments, at the arguments' rows. -/
theorem ct0_at (c : Dev nD) (t : Fin cfg0.N) (r : Fin 256) (k : Fin 1024) : xb0 m c t (ix2 r k) = arg6 m c (ix2 (row t.val 0 r) k) :=
  (xb0_at m c t r k).trans (congrFun (V_arg6 m c) _)

/-- A row of the output's cotangent in its block. -/
theorem ct2_at (c : Dev nD) (t : Fin cfg0.N) (r : Fin 256) (k : Fin 1024) : xb1 m c t (ix2 r k) = arg6 m c (ix2 (row t.val 2 r) k) :=
  (xb1_at m c t r k).trans (congrFun (V_arg6 m c) _)

/-- A row of the input in its block. -/
theorem x2_at (c : Dev nD) (t : Fin cfg0.N) (r : Fin 256) (k : Fin 1024) : xb2 m c t (ix2 r k) = arg0 m c (ix2 (row t.val 2 r) k) :=
  (xb2_at m c t r k).trans (congrFun (V_arg0 m c) _)

/-- The gain in its block. -/
theorem gain_at (c : Dev nD) (t : Fin cfg0.N) (k : Fin 1024) : xb6 m c t (ix2 0 k) = arg1 m c (ix1 k) :=
  (xb6_at m c t k).trans (g_at m c k)

/-- A column of rows, continued by zero past the last row. -/
def ext (f : Fin 8192 → EReal) (n : ℕ) : EReal := if h : n < 8192 then f ⟨n, h⟩ else 0

/-- A value inside the range. -/
theorem ext_lt (f : Fin 8192 → EReal) (t : Fin 8192) : ext f t.val = f t := by
  unfold ext; rw [dif_pos t.isLt]

/-- A value past the range is zero. -/
theorem ext_ge (f : Fin 8192 → EReal) (n : ℕ) (le : 8192 ≤ n) : ext f n = 0 := by
  unfold ext; rw [dif_neg (by omega)]

/-- The hidden array, the activation and its derivative, as saved. -/
def up (c : Dev nD) (t : Fin 8192) (e : Fin 5632) : EReal := (V m c main_v50 : FVec Ideal S8192x5632 .bf16) (ix2 t e)
def act (c : Dev nD) (t : Fin 8192) (l : Fin 2816) : EReal := (V m c main_v51 : FVec Ideal S8192x2816 .bf16) (ix2 t l)
def dact (c : Dev nD) (t : Fin 8192) (l : Fin 2816) : EReal := (V m c main_v52 : FVec Ideal S8192x2816 .bf16) (ix2 t l)

/-- The gradient at the product of value and activation. -/
def DA (c : Dev nD) (t : Fin 8192) (l : Fin 2816) : EReal := ∑ k : Fin 1024, arg6 m c (ix2 t k) * arg5 m c (ix2 l k)

/-- The gradient at the convolution's output, one column of rows. -/
def DGC (c : Dev nD) (l : Fin 2816) (t : Fin 8192) : EReal := DA m c t l * up m c t ⟨2816 + l, by omega⟩ * dact m c t l

/-- The gradient at the gate: the filter run backwards over the rows. -/
def GATE (c : Dev nD) (t : Fin 8192) (l : Fin 2816) : EReal :=
  arg3 m c (ix2 2 l) * DGC m c l t + arg3 m c (ix2 1 l) * ext (DGC m c l) (t + 1) + arg3 m c (ix2 0 l) * ext (DGC m c l) (t + 2)

/-- The gradient at the hidden array: gate columns, then value columns. -/
def DUP (c : Dev nD) (t : Fin 8192) (e : Fin 5632) : EReal :=
  if h : e.val < 2816 then GATE m c t ⟨e, h⟩ else DA m c t ⟨e - 2816, by omega⟩ * act m c t ⟨e - 2816, by omega⟩

/-- The gradient at the normalised input. -/
def DH (c : Dev nD) (t : Fin 8192) (k : Fin 1024) : EReal := ∑ e : Fin 5632, DUP m c t e * arg2 m c (ix2 k e)

/-- The reciprocal root of a row's mean square. -/
def RHO (c : Dev nD) (t : Fin 8192) : EReal :=
  Ideal.rsqrt (Ideal.div (∑ k : Fin 1024, arg0 m c (ix2 t k) * arg0 m c (ix2 t k)) (Ideal.ofBits FTy.f32 1149239296#32) + Ideal.ofBits FTy.f32 897988541#32)

/-- The gradient at the input. -/
def DX (c : Dev nD) (t : Fin 8192) (k : Fin 1024) : EReal :=
  arg6 m c (ix2 t k) + RHO m c t * (DH m c t k * arg1 m c (ix1 k)
    - arg0 m c (ix2 t k) * RHO m c t
      * Ideal.div (∑ j : Fin 1024, DH m c t j * arg1 m c (ix1 j) * (arg0 m c (ix2 t j) * RHO m c t)) (Ideal.ofBits FTy.f32 1149239296#32))

/-- One row's part of the gain's gradient and of the filter's. -/
def DG (c : Dev nD) (k : Fin 1024) (t : Fin 8192) : EReal := DH m c t k * (arg0 m c (ix2 t k) * RHO m c t)
def DW (c : Dev nD) (j : Fin 3) (l : Fin 2816) (t : Fin 8192) : EReal := ext (DGC m c l) (t + (2 - j)) * up m c t ⟨l, by omega⟩

/-- A tile moved up by one row, the next tile's first row below it. -/
theorem rot1_eq (f : Fin 256 → EReal) (q : Fin 8 → EReal) (r : Fin 256) :
    rot1 f q r = if h : r.val < 255 then f ⟨r + 1, by omega⟩ else q 0 := by
  unfold rot1
  split
  next a =>
    rw [dif_pos (by omega)]
    exact congrArg f (Fin.ext (by show (r.val + 256 - 255) % 256 = r.val + 1; omega))
  next a =>
    obtain ⟨r, r_lt⟩ := r
    have : r = 248 ∨ r = 249 ∨ r = 250 ∨ r = 251 ∨ r = 252 ∨ r = 253 ∨ r = 254 ∨ r = 255 := by simp at a; omega
    rcases this with rfl | rfl | rfl | rfl | rfl | rfl | rfl | rfl <;> rfl

/-- A tile moved up by two rows, the next tile's first two rows below it. -/
theorem rot2_eq (f : Fin 256 → EReal) (q : Fin 8 → EReal) (r : Fin 256) :
    rot2 f q r = if h : r.val < 254 then f ⟨r + 2, by omega⟩ else q ⟨r - 254, by omega⟩ := by
  unfold rot2
  split
  next a =>
    rw [dif_pos (by omega)]
    exact congrArg f (Fin.ext (by show (r.val + 256 - 254) % 256 = r.val + 2; omega))
  next a =>
    obtain ⟨r, r_lt⟩ := r
    have : r = 248 ∨ r = 249 ∨ r = 250 ∨ r = 251 ∨ r = 252 ∨ r = 253 ∨ r = 254 ∨ r = 255 := by simp at a; omega
    rcases this with rfl | rfl | rfl | rfl | rfl | rfl | rfl | rfl <;> rfl

/-- Over a tile of a column and the rows after it, moving up by one row reads the next row. -/
theorem rot1_ext (G : Fin 8192 → EReal) (b : ℕ) (b_le : b ≤ 31) (f : Fin 256 → EReal) (q : Fin 8 → EReal)
    (tile_eq : ∀ r : Fin 256, f r = ext G (b * 256 + r)) (next_eq : ∀ j : Fin 8, q j = ext G ((b + 1) * 256 + j)) (r : Fin 256) :
    rot1 f q r = ext G (b * 256 + r + 1) := by
  rw [rot1_eq]
  split
  next a => rw [tile_eq]; exact congrArg (ext G) (by show b * 256 + (r.val + 1) = _; omega)
  next a => rw [next_eq]; exact congrArg (ext G) (by show (b + 1) * 256 + 0 = _; omega)

/-- Moving up by two rows reads the row after the next. -/
theorem rot2_ext (G : Fin 8192 → EReal) (b : ℕ) (b_le : b ≤ 31) (f : Fin 256 → EReal) (q : Fin 8 → EReal)
    (tile_eq : ∀ r : Fin 256, f r = ext G (b * 256 + r)) (next_eq : ∀ j : Fin 8, q j = ext G ((b + 1) * 256 + j)) (r : Fin 256) :
    rot2 f q r = ext G (b * 256 + r + 2) := by
  rw [rot2_eq]
  split
  next a => rw [tile_eq]; exact congrArg (ext G) (by show b * 256 + (r.val + 2) = _; omega)
  next a => rw [next_eq]; exact congrArg (ext G) (by show (b + 1) * 256 + (r.val - 254) = _; omega)

/-- The sum of the rows of tile `b` that lie `q` past a multiple of eight. -/
def part (G : Fin 8192 → EReal) (q : Fin 8) (b : ℕ) : EReal := ∑ x : Fin 32, ext G (b * 256 + (x * 8 + q))

/-- The partial sums of all tiles, eight to a tile, make up the sum over the rows. -/
theorem sum_parts (G : Fin 8192 → EReal) :
    ∑ q : Fin 8, ∑ j ∈ Finset.range 32, part G q (31 - j) = ∑ t : Fin 8192, G t := by
  have flip : ∀ q, ∑ j ∈ Finset.range 32, part G q (31 - j) = ∑ j ∈ Finset.range 32, part G q j :=
    fun q => Finset.sum_range_reflect (part G q) 32
  simp only [flip]
  rw [Finset.sum_comm, Finset.sum_range]
  have whole : ∑ t : Fin (32 * 256), ext G t.val = ∑ t : Fin 8192, G t :=
    Finset.sum_congr rfl fun t _ => ext_lt G t
  rw [← whole, ← finProdFinEquiv.sum_comp, Fintype.sum_prod_type]
  refine Finset.sum_congr rfl fun b _ => ?_
  have rows : ∀ g : ℕ → EReal, ∑ r : Fin (32 * 8), g r.val = ∑ x : Fin 32, ∑ q : Fin 8, g (x * 8 + q) := fun g => by
    rw [← finProdFinEquiv.sum_comp, Fintype.sum_prod_type]
    refine Finset.sum_congr rfl fun x _ => Finset.sum_congr rfl fun q _ => congrArg g ?_
    show q.val + 8 * x.val = x.val * 8 + q.val; omega
  unfold part
  rw [Finset.sum_comm]
  refine (rows fun n => ext G (b.val * 256 + n)).symm.trans ?_
  refine Finset.sum_congr rfl fun r _ => congrArg (ext G) ?_
  show b.val * 256 + r.val = r.val + 256 * b.val; omega

end Cert.KernelIdeal.Ffn

end
-- ==== Proof.Ffn.StepAa.lean ====
/- What the first point leaves in the product with the second weight, the cast cotangent, the carried rows and the bias gradient's partial sums. -/
module

public import proofs.«01_k».proof.Proof.Ffn.StepDefs
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic

variable (m : (ℓ : Loc nD τ sig) → Buf (Elt Ideal) ℓ)

/-- A choice between two zeros is zero. -/
theorem select_zero (b : BitVec 1) : Scalar.select b (0 : EReal) 0 = 0 := by
  unfold Scalar.select
  split <;> rfl

/-- Where the last stores cover an index, what lies under the earlier ones does not matter. -/
theorem canon_last {S : Shape} {e : EltTy} (L L' : List (View.Piece (Elt Ideal) S e)) (y : S.Idx) :
    (∃ p ∈ L, y ∈ p.1.set) → View.canon (L ++ L') y = View.canon L y := by
  induction L with
  | nil => rintro ⟨p, mem, -⟩; exact absurd mem List.not_mem_nil
  | cons p L ih =>
    rintro ⟨q, mem, inside⟩
    by_cases here : y ∈ p.1.set
    · obtain ⟨x, rfl⟩ := p.1.exists_idx_of_mem here
      rw [List.cons_append, show p.1.idx x = p.1.emb x from rfl, View.canon_cons_emb, View.canon_cons_emb]
    · rw [List.cons_append, View.canon_cons_of_not_mem _ _ here, View.canon_cons_of_not_mem _ _ here]
      rcases List.mem_cons.mp mem with rfl | mem
      · exact absurd inside here
      · exact ih ⟨q, mem, inside⟩

set_option maxHeartbeats 4000000 in
/-- The product of the first tile with the second weight. -/
theorem dasA (c : Dev nD) (t : Fin cfg0.N) (t_zero : t.val % 34 = 0) (r : Fin 256) (l : Fin 2816) :
    dasOf (outA m c t t_zero) (ix2 r l) = ∑ k : Fin 1024, xb0 m c t (ix2 r k) * wdnOf (outA m c t t_zero) (ix2 l k) := by
  obtain ⟨l, l_lt⟩ := l
  unfold outA runA
  dsimp only
  frame_out
  dsimp only [dasOf, wdnOf]
  simp only [View.readCov_eq_canon']
  refine (canon_last [_, _, _, _] [_] (ix2 r ⟨l, l_lt⟩)
    (View.cover_of_tiledBy (s := S256x2816) _ ![256, 256] (by sl_kernel_rfl) (ix2 r ⟨l, l_lt⟩))).trans ?_
  canon_tiles x h using View.cover_of_tiledBy (s := S256x2816) _ ![256, 256] (by sl_kernel_rfl) (ix2 r ⟨l, l_lt⟩)
  all_goals
    obtain rfl : r = x 0 := Fin.ext h0
    obtain rfl : l = _ := h1
    pointwise [k0_pay86, k0_pay68, k0_pay47, k0_pay25, k0_pay8]

/-- The cast of the first tile. -/
theorem dx3bA (c : Dev nD) (t : Fin cfg0.N) (t_zero : t.val % 34 = 0) (r : Fin 256) (k : Fin 1024) :
    dx3bOf (outA m c t t_zero) (ix2 r k) = xb0 m c t (ix2 r k) := by
  unfold outA runA
  dsimp only
  frame_out
  dsimp only [dx3bOf]
  pointwise [k0_pay8]

set_option maxHeartbeats 4000000 in
/-- No row is carried out of the first point. -/
theorem carryA (c : Dev nD) (t : Fin cfg0.N) (t_zero : t.val % 34 = 0) (q : Fin 8) (l : Fin 2816) :
    carryOf (outA m c t t_zero) (ix2 q l) = 0 := by
  obtain ⟨l, l_lt⟩ := l
  unfold outA runA
  dsimp only
  frame_open
  simp (disch := decide) only [↓ View.readCov_skip, ↓ View.readCov_cons_toLoadRect, ↓ View.readCov_fill]
  frame_out
  dsimp only [carryOf]
  canon_tiles x h using View.cover_of_tiledBy (s := S8x2816) _ ![8, 256] (by sl_kernel_rfl) (ix2 q ⟨l, l_lt⟩)
  all_goals
    obtain rfl : q = x 0 := Fin.ext h0
    obtain rfl : l = _ := h1
    pointwise [k0_pay76, k0_pay72, k0_pay73, k0_pay58, k0_pay51, k0_pay36, k0_pay29, k0_pay15, k0_pay12, k0_pay1, k0_pay2] <;>
      simp only [zero_mul, mul_zero, Finset.sum_const_zero, add_zero, select_zero, dite_eq_ite, ite_self]

set_option maxHeartbeats 4000000 in
/-- The first point's tile adds nothing to the bias gradient. -/
theorem dbA (c : Dev nD) (t : Fin cfg0.N) (t_zero : t.val % 34 = 0) (q : Fin 8) (l : Fin 2816) :
    dbOf (outA m c t t_zero) (ix2 q l) = 0 := by
  obtain ⟨l, l_lt⟩ := l
  unfold outA runA
  dsimp only
  frame_open
  simp (disch := decide) only [↓ View.readCov_skip, ↓ View.readCov_cons_toLoadRect, ↓ View.readCov_fill]
  frame_out
  dsimp only [dbOf]
  canon_tiles x h using View.cover_of_tiledBy (s := S8x2816) _ ![8, 256] (by sl_kernel_rfl) (ix2 q ⟨l, l_lt⟩)
  all_goals
    obtain rfl : q = x 0 := Fin.ext h0
    obtain rfl : l = _ := h1
    pointwise [k0_pay17, k0_pay38, k0_pay60, k0_pay78, k0_pay79, k0_pay72, k0_pay73, k0_pay51, k0_pay29, k0_pay12, k0_pay5, k0_pay2] <;>
      simp only [zero_mul, mul_zero, Finset.sum_const_zero, add_zero, select_zero, dite_eq_ite, ite_self]

end Cert.KernelIdeal.Ffn

end
-- ==== Proof.Ffn.StepAn.lean ====
/- The first point adds nothing to the gain gradient. -/
module

public import proofs.«01_k».proof.Proof.Ffn.StepDefs
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic

variable (m : (ℓ : Loc nD τ sig) → Buf (Elt Ideal) ℓ)

set_option maxHeartbeats 4000000 in
/-- The first point's tile adds nothing to the gain gradient. -/
theorem dgA (c : Dev nD) (t : Fin cfg0.N) (t_zero : t.val % 34 = 0) (q : Fin 8) (k : Fin 1024) :
    dgOf (outA m c t t_zero) (ix2 q k) = 0 := by
  unfold outA runA
  dsimp only
  frame_open
  simp (disch := decide) only [↓ View.readCov_skip, ↓ View.readCov_cons_toLoadRect, ↓ View.readCov_fill]
  frame_out
  dsimp only [dgOf]
  pointwise [k0_pay9, k0_pay26, k0_pay48, k0_pay69, k0_pay87, k0_pay88, k0_pay89, k0_pay90, k0_pay3, k0_pay4] <;>
    simp only [zero_mul, mul_zero, Finset.sum_const_zero, add_zero]

end Cert.KernelIdeal.Ffn

end
-- ==== Proof.Ffn.StepAu.lean ====
/- The first point leaves no gate and value gradients. -/
module

public import proofs.«01_k».proof.Proof.Ffn.StepDefs
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic

variable (m : (ℓ : Loc nD τ sig) → Buf (Elt Ideal) ℓ)

/-- A choice between two zeros is zero. -/
theorem select_zero' (b : BitVec 1) : Scalar.select b (0 : EReal) 0 = 0 := by
  unfold Scalar.select
  split <;> rfl

set_option maxHeartbeats 4000000 in
/-- The first point leaves the carried gate and value gradients zero. -/
theorem dupsA (c : Dev nD) (t : Fin cfg0.N) (t_zero : t.val % 34 = 0) (r : Fin 256) (e : Fin 5632) :
    dupsOf (outA m c t t_zero) (ix2 r e) = 0 := by
  obtain ⟨e, e_lt⟩ := e
  unfold outA runA
  dsimp only
  frame_open
  simp (disch := decide) only [↓ View.readCov_skip, ↓ View.readCov_cons_toLoadRect, ↓ View.readCov_fill]
  frame_out
  dsimp only [dupsOf]
  canon_tiles x h using View.cover_of_tiledBy (s := S256x5632) _ ![256, 256] (by sl_kernel_rfl) (ix2 r ⟨e, e_lt⟩)
  all_goals
    obtain rfl : r = x 0 := Fin.ext h0
    obtain rfl : e = _ := h1
    pointwise [k0_pay1, k0_pay2, k0_pay3, k0_pay4, k0_pay5, k0_pay6, k0_pay10, k0_pay11, k0_pay12, k0_pay13, k0_pay14, k0_pay15, k0_pay16, k0_pay17, k0_pay18, k0_pay19, k0_pay20, k0_pay21, k0_pay22, k0_pay23, k0_pay24, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay70, k0_pay71, k0_pay72, k0_pay73, k0_pay74, k0_pay75, k0_pay76, k0_pay77, k0_pay78, k0_pay79, k0_pay80, k0_pay81, k0_pay82, k0_pay83, k0_pay84, k0_pay85] <;>
      simp only [zero_mul, mul_zero, Finset.sum_const_zero, add_zero, select_zero', dite_eq_ite, ite_self]

end Cert.KernelIdeal.Ffn

end
-- ==== Proof.Ffn.StepAw.lean ====
/- The first point leaves the whole weights in the two weight buffers. -/
module

public import proofs.«01_k».proof.Proof.Ffn.StepDefs
public import proofs.«01_k».proof.Proof.Ffn.Host
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic

variable (m : (ℓ : Loc nD τ sig) → Buf (Elt Ideal) ℓ)

/-- A slab of the first weight's array, read through the transfer's view. -/
theorem slab57 (q : ℕ) (q_lt : q < 4) (inb) (hn) (f : Vec Ideal S4x1024x1408 .bf16) (x : S1024x1408.Idx) :
    ReadAs.same.apply (View.read (Elt Ideal) (((View.whole main_v57).slice (Rect.unit ![q, 0, 0] ![1, 1024, 1408] inb)).reshape S1024x1408 hn) f) x
      = f (ix3 ⟨q, q_lt⟩ (x 0) (x 1)) := by
  refine congrArg f ?_
  have e : Shape.reshapeEquiv hn x = (ix3 (0 : Fin 1) (x 0) (x 1) : (⟨3, ![1, 1024, 1408]⟩ : Shape).Idx) :=
    Shape.reshapeEquiv_eq_of_vals hn x _ _ _ (rowMajor_val3 _ (1024 * 1408) 1408 rfl rfl) (rowMajor_val2 x 1408 rfl)
      (by show 0 * (1024 * 1408) + (x 0).val * 1408 + (x 1).val = (x 0).val * 1408 + (x 1).val; omega)
  show (Rect.unit (s := S4x1024x1408) ![q, 0, 0] ![1, 1024, 1408] inb).emb (Shape.reshapeEquiv hn x) = _
  rw [e]
  funext a
  apply Fin.ext
  fin_cases a
  · show q + 0 * 1 = q; omega
  · show 0 + 1 * (x 0).val = (x 0).val; omega
  · show 0 + 1 * (x 1).val = (x 1).val; omega

/-- A slab of the second weight's array, read through the transfer's view. -/
theorem slab59 (q : ℕ) (q_lt : q < 4) (inb) (hn) (f : Vec Ideal S4x704x1024 .bf16) (x : S704x1024.Idx) :
    ReadAs.same.apply (View.read (Elt Ideal) (((View.whole main_v59).slice (Rect.unit ![q, 0, 0] ![1, 704, 1024] inb)).reshape S704x1024 hn) f) x
      = f (ix3 ⟨q, q_lt⟩ (x 0) (x 1)) := by
  refine congrArg f ?_
  have e : Shape.reshapeEquiv hn x = (ix3 (0 : Fin 1) (x 0) (x 1) : (⟨3, ![1, 704, 1024]⟩ : Shape).Idx) :=
    Shape.reshapeEquiv_eq_of_vals hn x _ _ _ (rowMajor_val3 _ (704 * 1024) 1024 rfl rfl) (rowMajor_val2 x 1024 rfl)
      (by show 0 * (704 * 1024) + (x 0).val * 1024 + (x 1).val = (x 0).val * 1024 + (x 1).val; omega)
  show (Rect.unit (s := S4x704x1024) ![q, 0, 0] ![1, 704, 1024] inb).emb (Shape.reshapeEquiv hn x) = _
  rw [e]
  funext a
  apply Fin.ext
  fin_cases a
  · show q + 0 * 1 = q; omega
  · show 0 + 1 * (x 0).val = (x 0).val; omega
  · show 0 + 1 * (x 1).val = (x 1).val; omega

set_option maxHeartbeats 4000000 in
/-- The first weight, as the first point loads it. -/
theorem wupA (c : Dev nD) (t : Fin cfg0.N) (t_zero : t.val % 34 = 0) (k : Fin 1024) (j : Fin 5632) :
    wupOf (outA m c t t_zero) (ix2 k j) = arg2 m c (ix2 k j) := by
  obtain ⟨j, j_lt⟩ := j
  unfold outA runA
  dsimp only
  frame_out
  dsimp only [wupOf]
  canon_tiles x h using View.cover_of_tiledBy (s := S1024x5632) _ ![1024, 1408] (by sl_kernel_rfl) (ix2 k ⟨j, j_lt⟩)
  · obtain rfl : k = x 0 := Fin.ext h0
    obtain rfl : j = _ := h1
    exact (slab57 3 (by decide) _ _ _ x).trans (wup_at m c ⟨3, by decide⟩ (x 0) (x 1))
  · obtain rfl : k = x 0 := Fin.ext h0
    obtain rfl : j = _ := h1
    exact (slab57 2 (by decide) _ _ _ x).trans (wup_at m c ⟨2, by decide⟩ (x 0) (x 1))
  · obtain rfl : k = x 0 := Fin.ext h0
    obtain rfl : j = _ := h1
    exact (slab57 1 (by decide) _ _ _ x).trans (wup_at m c ⟨1, by decide⟩ (x 0) (x 1))
  · obtain rfl : k = x 0 := Fin.ext h0
    obtain rfl : j = _ := h1
    exact (slab57 0 (by decide) _ _ _ x).trans ((wup_at m c ⟨0, by decide⟩ (x 0) (x 1)).trans
      (congrArg (fun e => arg2 m c (ix2 (x 0) e)) (Fin.ext (by show 0 * 1408 + (x 1).val = (x 1).val; omega))))

set_option maxHeartbeats 4000000 in
/-- The second weight, as the first point loads it. -/
theorem wdnA (c : Dev nD) (t : Fin cfg0.N) (t_zero : t.val % 34 = 0) (j : Fin 2816) (k : Fin 1024) :
    wdnOf (outA m c t t_zero) (ix2 j k) = arg5 m c (ix2 j k) := by
  obtain ⟨j, j_lt⟩ := j
  unfold outA runA
  dsimp only
  frame_out
  dsimp only [wdnOf]
  canon_tiles x h using View.cover_of_tiledBy (s := S2816x1024) _ ![704, 1024] (by sl_kernel_rfl) (ix2 ⟨j, j_lt⟩ k)
  · obtain rfl : k = x 1 := Fin.ext h1
    obtain rfl : j = _ := h0
    exact (slab59 3 (by decide) _ _ _ x).trans (wdn_at m c ⟨3, by decide⟩ (x 0) (x 1))
  · obtain rfl : k = x 1 := Fin.ext h1
    obtain rfl : j = _ := h0
    exact (slab59 2 (by decide) _ _ _ x).trans (wdn_at m c ⟨2, by decide⟩ (x 0) (x 1))
  · obtain rfl : k = x 1 := Fin.ext h1
    obtain rfl : j = _ := h0
    exact (slab59 1 (by decide) _ _ _ x).trans (wdn_at m c ⟨1, by decide⟩ (x 0) (x 1))
  · obtain rfl : k = x 1 := Fin.ext h1
    obtain rfl : j = _ := h0
    exact (slab59 0 (by decide) _ _ _ x).trans ((wdn_at m c ⟨0, by decide⟩ (x 0) (x 1)).trans
      (congrArg (fun e => arg5 m c (ix2 e (x 1))) (Fin.ext (by show 0 * 704 + (x 0).val = (x 0).val; omega))))

end Cert.KernelIdeal.Ffn

end
-- ==== Proof.Ffn.StepAx.lean ====
/- The first point adds nothing to the filter gradient. -/
module

public import proofs.«01_k».proof.Proof.Ffn.StepDefs
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic

variable (m : (ℓ : Loc nD τ sig) → Buf (Elt Ideal) ℓ)

/-- A choice between two zeros is zero. -/
theorem select_zero'' (b : BitVec 1) : Scalar.select b (0 : EReal) 0 = 0 := by
  unfold Scalar.select
  split <;> rfl

set_option maxHeartbeats 4000000 in
/-- The first point's tile adds nothing to the filter gradient. -/
theorem dwA (c : Dev nD) (t : Fin cfg0.N) (t_zero : t.val % 34 = 0) (j : Fin 3) (q : Fin 8) (l : Fin 2816) :
    dwOf (outA m c t t_zero) (ix3 j q l) = 0 := by
  obtain ⟨l, l_lt⟩ := l
  unfold outA runA
  dsimp only
  frame_open
  simp (disch := decide) only [↓ View.readCov_skip, ↓ View.readCov_cons_toLoadRect, ↓ View.readCov_fill]
  frame_out
  dsimp only [dwOf]
  canon_tiles x h using View.cover_of_tiledBy (s := S3x8x2816) _ ![1, 8, 256] (by sl_kernel_rfl) (ix3 j q ⟨l, l_lt⟩)
  all_goals
    obtain rfl : q = x 1 := Fin.ext h1
    pointwise [k0_pay1, k0_pay2, k0_pay3, k0_pay4, k0_pay5, k0_pay6, k0_pay10, k0_pay11, k0_pay12, k0_pay13, k0_pay14, k0_pay15, k0_pay16, k0_pay17, k0_pay18, k0_pay19, k0_pay20, k0_pay21, k0_pay22, k0_pay23, k0_pay24, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay70, k0_pay71, k0_pay72, k0_pay73, k0_pay74, k0_pay75, k0_pay76, k0_pay77, k0_pay78, k0_pay79, k0_pay80, k0_pay81, k0_pay82, k0_pay83, k0_pay84, k0_pay85] <;>
      simp only [zero_mul, mul_zero, Finset.sum_const_zero, add_zero, select_zero'', dite_eq_ite, ite_self]

end Cert.KernelIdeal.Ffn

end
-- ==== Proof.Ffn.StepDa.lean ====
/- What a later point leaves in the product with the second weight, in the cast cotangent and in the carried rows. -/
module

public import proofs.«01_k».proof.Proof.Ffn.StepDefs
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic

variable (m : (ℓ : Loc nD τ sig) → Buf (Elt Ideal) ℓ)

set_option maxHeartbeats 4000000 in
/-- The product of the cotangent's tile with the second weight. -/
theorem dasB (c : Dev nD) (t : Fin cfg0.N) (ne : ¬t.val % 34 = 0) (p : Outs Ideal) (r : Fin 256) (l : Fin 2816) :
    dasOf (outB m c t ne p) (ix2 r l) = ∑ k : Fin 1024, xb0 m c t (ix2 r k) * wdnOf p (ix2 l k) := by
  obtain ⟨l, l_lt⟩ := l
  unfold outB runB
  dsimp only
  frame_out
  simp only [read_unread_whole]
  canon_tiles x h using View.cover_of_tiledBy (s := S256x2816) _ ![256, 256] (by sl_kernel_rfl) (ix2 r ⟨l, l_lt⟩)
  all_goals
    obtain rfl : r = x 0 := Fin.ext h0
    obtain rfl : l = _ := h1
    pointwise [k0_pay86, k0_pay68, k0_pay47, k0_pay25, k0_pay8]

/-- The cast of the cotangent's tile. -/
theorem dx3bB (c : Dev nD) (t : Fin cfg0.N) (ne : ¬t.val % 34 = 0) (p : Outs Ideal) (r : Fin 256) (k : Fin 1024) :
    dx3bOf (outB m c t ne p) (ix2 r k) = xb0 m c t (ix2 r k) := by
  unfold outB runB
  dsimp only
  frame_out
  dsimp only [dx3bOf]
  pointwise [k0_pay8]

set_option maxHeartbeats 4000000 in
/-- The carried rows: the tile's first eight while another tile is to come. -/
theorem carryB (c : Dev nD) (t : Fin cfg0.N) (ne : ¬t.val % 34 = 0) (p : Outs Ideal) (q : Fin 8) (l : Fin 2816) :
    carryOf (outB m c t ne p) (ix2 q l)
      = Scalar.select (Scalar.cmpi .slt (BitVec.ofNat 32 (grid0.coords t 0)) 32#32) (dgcB m c t p l ⟨q, by omega⟩) (carryOf p (ix2 q l)) := by
  obtain ⟨l, l_lt⟩ := l
  unfold outB runB
  dsimp only
  frame_out
  simp only [read_unread_whole]
  canon_tiles x h using View.cover_of_tiledBy (s := S8x2816) _ ![8, 256] (by sl_kernel_rfl) (ix2 q ⟨l, l_lt⟩)
  all_goals
    idx_vars x
    obtain rfl : q = x0 := Fin.ext h0
    obtain rfl : l = _ := h1
    pointwise [k0_pay76, k0_pay72, k0_pay73, k0_pay58, k0_pay51, k0_pay36, k0_pay29, k0_pay15, k0_pay12, dgcB_fun]
    try simp only [← Nat.add_assoc, Nat.reduceAdd]

end Cert.KernelIdeal.Ffn

end
-- ==== Proof.Ffn.StepDup.lean ====
/- What a later point leaves in the block of the gate and value gradients. -/
module

public import proofs.«01_k».proof.Proof.Ffn.StepDefs
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic

variable (m : (ℓ : Loc nD τ sig) → Buf (Elt Ideal) ℓ)

set_option maxHeartbeats 4000000 in
/-- The gradient at the gate. -/
theorem dupB_gate (c : Dev nD) (t : Fin cfg0.N) (ne : ¬t.val % 34 = 0) (p : Outs Ideal) (r : Fin 256) (l : Fin 2816) :
    dupOf (outB m c t ne p) (ix2 r ⟨l, by omega⟩) = gateB m c t p r l := by
  obtain ⟨l, l_lt⟩ := l
  unfold outB runB
  dsimp only
  frame_out
  simp only [read_unread_whole]
  canon_tiles x h using View.cover_of_tiledBy (s := S256x5632) _ ![256, 256] (by sl_kernel_rfl) (ix2 r ⟨l, by omega⟩)
  all_goals replace h1 : l = _ := h1
  all_goals try omega
  all_goals
    obtain rfl : r = x 0 := Fin.ext h0
    subst h1
  · pointwise [k0_pay69, k0_pay70, k0_pay71, k0_pay76, k0_pay77, k0_pay78, k0_pay79, k0_pay80, k0_pay81, k0_pay82, k0_pay83, k0_pay84, k0_pay85, k0_pay86, chunk3_rot1, chunk3_rot2, k0_pay72, k0_pay73, gateB, dgcB_fun]
    simp only [← Nat.add_assoc, Nat.reduceAdd]
  · pointwise [k0_pay48, k0_pay49, k0_pay50, k0_pay58, k0_pay59, k0_pay60, k0_pay61, k0_pay62, k0_pay63, k0_pay64, k0_pay65, k0_pay66, k0_pay67, k0_pay68, chunk2_rot1, chunk2_rot2, k0_pay51, gateB, dgcB_fun]
    simp only [← Nat.add_assoc, Nat.reduceAdd]
  · pointwise [k0_pay26, k0_pay27, k0_pay28, k0_pay36, k0_pay37, k0_pay38, k0_pay39, k0_pay40, k0_pay41, k0_pay42, k0_pay43, k0_pay44, k0_pay45, k0_pay46, k0_pay47, chunk1_rot1, chunk1_rot2, k0_pay29, gateB, dgcB_fun]
    simp only [← Nat.add_assoc, Nat.reduceAdd]
  · pointwise [k0_pay9, k0_pay10, k0_pay11, k0_pay15, k0_pay16, k0_pay17, k0_pay18, k0_pay19, k0_pay20, k0_pay21, k0_pay22, k0_pay23, k0_pay24, k0_pay25, chunk0_rot1, chunk0_rot2, k0_pay12, gateB, dgcB_fun]

set_option maxHeartbeats 4000000 in
/-- The gradient at the value half. -/
theorem dupB_val (c : Dev nD) (t : Fin cfg0.N) (ne : ¬t.val % 34 = 0) (p : Outs Ideal) (r : Fin 256) (l : Fin 2816) :
    dupOf (outB m c t ne p) (ix2 r ⟨2816 + l, by omega⟩) = dasOf p (ix2 r l) * xb4 m c t (ix2 r l) := by
  obtain ⟨l, l_lt⟩ := l
  unfold outB runB
  dsimp only
  frame_out
  simp only [read_unread_whole]
  canon_tiles x h using View.cover_of_tiledBy (s := S256x5632) _ ![256, 256] (by sl_kernel_rfl) (ix2 r ⟨2816 + l, by omega⟩)
  all_goals replace h1 : 2816 + l = _ := h1
  all_goals try omega
  all_goals
    obtain rfl : r = x 0 := Fin.ext h0
  · obtain rfl : l = 2304 + ↑(x 1) := by omega
    pointwise [k0_pay70, k0_pay71]
  · obtain rfl : l = 1536 + ↑(x 1) := by omega
    pointwise [k0_pay49, k0_pay50]
  · obtain rfl : l = 768 + ↑(x 1) := by omega
    pointwise [k0_pay27, k0_pay28]
  · obtain rfl : l = ↑(x 1) := by omega
    pointwise [k0_pay10, k0_pay11]

end Cert.KernelIdeal.Ffn

end
-- ==== Proof.Ffn.StepDups.lean ====
/- What a later point leaves in the carried gate and value gradients. -/
module

public import proofs.«01_k».proof.Proof.Ffn.StepDefs
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic

variable (m : (ℓ : Loc nD τ sig) → Buf (Elt Ideal) ℓ)

set_option maxHeartbeats 4000000 in
/-- The carried gradient at the gate. -/
theorem dupsB_gate (c : Dev nD) (t : Fin cfg0.N) (ne : ¬t.val % 34 = 0) (p : Outs Ideal) (r : Fin 256) (l : Fin 2816) :
    dupsOf (outB m c t ne p) (ix2 r ⟨l, by omega⟩) = gateB m c t p r l := by
  obtain ⟨l, l_lt⟩ := l
  unfold outB runB
  dsimp only
  frame_out
  simp only [read_unread_whole]
  canon_tiles x h using View.cover_of_tiledBy (s := S256x5632) _ ![256, 256] (by sl_kernel_rfl) (ix2 r ⟨l, by omega⟩)
  all_goals replace h1 : l = _ := h1
  all_goals try omega
  all_goals
    obtain rfl : r = x 0 := Fin.ext h0
    subst h1
  · pointwise [k0_pay69, k0_pay70, k0_pay71, k0_pay76, k0_pay77, k0_pay78, k0_pay79, k0_pay80, k0_pay81, k0_pay82, k0_pay83, k0_pay84, k0_pay85, k0_pay86, chunk3_rot1, chunk3_rot2, k0_pay72, k0_pay73, gateB, dgcB_fun]
    simp only [← Nat.add_assoc, Nat.reduceAdd]
  · pointwise [k0_pay48, k0_pay49, k0_pay50, k0_pay58, k0_pay59, k0_pay60, k0_pay61, k0_pay62, k0_pay63, k0_pay64, k0_pay65, k0_pay66, k0_pay67, k0_pay68, chunk2_rot1, chunk2_rot2, k0_pay51, gateB, dgcB_fun]
    simp only [← Nat.add_assoc, Nat.reduceAdd]
  · pointwise [k0_pay26, k0_pay27, k0_pay28, k0_pay36, k0_pay37, k0_pay38, k0_pay39, k0_pay40, k0_pay41, k0_pay42, k0_pay43, k0_pay44, k0_pay45, k0_pay46, k0_pay47, chunk1_rot1, chunk1_rot2, k0_pay29, gateB, dgcB_fun]
    simp only [← Nat.add_assoc, Nat.reduceAdd]
  · pointwise [k0_pay9, k0_pay10, k0_pay11, k0_pay15, k0_pay16, k0_pay17, k0_pay18, k0_pay19, k0_pay20, k0_pay21, k0_pay22, k0_pay23, k0_pay24, k0_pay25, chunk0_rot1, chunk0_rot2, k0_pay12, gateB, dgcB_fun]

set_option maxHeartbeats 4000000 in
/-- The carried gradient at the value half. -/
theorem dupsB_val (c : Dev nD) (t : Fin cfg0.N) (ne : ¬t.val % 34 = 0) (p : Outs Ideal) (r : Fin 256) (l : Fin 2816) :
    dupsOf (outB m c t ne p) (ix2 r ⟨2816 + l, by omega⟩) = dasOf p (ix2 r l) * xb4 m c t (ix2 r l) := by
  obtain ⟨l, l_lt⟩ := l
  unfold outB runB
  dsimp only
  frame_out
  simp only [read_unread_whole]
  canon_tiles x h using View.cover_of_tiledBy (s := S256x5632) _ ![256, 256] (by sl_kernel_rfl) (ix2 r ⟨2816 + l, by omega⟩)
  all_goals replace h1 : 2816 + l = _ := h1
  all_goals try omega
  all_goals
    obtain rfl : r = x 0 := Fin.ext h0
  · obtain rfl : l = 2304 + ↑(x 1) := by omega
    pointwise [k0_pay70, k0_pay71]
  · obtain rfl : l = 1536 + ↑(x 1) := by omega
    pointwise [k0_pay49, k0_pay50]
  · obtain rfl : l = 768 + ↑(x 1) := by omega
    pointwise [k0_pay27, k0_pay28]
  · obtain rfl : l = ↑(x 1) := by omega
    pointwise [k0_pay10, k0_pay11]

end Cert.KernelIdeal.Ffn

end
-- ==== Proof.Ffn.StepN.lean ====
/- The gain gradient's partial sums and the gradient at the input after a later point. -/
module

public import proofs.«01_k».proof.Proof.Ffn.StepDefs
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic

variable (m : (ℓ : Loc nD τ sig) → Buf (Elt Ideal) ℓ)

/-- A sum over the columns of both halves, cut at the chunks' ends. -/
theorem sum_chunks (f : Fin 5632 → EReal) :
    ∑ x : Fin 768, f ⟨x, by omega⟩ + ∑ x : Fin 768, f ⟨2816 + x, by omega⟩ + ∑ x : Fin 768, f ⟨768 + x, by omega⟩
        + ∑ x : Fin 768, f ⟨3584 + x, by omega⟩ + ∑ x : Fin 768, f ⟨1536 + x, by omega⟩ + ∑ x : Fin 768, f ⟨4352 + x, by omega⟩
        + ∑ x : Fin 512, f ⟨2304 + x, by omega⟩ + ∑ x : Fin 512, f ⟨5120 + x, by omega⟩
      = ∑ e : Fin 5632, f e := by
  set g : ℕ → EReal := fun n => if h : n < 5632 then f ⟨n, h⟩ else 0 with hg
  have key : ∀ (o N : ℕ) (h : o + N ≤ 5632), ∑ x : Fin N, f ⟨o + x, by omega⟩ = ∑ i ∈ Finset.Ico o (o + N), g i := fun o N h => by
    rw [Finset.sum_Ico_eq_sum_range, Nat.add_sub_cancel_left, Finset.sum_range]
    refine Finset.sum_congr rfl fun x _ => ?_
    rw [hg]; dsimp only; rw [dif_pos (by omega)]
  have e0 := key 0 768 (by omega)
  have e1 := key 768 768 (by omega)
  have e2 := key 1536 768 (by omega)
  have e3 := key 2304 512 (by omega)
  have e4 := key 2816 768 (by omega)
  have e5 := key 3584 768 (by omega)
  have e6 := key 4352 768 (by omega)
  have e7 := key 5120 512 (by omega)
  have e8 := key 0 5632 (by omega)
  simp only [Nat.reduceAdd, Nat.zero_add] at e0 e1 e2 e3 e4 e5 e6 e7 e8
  rw [e0, e1, e2, e3, e4, e5, e6, e7]
  refine Eq.trans ?_ e8.symm
  rw [← Finset.sum_Ico_consecutive g (by omega : 0 ≤ 768) (by omega : 768 ≤ 5632), ← Finset.sum_Ico_consecutive g (by omega : 768 ≤ 1536) (by omega : 1536 ≤ 5632),
    ← Finset.sum_Ico_consecutive g (by omega : 1536 ≤ 2304) (by omega : 2304 ≤ 5632), ← Finset.sum_Ico_consecutive g (by omega : 2304 ≤ 2816) (by omega : 2816 ≤ 5632),
    ← Finset.sum_Ico_consecutive g (by omega : 2816 ≤ 3584) (by omega : 3584 ≤ 5632), ← Finset.sum_Ico_consecutive g (by omega : 3584 ≤ 4352) (by omega : 4352 ≤ 5632),
    ← Finset.sum_Ico_consecutive g (by omega : 4352 ≤ 5120) (by omega : 5120 ≤ 5632)]
  abel

/-- The gradient at the normalised rows: the carried gradients times the first weight. -/
def dhB (p : Outs Ideal) (r : Fin 256) (k : Fin 1024) : EReal :=
  ∑ e : Fin 5632, dupsOf p (ix2 r e) * wupOf p (ix2 k e)

/-- The input-side product as a sum over the four column chunks. -/
theorem dhB_chunks (p : Outs Ideal) (r : Fin 256) (k : Fin 1024) : dhB p r k
    = ∑ x : Fin 768, dupsOf p (ix2 r ⟨x, by omega⟩) * wupOf p (ix2 k ⟨x, by omega⟩)
      + ∑ x : Fin 768, dupsOf p (ix2 r ⟨2816 + x, by omega⟩) * wupOf p (ix2 k ⟨2816 + x, by omega⟩)
      + ∑ x : Fin 768, dupsOf p (ix2 r ⟨768 + x, by omega⟩) * wupOf p (ix2 k ⟨768 + x, by omega⟩)
      + ∑ x : Fin 768, dupsOf p (ix2 r ⟨3584 + x, by omega⟩) * wupOf p (ix2 k ⟨3584 + x, by omega⟩)
      + ∑ x : Fin 768, dupsOf p (ix2 r ⟨1536 + x, by omega⟩) * wupOf p (ix2 k ⟨1536 + x, by omega⟩)
      + ∑ x : Fin 768, dupsOf p (ix2 r ⟨4352 + x, by omega⟩) * wupOf p (ix2 k ⟨4352 + x, by omega⟩)
      + ∑ x : Fin 512, dupsOf p (ix2 r ⟨2304 + x, by omega⟩) * wupOf p (ix2 k ⟨2304 + x, by omega⟩)
      + ∑ x : Fin 512, dupsOf p (ix2 r ⟨5120 + x, by omega⟩) * wupOf p (ix2 k ⟨5120 + x, by omega⟩) :=
  (sum_chunks fun e => dupsOf p (ix2 r e) * wupOf p (ix2 k e)).symm

/-- The reciprocal of a row's root mean square. -/
def rhoB (c : Dev nD) (t : Fin cfg0.N) (r : Fin 256) : EReal :=
  Ideal.rsqrt (Ideal.div (∑ k : Fin 1024, xb2 m c t (ix2 r k) * xb2 m c t (ix2 r k)) (Ideal.ofBits FTy.f32 1149239296#32)
    + Ideal.ofBits FTy.f32 897988541#32)

set_option maxHeartbeats 4000000 in
/-- The gain gradient's partial sums. -/
theorem dgB (c : Dev nD) (t : Fin cfg0.N) (ne : ¬t.val % 34 = 0) (p : Outs Ideal) (q : Fin 8) (k : Fin 1024) :
    dgOf (outB m c t ne p) (ix2 q k)
      = dgOf p (ix2 q k) + ∑ x : Fin 32, dhB p ⟨x * 8 + q, by omega⟩ k
          * (xb2 m c t (ix2 ⟨x * 8 + q, by omega⟩ k) * rhoB m c t ⟨x * 8 + q, by omega⟩) := by
  unfold outB runB
  dsimp only
  frame_out
  dsimp only [dgOf]
  simp only [read_unread_whole]
  pointwise [k0_pay9, k0_pay26, k0_pay48, k0_pay69, k0_pay87, k0_pay88, k0_pay89, k0_pay90, dhB_chunks, rhoB]

set_option maxHeartbeats 4000000 in
/-- The gradient at the input. -/
theorem dx2B (c : Dev nD) (t : Fin cfg0.N) (ne : ¬t.val % 34 = 0) (p : Outs Ideal) (r : Fin 256) (k : Fin 1024) :
    dx2Of (outB m c t ne p) (ix2 r k)
      = xb1 m c t (ix2 r k) + rhoB m c t r * (dhB p r k * xb6 m c t (ix2 0 k)
          - xb2 m c t (ix2 r k) * rhoB m c t r
            * Ideal.div (∑ j : Fin 1024, dhB p r j * xb6 m c t (ix2 0 j) * (xb2 m c t (ix2 r j) * rhoB m c t r)) (Ideal.ofBits FTy.f32 1149239296#32)) := by
  unfold outB runB
  dsimp only
  frame_out
  dsimp only [dx2Of]
  simp only [read_unread_whole]
  pointwise [k0_pay9, k0_pay26, k0_pay48, k0_pay69, k0_pay87, k0_pay88, k0_pay89, k0_pay90, k0_pay91, dhB_chunks, rhoB]

end Cert.KernelIdeal.Ffn

end
-- ==== Proof.Ffn.StepW.lean ====
/- The bias and filter gradients' partial sums after a later point. -/
module

public import proofs.«01_k».proof.Proof.Ffn.StepDefs
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic

variable (m : (ℓ : Loc nD τ sig) → Buf (Elt Ideal) ℓ)

set_option maxHeartbeats 4000000 in
/-- The bias gradient's partial sums: the tile's column sums, rows apart by eight, are added. -/
theorem dbB (c : Dev nD) (t : Fin cfg0.N) (ne : ¬t.val % 34 = 0) (p : Outs Ideal) (q : Fin 8) (l : Fin 2816) :
    dbOf (outB m c t ne p) (ix2 q l)
      = dbOf p (ix2 q l) + k0_pay7 (F := Ideal) (grid0.coords t) * ∑ x : Fin 32, dgcB m c t p l ⟨x * 8 + q, by omega⟩ := by
  obtain ⟨l, l_lt⟩ := l
  unfold outB runB
  dsimp only
  frame_out
  simp only [read_unread_whole]
  canon_tiles x h using View.cover_of_tiledBy (s := S8x2816) _ ![8, 256] (by sl_kernel_rfl) (ix2 q ⟨l, l_lt⟩)
  all_goals
    obtain rfl : q = x 0 := Fin.ext h0
    obtain rfl : l = _ := h1
    pointwise [k0_pay17, k0_pay38, k0_pay60, k0_pay78, k0_pay79, k0_pay72, k0_pay73, k0_pay51, k0_pay29, k0_pay12, dgcB_fun] <;> blk_point []

end Cert.KernelIdeal.Ffn

end
-- ==== Proof.Ffn.StepX0.lean ====
/- The filter gradient's partial sums, row 0, after a later point. -/
module

public import proofs.«01_k».proof.Proof.Ffn.StepDefs
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic

variable (m : (ℓ : Loc nD τ sig) → Buf (Elt Ideal) ℓ)

set_option maxHeartbeats 4000000 in
/-- The partial sums of the filter's row 0. -/
theorem dwB0 (c : Dev nD) (t : Fin cfg0.N) (ne : ¬t.val % 34 = 0) (p : Outs Ideal) (q : Fin 8) (l : Fin 2816) :
    dwOf (outB m c t ne p) (ix3 0 q l)
      = dwOf p (ix3 0 q l) + k0_pay7 (F := Ideal) (grid0.coords t)
        * ∑ x : Fin 32, rot2 (dgcB m c t p l) (fun q => carryOf p (ix2 q l)) ⟨x * 8 + q, by omega⟩
            * xb3 m c t (ix2 ⟨x * 8 + q, by omega⟩ ⟨l, by omega⟩) := by
  obtain ⟨l, l_lt⟩ := l
  unfold outB runB
  dsimp only
  frame_out
  simp only [read_unread_whole]
  canon_tiles x h using View.cover_of_tiledBy (s := S3x8x2816) _ ![1, 8, 256] (by sl_kernel_rfl) (ix3 0 q ⟨l, l_lt⟩)
  all_goals replace h0 : 0 = _ := h0
  all_goals try omega
  all_goals
    idx_vars x
    obtain rfl : q = x1 := Fin.ext h1
    replace h2 : l = _ := h2
    subst h2
    pointwise [k0_pay12, k0_pay13, k0_pay14, k0_pay15, k0_pay16, k0_pay17, k0_pay18, k0_pay19, k0_pay20, k0_pay21, k0_pay22, k0_pay29, k0_pay30, k0_pay31, k0_pay32, k0_pay33, k0_pay34, k0_pay35, k0_pay36, k0_pay37, k0_pay38, k0_pay39, k0_pay40, k0_pay41, k0_pay42, k0_pay43, k0_pay51, k0_pay52, k0_pay53, k0_pay54, k0_pay55, k0_pay56, k0_pay57, k0_pay58, k0_pay59, k0_pay60, k0_pay61, k0_pay62, k0_pay63, k0_pay64, k0_pay65, k0_pay72, k0_pay73, k0_pay74, k0_pay75, k0_pay76, k0_pay77, k0_pay78, k0_pay79, k0_pay80, k0_pay81, k0_pay82, k0_pay83, rot1, rot2, dgcB_fun]
    try simp only [← Nat.add_assoc, Nat.reduceAdd]

end Cert.KernelIdeal.Ffn

end
-- ==== Proof.Ffn.StepX1.lean ====
/- The filter gradient's partial sums, row 1, after a later point. -/
module

public import proofs.«01_k».proof.Proof.Ffn.StepDefs
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic

variable (m : (ℓ : Loc nD τ sig) → Buf (Elt Ideal) ℓ)

set_option maxHeartbeats 4000000 in
/-- The partial sums of the filter's row 1. -/
theorem dwB1 (c : Dev nD) (t : Fin cfg0.N) (ne : ¬t.val % 34 = 0) (p : Outs Ideal) (q : Fin 8) (l : Fin 2816) :
    dwOf (outB m c t ne p) (ix3 1 q l)
      = dwOf p (ix3 1 q l) + k0_pay7 (F := Ideal) (grid0.coords t)
        * ∑ x : Fin 32, rot1 (dgcB m c t p l) (fun q => carryOf p (ix2 q l)) ⟨x * 8 + q, by omega⟩
            * xb3 m c t (ix2 ⟨x * 8 + q, by omega⟩ ⟨l, by omega⟩) := by
  obtain ⟨l, l_lt⟩ := l
  unfold outB runB
  dsimp only
  frame_out
  simp only [read_unread_whole]
  canon_tiles x h using View.cover_of_tiledBy (s := S3x8x2816) _ ![1, 8, 256] (by sl_kernel_rfl) (ix3 1 q ⟨l, l_lt⟩)
  all_goals replace h0 : 1 = _ := h0
  all_goals try omega
  all_goals
    idx_vars x
    obtain rfl : q = x1 := Fin.ext h1
    replace h2 : l = _ := h2
    subst h2
    pointwise [k0_pay12, k0_pay13, k0_pay14, k0_pay15, k0_pay16, k0_pay17, k0_pay18, k0_pay19, k0_pay20, k0_pay21, k0_pay22, k0_pay29, k0_pay30, k0_pay31, k0_pay32, k0_pay33, k0_pay34, k0_pay35, k0_pay36, k0_pay37, k0_pay38, k0_pay39, k0_pay40, k0_pay41, k0_pay42, k0_pay43, k0_pay51, k0_pay52, k0_pay53, k0_pay54, k0_pay55, k0_pay56, k0_pay57, k0_pay58, k0_pay59, k0_pay60, k0_pay61, k0_pay62, k0_pay63, k0_pay64, k0_pay65, k0_pay72, k0_pay73, k0_pay74, k0_pay75, k0_pay76, k0_pay77, k0_pay78, k0_pay79, k0_pay80, k0_pay81, k0_pay82, k0_pay83, rot1, rot2, dgcB_fun]
    try simp only [← Nat.add_assoc, Nat.reduceAdd]

end Cert.KernelIdeal.Ffn

end
-- ==== Proof.Ffn.StepX2.lean ====
/- The filter gradient's partial sums, row 2, after a later point. -/
module

public import proofs.«01_k».proof.Proof.Ffn.StepDefs
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic

variable (m : (ℓ : Loc nD τ sig) → Buf (Elt Ideal) ℓ)

set_option maxHeartbeats 4000000 in
/-- The partial sums of the filter's row 2. -/
theorem dwB2 (c : Dev nD) (t : Fin cfg0.N) (ne : ¬t.val % 34 = 0) (p : Outs Ideal) (q : Fin 8) (l : Fin 2816) :
    dwOf (outB m c t ne p) (ix3 2 q l)
      = dwOf p (ix3 2 q l) + k0_pay7 (F := Ideal) (grid0.coords t)
        * ∑ x : Fin 32, dgcB m c t p l ⟨x * 8 + q, by omega⟩
            * xb3 m c t (ix2 ⟨x * 8 + q, by omega⟩ ⟨l, by omega⟩) := by
  obtain ⟨l, l_lt⟩ := l
  unfold outB runB
  dsimp only
  frame_out
  simp only [read_unread_whole]
  canon_tiles x h using View.cover_of_tiledBy (s := S3x8x2816) _ ![1, 8, 256] (by sl_kernel_rfl) (ix3 2 q ⟨l, l_lt⟩)
  all_goals replace h0 : 2 = _ := h0
  all_goals try omega
  all_goals
    obtain rfl : q = x 1 := Fin.ext h1
    replace h2 : l = _ := h2
    subst h2
    pointwise [k0_pay12, k0_pay13, k0_pay14, k0_pay15, k0_pay16, k0_pay17, k0_pay18, k0_pay19, k0_pay20, k0_pay21, k0_pay22, k0_pay29, k0_pay30, k0_pay31, k0_pay32, k0_pay33, k0_pay34, k0_pay35, k0_pay36, k0_pay37, k0_pay38, k0_pay39, k0_pay40, k0_pay41, k0_pay42, k0_pay43, k0_pay51, k0_pay52, k0_pay53, k0_pay54, k0_pay55, k0_pay56, k0_pay57, k0_pay58, k0_pay59, k0_pay60, k0_pay61, k0_pay62, k0_pay63, k0_pay64, k0_pay65, k0_pay72, k0_pay73, k0_pay74, k0_pay75, k0_pay76, k0_pay77, k0_pay78, k0_pay79, k0_pay80, k0_pay81, k0_pay82, k0_pay83, rot1, rot2, dgcB_fun] <;> blk_point []

end Cert.KernelIdeal.Ffn

end
-- ==== Proof.Ffn.Carry.lean ====
/- What every point finds and leaves, by induction over the points: the weights, the products of its tile, the rows carried to the
tile above, and from them the tile results in terms of the whole arrays. -/
module

public import proofs.«01_k».proof.Proof.Ffn.Spec
public import proofs.«01_k».proof.Proof.Ffn.StepAa
public import proofs.«01_k».proof.Proof.Ffn.StepAn
public import proofs.«01_k».proof.Proof.Ffn.StepAu
public import proofs.«01_k».proof.Proof.Ffn.StepAw
public import proofs.«01_k».proof.Proof.Ffn.StepAx
public import proofs.«01_k».proof.Proof.Ffn.StepDa
public import proofs.«01_k».proof.Proof.Ffn.StepDup
public import proofs.«01_k».proof.Proof.Ffn.StepDups
public import proofs.«01_k».proof.Proof.Ffn.StepN
public import proofs.«01_k».proof.Proof.Ffn.StepW
public import proofs.«01_k».proof.Proof.Ffn.StepX0
public import proofs.«01_k».proof.Proof.Ffn.StepX1
public import proofs.«01_k».proof.Proof.Ffn.StepX2
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic

variable (m : (ℓ : Loc nD τ sig) → Buf (Elt Ideal) ℓ)

/-- The rows handed on are the tile's first ones until the last tile but one. -/
theorem handed : ∀ t : Fin cfg0.N, Scalar.cmpi .slt (BitVec.ofNat 32 (grid0.coords t 0)) 32#32 = if t.val < 32 then 1#1 else 0#1 :=
  (by decide +kernel : ∀ t : Fin grid0.N, _)

/-- A point's tile counts while it is a new one. -/
theorem counted : ∀ t : Fin cfg0.N,
    (Scalar.extui (Scalar.cmpi .sle (BitVec.ofNat 32 (grid0.coords t 0).val) 32#32) : BitVec 32) = if t.val ≤ 32 then 1#32 else 0#32 :=
  (by decide +kernel : ∀ t : Fin grid0.N, _)

/-- The factor that keeps the real rows: one up to point 32, zero after. -/
theorem live (t : Fin cfg0.N) : k0_pay7 (F := Ideal) (grid0.coords t) = if t.val ≤ 32 then (1 : EReal) else 0 := by
  unfold k0_pay7
  dsimp only
  rw [counted t]
  split
  · show ((((1#32).toInt : ℝ)) : EReal) = 1
    norm_num
  · show ((((0#32).toInt : ℝ)) : EReal) = 0
    norm_num

/-- What a point leaves for the next: the weights, its tile's products and the rows of the tile before. -/
structure Inv (c : Dev nD) (n : ℕ) (lt : n < cfg0.N) : Prop where
  wup : ∀ (k : Fin 1024) (j : Fin 5632), wupOf (outsAt0 m c n lt) (ix2 k j) = arg2 m c (ix2 k j)
  wdn : ∀ (j : Fin 2816) (k : Fin 1024), wdnOf (outsAt0 m c n lt) (ix2 j k) = arg5 m c (ix2 j k)
  das : ∀ (r : Fin 256) (l : Fin 2816), dasOf (outsAt0 m c n lt) (ix2 r l) = DA m c (row n 0 r) l
  carry : ∀ (q : Fin 8) (l : Fin 2816), carryOf (outsAt0 m c n lt) (ix2 q l) = ext (DGC m c l) ((32 - min n 31) * 256 + q)

/-- The products of a tile with the second weight. -/
theorem das_sum (c : Dev nD) (t : Fin cfg0.N) (w : Vec Ideal S2816x1024 .bf16)
    (w_eq : ∀ (j : Fin 2816) (k : Fin 1024), w (ix2 j k) = arg5 m c (ix2 j k)) (r : Fin 256) (l : Fin 2816) :
    (∑ k : Fin 1024, xb0 m c t (ix2 r k) * w (ix2 l k) : EReal) = DA m c (row t.val 0 r) l := by
  unfold DA
  refine Finset.sum_congr rfl fun k _ => ?_
  rw [ct0_at, w_eq]

/-- One row of the convolved gate's cotangent at a point. -/
theorem dgcB_at (c : Dev nD) (t : Fin cfg0.N) (p : Outs Ideal)
    (das : ∀ (r : Fin 256) (l : Fin 2816), dasOf p (ix2 r l) = DA m c (row t.val 1 r) l) (l : Fin 2816) (r : Fin 256) :
    dgcB m c t p l r = DGC m c l (row t.val 1 r) := by
  unfold dgcB DGC up dact
  rw [das, xb3_at, xb5_at]

/-- The same with the rows past the end read as zero. -/
theorem dgcB_ext (c : Dev nD) (t : Fin cfg0.N) (p : Outs Ideal)
    (das : ∀ (r : Fin 256) (l : Fin 2816), dasOf p (ix2 r l) = DA m c (row t.val 1 r) l) (l : Fin 2816) (r : Fin 256) :
    dgcB m c t p l r = ext (DGC m c l) (tile t.val 1 * 256 + r) :=
  (dgcB_at m c t p das l r).trans (ext_lt (DGC m c l) (row t.val 1 r)).symm

/-- The invariant holds after every point. -/
theorem inv (c : Dev nD) : ∀ (n : ℕ) (lt : n < cfg0.N), Inv m c n lt
  | 0, lt => by
    have o : outsAt0 m c 0 lt = outA m c ⟨0, lt⟩ (Nat.zero_mod 34) := outsAt0_A m c ⟨0, lt⟩ (Nat.zero_mod 34)
    refine ⟨fun k j => ?_, fun j k => ?_, fun r l => ?_, fun q l => ?_⟩ <;> rw [o]
    · exact wupA m c _ _ k j
    · exact wdnA m c _ _ j k
    · rw [dasA]
      exact das_sum m c ⟨0, lt⟩ _ (wdnA m c _ _) r l
    · rw [carryA]
      exact (ext_ge _ _ (by simp)).symm
  | n + 1, lt => by
    have prev := inv c n (Nat.lt_of_succ_lt lt)
    have lt' : n + 1 < 34 := lt
    have ne : ¬(⟨n + 1, lt⟩ : Fin cfg0.N).val % 34 = 0 := by show ¬(n + 1) % 34 = 0; omega
    have o : outsAt0 m c (n + 1) lt = outB m c ⟨n + 1, lt⟩ ne (outsAt0 m c n (Nat.lt_of_succ_lt lt)) := outsAt0_B m c ⟨n + 1, lt⟩ ne
    refine ⟨fun k j => ?_, fun j k => ?_, fun r l => ?_, fun q l => ?_⟩ <;> rw [o]
    · exact prev.wup k j
    · exact prev.wdn j k
    · rw [dasB]
      exact das_sum m c ⟨n + 1, lt⟩ _ prev.wdn r l
    · rw [carryB, handed, dgcB_ext m c ⟨n + 1, lt⟩ _ prev.das, prev.carry]
      by_cases a : n + 1 < 32
      · rw [if_pos a]
        refine congrArg (ext _) ?_
        show (31 - min 31 (n + 1 - 1)) * 256 + q.val = (32 - min (n + 1) 31) * 256 + q.val
        congr 2; omega
      · rw [if_neg a]
        refine congrArg (ext _) ?_
        show (32 - min n 31) * 256 + q.val = (32 - min (n + 1) 31) * 256 + q.val
        congr 2; omega

/-- What a point after the first takes over from the point before. -/
abbrev before (c : Dev nD) (t : Fin cfg0.N) : Outs Ideal := outsAt0 m c (t.val - 1) (Nat.lt_of_le_of_lt (Nat.sub_le _ _) t.isLt)

section point
variable (c : Dev nD) (t : Fin cfg0.N) (ne : ¬t.val % 34 = 0)
include ne

/-- The point is not the first. -/
theorem pos : 1 ≤ t.val := by
  rcases Nat.eq_zero_or_pos t.val with a | a
  · rw [a] at ne; exact absurd rfl ne
  · exact a

/-- Before the point the carried product cotangents are those of the tile. -/
theorem before_das (r : Fin 256) (l : Fin 2816) : dasOf (before m c t) (ix2 r l) = DA m c (row t.val 1 r) l :=
  (inv m c (t.val - 1) (Nat.lt_of_le_of_lt (Nat.sub_le _ _) t.isLt)).das r l

/-- Before the point the carried rows are the first rows of the later tile. -/
theorem before_carry (q : Fin 8) (l : Fin 2816) :
    carryOf (before m c t) (ix2 q l) = ext (DGC m c l) ((tile t.val 1 + 1) * 256 + q) := by
  rw [(inv m c (t.val - 1) (Nat.lt_of_le_of_lt (Nat.sub_le _ _) t.isLt)).carry q l]
  refine congrArg (ext _) ?_
  show (32 - min (t.val - 1) 31) * 256 + q.val = (31 - min 31 (t.val - 1) + 1) * 256 + q.val
  congr 2; omega

/-- The convolved gate's cotangent of the tile. -/
theorem dgc_at (l : Fin 2816) (r : Fin 256) : dgcB m c t (before m c t) l r = DGC m c l (row t.val 1 r) :=
  dgcB_at m c t _ (before_das m c t ne) l r

/-- The cotangent one row later. -/
theorem rot1_at (l : Fin 2816) (r : Fin 256) :
    rot1 (dgcB m c t (before m c t) l) (fun q => carryOf (before m c t) (ix2 q l)) r = ext (DGC m c l) (row t.val 1 r + 1) :=
  rot1_ext (DGC m c l) (tile t.val 1) (tile_le _ _) _ _ (dgcB_ext m c t _ (before_das m c t ne) l)
    (fun q => before_carry m c t ne q l) r

/-- The cotangent two rows later. -/
theorem rot2_at (l : Fin 2816) (r : Fin 256) :
    rot2 (dgcB m c t (before m c t) l) (fun q => carryOf (before m c t) (ix2 q l)) r = ext (DGC m c l) (row t.val 1 r + 2) :=
  rot2_ext (DGC m c l) (tile t.val 1) (tile_le _ _) _ _ (dgcB_ext m c t _ (before_das m c t ne) l)
    (fun q => before_carry m c t ne q l) r

/-- The gate gradient of the tile. -/
theorem gate_at (r : Fin 256) (l : Fin 2816) : gateB m c t (before m c t) r l = GATE m c (row t.val 1 r) l := by
  unfold gateB GATE
  rw [rot1_at m c t ne, rot2_at m c t ne, dgc_at m c t ne, xb7_at, xb7_at, xb7_at,
    show (V m c main_v54 : FVec Ideal S8x2816 .f32) (ix2 2 l) = arg3 m c (ix2 2 l) from wc_at m c 2 l,
    show (V m c main_v54 : FVec Ideal S8x2816 .f32) (ix2 1 l) = arg3 m c (ix2 1 l) from wc_at m c 1 l,
    show (V m c main_v54 : FVec Ideal S8x2816 .f32) (ix2 0 l) = arg3 m c (ix2 0 l) from wc_at m c 0 l]

/-- A tile whose gate and value columns are those of the gradient is the gradient's tile. -/
theorem dup_of (f : Fin 5632 → EReal) (r : Fin 256)
    (gate : ∀ l : Fin 2816, f ⟨l, by omega⟩ = gateB m c t (before m c t) r l)
    (val : ∀ l : Fin 2816, f ⟨2816 + l, by omega⟩ = dasOf (before m c t) (ix2 r l) * xb4 m c t (ix2 r l)) (e : Fin 5632) :
    f e = DUP m c (row t.val 1 r) e := by
  unfold DUP
  split
  next a => exact (gate ⟨e, a⟩).trans (gate_at m c t ne r ⟨e, a⟩)
  next a =>
    have v := val ⟨e - 2816, by omega⟩
    rw [before_das m c t ne, xb4_at] at v
    refine Eq.trans (congrArg f (Fin.ext ?_)) v
    show e.val = 2816 + (e.val - 2816); omega

/-- The tile written and the tile kept of the gradient at the hidden array. -/
theorem dup_at (r : Fin 256) (e : Fin 5632) : dupOf (outsAt0 m c t.val t.isLt) (ix2 r e) = DUP m c (row t.val 1 r) e := by
  rw [outsAt0_B m c t ne]
  exact dup_of m c t ne (fun e => dupOf (outB m c t ne (before m c t)) (ix2 r e)) r
    (dupB_gate m c t ne (before m c t) r) (dupB_val m c t ne (before m c t) r) e

/-- The stored up projection's cotangent is that of the tile. -/
theorem dups_at (r : Fin 256) (e : Fin 5632) : dupsOf (outsAt0 m c t.val t.isLt) (ix2 r e) = DUP m c (row t.val 1 r) e := by
  rw [outsAt0_B m c t ne]
  exact dup_of m c t ne (fun e => dupsOf (outB m c t ne (before m c t)) (ix2 r e)) r
    (dupsB_gate m c t ne (before m c t) r) (dupsB_val m c t ne (before m c t) r) e

omit ne in
/-- The cast of the tile on time. -/
theorem dx3b_at (r : Fin 256) (k : Fin 1024) : dx3bOf (outsAt0 m c t.val t.isLt) (ix2 r k) = arg6 m c (ix2 (row t.val 0 r) k) := by
  by_cases z : t.val % 34 = 0
  · rw [outsAt0_A m c t z, dx3bA, ct0_at]
  · rw [outsAt0_B m c t z, dx3bB, ct0_at]

omit ne in
/-- From the third point on, the kept tile's product with the first weight is the gradient two points late. -/
theorem dh_at (two : 2 ≤ t.val) (r : Fin 256) (k : Fin 1024) : dhB (before m c t) r k = DH m c (row t.val 2 r) k := by
  have lt : t.val < 34 := t.isLt
  unfold dhB DH
  refine Finset.sum_congr rfl fun e _ => ?_
  have one := dups_at m c ⟨t.val - 1, Nat.lt_of_le_of_lt (Nat.sub_le _ _) t.isLt⟩ (by show ¬(t.val - 1) % 34 = 0; omega) r e
  rw [(inv m c (t.val - 1) (Nat.lt_of_le_of_lt (Nat.sub_le _ _) t.isLt)).wup k e, one]
  rfl

omit ne in
/-- At the second point the kept tile is still empty. -/
theorem dh_one (one : t.val = 1) (r : Fin 256) (k : Fin 1024) : dhB (before m c t) r k = 0 := by
  unfold dhB
  refine Finset.sum_eq_zero fun e _ => ?_
  have z : (t.val - 1) % 34 = 0 := by omega
  have o : before m c t = outA m c ⟨t.val - 1, Nat.lt_of_le_of_lt (Nat.sub_le _ _) t.isLt⟩ z := outsAt0_A m c ⟨t.val - 1, _⟩ z
  rw [o, dupsA, zero_mul]

/-- The norm's factor of the tile. -/
theorem rho_at (r : Fin 256) : rhoB m c t r = RHO m c (row t.val 2 r) := by
  unfold rhoB RHO
  simp only [x2_at]

/-- The gradient at the input, from the third point on. -/
theorem dx2_at (two : 2 ≤ t.val) (r : Fin 256) (k : Fin 1024) :
    dx2Of (outsAt0 m c t.val t.isLt) (ix2 r k) = DX m c (row t.val 2 r) k := by
  rw [outsAt0_B m c t ne, dx2B]
  unfold DX
  rw [rho_at m c t ne]
  simp only [dh_at m c t two, ct2_at, x2_at, gain_at]

end point

end Cert.KernelIdeal.Ffn

end
-- ==== Proof.Ffn.Sums.lean ====
/- The partial sums that the points add up: the bias gradient, the filter's and the gain's. -/
module

public import proofs.«01_k».proof.Proof.Ffn.Carry
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic

variable (m : (ℓ : Loc nD τ sig) → Buf (Elt Ideal) ℓ)

/-- One more tile, if it is a new one. -/
theorem add_tile (f : ℕ → EReal) (n : ℕ) (lt : n + 1 < 34) (s : EReal) (s_eq : n ≤ 31 → s = f n) :
    ∑ j ∈ Finset.range (min n 32), f j + (if n + 1 ≤ 32 then (1 : EReal) else 0) * s = ∑ j ∈ Finset.range (min (n + 1) 32), f j := by
  by_cases a : n ≤ 31
  · rw [if_pos (by omega), one_mul, s_eq a, show min n 32 = n by omega, show min (n + 1) 32 = n + 1 by omega, Finset.sum_range_succ]
  · rw [if_neg (by omega), zero_mul, add_zero, show min n 32 = 32 by omega, show min (n + 1) 32 = 32 by omega]

/-- The rows of a tile, those that lie `q` past a multiple of eight. -/
theorem part_row (G : Fin 8192 → EReal) (q : Fin 8) (n lag b : ℕ) (b_eq : tile n lag = b) (f : Fin 32 → EReal)
    (f_eq : ∀ x : Fin 32, f x = G (row n lag ⟨x * 8 + q, by omega⟩)) : ∑ x : Fin 32, f x = part G q b := by
  subst b_eq
  exact Finset.sum_congr rfl fun x _ => (f_eq x).trans (ext_lt G (row n lag ⟨x * 8 + q, by omega⟩)).symm

/-- A later point is not the first. -/
theorem succ_ne (n : ℕ) (lt : n + 1 < cfg0.N) : ¬(⟨n + 1, lt⟩ : Fin cfg0.N).val % 34 = 0 := by
  have lt' : n + 1 < 34 := lt
  show ¬(n + 1) % 34 = 0; omega

/-- What the first point leaves. -/
theorem out_zero (c : Dev nD) (lt : 0 < cfg0.N) : outsAt0 m c 0 lt = outA m c ⟨0, lt⟩ (Nat.zero_mod 34) :=
  outsAt0_A m c ⟨0, lt⟩ (Nat.zero_mod 34)

/-- What a later point leaves, from the one before. -/
theorem out_succ (c : Dev nD) (n : ℕ) (lt : n + 1 < cfg0.N) :
    outsAt0 m c (n + 1) lt = outB m c ⟨n + 1, lt⟩ (succ_ne n lt) (before m c ⟨n + 1, lt⟩) := outsAt0_B m c ⟨n + 1, lt⟩ (succ_ne n lt)

/-- The tile of a point, counted from the end. -/
theorem tile_one (n : ℕ) (le : n ≤ 31) : tile (n + 1) 1 = 31 - n := by unfold tile; omega

/-- The bias gradient after each point. -/
theorem db_sum (c : Dev nD) (q : Fin 8) (l : Fin 2816) : ∀ (n : ℕ) (lt : n < cfg0.N),
    dbOf (outsAt0 m c n lt) (ix2 q l) = ∑ j ∈ Finset.range (min n 32), part (DGC m c l) q (31 - j)
  | 0, lt => by rw [out_zero, dbA]; rfl
  | n + 1, lt => by
    rw [out_succ, dbB, live,
      show dbOf (before m c ⟨n + 1, lt⟩) (ix2 q l) = _ from db_sum c q l n (Nat.lt_of_succ_lt lt)]
    exact add_tile (fun j => part (DGC m c l) q (31 - j)) n lt _ fun le =>
      part_row _ q (n + 1) 1 _ (tile_one n le) _ fun x => dgc_at m c ⟨n + 1, lt⟩ (succ_ne n lt) l _

/-- The filter's gradient after each point, tap by tap. -/
theorem dw_sum0 (c : Dev nD) (q : Fin 8) (l : Fin 2816) : ∀ (n : ℕ) (lt : n < cfg0.N),
    dwOf (outsAt0 m c n lt) (ix3 0 q l) = ∑ j ∈ Finset.range (min n 32), part (DW m c 0 l) q (31 - j)
  | 0, lt => by rw [out_zero, dwA]; rfl
  | n + 1, lt => by
    rw [out_succ, dwB0, live,
      show dwOf (before m c ⟨n + 1, lt⟩) (ix3 0 q l) = _ from dw_sum0 c q l n (Nat.lt_of_succ_lt lt)]
    exact add_tile (fun j => part (DW m c 0 l) q (31 - j)) n lt _ fun le =>
      part_row _ q (n + 1) 1 _ (tile_one n le) _ fun x => by
        rw [rot2_at m c ⟨n + 1, lt⟩ (succ_ne n lt), xb3_at]; rfl

/-- The filter's running sum of the middle row. -/
theorem dw_sum1 (c : Dev nD) (q : Fin 8) (l : Fin 2816) : ∀ (n : ℕ) (lt : n < cfg0.N),
    dwOf (outsAt0 m c n lt) (ix3 1 q l) = ∑ j ∈ Finset.range (min n 32), part (DW m c 1 l) q (31 - j)
  | 0, lt => by rw [out_zero, dwA]; rfl
  | n + 1, lt => by
    rw [out_succ, dwB1, live,
      show dwOf (before m c ⟨n + 1, lt⟩) (ix3 1 q l) = _ from dw_sum1 c q l n (Nat.lt_of_succ_lt lt)]
    exact add_tile (fun j => part (DW m c 1 l) q (31 - j)) n lt _ fun le =>
      part_row _ q (n + 1) 1 _ (tile_one n le) _ fun x => by
        rw [rot1_at m c ⟨n + 1, lt⟩ (succ_ne n lt), xb3_at]; rfl

/-- The filter's running sum of the last row. -/
theorem dw_sum2 (c : Dev nD) (q : Fin 8) (l : Fin 2816) : ∀ (n : ℕ) (lt : n < cfg0.N),
    dwOf (outsAt0 m c n lt) (ix3 2 q l) = ∑ j ∈ Finset.range (min n 32), part (DW m c 2 l) q (31 - j)
  | 0, lt => by rw [out_zero, dwA]; rfl
  | n + 1, lt => by
    rw [out_succ, dwB2, live,
      show dwOf (before m c ⟨n + 1, lt⟩) (ix3 2 q l) = _ from dw_sum2 c q l n (Nat.lt_of_succ_lt lt)]
    exact add_tile (fun j => part (DW m c 2 l) q (31 - j)) n lt _ fun le =>
      part_row _ q (n + 1) 1 _ (tile_one n le) _ fun x => by
        rw [dgc_at m c ⟨n + 1, lt⟩ (succ_ne n lt), xb3_at]
        exact congrArg (· * _) (ext_lt (DGC m c l) _).symm

/-- The filter's running sums, row by row. -/
theorem dw_sum (c : Dev nD) (j : Fin 3) (q : Fin 8) (l : Fin 2816) (n : ℕ) (lt : n < cfg0.N) :
    dwOf (outsAt0 m c n lt) (ix3 j q l) = ∑ i ∈ Finset.range (min n 32), part (DW m c j l) q (31 - i) := by
  fin_cases j
  · exact dw_sum0 m c q l n lt
  · exact dw_sum1 m c q l n lt
  · exact dw_sum2 m c q l n lt

/-- The gain's gradient after each point; its tiles are two points late. -/
theorem dg_sum (c : Dev nD) (q : Fin 8) (k : Fin 1024) : ∀ (n : ℕ) (lt : n < cfg0.N),
    dgOf (outsAt0 m c n lt) (ix2 q k) = ∑ j ∈ Finset.range (n - 1), part (DG m c k) q (31 - j)
  | 0, lt => by rw [out_zero, dgA]; rfl
  | 1, lt => by
    rw [out_succ, dgB, show dgOf (before m c ⟨0 + 1, lt⟩) (ix2 q k) = _ from dg_sum c q k 0 (Nat.lt_of_succ_lt lt)]
    refine (congrArg (_ + ·) (Finset.sum_eq_zero fun x _ => ?_)).trans (add_zero _)
    rw [dh_one m c ⟨0 + 1, lt⟩ rfl, zero_mul]
  | n + 2, lt => by
    have lt' : n + 2 < 34 := lt
    rw [out_succ m c (n + 1) lt, dgB,
      show dgOf (before m c ⟨n + 1 + 1, lt⟩) (ix2 q k) = _ from dg_sum c q k (n + 1) (Nat.lt_of_succ_lt lt),
      show n + 2 - 1 = n + 1 - 1 + 1 by omega, Finset.sum_range_succ]
    refine congrArg (_ + ·) (part_row (DG m c k) q (n + 2) 2 _ (by unfold tile; omega) _ fun x => ?_)
    rw [dh_at m c ⟨n + 1 + 1, lt⟩ (by show 2 ≤ n + 1 + 1; omega), rho_at m c ⟨n + 1 + 1, lt⟩ (succ_ne (n + 1) lt), x2_at]
    rfl

end Cert.KernelIdeal.Ffn

end
-- ==== Proof.Ffn.Arrays.lean ====
/- The arrays after the last point. -/
module

public import proofs.«01_k».proof.Proof.Ffn.Sums
public import proofs.«01_k».proof.Proof.Ffn.KernelIdeal.Frame
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic

variable (m : (ℓ : Loc nD τ sig) → Buf (Elt Ideal) ℓ)

/-- The output blocks' places, and which points write back. -/
theorem index_out : ∀ t : Fin cfg0.N,
    win0_8.index t = ![tile t.val 2, 0] ∧ win0_9.index t = ![tile t.val 1, 0] ∧ win0_10.index t = ![tile t.val 0, 0] :=
  (by decide +kernel : ∀ t : Fin grid0.N, _)

/-- The input's cotangent is written out from the third point on. -/
theorem flush8 : ∀ t : Fin cfg0.N, win0_8.flush t = true → 2 ≤ t.val := (by decide +kernel : ∀ t : Fin grid0.N, _)

/-- The up projection's cotangent is written out from the second point on. -/
theorem flush9 : ∀ t : Fin cfg0.N, win0_9.flush t = true → ¬t.val % 34 = 0 := (by decide +kernel : ∀ t : Fin grid0.N, _)

/-- The gradient at the input. -/
theorem arr8 (c : Dev nD) : (dats m 0 c).arrAt 8 cfg0.N = fun i : S8192x1024.Idx => DX m c (i 0) (i 1) := by
  refine (dats m 0 c).arrAt_eq_of_covers 8 _ (by decide +kernel) fun t hf y => ?_
  have lt : t.val < 34 := t.isLt
  have two := flush8 t hf
  obtain ⟨e8, e9, e10⟩ := index_out t
  blk_simp
  have w : ∀ (r : Fin 256) (k : Fin 1024), (dats m 0 c).after 8 t (ix2 r k)
      = (fun i : S8192x1024.Idx => DX m c (i 0) (i 1)) ((win0_8.blk t).view.emb (ix2 r k)) := fun r k => by
    rw [show (win0_8.blk t).view.emb (ix2 r k) = ix2 (row t.val 2 r) k by blk_ext [e8, row_val], after0_8]
    exact dx2_at m c t (by omega) two r k
  have eta : y = ix2 (y 0) (y 1) := by
    funext a; fin_cases a <;> rfl
  rw [eta]
  exact w (y 0) (y 1)

/-- The gradient at the hidden array. -/
theorem arr9 (c : Dev nD) : (dats m 0 c).arrAt 9 cfg0.N = fun i : S8192x5632.Idx => DUP m c (i 0) (i 1) := by
  refine (dats m 0 c).arrAt_eq_of_covers 9 _ (by decide +kernel) fun t hf y => ?_
  have lt : t.val < 34 := t.isLt
  obtain ⟨e8, e9, e10⟩ := index_out t
  blk_simp
  have w : ∀ (r : Fin 256) (k : Fin 5632), (dats m 0 c).after 9 t (ix2 r k)
      = (fun i : S8192x5632.Idx => DUP m c (i 0) (i 1)) ((win0_9.blk t).view.emb (ix2 r k)) := fun r k => by
    rw [show (win0_9.blk t).view.emb (ix2 r k) = ix2 (row t.val 1 r) k by blk_ext [e9, row_val], after0_9]
    exact dup_at m c t (flush9 t hf) r k
  have eta : y = ix2 (y 0) (y 1) := by
    funext a; fin_cases a <;> rfl
  rw [eta]
  exact w (y 0) (y 1)

/-- The cast of the cotangent. -/
theorem arr10 (c : Dev nD) : (dats m 0 c).arrAt 10 cfg0.N = fun i : S8192x1024.Idx => arg6 m c (ix2 (i 0) (i 1)) := by
  refine (dats m 0 c).arrAt_eq_of_covers 10 _ (by decide +kernel) fun t hf y => ?_
  have lt : t.val < 34 := t.isLt
  obtain ⟨e8, e9, e10⟩ := index_out t
  blk_simp
  have w : ∀ (r : Fin 256) (k : Fin 1024), (dats m 0 c).after 10 t (ix2 r k)
      = (fun i : S8192x1024.Idx => arg6 m c (ix2 (i 0) (i 1))) ((win0_10.blk t).view.emb (ix2 r k)) := fun r k => by
    rw [show (win0_10.blk t).view.emb (ix2 r k) = ix2 (row t.val 0 r) k by blk_ext [e10, row_val], after0_10]
    exact dx3b_at m c t r k
  have eta : y = ix2 (y 0) (y 1) := by
    funext a; fin_cases a <;> rfl
  rw [eta]
  exact w (y 0) (y 1)

/-- The last point. -/
abbrev last : Fin cfg0.N := ⟨33, by decide⟩

/-- The gain's partial sums. -/
theorem arr11 (c : Dev nD) : (dats m 0 c).arrAt 11 cfg0.N
    = fun i : S8x1024.Idx => ∑ j ∈ Finset.range 32, part (DG m c (i 1)) (i 0) (31 - j) := by
  refine (dats m 0 c).arrAt_eq_of_after_last 11 last (by decide +kernel) _ fun y => ?_
  blk_simp
  rw [after0_11]
  have eta : y = ix2 (y 0) (y 1) := by
    funext a; fin_cases a <;> rfl
  rw [eta]
  exact dg_sum m c (y 0) (y 1) 33 _

/-- The bias's partial sums. -/
theorem arr12 (c : Dev nD) : (dats m 0 c).arrAt 12 cfg0.N
    = fun i : S8x2816.Idx => ∑ j ∈ Finset.range 32, part (DGC m c (i 1)) (i 0) (31 - j) := by
  refine (dats m 0 c).arrAt_eq_of_after_last 12 last (by decide +kernel) _ fun y => ?_
  blk_simp
  rw [after0_12]
  have eta : y = ix2 (y 0) (y 1) := by
    funext a; fin_cases a <;> rfl
  rw [eta]
  exact db_sum m c (y 0) (y 1) 33 _

/-- The filter's partial sums. -/
theorem arr13 (c : Dev nD) : (dats m 0 c).arrAt 13 cfg0.N
    = fun i : S3x8x2816.Idx => ∑ j ∈ Finset.range 32, part (DW m c (i 0) (i 2)) (i 1) (31 - j) := by
  refine (dats m 0 c).arrAt_eq_of_after_last 13 last (by decide +kernel) _ fun y => ?_
  blk_simp
  rw [after0_13]
  have eta : y = ix3 (y 0) (y 1) (y 2) := by
    funext a; fin_cases a <;> rfl
  rw [eta]
  exact dw_sum m c (y 0) (y 1) (y 2) 33 _

end Cert.KernelIdeal.Ffn

end
-- ==== Proof.Ffn.Values.lean ====
/- The program's results: the three arrays the region writes and the three sums the host takes after it. -/
module

public import proofs.«01_k».proof.Proof.Ffn.Arrays
public import Idealize.ShloMosaic.Lib.StableHlo.RunRead
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic

variable (m : (ℓ : Loc nD τ sig) → Buf (Elt Ideal) ℓ)

/-- Every array as the region leaves it. -/
abbrev left (c : Dev nD) : Valuation τ sig (Elt Ideal) :=
  Pipeline.withArrays (cfgs 0).spec c (V0 m c) fun w => (dats m 0 c).arrAt w (cfgs 0).N

/-- What the pipeline leaves in a window's array. -/
theorem left_arr (c : Dev nD) (w : Fin 14) :
    left m c (Proc.devRef .tc (Pipeline.arrRef spec0 w)) = (dats m 0 c).arrAt w cfg0.N :=
  Pipeline.withArrays_arr_shared spec0 c (V0 m c) _
    (fun w w' ne e => (dats m 0 c).arrAt_sharedIn sharedIn0 (V0 m c) (fun w => A_eq m c w) cfg0.N w w' ne e) w

/-- The host's sum of the gain's partial sums. -/
theorem tail61 (c : Dev nD) : Pipeline.afterTail₀ cfgs (dats m) 0 (V0 m) [hostOps1] c main_v61
    = fun i : S1024.Idx => ∑ t : Fin 8192, DG m c (i 0) t := by
  have e : Pipeline.afterTail₀ cfgs (dats m) 0 (V0 m) [hostOps1] c main_v61
      = Host.reduceAdd (F := Ideal) (left m c (Proc.devRef .tc main_v60_3)) (constant S_ .f32 0x00000000#32) reducesTo_S8x1024_S1024_d0 h_S_ := by
    unfold Pipeline.afterTail₀
    rw [List.flatten_cons, List.flatten_nil, List.append_nil]
    unfold hostOps1
    after_results
  rw [e, show left m c (Proc.devRef .tc main_v60_3) = _ from (left_arr m c 11).trans (arr11 m c)]
  funext i
  pointwise
  exact sum_parts _

/-- The host's sum of the filter's partial sums. -/
theorem tail62 (c : Dev nD) : Pipeline.afterTail₀ cfgs (dats m) 0 (V0 m) [hostOps1] c main_v62
    = fun i : S3x2816.Idx => ∑ t : Fin 8192, DW m c (i 0) (i 1) t := by
  have e : Pipeline.afterTail₀ cfgs (dats m) 0 (V0 m) [hostOps1] c main_v62
      = Host.reduceAdd (F := Ideal) (left m c (Proc.devRef .tc main_v60_5)) (constant S_ .f32 0x00000000#32) reducesTo_S3x8x2816_S3x2816_d1 h_S_ := by
    unfold Pipeline.afterTail₀
    rw [List.flatten_cons, List.flatten_nil, List.append_nil]
    unfold hostOps1
    after_results
  rw [e, show left m c (Proc.devRef .tc main_v60_5) = _ from (left_arr m c 13).trans (arr13 m c)]
  funext i
  pointwise
  exact sum_parts _

/-- The host's sum of the bias's partial sums. -/
theorem tail63 (c : Dev nD) : Pipeline.afterTail₀ cfgs (dats m) 0 (V0 m) [hostOps1] c main_v63
    = fun i : S2816.Idx => ∑ t : Fin 8192, DGC m c (i 0) t := by
  have e : Pipeline.afterTail₀ cfgs (dats m) 0 (V0 m) [hostOps1] c main_v63
      = Host.reduceAdd (F := Ideal) (left m c (Proc.devRef .tc main_v60_4)) (constant S_ .f32 0x00000000#32) reducesTo_S8x2816_S2816_d0 h_S_ := by
    unfold Pipeline.afterTail₀
    rw [List.flatten_cons, List.flatten_nil, List.append_nil]
    unfold hostOps1
    after_results
  rw [e, show left m c (Proc.devRef .tc main_v60_4) = _ from (left_arr m c 12).trans (arr12 m c)]
  funext i
  pointwise
  exact sum_parts _

/-- Every run ends with the six results in terms of the arguments and the saved arrays, and the arguments as they were. -/
theorem run_values (ρ : Dev nD → PrngReg) : θ_run defs (onTc (τ := τ) (main (F := Ideal))) ⟨m, fun _ => 0, ρ⟩ (fun r => ∀ c : Dev nD,
      (r.2.mem ((c.tc : Thread nD τ).loc main_v60_0) = (fun i : S8192x1024.Idx => DX m c (i 0) (i 1))
      ∧ r.2.mem ((c.tc : Thread nD τ).loc main_v60_1) = (fun i : S8192x5632.Idx => DUP m c (i 0) (i 1))
      ∧ r.2.mem ((c.tc : Thread nD τ).loc main_v60_2) = (fun i : S8192x1024.Idx => arg6 m c (ix2 (i 0) (i 1)))
      ∧ r.2.mem ((c.tc : Thread nD τ).loc main_v61) = (fun i : S1024.Idx => ∑ t : Fin 8192, DG m c (i 0) t)
      ∧ r.2.mem ((c.tc : Thread nD τ).loc main_v62) = (fun i : S3x2816.Idx => ∑ t : Fin 8192, DW m c (i 0) (i 1) t)
      ∧ r.2.mem ((c.tc : Thread nD τ).loc main_v63) = (fun i : S2816.Idx => ∑ t : Fin 8192, DGC m c (i 0) t))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))) :=
  (θ_run defs _ _).mono (fun _ both c => ⟨⟨(both.1 c |>.1 8).trans (arr8 m c), (both.1 c |>.1 9).trans (arr9 m c), (both.1 c |>.1 10).trans (arr10 m c),
      ((both.1 c).2 main_v61 (Pipeline.mem_restRefs_of main_v61 (by decide) (by decide))).trans (tail61 m c),
      ((both.1 c).2 main_v62 (Pipeline.mem_restRefs_of main_v62 (by decide) (by decide))).trans (tail62 m c),
      ((both.1 c).2 main_v63 (Pipeline.mem_restRefs_of main_v63 (by decide) (by decide))).trans (tail63 m c)⟩, both.2 c⟩)
    (θ_run_and (run_main m ρ) (unchanged m ρ))

end Cert.KernelIdeal.Ffn

end
-- ==== Proof.Ffn.RefA.lean ====
/- The forward half of the reference, read at coordinates. -/
module

public import proofs.«01_k».proof.Proof.Gen.ReferenceIdeal.Read
public import Idealize.ShloMosaic.Lib.Claim
public import Idealize.ShloMosaic.Lib.Pointwise

@[expose] public section

set_option maxRecDepth 16384

noncomputable section

namespace Cert.ReferenceIdeal.Ffn

open Cert.ReferenceIdeal Cert.ReferenceIdeal.Gen Cert.ReferenceIdeal.Read
open Idealize.ShloMosaic Idealize.ShloMosaic.TcCoe Idealize.ShloMosaic.Tactic

variable (x0 : FVec Ideal S8192x1024 .f32) (x1 : FVec Ideal S1024 .f32) (x2 : FVec Ideal S1024x5632 .f32)
  (x3 : FVec Ideal S3x2816 .f32) (x4 : FVec Ideal S2816 .f32) (x5 : FVec Ideal S2816x1024 .f32)
  (x6 : FVec Ideal S8192x1024 .f32)

/-- The sum of the squares of a row of the input. -/
def sq (t : Fin 8192) : EReal := ∑ k : Fin 1024, x0 (ix2 t k) * x0 (ix2 t k)

/-- The mean square of a row plus the small constant. -/
def var (t : Fin 8192) : EReal :=
  Ideal.div (sq x0 t) (Ideal.ofBits FTy.f32 1149239296#32) + Ideal.ofBits FTy.f32 897988541#32

/-- The mean square of a row plus the small constant. -/
theorem v6_at (t : Fin 8192) : val_main_v6 (F := Ideal) x0 (ix2 t 0) = var x0 t := by
  unfold var sq
  pointwise [val_main_v6, val_main_v3, val_main_v5, val_main_cst, val_main_cst_0, val_main_cst_1, val_main_v4, val_main_v2, val_main_v1, val_main_v0]

/-- The norm's factor of a row. -/
theorem v7_at (t : Fin 8192) : val_main_v7 (F := Ideal) x0 (ix2 t 0) = Ideal.rsqrt (var x0 t) := by
  rw [val_main_v7_apply, v6_at]; rfl

/-- The normalised input. -/
theorem v12_at (t : Fin 8192) (k : Fin 1024) :
    val_main_v12 (F := Ideal) x0 (ix2 t k) = x0 (ix2 t k) * Ideal.rsqrt (var x0 t) := by
  rw [← v7_at]
  pointwise [val_main_v12, val_main_v11]

/-- The normalised input times the gain. -/
theorem v15_at (t : Fin 8192) (k : Fin 1024) :
    val_main_v15 (F := Ideal) x0 x1 (ix2 t k) = x0 (ix2 t k) * Ideal.rsqrt (var x0 t) * x1 (ix1 k) := by
  rw [← v12_at]
  pointwise [val_main_v15, val_main_v14, val_main_v13]

/-- The up projection. -/
theorem v16_at (t : Fin 8192) (e : Fin 5632) :
    val_main_v16 (F := Ideal) x0 x1 x2 (ix2 t e)
      = ∑ k : Fin 1024, val_main_v15 (F := Ideal) x0 x1 (ix2 t k) * x2 (ix2 k e) := by
  rw [val_main_v16_apply]
  refine Finset.sum_congr rfl fun k _ => ?_
  congr 2 <;> (funext a; match a with | ⟨0, _⟩ => rfl | ⟨1, _⟩ => rfl)

/-- The gate: the first half of the up projection. -/
theorem v17_at (t : Fin 8192) (l : Fin 2816) :
    val_main_v17 (F := Ideal) x0 x1 x2 (ix2 t l)
      = val_main_v16 (F := Ideal) x0 x1 x2 (ix2 t ⟨l.val, by omega⟩) := by
  pointwise [val_main_v17]

/-- The linear half: the second half of the up projection. -/
theorem v18_at (t : Fin 8192) (l : Fin 2816) :
    val_main_v18 (F := Ideal) x0 x1 x2 (ix2 t l)
      = val_main_v16 (F := Ideal) x0 x1 x2 (ix2 t ⟨2816 + l.val, by omega⟩) := by
  pointwise [val_main_v18]

/-- The gate with two rows of zeros in front. -/
theorem v20_at (p : Fin 8194) (l : Fin 2816) :
    val_main_v20 (F := Ideal) x0 x1 x2 (ix2 p l)
      = if h : 2 ≤ p.val then val_main_v17 (F := Ideal) x0 x1 x2 (ix2 ⟨p.val - 2, by omega⟩ l) else 0 := by
  pointwise [val_main_v20, val_main_v19, val_main_cst_3]
  split <;> split <;> first | rfl | omega

/-- The gate two rows earlier. -/
theorem v24_at (t : Fin 8192) (l : Fin 2816) :
    val_main_v24 (F := Ideal) x0 x1 x2 (ix2 t l) = val_main_v20 (F := Ideal) x0 x1 x2 (ix2 ⟨t.val, by omega⟩ l) := by
  pointwise [val_main_v24]

/-- The gate one row earlier. -/
theorem v30_at (t : Fin 8192) (l : Fin 2816) :
    val_main_v30 (F := Ideal) x0 x1 x2 (ix2 t l) = val_main_v20 (F := Ideal) x0 x1 x2 (ix2 ⟨1 + t.val, by omega⟩ l) := by
  pointwise [val_main_v30]

/-- The convolution along the sequence, three rows of the filter, and the bias. -/
theorem v43_at (t : Fin 8192) (l : Fin 2816) :
    val_main_v43 (F := Ideal) x0 x1 x2 x3 x4 (ix2 t l)
      = x3 (ix2 0 l) * val_main_v24 (F := Ideal) x0 x1 x2 (ix2 t l)
        + x3 (ix2 1 l) * val_main_v30 (F := Ideal) x0 x1 x2 (ix2 t l)
        + x3 (ix2 2 l) * val_main_v17 (F := Ideal) x0 x1 x2 (ix2 t l)
        + x4 (ix1 l) := by
  pointwise [val_main_v43, val_main_v40, val_main_v34, val_main_v27, val_main_v33, val_main_v39, val_main_v42, val_main_v41, val_main_v21, val_main_v22, val_main_v23, val_main_v25, val_main_v26, val_main_v28, val_main_v29, val_main_v31, val_main_v32, val_main_v35, val_main_v36, val_main_v37, val_main_v38]

/-- The logistic function of the convolved gate. -/
theorem v44_2_at (t : Fin 8192) (l : Fin 2816) :
    val_main_v44_2 (F := Ideal) x0 x1 x2 x3 x4 (ix2 t l)
      = Ideal.div 1 (1 + Ideal.exp (-(val_main_v43 (F := Ideal) x0 x1 x2 x3 x4 (ix2 t l)))) := by
  pointwise [val_main_v44_2, val_main_call0_v4, val_main_call0_v3, val_main_call0_v2, val_main_call0_v1, val_main_call0_v0, val_main_call0_cst, val_main_call0_cst_0]

end Cert.ReferenceIdeal.Ffn

end
-- ==== Proof.Ffn.RefB.lean ====
/- The backward half of the reference down to the up projection, read at coordinates. -/
module

public import proofs.«01_k».proof.Proof.Gen.ReferenceIdeal.Read
public import Idealize.ShloMosaic.Lib.Claim
public import Idealize.ShloMosaic.Lib.Pointwise

@[expose] public section

set_option maxRecDepth 16384

noncomputable section

namespace Cert.ReferenceIdeal.Ffn

open Cert.ReferenceIdeal Cert.ReferenceIdeal.Gen Cert.ReferenceIdeal.Read
open Idealize.ShloMosaic Idealize.ShloMosaic.TcCoe Idealize.ShloMosaic.Tactic

variable (x0 : FVec Ideal S8192x1024 .f32) (x1 : FVec Ideal S1024 .f32) (x2 : FVec Ideal S1024x5632 .f32)
  (x3 : FVec Ideal S3x2816 .f32) (x4 : FVec Ideal S2816 .f32) (x5 : FVec Ideal S2816x1024 .f32)
  (x6 : FVec Ideal S8192x1024 .f32)

/-- The cotangent of the product before the down projection. -/
theorem v47_at (t : Fin 8192) (l : Fin 2816) :
    val_main_v47 (F := Ideal) x5 x6 (ix2 t l) = ∑ k : Fin 1024, x6 (ix2 t k) * x5 (ix2 l k) := by
  rw [val_main_v47_apply]
  refine Finset.sum_congr rfl fun k _ => ?_
  congr 2 <;> (funext a; match a with | ⟨0, _⟩ => rfl | ⟨1, _⟩ => rfl)

/-- The cotangent of the linear half. -/
theorem v48_at (t : Fin 8192) (l : Fin 2816) :
    val_main_v48 (F := Ideal) x0 x1 x2 x3 x4 x5 x6 (ix2 t l)
      = val_main_v44_0 (F := Ideal) x0 x1 x2 x3 x4 (ix2 t l) * val_main_v47 (F := Ideal) x5 x6 (ix2 t l) := rfl

/-- The cotangent of the activation. -/
theorem v49_at (t : Fin 8192) (l : Fin 2816) :
    val_main_v49 (F := Ideal) x0 x1 x2 x5 x6 (ix2 t l)
      = val_main_v47 (F := Ideal) x5 x6 (ix2 t l) * val_main_v18 (F := Ideal) x0 x1 x2 (ix2 t l) := rfl

/-- The cotangent of the convolved gate, as the product rule of the activation gives it. -/
theorem v50_at (t : Fin 8192) (l : Fin 2816) :
    val_main_v50 (F := Ideal) x0 x1 x2 x3 x4 x5 x6 (ix2 t l)
      = val_main_v49 (F := Ideal) x0 x1 x2 x5 x6 (ix2 t l) * val_main_v44_2 (F := Ideal) x0 x1 x2 x3 x4 (ix2 t l)
        + (val_main_v43 (F := Ideal) x0 x1 x2 x3 x4 (ix2 t l) * val_main_v49 (F := Ideal) x0 x1 x2 x5 x6 (ix2 t l))
          * (val_main_v44_2 (F := Ideal) x0 x1 x2 x3 x4 (ix2 t l)
            * (val_main_call0_v6 (F := Ideal) (ix2 t l) - val_main_v44_2 (F := Ideal) x0 x1 x2 x3 x4 (ix2 t l))) := rfl

/-- The one in the activation's derivative. -/
theorem one_at (t : Fin 8192) (l : Fin 2816) : val_main_call0_v6 (F := Ideal) (ix2 t l) = 1 := by
  pointwise [val_main_call0_v6, val_main_call0_cst_1]

/-- The bias's cotangent: the sum over the sequence. -/
theorem v53_at (l : Fin 2816) :
    val_main_v53 (F := Ideal) x0 x1 x2 x3 x4 x5 x6 (ix1 l)
      = ∑ t : Fin 8192, val_main_v50 (F := Ideal) x0 x1 x2 x3 x4 x5 x6 (ix2 t l) := by
  pointwise [val_main_v53, val_main_v52, val_main_v51, val_main_cst_5, val_main_cst_6]
  simp only [Fin.sum_univ_one]

/-- The part of the padded gate's cotangent that comes through the filter's middle row. -/
theorem v68_at (p : Fin 8194) (l : Fin 2816) :
    val_main_v68 (F := Ideal) x0 x1 x2 x3 x4 x5 x6 (ix2 p l)
      = if h : 1 ≤ p.val ∧ p.val < 8193 then
          x3 (ix2 1 l) * val_main_v50 (F := Ideal) x0 x1 x2 x3 x4 x5 x6 (ix2 ⟨p.val - 1, by omega⟩ l) else 0 := by
  pointwise [val_main_v68, val_main_v63, val_main_v62, val_main_v32, val_main_v31, val_main_v29, val_main_v28, val_main_cst_12]
  split <;> split <;> first | rfl | omega

/-- The part of the padded gate's cotangent that comes through the filter's first row. -/
theorem v78_at (p : Fin 8194) (l : Fin 2816) :
    val_main_v78 (F := Ideal) x0 x1 x2 x3 x4 x5 x6 (ix2 p l)
      = if h : p.val < 8192 then
          x3 (ix2 0 l) * val_main_v50 (F := Ideal) x0 x1 x2 x3 x4 x5 x6 (ix2 ⟨p.val, by omega⟩ l) else 0 := by
  pointwise [val_main_v78, val_main_v73, val_main_v72, val_main_v26, val_main_v25, val_main_v23, val_main_v22, val_main_cst_16]

/-- The cotangent of the gate. -/
theorem v85_at (t : Fin 8192) (l : Fin 2816) :
    val_main_v85 (F := Ideal) x0 x1 x2 x3 x4 x5 x6 (ix2 t l)
      = x3 (ix2 2 l) * val_main_v50 (F := Ideal) x0 x1 x2 x3 x4 x5 x6 (ix2 t l)
        + (val_main_v68 (F := Ideal) x0 x1 x2 x3 x4 x5 x6 (ix2 ⟨2 + t.val, by omega⟩ l)
          + val_main_v78 (F := Ideal) x0 x1 x2 x3 x4 x5 x6 (ix2 ⟨2 + t.val, by omega⟩ l)) := by
  pointwise [val_main_v85, val_main_v84, val_main_v79, val_main_v55, val_main_v54, val_main_v38, val_main_v37, val_main_v36, val_main_v35]

/-- The cotangent of the up projection: gate half, then linear half. -/
theorem v88_at (t : Fin 8192) (e : Fin 5632) :
    val_main_v88 (F := Ideal) x0 x1 x2 x3 x4 x5 x6 (ix2 t e)
      = if h : e.val < 2816 then val_main_v85 (F := Ideal) x0 x1 x2 x3 x4 x5 x6 (ix2 t ⟨e.val, h⟩)
        else val_main_v48 (F := Ideal) x0 x1 x2 x3 x4 x5 x6 (ix2 t ⟨e.val - 2816, by omega⟩) := by
  pointwise [val_main_v88, val_main_v87, val_main_v86, val_main_cst_18, val_main_cst_19]
  split <;> split <;> first | omega | simp

/-- The cotangent of the normalised input times the gain. -/
theorem v89_at (t : Fin 8192) (k : Fin 1024) :
    val_main_v89 (F := Ideal) x0 x1 x2 x3 x4 x5 x6 (ix2 t k)
      = ∑ e : Fin 5632, val_main_v88 (F := Ideal) x0 x1 x2 x3 x4 x5 x6 (ix2 t e) * x2 (ix2 k e) := by
  rw [val_main_v89_apply]
  refine Finset.sum_congr rfl fun k _ => ?_
  congr 2 <;> (funext a; match a with | ⟨0, _⟩ => rfl | ⟨1, _⟩ => rfl)

/-- The gain's cotangent. -/
theorem v95_at (k : Fin 1024) :
    val_main_v95 (F := Ideal) x0 x1 x2 x3 x4 x5 x6 (ix1 k)
      = ∑ t : Fin 8192, val_main_v12 (F := Ideal) x0 (ix2 t k)
          * val_main_v89 (F := Ideal) x0 x1 x2 x3 x4 x5 x6 (ix2 t k) := by
  pointwise [val_main_v95, val_main_v92, val_main_v91, val_main_v90, val_main_cst_20, val_main_cst_21]
  simp only [Fin.sum_univ_one]

end Cert.ReferenceIdeal.Ffn

end
-- ==== Proof.Ffn.RefC.lean ====
/- The rest of the reference's backward half: the norm, the filter, the results. -/
module

public import proofs.«01_k».proof.Proof.Gen.ReferenceIdeal.Read
public import Idealize.ShloMosaic.Lib.Claim
public import Idealize.ShloMosaic.Lib.Pointwise

@[expose] public section

set_option maxRecDepth 16384

noncomputable section

namespace Cert.ReferenceIdeal.Ffn

open Cert.ReferenceIdeal Cert.ReferenceIdeal.Gen Cert.ReferenceIdeal.Read
open Idealize.ShloMosaic Idealize.ShloMosaic.TcCoe Idealize.ShloMosaic.Tactic

variable (x0 : FVec Ideal S8192x1024 .f32) (x1 : FVec Ideal S1024 .f32) (x2 : FVec Ideal S1024x5632 .f32)
  (x3 : FVec Ideal S3x2816 .f32) (x4 : FVec Ideal S2816 .f32) (x5 : FVec Ideal S2816x1024 .f32)
  (x6 : FVec Ideal S8192x1024 .f32)

/-- The cotangent of the normalised input. -/
theorem v94_at (t : Fin 8192) (k : Fin 1024) :
    val_main_v94 (F := Ideal) x0 x1 x2 x3 x4 x5 x6 (ix2 t k)
      = val_main_v89 (F := Ideal) x0 x1 x2 x3 x4 x5 x6 (ix2 t k) * x1 (ix1 k) := by
  pointwise [val_main_v94, val_main_v93, val_main_v14, val_main_v13]

/-- Minus one half times the factor over the mean square: the derivative of the factor. -/
theorem v10_at (t : Fin 8192) :
    val_main_v10 (F := Ideal) x0 (ix2 t 0)
      = Ideal.ofBits .f32 0xBF000000#32
        * Ideal.div (val_main_v7 (F := Ideal) x0 (ix2 t 0)) (val_main_v6 (F := Ideal) x0 (ix2 t 0)) := by
  pointwise [val_main_v10, val_main_v8, val_main_v9, val_main_cst_2]

/-- The cotangent of the norm's factor. -/
theorem v98_at (t : Fin 8192) :
    val_main_v98 (F := Ideal) x0 x1 x2 x3 x4 x5 x6 (ix2 t 0)
      = ∑ k : Fin 1024, x0 (ix2 t k) * val_main_v94 (F := Ideal) x0 x1 x2 x3 x4 x5 x6 (ix2 t k) := by
  pointwise [val_main_v98, val_main_v97, val_main_v96, val_main_cst_22]

/-- The cotangent of each square under the mean. -/
theorem v103_at (t : Fin 8192) :
    val_main_v103 (F := Ideal) x0 x1 x2 x3 x4 x5 x6 (ix2 t 0)
      = Ideal.div (val_main_v98 (F := Ideal) x0 x1 x2 x3 x4 x5 x6 (ix2 t 0) * val_main_v10 (F := Ideal) x0 (ix2 t 0))
          (Ideal.ofBits .f32 1149239296#32) := by
  pointwise [val_main_v103, val_main_v101, val_main_v102, val_main_cst_23]

/-- The input's cotangent, with the residual's part. -/
theorem v110_at (t : Fin 8192) (k : Fin 1024) :
    val_main_v110 (F := Ideal) x0 x1 x2 x3 x4 x5 x6 (ix2 t k)
      = x6 (ix2 t k)
        + ((val_main_v94 (F := Ideal) x0 x1 x2 x3 x4 x5 x6 (ix2 t k) * val_main_v7 (F := Ideal) x0 (ix2 t 0)
            + x0 (ix2 t k) * val_main_v103 (F := Ideal) x0 x1 x2 x3 x4 x5 x6 (ix2 t 0))
          + val_main_v103 (F := Ideal) x0 x1 x2 x3 x4 x5 x6 (ix2 t 0) * x0 (ix2 t k)) := by
  pointwise [val_main_v110, val_main_v109, val_main_v107, val_main_v100, val_main_v99, val_main_v106, val_main_v105, val_main_v108, val_main_v104, val_main_v11, val_main_cst_24]
  simp only [Fin.sum_univ_one]

/-- The filter's cotangent, row by row. -/
theorem v82_at (j : Fin 3) (l : Fin 2816) :
    val_main_v82 (F := Ideal) x0 x1 x2 x3 x4 x5 x6 (ix2 j l)
      = ((if j.val = 2 then ∑ t : Fin 8192, val_main_v50 (F := Ideal) x0 x1 x2 x3 x4 x5 x6 (ix2 t l) * val_main_v17 (F := Ideal) x0 x1 x2 (ix2 t l) else 0)
        + (if j.val = 1 then ∑ t : Fin 8192, val_main_v50 (F := Ideal) x0 x1 x2 x3 x4 x5 x6 (ix2 t l) * val_main_v30 (F := Ideal) x0 x1 x2 (ix2 t l) else 0))
        + (if j.val = 0 then ∑ t : Fin 8192, val_main_v50 (F := Ideal) x0 x1 x2 x3 x4 x5 x6 (ix2 t l) * val_main_v24 (F := Ideal) x0 x1 x2 (ix2 t l) else 0) := by
  pointwise [val_main_v82, val_main_v71, val_main_v81, val_main_v70, val_main_v61, val_main_v60, val_main_v69, val_main_v80, val_main_v59, val_main_v58, val_main_v57, val_main_v56, val_main_v67, val_main_v66, val_main_v65, val_main_v64, val_main_v77, val_main_v76, val_main_v75, val_main_v74, val_main_cst_7, val_main_cst_8, val_main_cst_9, val_main_cst_10, val_main_cst_11, val_main_cst_13, val_main_cst_14, val_main_cst_15, val_main_cst_17]
  simp only [Fin.sum_univ_one]
  fin_cases j <;> simp

/-- The rounding of the up projection's cotangent is the identity over the reals. -/
theorem v111_eq : val_main_v111 (F := Ideal) x0 x1 x2 x3 x4 x5 x6 = fun i => val_main_v88 (F := Ideal) x0 x1 x2 x3 x4 x5 x6 i := rfl

/-- The rounding of the output's cotangent is the identity over the reals. -/
theorem v112_eq : val_main_v112 (F := Ideal) x6 = fun i => x6 i := rfl

end Cert.ReferenceIdeal.Ffn

end
-- ==== Proof.Ffn.Reals.lean ====
/- Sums, products and quotients of reals among the extended reals, and the two identities that need them. -/
module

public import Idealize.ShloMosaic.Lib.Claim
public import Idealize.ShloMosaic.Lib.Pointwise

@[expose] public section

noncomputable section

namespace Cert.FfnReal

open Idealize.ShloMosaic

/-- The extended real `x` is a real number. -/
def IsR (x : EReal) : Prop := ∃ r : ℝ, x = (r : EReal)

/-- A real number is real. -/
theorem isR_coe (r : ℝ) : IsR (r : EReal) := ⟨r, rfl⟩

/-- Zero is real. -/
theorem isR_zero : IsR 0 := ⟨0, rfl⟩

/-- A number whose larger of itself and its opposite is below infinity is real. -/
theorem isR_of_abs {x : EReal} (h : max x (-x) < ⊤) : IsR x := by
  induction x using EReal.rec with
  | bot => simp at h
  | top => simp at h
  | coe r => exact ⟨r, rfl⟩

/-- The sum of two reals is real. -/
theorem IsR.add {x y : EReal} (hx : IsR x) (hy : IsR y) : IsR (x + y) := by
  obtain ⟨a, rfl⟩ := hx
  obtain ⟨b, rfl⟩ := hy
  exact ⟨a + b, by norm_cast⟩

/-- The product of two reals is real. -/
theorem IsR.mul {x y : EReal} (hx : IsR x) (hy : IsR y) : IsR (x * y) := by
  obtain ⟨a, rfl⟩ := hx
  obtain ⟨b, rfl⟩ := hy
  exact ⟨a * b, by norm_cast⟩

/-- The difference of two reals is real. -/
theorem IsR.sub {x y : EReal} (hx : IsR x) (hy : IsR y) : IsR (x - y) := by
  obtain ⟨a, rfl⟩ := hx
  obtain ⟨b, rfl⟩ := hy
  exact ⟨a - b, by norm_cast⟩

/-- A finite sum of reals is real. -/
theorem isR_sum {ι : Type} (s : Finset ι) (f : ι → EReal) (h : ∀ i ∈ s, IsR (f i)) : IsR (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- A sum over a whole finite index type of reals is real. -/
theorem isR_univ {n : ℕ} (f : Fin n → EReal) (h : ∀ i, IsR (f i)) : IsR (∑ i, f i) :=
  isR_sum _ f fun i _ => h i

/-- The number is real and not negative. -/
def IsNN (x : EReal) : Prop := ∃ r : ℝ, 0 ≤ r ∧ x = (r : EReal)

/-- A sum of reals that are not negative is one. -/
theorem isNN_sum {ι : Type} (s : Finset ι) (f : ι → EReal) (h : ∀ i ∈ s, IsNN (f i)) : IsNN (∑ i ∈ s, f i) := by
  classical
  induction s using Finset.induction_on with
  | empty => exact ⟨0, le_refl _, by simp⟩
  | insert a s ha ih =>
    rw [Finset.sum_insert ha]
    obtain ⟨p, hp, ep⟩ := h a (Finset.mem_insert_self a s)
    obtain ⟨q, hq, eq⟩ := ih fun i hi => h i (Finset.mem_insert_of_mem hi)
    exact ⟨p + q, add_nonneg hp hq, by rw [ep, eq]; norm_cast⟩

/-- A sum of squares of reals is a real that is not negative. -/
theorem isNN_squares {n : ℕ} (f : Fin n → EReal) (h : ∀ i, IsR (f i)) : IsNN (∑ i, f i * f i) := by
  refine isNN_sum _ _ fun i _ => ?_
  obtain ⟨r, hr⟩ := h i
  exact ⟨r * r, mul_self_nonneg r, by rw [hr]; norm_cast⟩

/-- Division of a real by a real that is not zero. -/
theorem div_real (a b : ℝ) (hb : b ≠ 0) : Ideal.div (a : EReal) (b : EReal) = ((a / b : ℝ) : EReal) := by
  have h : (b : EReal) ≠ 0 := by exact_mod_cast hb
  rw [Ideal.div, if_neg h, div_eq_mul_inv, EReal.coe_mul, EReal.coe_inv]

/-- The pattern of 1024. -/
theorem bits_1024 : Ideal.ofBits .f32 1149239296#32 = ((1024 : ℝ) : EReal) := by
  simp [Ideal.ofBits, Ideal.ieee, -EReal.coe_mul]; norm_num

/-- The pattern of minus one half. -/
theorem bits_neg_half : Ideal.ofBits .f32 0xBF000000#32 = ((-(1 / 2) : ℝ) : EReal) := by
  simp [Ideal.ofBits, Ideal.ieee, -EReal.coe_mul]; norm_num

/-- The pattern of the small constant of the norm is a positive real. -/
theorem bits_eps : ∃ e : ℝ, 0 < e ∧ Ideal.ofBits .f32 897988541#32 = (e : EReal) := by
  refine ⟨_, ?_, by simp only [Ideal.ofBits, Ideal.ieee]; rfl⟩
  simp

/-- The inverse square root of a positive real. -/
theorem rsqrt_pos (r : ℝ) (h : 0 < r) : Ideal.rsqrt (r : EReal) = (((Real.sqrt r)⁻¹ : ℝ) : EReal) := by
  rw [Ideal.rsqrt_coe, if_neg (not_lt.2 h.le), if_neg h.ne']

/-- The factor of the norm: of a sum of squares `s` that is real and not negative, `s / 1024 + ε` is a positive real
`v`, and the factor is `1 / √v`. -/
theorem norm_factor (s : EReal) (h : IsNN s) :
    ∃ v : ℝ, 0 < v ∧
      Ideal.div s (Ideal.ofBits .f32 1149239296#32) + Ideal.ofBits .f32 897988541#32 = (v : EReal) ∧
      Ideal.rsqrt (Ideal.div s (Ideal.ofBits .f32 1149239296#32) + Ideal.ofBits .f32 897988541#32)
        = (((Real.sqrt v)⁻¹ : ℝ) : EReal) := by
  obtain ⟨r, hr, rfl⟩ := h
  obtain ⟨e, he, hee⟩ := bits_eps
  have hv : 0 < r / 1024 + e := by positivity
  have q : Ideal.div (r : EReal) (Ideal.ofBits .f32 1149239296#32) + Ideal.ofBits .f32 897988541#32
      = ((r / 1024 + e : ℝ) : EReal) := by
    rw [bits_1024, hee, div_real _ _ (by norm_num), EReal.coe_add]
  exact ⟨r / 1024 + e, hv, q, by rw [q, rsqrt_pos _ hv]⟩

/-- The logistic function's value `1 / (1 + exp (-z))` at a real is real. -/
theorem isR_logistic (z : EReal) (h : IsR z) : IsR (Ideal.div 1 (1 + Ideal.exp (-z))) := by
  obtain ⟨r, rfl⟩ := h
  have hp : (0 : ℝ) < 1 + Real.exp (-r) := by positivity
  have q : (1 : EReal) + Ideal.exp (-(r : EReal)) = ((1 + Real.exp (-r) : ℝ) : EReal) := by
    rw [← EReal.coe_neg, Ideal.exp_coe, ← EReal.coe_one, ← EReal.coe_add]
  rw [q, ← EReal.coe_one, div_real _ _ hp.ne']
  exact isR_coe _

/-- The derivative of `z · σ(z)` along the cotangent `d`, spelled in two ways. -/
theorem silu_vjp (d z s o : EReal) (hd : IsR d) (hz : IsR z) (hs : IsR s) (ho : IsR o) :
    d * s + (z * d) * (s * (o - s)) = d * (s + (z * s) * (o - s)) := by
  obtain ⟨d, rfl⟩ := hd
  obtain ⟨z, rfl⟩ := hz
  obtain ⟨s, rfl⟩ := hs
  obtain ⟨o, rfl⟩ := ho
  norm_cast
  ring

/-- The cotangent of the norm's argument, spelled in two ways: `ρ = 1 / √v`, `u` the cotangent of the normalised row at one place, `S` the sum over the row of `x` times that cotangent. -/
theorem norm_vjp (c u x S : EReal) (v : ℝ) (hv : 0 < v) (hc : IsR c) (hu : IsR u) (hx : IsR x) (hS : IsR S) :
    c + (((u * (((Real.sqrt v)⁻¹ : ℝ) : EReal)
        + x * Ideal.div (S * (Ideal.ofBits .f32 0xBF000000#32 * Ideal.div (((Real.sqrt v)⁻¹ : ℝ) : EReal) (v : EReal)))
            (Ideal.ofBits .f32 1149239296#32))
      + Ideal.div (S * (Ideal.ofBits .f32 0xBF000000#32 * Ideal.div (((Real.sqrt v)⁻¹ : ℝ) : EReal) (v : EReal)))
            (Ideal.ofBits .f32 1149239296#32) * x))
    = c + (((Real.sqrt v)⁻¹ : ℝ) : EReal)
        * (u - x * (((Real.sqrt v)⁻¹ : ℝ) : EReal)
            * Ideal.div (S * (((Real.sqrt v)⁻¹ : ℝ) : EReal)) (Ideal.ofBits .f32 1149239296#32)) := by
  obtain ⟨c, rfl⟩ := hc
  obtain ⟨u, rfl⟩ := hu
  obtain ⟨x, rfl⟩ := hx
  obtain ⟨S, rfl⟩ := hS
  have hq : (Real.sqrt v)⁻¹ / v = (Real.sqrt v)⁻¹ * (Real.sqrt v)⁻¹ * (Real.sqrt v)⁻¹ := by
    have h2 : (Real.sqrt v)⁻¹ * (Real.sqrt v)⁻¹ = v⁻¹ := by
      rw [← mul_inv, Real.mul_self_sqrt hv.le]
    rw [mul_assoc, h2, div_eq_mul_inv]
  rw [bits_neg_half, bits_1024, div_real _ _ hv.ne', hq]
  generalize (Real.sqrt v)⁻¹ = p
  simp only [← EReal.coe_mul]
  rw [div_real _ _ (by norm_num : (1024 : ℝ) ≠ 0), div_real _ _ (by norm_num : (1024 : ℝ) ≠ 0)]
  norm_cast
  ring

/-- A real factor common to every term comes out of a sum of reals. -/
theorem sum_factor {n : ℕ} (u x : Fin n → EReal) (p : ℝ) (hu : ∀ j, IsR (u j)) (hx : ∀ j, IsR (x j)) :
    ∑ j, u j * (x j * (p : EReal)) = (∑ j, x j * u j) * (p : EReal) := by
  have key : ∀ s : Finset (Fin n), IsR (∑ j ∈ s, x j * u j) ∧
      ∑ j ∈ s, u j * (x j * (p : EReal)) = (∑ j ∈ s, x j * u j) * (p : EReal) := by
    intro s
    induction s using Finset.induction_on with
    | empty => exact ⟨⟨0, by simp⟩, by simp⟩
    | insert a s ha ih =>
      obtain ⟨h1, h2⟩ := ih
      rw [Finset.sum_insert ha, Finset.sum_insert ha, h2]
      refine ⟨((hx a).mul (hu a)).add h1, ?_⟩
      obtain ⟨q, hq⟩ := h1
      obtain ⟨b, hb⟩ := hu a
      obtain ⟨d, hd⟩ := hx a
      rw [hq, hb, hd]
      norm_cast
      ring
  exact (key Finset.univ).2

end Cert.FfnReal

end
-- ==== Proof.Ffn.Finite.lean ====
/- The precondition read: every element of every argument is real. -/
module

public import proofs.«01_k».proof.Proof.Gen.Pre_finite
public import proofs.«01_k».proof.Proof.Ffn.Reals
public import Idealize.ShloMosaic.Lib.ReduceAll

@[expose] public section

set_option maxRecDepth 16384

noncomputable section

namespace Cert.FfnReal

open Idealize.ShloMosaic Cert.Pre_finite

/-- The pattern of infinity. -/
theorem bits_top : Ideal.ofBits .f32 0x7F800000#32 = (⊤ : EReal) := by
  simp [Ideal.ofBits, Ideal.ieee]

/-- A number whose size compares below infinity is real. -/
theorem isR_of_bit (x : EReal) (h : Ideal.cmp .olt (max x (-x)) (Ideal.ofBits .f32 0x7F800000#32) = 1#1) : IsR x := by
  rw [bits_top] at h
  refine isR_of_abs ?_
  by_contra hn
  simp [Ideal.cmp, hn] at h

/-- The bit of two conditions together says both. -/
theorem and_bits {a b : BitVec 1} (h : a &&& b = 1#1) : a = 1#1 ∧ b = 1#1 := by
  revert a b; decide

instance : Subsingleton (S_.Idx) := ⟨fun a b => funext fun k => k.elim0⟩

/-- Under the precondition every element of every argument is real. -/
theorem finite_args (x0 : FVec Ideal S8192x1024 .f32) (x1 : FVec Ideal S1024 .f32) (x2 : FVec Ideal S1024x5632 .f32)
    (x3 : FVec Ideal S3x2816 .f32) (x4 : FVec Ideal S2816 .f32) (x5 : FVec Ideal S2816x1024 .f32)
    (x6 : FVec Ideal S8192x1024 .f32)
    (h : Cert.Pre_finite.fn (F := Ideal) x0 x1 x2 x3 x4 x5 x6 = fun _ => 1#1) :
    (∀ i, IsR (x0 i)) ∧ (∀ i, IsR (x1 i)) ∧ (∀ i, IsR (x2 i)) ∧ (∀ i, IsR (x3 i)) ∧ (∀ i, IsR (x4 i))
      ∧ (∀ i, IsR (x5 i)) ∧ (∀ i, IsR (x6 i)) := by
  have e := congrFun h (fun k => k.elim0)
  dsimp only [Cert.Pre_finite.fn, Cert.Pre_finite.fn_part1] at e
  obtain ⟨e, h6⟩ := and_bits e
  obtain ⟨e, h5⟩ := and_bits e
  obtain ⟨e, h4⟩ := and_bits e
  obtain ⟨e, h3⟩ := and_bits e
  obtain ⟨e, h2⟩ := and_bits e
  obtain ⟨h0, h1⟩ := and_bits e
  exact ⟨fun i => isR_of_bit _ (Host.reduce_andi_all _ _ _ _ _ h0 i), fun i => isR_of_bit _ (Host.reduce_andi_all _ _ _ _ _ h1 i),
    fun i => isR_of_bit _ (Host.reduce_andi_all _ _ _ _ _ h2 i), fun i => isR_of_bit _ (Host.reduce_andi_all _ _ _ _ _ h3 i),
    fun i => isR_of_bit _ (Host.reduce_andi_all _ _ _ _ _ h4 i), fun i => isR_of_bit _ (Host.reduce_andi_all _ _ _ _ _ h5 i),
    fun i => isR_of_bit _ (Host.reduce_andi_all _ _ _ _ _ h6 i)⟩

end Cert.FfnReal

end
-- ==== Proof.Ffn.RefReal.lean ====
/- With real arguments the reference's values are real, and two of them take the kernel's form. -/
module

public import proofs.«01_k».proof.Proof.Ffn.RefA
public import proofs.«01_k».proof.Proof.Ffn.RefB
public import proofs.«01_k».proof.Proof.Ffn.RefC
public import proofs.«01_k».proof.Proof.Ffn.Finite
public import Idealize.ShloMosaic.Lib.Claim
public import Idealize.ShloMosaic.Lib.Pointwise

@[expose] public section

set_option maxRecDepth 16384

noncomputable section

namespace Cert.ReferenceIdeal.Ffn

open Cert.ReferenceIdeal Cert.ReferenceIdeal.Gen Cert.ReferenceIdeal.Read
open Idealize.ShloMosaic Idealize.ShloMosaic.TcCoe Idealize.ShloMosaic.Tactic
open Cert.FfnReal

variable (x0 : FVec Ideal S8192x1024 .f32) (x1 : FVec Ideal S1024 .f32) (x2 : FVec Ideal S1024x5632 .f32)
  (x3 : FVec Ideal S3x2816 .f32) (x4 : FVec Ideal S2816 .f32) (x5 : FVec Ideal S2816x1024 .f32)
  (x6 : FVec Ideal S8192x1024 .f32)

/-- The factor of the norm of a row, as a real: `v` is the positive mean square plus the small constant. -/
theorem var_real (h0 : ∀ i, IsR (x0 i)) (t : Fin 8192) :
    ∃ v : ℝ, 0 < v ∧ var x0 t = (v : EReal) ∧ Ideal.rsqrt (var x0 t) = (((Real.sqrt v)⁻¹ : ℝ) : EReal) :=
  norm_factor _ (isNN_squares (fun k : Fin 1024 => x0 (ix2 t k)) fun k => h0 _)

/-- The norm's factor is real. -/
theorem rsqrt_real (h0 : ∀ i, IsR (x0 i)) (t : Fin 8192) : IsR (Ideal.rsqrt (var x0 t)) := by
  obtain ⟨v, _, _, hv⟩ := var_real x0 h0 t
  exact ⟨_, hv⟩

/-- The up projection is real. -/
theorem v16_real (h0 : ∀ i, IsR (x0 i)) (h1 : ∀ i, IsR (x1 i)) (h2 : ∀ i, IsR (x2 i)) (t : Fin 8192) (e : Fin 5632) :
    IsR (val_main_v16 (F := Ideal) x0 x1 x2 (ix2 t e)) := by
  rw [v16_at]
  refine isR_univ _ fun k => ?_
  rw [v15_at]
  exact (((h0 _).mul (rsqrt_real x0 h0 t)).mul (h1 _)).mul (h2 _)

/-- The gate is real. -/
theorem v17_real (h0 : ∀ i, IsR (x0 i)) (h1 : ∀ i, IsR (x1 i)) (h2 : ∀ i, IsR (x2 i)) (t : Fin 8192) (l : Fin 2816) :
    IsR (val_main_v17 (F := Ideal) x0 x1 x2 (ix2 t l)) := by
  rw [v17_at]; exact v16_real x0 x1 x2 h0 h1 h2 _ _

/-- The linear half is real. -/
theorem v18_real (h0 : ∀ i, IsR (x0 i)) (h1 : ∀ i, IsR (x1 i)) (h2 : ∀ i, IsR (x2 i)) (t : Fin 8192) (l : Fin 2816) :
    IsR (val_main_v18 (F := Ideal) x0 x1 x2 (ix2 t l)) := by
  rw [v18_at]; exact v16_real x0 x1 x2 h0 h1 h2 _ _

/-- The gate with rows of zeros in front is real. -/
theorem v20_real (h0 : ∀ i, IsR (x0 i)) (h1 : ∀ i, IsR (x1 i)) (h2 : ∀ i, IsR (x2 i)) (p : Fin 8194) (l : Fin 2816) :
    IsR (val_main_v20 (F := Ideal) x0 x1 x2 (ix2 p l)) := by
  rw [v20_at]
  split
  · exact v17_real x0 x1 x2 h0 h1 h2 _ _
  · exact isR_zero

/-- The convolved gate is real. -/
theorem v43_real (h0 : ∀ i, IsR (x0 i)) (h1 : ∀ i, IsR (x1 i)) (h2 : ∀ i, IsR (x2 i)) (h3 : ∀ i, IsR (x3 i))
    (h4 : ∀ i, IsR (x4 i)) (t : Fin 8192) (l : Fin 2816) :
    IsR (val_main_v43 (F := Ideal) x0 x1 x2 x3 x4 (ix2 t l)) := by
  rw [v43_at, v24_at, v30_at]
  exact (((((h3 _).mul (v20_real x0 x1 x2 h0 h1 h2 _ _))).add ((h3 _).mul (v20_real x0 x1 x2 h0 h1 h2 _ _))).add
    ((h3 _).mul (v17_real x0 x1 x2 h0 h1 h2 _ _))).add (h4 _)

/-- The logistic function of the convolved gate is real. -/
theorem v44_2_real (h0 : ∀ i, IsR (x0 i)) (h1 : ∀ i, IsR (x1 i)) (h2 : ∀ i, IsR (x2 i)) (h3 : ∀ i, IsR (x3 i))
    (h4 : ∀ i, IsR (x4 i)) (t : Fin 8192) (l : Fin 2816) :
    IsR (val_main_v44_2 (F := Ideal) x0 x1 x2 x3 x4 (ix2 t l)) := by
  rw [v44_2_at]
  exact isR_logistic _ (v43_real x0 x1 x2 x3 x4 h0 h1 h2 h3 h4 t l)

/-- The cotangent before the down projection is real. -/
theorem v47_real (h5 : ∀ i, IsR (x5 i)) (h6 : ∀ i, IsR (x6 i)) (t : Fin 8192) (l : Fin 2816) :
    IsR (val_main_v47 (F := Ideal) x5 x6 (ix2 t l)) := by
  rw [v47_at]
  exact isR_univ _ fun k => (h6 _).mul (h5 _)

/-- The cotangent of the activation is real. -/
theorem v49_real (h0 : ∀ i, IsR (x0 i)) (h1 : ∀ i, IsR (x1 i)) (h2 : ∀ i, IsR (x2 i)) (h5 : ∀ i, IsR (x5 i))
    (h6 : ∀ i, IsR (x6 i)) (t : Fin 8192) (l : Fin 2816) :
    IsR (val_main_v49 (F := Ideal) x0 x1 x2 x5 x6 (ix2 t l)) := by
  rw [v49_at]
  exact (v47_real x5 x6 h5 h6 t l).mul (v18_real x0 x1 x2 h0 h1 h2 t l)

/-- The cotangent of the gate's argument after the convolution: the derivative of the activation written as the kernel
writes it. -/
theorem v50_eq (h0 : ∀ i, IsR (x0 i)) (h1 : ∀ i, IsR (x1 i)) (h2 : ∀ i, IsR (x2 i)) (h3 : ∀ i, IsR (x3 i))
    (h4 : ∀ i, IsR (x4 i)) (h5 : ∀ i, IsR (x5 i)) (h6 : ∀ i, IsR (x6 i)) (t : Fin 8192) (l : Fin 2816) :
    val_main_v50 (F := Ideal) x0 x1 x2 x3 x4 x5 x6 (ix2 t l)
      = val_main_v49 (F := Ideal) x0 x1 x2 x5 x6 (ix2 t l)
        * (val_main_v44_2 (F := Ideal) x0 x1 x2 x3 x4 (ix2 t l)
          + val_main_v44_0 (F := Ideal) x0 x1 x2 x3 x4 (ix2 t l)
            * (val_main_call0_v6 (F := Ideal) (ix2 t l) - val_main_v44_2 (F := Ideal) x0 x1 x2 x3 x4 (ix2 t l))) := by
  rw [v50_at]
  exact silu_vjp _ _ _ _ (v49_real x0 x1 x2 x5 x6 h0 h1 h2 h5 h6 t l) (v43_real x0 x1 x2 x3 x4 h0 h1 h2 h3 h4 t l)
    (v44_2_real x0 x1 x2 x3 x4 h0 h1 h2 h3 h4 t l) (by rw [one_at]; exact ⟨1, by norm_cast⟩)

/-- The cotangent of the convolved gate is real. -/
theorem v50_real (h0 : ∀ i, IsR (x0 i)) (h1 : ∀ i, IsR (x1 i)) (h2 : ∀ i, IsR (x2 i)) (h3 : ∀ i, IsR (x3 i))
    (h4 : ∀ i, IsR (x4 i)) (h5 : ∀ i, IsR (x5 i)) (h6 : ∀ i, IsR (x6 i)) (t : Fin 8192) (l : Fin 2816) :
    IsR (val_main_v50 (F := Ideal) x0 x1 x2 x3 x4 x5 x6 (ix2 t l)) := by
  have a := v49_real x0 x1 x2 x5 x6 h0 h1 h2 h5 h6 t l
  have b := v44_2_real x0 x1 x2 x3 x4 h0 h1 h2 h3 h4 t l
  rw [v50_at, one_at]
  exact (a.mul b).add (((v43_real x0 x1 x2 x3 x4 h0 h1 h2 h3 h4 t l).mul a).mul (b.mul (IsR.sub ⟨1, by norm_cast⟩ b)))

/-- The cotangent of the gate is real. -/
theorem v85_real (h0 : ∀ i, IsR (x0 i)) (h1 : ∀ i, IsR (x1 i)) (h2 : ∀ i, IsR (x2 i)) (h3 : ∀ i, IsR (x3 i))
    (h4 : ∀ i, IsR (x4 i)) (h5 : ∀ i, IsR (x5 i)) (h6 : ∀ i, IsR (x6 i)) (t : Fin 8192) (l : Fin 2816) :
    IsR (val_main_v85 (F := Ideal) x0 x1 x2 x3 x4 x5 x6 (ix2 t l)) := by
  rw [v85_at, v68_at, v78_at]
  refine ((h3 _).mul (v50_real x0 x1 x2 x3 x4 x5 x6 h0 h1 h2 h3 h4 h5 h6 _ _)).add (IsR.add ?_ ?_)
  · split
    · exact (h3 _).mul (v50_real x0 x1 x2 x3 x4 x5 x6 h0 h1 h2 h3 h4 h5 h6 _ _)
    · exact isR_zero
  · split
    · exact (h3 _).mul (v50_real x0 x1 x2 x3 x4 x5 x6 h0 h1 h2 h3 h4 h5 h6 _ _)
    · exact isR_zero

/-- The cotangent of the up projection is real. -/
theorem v88_real (h0 : ∀ i, IsR (x0 i)) (h1 : ∀ i, IsR (x1 i)) (h2 : ∀ i, IsR (x2 i)) (h3 : ∀ i, IsR (x3 i))
    (h4 : ∀ i, IsR (x4 i)) (h5 : ∀ i, IsR (x5 i)) (h6 : ∀ i, IsR (x6 i)) (t : Fin 8192) (e : Fin 5632) :
    IsR (val_main_v88 (F := Ideal) x0 x1 x2 x3 x4 x5 x6 (ix2 t e)) := by
  rw [v88_at]
  split
  · exact v85_real x0 x1 x2 x3 x4 x5 x6 h0 h1 h2 h3 h4 h5 h6 _ _
  · rw [v48_at, val_main_v44_0_apply]
    exact ((v43_real x0 x1 x2 x3 x4 h0 h1 h2 h3 h4 _ _).mul (v44_2_real x0 x1 x2 x3 x4 h0 h1 h2 h3 h4 _ _)).mul
      (v47_real x5 x6 h5 h6 _ _)

/-- The cotangent of the normalised input times the gain is real. -/
theorem v89_real (h0 : ∀ i, IsR (x0 i)) (h1 : ∀ i, IsR (x1 i)) (h2 : ∀ i, IsR (x2 i)) (h3 : ∀ i, IsR (x3 i))
    (h4 : ∀ i, IsR (x4 i)) (h5 : ∀ i, IsR (x5 i)) (h6 : ∀ i, IsR (x6 i)) (t : Fin 8192) (k : Fin 1024) :
    IsR (val_main_v89 (F := Ideal) x0 x1 x2 x3 x4 x5 x6 (ix2 t k)) := by
  rw [v89_at]
  exact isR_univ _ fun e => (v88_real x0 x1 x2 x3 x4 x5 x6 h0 h1 h2 h3 h4 h5 h6 t e).mul (h2 _)

/-- The cotangent of the input, with the norm's part written as the kernel writes it. -/
theorem v110_eq (h0 : ∀ i, IsR (x0 i)) (h1 : ∀ i, IsR (x1 i)) (h2 : ∀ i, IsR (x2 i)) (h3 : ∀ i, IsR (x3 i))
    (h4 : ∀ i, IsR (x4 i)) (h5 : ∀ i, IsR (x5 i)) (h6 : ∀ i, IsR (x6 i)) (t : Fin 8192) (k : Fin 1024) :
    val_main_v110 (F := Ideal) x0 x1 x2 x3 x4 x5 x6 (ix2 t k)
      = x6 (ix2 t k) + Ideal.rsqrt (var x0 t)
        * (val_main_v89 (F := Ideal) x0 x1 x2 x3 x4 x5 x6 (ix2 t k) * x1 (ix1 k)
          - x0 (ix2 t k) * Ideal.rsqrt (var x0 t)
            * Ideal.div (∑ j : Fin 1024, val_main_v89 (F := Ideal) x0 x1 x2 x3 x4 x5 x6 (ix2 t j) * x1 (ix1 j)
                * (x0 (ix2 t j) * Ideal.rsqrt (var x0 t))) (Ideal.ofBits FTy.f32 1149239296#32)) := by
  have hd := fun j => v89_real x0 x1 x2 x3 x4 x5 x6 h0 h1 h2 h3 h4 h5 h6 t j
  obtain ⟨v, hv, hvar, hrs⟩ := var_real x0 h0 t
  have hu : ∀ j : Fin 1024, IsR (val_main_v89 (F := Ideal) x0 x1 x2 x3 x4 x5 x6 (ix2 t j) * x1 (ix1 j)) :=
    fun j => (hd j).mul (h1 _)
  have hS : IsR (∑ j : Fin 1024, x0 (ix2 t j)
      * (val_main_v89 (F := Ideal) x0 x1 x2 x3 x4 x5 x6 (ix2 t j) * x1 (ix1 j))) :=
    isR_univ _ fun j => (h0 _).mul (hu j)
  have hT : (∑ j : Fin 1024, val_main_v89 (F := Ideal) x0 x1 x2 x3 x4 x5 x6 (ix2 t j) * x1 (ix1 j)
        * (x0 (ix2 t j) * Ideal.rsqrt (var x0 t)))
      = (∑ j : Fin 1024, x0 (ix2 t j)
          * (val_main_v89 (F := Ideal) x0 x1 x2 x3 x4 x5 x6 (ix2 t j) * x1 (ix1 j))) * Ideal.rsqrt (var x0 t) := by
    rw [hrs]
    exact sum_factor _ _ _ hu (fun j => h0 _)
  rw [hT, v110_at, v103_at, v98_at, v10_at, v7_at, v6_at]
  simp only [v94_at]
  rw [hrs, hvar]
  exact norm_vjp _ _ _ _ v hv (h6 _) (hu k) (h0 _) hS

end Cert.ReferenceIdeal.Ffn

end
-- ==== Proof.Ffn.Match.lean ====
/- The kernel's closed forms are the reference's values. -/
module

public import proofs.«01_k».proof.Proof.Ffn.Spec
public import proofs.«01_k».proof.Proof.Ffn.RefReal
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Cert.FfnReal Cert.ReferenceIdeal.Read Cert.ReferenceIdeal.Ffn

variable (m : (ℓ : Loc nD τ sig) → Buf (Elt Ideal) ℓ)

/-- Every element of every argument of a device is real. -/
structure RealArgs (c : Dev nD) : Prop where
  h0 : ∀ i, IsR (arg0 m c i)
  h1 : ∀ i, IsR (arg1 m c i)
  h2 : ∀ i, IsR (arg2 m c i)
  h3 : ∀ i, IsR (arg3 m c i)
  h4 : ∀ i, IsR (arg4 m c i)
  h5 : ∀ i, IsR (arg5 m c i)
  h6 : ∀ i, IsR (arg6 m c i)

/-- The cotangent of the product before the down projection. -/
theorem DA_eq (c : Dev nD) (t : Fin 8192) (l : Fin 2816) :
    DA m c t l = val_main_v47 (F := Ideal) (arg5 m c) (arg6 m c) (ix2 t l) :=
  (v47_at (arg5 m c) (arg6 m c) t l).symm

/-- The cotangent of the gate after the convolution. -/
theorem DGC_eq (c : Dev nD) (h : RealArgs m c) (l : Fin 2816) (t : Fin 8192) :
    DGC m c l t = val_main_v50 (F := Ideal) (arg0 m c) (arg1 m c) (arg2 m c) (arg3 m c) (arg4 m c) (arg5 m c) (arg6 m c) (ix2 t l) := by
  rw [v50_eq _ _ _ _ _ _ _ h.h0 h.h1 h.h2 h.h3 h.h4 h.h5 h.h6, v49_at, v18_at, ← DA_eq m c t l]
  unfold DGC up dact
  rw [up_at, dsilu_at]

/-- A value inside the range, by its place. -/
theorem ext_in (f : Fin 8192 → EReal) (n : ℕ) (h : n < 8192) : ext f n = f ⟨n, h⟩ := dif_pos h

/-- A value past the range is zero. -/
theorem ext_out (f : Fin 8192 → EReal) (n : ℕ) (h : ¬ n < 8192) : ext f n = 0 := dif_neg h

/-- The cotangent of the gate before the convolution. -/
theorem GATE_eq (c : Dev nD) (h : RealArgs m c) (t : Fin 8192) (l : Fin 2816) :
    GATE m c t l = val_main_v85 (F := Ideal) (arg0 m c) (arg1 m c) (arg2 m c) (arg3 m c) (arg4 m c) (arg5 m c) (arg6 m c) (ix2 t l) := by
  rw [v85_at, v68_at, v78_at]
  unfold GATE
  rw [DGC_eq m c h l t, add_assoc]
  congr 2
  · by_cases ht : t.val + 1 < 8192
    · rw [ext_in _ _ ht, DGC_eq m c h, dif_pos (by constructor <;> dsimp only <;> omega)]
      congr 3
      refine Fin.ext ?_
      show t.val + 1 = 2 + t.val - 1
      omega
    · rw [ext_out _ _ (by omega), mul_zero, dif_neg (by dsimp only; omega)]
  · by_cases ht : t.val + 2 < 8192
    · rw [ext_in _ _ ht, DGC_eq m c h, dif_pos (by dsimp only; omega)]
      congr 3
      refine Fin.ext ?_
      show t.val + 2 = 2 + t.val
      omega
    · rw [ext_out _ _ (by omega), mul_zero, dif_neg (by dsimp only; omega)]

/-- The cotangent of the up projection. -/
theorem DUP_eq (c : Dev nD) (h : RealArgs m c) (t : Fin 8192) (e : Fin 5632) :
    DUP m c t e = val_main_v88 (F := Ideal) (arg0 m c) (arg1 m c) (arg2 m c) (arg3 m c) (arg4 m c) (arg5 m c) (arg6 m c) (ix2 t e) := by
  rw [v88_at]
  unfold DUP
  by_cases he : e.val < 2816
  · rw [dif_pos he, dif_pos he, GATE_eq m c h]
  · rw [dif_neg he, dif_neg he, v48_at, DA_eq, mul_comm]
    unfold act
    rw [silu_at]

/-- The cotangent of the normalised input. -/
theorem DH_eq (c : Dev nD) (h : RealArgs m c) (t : Fin 8192) (k : Fin 1024) :
    DH m c t k = val_main_v89 (F := Ideal) (arg0 m c) (arg1 m c) (arg2 m c) (arg3 m c) (arg4 m c) (arg5 m c) (arg6 m c) (ix2 t k) := by
  rw [v89_at]
  unfold DH
  exact Finset.sum_congr rfl fun e _ => by rw [DUP_eq m c h]

/-- The norm's factor. -/
theorem RHO_eq (c : Dev nD) (t : Fin 8192) : RHO m c t = Ideal.rsqrt (var (arg0 m c) t) := rfl

/-- The cotangent of the input. -/
theorem DX_eq (c : Dev nD) (h : RealArgs m c) (t : Fin 8192) (k : Fin 1024) :
    DX m c t k = val_main_v110 (F := Ideal) (arg0 m c) (arg1 m c) (arg2 m c) (arg3 m c) (arg4 m c) (arg5 m c) (arg6 m c) (ix2 t k) := by
  rw [v110_eq _ _ _ _ _ _ _ h.h0 h.h1 h.h2 h.h3 h.h4 h.h5 h.h6]
  unfold DX
  simp only [DH_eq m c h, RHO_eq]

/-- The cotangent of the norm's gain. -/
theorem DG_eq (c : Dev nD) (h : RealArgs m c) (k : Fin 1024) :
    ∑ t, DG m c k t = val_main_v95 (F := Ideal) (arg0 m c) (arg1 m c) (arg2 m c) (arg3 m c) (arg4 m c) (arg5 m c) (arg6 m c) (ix1 k) := by
  rw [v95_at]
  refine Finset.sum_congr rfl fun t _ => ?_
  unfold DG
  rw [DH_eq m c h, RHO_eq, v12_at, mul_comm]

/-- The cotangent of the convolution's bias. -/
theorem DB_eq (c : Dev nD) (h : RealArgs m c) (l : Fin 2816) :
    ∑ t, DGC m c l t = val_main_v53 (F := Ideal) (arg0 m c) (arg1 m c) (arg2 m c) (arg3 m c) (arg4 m c) (arg5 m c) (arg6 m c) (ix1 l) := by
  rw [v53_at]
  exact Finset.sum_congr rfl fun t _ => DGC_eq m c h l t

/-- A sum over places of a later value times a present one is the sum of a present value times an earlier one: past
either end the value is zero. -/
theorem shift_sum (f u : Fin 8192 → EReal) (d : ℕ) (hd : d ≤ 8192) :
    ∑ t, ext f (t.val + d) * u t = ∑ t : Fin 8192, f t * (if h : d ≤ t.val then u ⟨t.val - d, by omega⟩ else 0) := by
  have e1 : ∀ t : Fin 8192, ext f (t.val + d) * u t = (fun n => ext f (n + d) * ext u n) t.val := fun t => by
    show _ = ext f (t.val + d) * ext u t.val
    rw [ext_in u _ t.isLt]
  have e2 : ∀ t : Fin 8192, f t * (if h : d ≤ t.val then u ⟨t.val - d, by omega⟩ else 0)
      = (fun n => ext f n * (if d ≤ n then ext u (n - d) else 0)) t.val := fun t => by
    show _ = ext f t.val * (if d ≤ t.val then ext u (t.val - d) else 0)
    rw [ext_in f _ t.isLt]
    by_cases h : d ≤ t.val
    · rw [dif_pos h, if_pos h, ext_in u _ (by omega)]
    · rw [dif_neg h, if_neg h]
  rw [Finset.sum_congr rfl fun t _ => e1 t, Finset.sum_congr rfl fun t _ => e2 t,
    Fin.sum_univ_eq_sum_range (fun n => ext f (n + d) * ext u n) 8192,
    Fin.sum_univ_eq_sum_range (fun n => ext f n * (if d ≤ n then ext u (n - d) else 0)) 8192]
  have s1 : Finset.range 8192 = Finset.range ((8192 - d) + d) := by congr 1; omega
  have s2 : Finset.range 8192 = Finset.range (d + (8192 - d)) := by congr 1; omega
  have l1 : ∑ n ∈ Finset.range 8192, ext f (n + d) * ext u n
      = ∑ n ∈ Finset.range (8192 - d), ext f (n + d) * ext u n := by
    rw [s1, Finset.sum_range_add, Finset.sum_eq_zero (s := Finset.range d), add_zero]
    intro n _
    rw [ext_out f _ (by omega), zero_mul]
  have l2 : ∑ n ∈ Finset.range 8192, ext f n * (if d ≤ n then ext u (n - d) else 0)
      = ∑ n ∈ Finset.range (8192 - d), ext f (n + d) * ext u n := by
    rw [s2, Finset.sum_range_add, Finset.sum_eq_zero (s := Finset.range d), zero_add]
    · refine Finset.sum_congr rfl fun n _ => ?_
      rw [if_pos (by omega), Nat.add_comm d n, Nat.add_sub_cancel]
    · intro n hn
      rw [if_neg (by have := Finset.mem_range.1 hn; omega), mul_zero]
  rw [l1, l2]

/-- The cotangent of the convolution's weights. -/
theorem DW_eq (c : Dev nD) (h : RealArgs m c) (j : Fin 3) (l : Fin 2816) :
    ∑ t, DW m c j l t = val_main_v82 (F := Ideal) (arg0 m c) (arg1 m c) (arg2 m c) (arg3 m c) (arg4 m c) (arg5 m c) (arg6 m c) (ix2 j l) := by
  have hu : ∀ t : Fin 8192, up m c t ⟨l.val, by omega⟩
      = val_main_v17 (F := Ideal) (arg0 m c) (arg1 m c) (arg2 m c) (ix2 t l) := fun t => by
    unfold up
    rw [up_at, v17_at]
  unfold DW
  rw [shift_sum (DGC m c l) (fun t => up m c t ⟨l.val, by omega⟩) (2 - j.val) (by omega), v82_at]
  simp only [DGC_eq m c h, hu]
  match j with
  | 0 =>
    simp only [v24_at, v20_at]
    simp
  | 1 =>
    simp only [v30_at, v20_at]
    simp
    refine Finset.sum_congr rfl fun t _ => ?_
    by_cases ht : 1 ≤ t.val
    · rw [dif_pos ht, dif_pos (by omega)]
      congr 3
      refine Fin.ext ?_
      show t.val - 1 = 1 + t.val - 2
      omega
    · rw [dif_neg ht, dif_neg (by omega)]
  | 2 => simp

end Cert.KernelIdeal.Ffn

end
-- ==== Proof.Ffn.Agree.lean ====
/- The reference's run leaves what the kernel leaves. -/
module

public import proofs.«01_k».proof.Proof.Ffn.Values
public import proofs.«01_k».proof.Proof.Ffn.Match
public import proofs.«01_k».proof.Proof.Gen.ReferenceIdeal.Run
public import Idealize.ShloMosaic.Lib.Claim
public import Idealize.ShloMosaic.Lib.Pointwise

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Cert.FfnReal Cert.ReferenceIdeal.Read Cert.ReferenceIdeal.Ffn

variable (m : (ℓ : Loc nD τ sig) → Buf (Elt Ideal) ℓ)

/-- An index of two axes from its coordinates. -/
theorem idx2 {a b : ℕ} (i : Shape.Idx ⟨2, ![a, b]⟩) : ix2 (i 0) (i 1) = i := by
  funext k
  match k with
  | ⟨0, _⟩ => rfl
  | ⟨1, _⟩ => rfl

/-- An index of one axis from its coordinate. -/
theorem idx1 {a : ℕ} (i : Shape.Idx ⟨1, ![a]⟩) : ix1 (i 0) = i := by
  funext k
  match k with
  | ⟨0, _⟩ => rfl

/-- The reference's result `v110` of the kernel's arguments is what the kernel leaves. -/
theorem v110_agree (c : Dev nD) (h : RealArgs m c) :
    val_main_v110 (F := Ideal) (arg0 m c) (arg1 m c) (arg2 m c) (arg3 m c) (arg4 m c) (arg5 m c) (arg6 m c) = (fun i : S8192x1024.Idx => DX m c (i 0) (i 1)) := by
  funext i
  exact ((DX_eq m c h (i 0) (i 1)).trans (congrArg _ (idx2 i))).symm

/-- The reference's result `v111` of the kernel's arguments is what the kernel leaves. -/
theorem v111_agree (c : Dev nD) (h : RealArgs m c) :
    val_main_v111 (F := Ideal) (arg0 m c) (arg1 m c) (arg2 m c) (arg3 m c) (arg4 m c) (arg5 m c) (arg6 m c) = (fun i : S8192x5632.Idx => DUP m c (i 0) (i 1)) := by
  funext i
  exact ((DUP_eq m c h (i 0) (i 1)).trans (congrArg (val_main_v88 (F := Ideal) (arg0 m c) (arg1 m c) (arg2 m c) (arg3 m c) (arg4 m c) (arg5 m c) (arg6 m c)) (idx2 i))).symm

/-- The reference's result `v112` of the kernel's arguments is what the kernel leaves. -/
theorem v112_agree (c : Dev nD) (h : RealArgs m c) :
    val_main_v112 (F := Ideal) (arg6 m c) = (fun i : S8192x1024.Idx => arg6 m c (ix2 (i 0) (i 1))) := by
  funext i
  exact (congrArg (arg6 m c) (idx2 i)).symm

/-- The reference's result `v95` of the kernel's arguments is what the kernel leaves. -/
theorem v95_agree (c : Dev nD) (h : RealArgs m c) :
    val_main_v95 (F := Ideal) (arg0 m c) (arg1 m c) (arg2 m c) (arg3 m c) (arg4 m c) (arg5 m c) (arg6 m c) = (fun i : S1024.Idx => ∑ t : Fin 8192, DG m c (i 0) t) := by
  funext i
  exact ((DG_eq m c h (i 0)).trans (congrArg _ (idx1 i))).symm

/-- The reference's result `v82` of the kernel's arguments is what the kernel leaves. -/
theorem v82_agree (c : Dev nD) (h : RealArgs m c) :
    val_main_v82 (F := Ideal) (arg0 m c) (arg1 m c) (arg2 m c) (arg3 m c) (arg4 m c) (arg5 m c) (arg6 m c) = (fun i : S3x2816.Idx => ∑ t : Fin 8192, DW m c (i 0) (i 1) t) := by
  funext i
  exact ((DW_eq m c h (i 0) (i 1)).trans (congrArg _ (idx2 i))).symm

/-- The reference's result `v53` of the kernel's arguments is what the kernel leaves. -/
theorem v53_agree (c : Dev nD) (h : RealArgs m c) :
    val_main_v53 (F := Ideal) (arg0 m c) (arg1 m c) (arg2 m c) (arg3 m c) (arg4 m c) (arg5 m c) (arg6 m c) = (fun i : S2816.Idx => ∑ t : Fin 8192, DGC m c (i 0) t) := by
  funext i
  exact ((DB_eq m c h (i 0)).trans (congrArg _ (idx1 i))).symm

/-- The reference's run from a memory that holds the kernel's arguments leaves what the kernel leaves. -/
theorem reference_values (hm : ∀ c, RealArgs m c)
    (m' : (ℓ : Loc Cert.ReferenceIdeal.nD Cert.ReferenceIdeal.τ Cert.ReferenceIdeal.sig) → Buf (Elt Ideal) ℓ)
    (ρ : Dev Cert.ReferenceIdeal.nD → PrngReg)
    (same : ∀ c : Dev nD, m' ((c.tc : Thread Cert.ReferenceIdeal.nD Cert.ReferenceIdeal.τ).loc Cert.ReferenceIdeal.main_arg0) = arg0 m c
      ∧ m' ((c.tc : Thread Cert.ReferenceIdeal.nD Cert.ReferenceIdeal.τ).loc Cert.ReferenceIdeal.main_arg1) = arg1 m c
      ∧ m' ((c.tc : Thread Cert.ReferenceIdeal.nD Cert.ReferenceIdeal.τ).loc Cert.ReferenceIdeal.main_arg2) = arg2 m c
      ∧ m' ((c.tc : Thread Cert.ReferenceIdeal.nD Cert.ReferenceIdeal.τ).loc Cert.ReferenceIdeal.main_arg3) = arg3 m c
      ∧ m' ((c.tc : Thread Cert.ReferenceIdeal.nD Cert.ReferenceIdeal.τ).loc Cert.ReferenceIdeal.main_arg4) = arg4 m c
      ∧ m' ((c.tc : Thread Cert.ReferenceIdeal.nD Cert.ReferenceIdeal.τ).loc Cert.ReferenceIdeal.main_arg5) = arg5 m c
      ∧ m' ((c.tc : Thread Cert.ReferenceIdeal.nD Cert.ReferenceIdeal.τ).loc Cert.ReferenceIdeal.main_arg6) = arg6 m c) :
    θ_run (Cert.ReferenceIdeal.defs (F := Ideal)) (onTc (τ := Cert.ReferenceIdeal.τ) (Cert.ReferenceIdeal.main (F := Ideal)))
      ⟨m', fun _ => 0, ρ⟩ (fun r => ∀ c : Dev nD,
      r.2.mem ((c.tc : Thread Cert.ReferenceIdeal.nD Cert.ReferenceIdeal.τ).loc Cert.ReferenceIdeal.main_v110) = (fun i : S8192x1024.Idx => DX m c (i 0) (i 1))
      ∧ r.2.mem ((c.tc : Thread Cert.ReferenceIdeal.nD Cert.ReferenceIdeal.τ).loc Cert.ReferenceIdeal.main_v111) = (fun i : S8192x5632.Idx => DUP m c (i 0) (i 1))
      ∧ r.2.mem ((c.tc : Thread Cert.ReferenceIdeal.nD Cert.ReferenceIdeal.τ).loc Cert.ReferenceIdeal.main_v112) = (fun i : S8192x1024.Idx => arg6 m c (ix2 (i 0) (i 1)))
      ∧ r.2.mem ((c.tc : Thread Cert.ReferenceIdeal.nD Cert.ReferenceIdeal.τ).loc Cert.ReferenceIdeal.main_v95) = (fun i : S1024.Idx => ∑ t : Fin 8192, DG m c (i 0) t)
      ∧ r.2.mem ((c.tc : Thread Cert.ReferenceIdeal.nD Cert.ReferenceIdeal.τ).loc Cert.ReferenceIdeal.main_v82) = (fun i : S3x2816.Idx => ∑ t : Fin 8192, DW m c (i 0) (i 1) t)
      ∧ r.2.mem ((c.tc : Thread Cert.ReferenceIdeal.nD Cert.ReferenceIdeal.τ).loc Cert.ReferenceIdeal.main_v53) = (fun i : S2816.Idx => ∑ t : Fin 8192, DGC m c (i 0) t)
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)) := by
  refine (θ_run (Cert.ReferenceIdeal.defs (F := Ideal)) _ _).mono (fun r h c => ?_) (Cert.ReferenceIdeal.Value.run (F := Ideal) m' ρ)
  obtain ⟨r1, r2, r3, r4, r5, r6, rest⟩ := h c
  obtain ⟨s0, s1, s2, s3, s4, s5, s6⟩ := same c
  have q1 : val_main_v110 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = (fun i : S8192x1024.Idx => DX m c (i 0) (i 1)) := by
    rw [s0, s1, s2, s3, s4, s5, s6]; exact v110_agree m c (hm c)
  have q2 : val_main_v111 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = (fun i : S8192x5632.Idx => DUP m c (i 0) (i 1)) := by
    rw [s0, s1, s2, s3, s4, s5, s6]; exact v111_agree m c (hm c)
  have q3 : val_main_v112 (F := Ideal) (m' ((c.tc : Thread Cert.ReferenceIdeal.nD Cert.ReferenceIdeal.τ).loc Cert.ReferenceIdeal.main_arg6)) = (fun i : S8192x1024.Idx => arg6 m c (ix2 (i 0) (i 1))) := by
    rw [s6]; exact v112_agree m c (hm c)
  have q4 : val_main_v95 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = (fun i : S1024.Idx => ∑ t : Fin 8192, DG m c (i 0) t) := by
    rw [s0, s1, s2, s3, s4, s5, s6]; exact v95_agree m c (hm c)
  have q5 : val_main_v82 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = (fun i : S3x2816.Idx => ∑ t : Fin 8192, DW m c (i 0) (i 1) t) := by
    rw [s0, s1, s2, s3, s4, s5, s6]; exact v82_agree m c (hm c)
  have q6 : val_main_v53 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = (fun i : S2816.Idx => ∑ t : Fin 8192, DGC m c (i 0) t) := by
    rw [s0, s1, s2, s3, s4, s5, s6]; exact v53_agree m c (hm c)
  exact ⟨r1.trans ((val_main_v110_eq (StableHlo.launchContents m' c)).trans q1),
    r2.trans ((val_main_v111_eq (StableHlo.launchContents m' c)).trans q2),
    r3.trans ((val_main_v112_eq (StableHlo.launchContents m' c)).trans q3),
    r4.trans ((val_main_v95_eq (StableHlo.launchContents m' c)).trans q4),
    r5.trans ((val_main_v82_eq (StableHlo.launchContents m' c)).trans q5),
    r6.trans ((val_main_v53_eq (StableHlo.launchContents m' c)).trans q6), rest⟩

end Cert.KernelIdeal.Ffn

end
-- ==== Proof.Wgrad.Sum.lean ====
/- A sum over the rows of a tall matrix, taken in four blocks of rows. -/
module

public import Idealize.ShloMosaic.Lib.Claim
public import Idealize.ShloMosaic.Lib.Pointwise
public import Idealize.ShloMosaic.Lib.Pipeline.Value

@[expose] public section

noncomputable section

namespace Cert.Wgrad

open Idealize.ShloMosaic

/-- An index of two axes is its coordinates. -/
theorem split2 {a b : ℕ} (y : Shape.Idx ⟨2, ![a, b]⟩) : ∃ (i : Fin a) (j : Fin b), y = ix2 i j :=
  ⟨y 0, y 1, funext fun k => match k with
    | ⟨0, _⟩ => rfl
    | ⟨1, _⟩ => rfl⟩

/-- An index of three axes is its coordinates. -/
theorem split3 {a b d : ℕ} (y : Shape.Idx ⟨3, ![a, b, d]⟩) : ∃ (i : Fin a) (j : Fin b) (k : Fin d), y = ix3 i j k :=
  ⟨y 0, y 1, y 2, funext fun k => match k with
    | ⟨0, _⟩ => rfl
    | ⟨1, _⟩ => rfl
    | ⟨2, _⟩ => rfl⟩

/-- The rows of a tall matrix, block by block. -/
theorem sum_rows (f : ℕ → EReal) :
    ∑ s ∈ Finset.range 4, ∑ p : Fin 2048, f (s * 2048 + p) = ∑ k : Fin 8192, f k := by
  rw [Finset.sum_range (fun s => ∑ p : Fin 2048, f (s * 2048 + p))]
  rw [← Finset.sum_product', Finset.univ_product_univ]
  refine Fintype.sum_equiv (finProdFinEquiv (m := 4) (n := 2048)) _ _ fun x => ?_
  congr 1
  show (x.1 : ℕ) * 2048 + x.2 = x.2 + 2048 * x.1
  omega

/-- The row of a tall matrix at a row of the point's block. -/
def row (n : ℕ) (p : Fin 2048) : Fin 8192 := ⟨n % 4 * 2048 + p, by omega⟩

/-- The row's number. -/
theorem row_val (n : ℕ) (p : Fin 2048) : (row n p : ℕ) = n % 4 * 2048 + p := rfl

/-- A function of a tall matrix's row, from any number. -/
def ofNat (f : Fin 8192 → EReal) (n : ℕ) : EReal := f ⟨n % 8192, Nat.mod_lt _ (by decide)⟩

/-- The four points of a run add up the rows of all blocks: `b` is the run's first point. -/
theorem sum_run (f : Fin 8192 → EReal) (b : ℕ) (hb : b % 4 = 0) :
    ∑ s ∈ Finset.range 4, ∑ p : Fin 2048, f (row (b + s) p) = ∑ k : Fin 8192, f k := by
  have e : ∀ s ∈ Finset.range 4, ∑ p : Fin 2048, f (row (b + s) p) = ∑ p : Fin 2048, ofNat f (s * 2048 + p) := fun s hs => by
    have lt : s < 4 := Finset.mem_range.mp hs
    refine Finset.sum_congr rfl fun p _ => congrArg f (Fin.ext ?_)
    show (b + s) % 4 * 2048 + (p : ℕ) = (s * 2048 + p) % 8192
    omega
  rw [Finset.sum_congr rfl e, sum_rows]
  refine Finset.sum_congr rfl fun k _ => congrArg f (Fin.ext ?_)
  show (k : ℕ) % 8192 = k
  omega

end Cert.Wgrad

end
-- ==== Proof.Wgrad.Up.lean ====
/- The gradient of the ConvFFN's up projection: the kernel adds up four blocks of rows and lays the columns out chip by
   chip; the reference sums all rows at once and then reshapes. -/
module

public import proofs.«01_k».proof.Defs
public import proofs.«01_k».proof.Proof.Wgrad.Sum
public import proofs.«01_k».proof.Proof.Gen.UpKernelIdeal.Value
public import proofs.«01_k».proof.Proof.Gen.UpReferenceIdeal.Run
public import proofs.«01_k».proof.Proof.Gen.UpReferenceIdeal.Read
public import Idealize.ShloMosaic.Lib.Claim
public import Idealize.ShloMosaic.Lib.Pointwise
public import Idealize.ShloMosaic.Lib.StableHlo.RunRead
public import Idealize.ShloMosaic.Lib.Pipeline.ValueKit
public import Idealize.ShloMosaic.Lib.Pipeline.ReadBack

@[expose] public section

set_option maxRecDepth 16384

noncomputable section

namespace Cert.UpKernelIdeal.Wgrad

open Cert.UpKernelIdeal Cert.UpKernelIdeal.Gen Cert.UpKernelIdeal.Value
open Idealize.ShloMosaic Idealize.ShloMosaic.TcCoe Idealize.ShloMosaic.Tactic Idealize.SL.Sem
open Cert.Wgrad Cert.UpReferenceIdeal.Read

/-- The column of the cotangent's block at a column of a slab. -/
def slab (q : Fin 2) (l : Fin 1408) : Fin 2816 := ⟨q * 1408 + l, by omega⟩

/-- The column's number. -/
theorem slab_val (q : Fin 2) (l : Fin 1408) : (slab q l : ℕ) = q * 1408 + l := rfl

/-- What a point's blocks add at an index of the output's block. -/
def term (x0 : Vec Ideal S2048x512 .bf16) (x1 : Vec Ideal S2048x2816 .bf16) (y : S2x512x1408.Idx) : EReal :=
  ∑ p : Fin 2048, x0 (ix2 p (y 1)) * x1 (ix2 p (slab (y 0) (y 2)))

/-- The addition, coordinate by coordinate. -/
theorem term_at (x0 : Vec Ideal S2048x512 .bf16) (x1 : Vec Ideal S2048x2816 .bf16) (q : Fin 2) (r : Fin 512) (l : Fin 1408) :
    term x0 x1 (ix3 q r l) = ∑ p : Fin 2048, x0 (ix2 p r) * x1 (ix2 p (slab q l)) := rfl

/-- The first slab's store. -/
theorem pay3_at (x0 : Vec Ideal S2048x512 .bf16) (x1 : Vec Ideal S2048x2816 .bf16) (acc : Vec Ideal S1x512x1408 .f32)
    (z : Fin 1) (i : Fin 512) (l : Fin 1408) :
    k0_pay3 x0 x1 acc (ix3 z i l) = acc (ix3 z i l) + ∑ p : Fin 2048, x0 (ix2 p i) * x1 (ix2 p (slab 0 l)) := by
  obtain rfl : z = 0 := Subsingleton.elim _ _
  pointwise [k0_pay3, k0_pay2]
  refine congrArg (acc _ + ·) (Finset.sum_congr rfl fun p _ => ?_)
  exact congrArg (fun a => x0 (ix2 p i) * x1 (ix2 p a)) (Fin.ext (by rw [slab_val]; simp))

/-- The second slab's store. -/
theorem pay4_at (x0 : Vec Ideal S2048x512 .bf16) (x1 : Vec Ideal S2048x2816 .bf16) (acc : Vec Ideal S1x512x1408 .f32)
    (z : Fin 1) (i : Fin 512) (l : Fin 1408) :
    k0_pay4 x0 x1 acc (ix3 z i l) = acc (ix3 z i l) + ∑ p : Fin 2048, x0 (ix2 p i) * x1 (ix2 p (slab 1 l)) := by
  obtain rfl : z = 0 := Subsingleton.elim _ _
  pointwise [k0_pay4, k0_pay2]
  refine congrArg (acc _ + ·) (Finset.sum_congr rfl fun p _ => ?_)
  exact congrArg (fun a => x0 (ix2 p i) * x1 (ix2 p a)) (Fin.ext (by rw [slab_val]; simp))

/-- The two slabs of the output's block. -/
abbrev lower : Rect S2x512x1408 := Rect.unit ![0, 0, 0] ![1, 512, 1408] inb_S2x512x1408_S1x512x1408_0_0_0
abbrev upper : Rect S2x512x1408 := Rect.unit ![1, 0, 0] ![1, 512, 1408] inb_S2x512x1408_S1x512x1408_1_0_0

/-- Where the lower slab's indices lie. -/
theorem lower_idx (r : Fin 512) (l : Fin 1408) : lower.idx (ix3 0 r l) = ix3 0 r l :=
  funext fun a => Fin.ext ((Rect.idx_unit_val ..).trans (by
    match a with
    | ⟨0, _⟩ => rfl
    | ⟨1, _⟩ => exact Nat.zero_add _
    | ⟨2, _⟩ => exact Nat.zero_add _))

/-- Where the upper slab's indices lie. -/
theorem upper_idx (r : Fin 512) (l : Fin 1408) : upper.idx (ix3 0 r l) = ix3 1 r l :=
  funext fun a => Fin.ext ((Rect.idx_unit_val ..).trans (by
    match a with
    | ⟨0, _⟩ => rfl
    | ⟨1, _⟩ => exact Nat.zero_add _
    | ⟨2, _⟩ => exact Nat.zero_add _))

/-- The lower slab holds none of the upper slab's indices. -/
theorem not_lower (r : Fin 512) (l : Fin 1408) : ix3 1 r l ∉ lower.set := fun mem =>
  absurd (show (1 : ℕ) < 0 + 1 from (Rect.mem_set_unit.mp mem 0).2) (by decide)

/-- The upper slab holds none of the lower slab's indices. -/
theorem not_upper (r : Fin 512) (l : Fin 1408) : ix3 0 r l ∉ upper.set := fun mem =>
  absurd (show 1 ≤ (0 : ℕ) from (Rect.mem_set_unit.mp mem 0).1) (by decide)

/-- The block starts at zero. -/
theorem zero_at (y : S2x512x1408.Idx) :
    View.canon [(⟨Rect.unit ![0, 0, 0] ![2, 512, 1408] inb_S2x512x1408_S2x512x1408_0_0_0, k0_pay1 (F := Ideal)⟩ : View.Piece (Elt Ideal) S2x512x1408 .f32)] y = 0 := by
  obtain ⟨i, j, k, rfl⟩ := split3 y
  rw [View.canon_unit_zero (S := S2x512x1408) (by decide)]
  pointwise [k0_pay1]

/-- Off the lower slab's store the block is still zero. -/
theorem under_lower (w : lower.shape.Idx → Elt Ideal .f32) (r : Fin 512) (l : Fin 1408) :
    View.canon ((⟨lower, w⟩ : View.Piece (Elt Ideal) S2x512x1408 .f32) ::
      [⟨Rect.unit ![0, 0, 0] ![2, 512, 1408] inb_S2x512x1408_S2x512x1408_0_0_0, k0_pay1 (F := Ideal)⟩]) (ix3 1 r l) = 0 := by
  rw [View.canon_cons_of_not_mem ⟨lower, w⟩ _ (not_lower r l)]
  exact zero_at _

/-- What a later point leaves: what it found and its own addition. -/
theorem outB_at (c : Dev nD) (i : grid0.Coords) (arg3 : Memref sig .tc .vmem S2048x512 .bf16) (harg3 : arg3.IsWhole)
    (arg4 : Memref sig .tc .vmem S2048x2816 .bf16) (harg4 : arg4.IsWhole)
    (arg5 : Memref sig .tc .vmem S2x512x1408 .f32) (harg5 : arg5.IsWhole) (later : ¬cond0_0 i)
    (x0 : Vec Ideal S2048x512 .bf16) (x1 : Vec Ideal S2048x2816 .bf16) (acc : Vec Ideal S2x512x1408 .f32)
    (q : Fin 2) (r : Fin 512) (l : Fin 1408) :
    out0_B_2 c i arg3 harg3 arg4 harg4 arg5 harg5 later x0 x1 acc (ix3 q r l) = acc (ix3 q r l) + term x0 x1 (ix3 q r l) := by
  unfold out0_B_2
  rw [View.read_writes_eq_canon _ _ _ (cover0_B_2 c i arg3 harg3 arg4 harg4 arg5 harg5 later x0 x1 acc)]
  unfold kernelRun0_B
  dsimp only
  frame_out
  canon_tiles x h using View.cover_of_tiledBy (s := S2x512x1408) _ ![1, 512, 1408] (by sl_kernel_rfl) (ix3 q r l)
  · obtain ⟨z, r', l', rfl⟩ := split3 x
    have z_lt : (z : ℕ) < 1 := z.isLt
    obtain rfl : q = 1 := Fin.ext (by
      have h0' : (q : ℕ) = 1 + z := h0
      show (q : ℕ) = 1
      omega)
    obtain rfl : r = r' := Fin.ext h1
    obtain rfl : l = l' := Fin.ext h2
    obtain rfl : z = 0 := Subsingleton.elim _ _
    rw [pay4_at]
    refine congrArg (· + _) ?_
    exact congrArg acc (upper_idx r l)
  · obtain ⟨z, r', l', rfl⟩ := split3 x
    have z_lt : (z : ℕ) < 1 := z.isLt
    obtain rfl : q = 0 := Fin.ext (by
      have h0' : (q : ℕ) = z := h0
      show (q : ℕ) = 0
      omega)
    obtain rfl : r = r' := Fin.ext h1
    obtain rfl : l = l' := Fin.ext h2
    obtain rfl : z = 0 := Subsingleton.elim _ _
    rw [pay3_at]
    refine congrArg (· + _) ?_
    exact congrArg acc (lower_idx r l)

/-- What the first point of a run leaves: its own addition. -/
theorem outA_at (c : Dev nD) (i : grid0.Coords) (arg3 : Memref sig .tc .vmem S2048x512 .bf16) (harg3 : arg3.IsWhole)
    (arg4 : Memref sig .tc .vmem S2048x2816 .bf16) (harg4 : arg4.IsWhole)
    (arg5 : Memref sig .tc .vmem S2x512x1408 .f32) (harg5 : arg5.IsWhole) (first : cond0_0 i)
    (x0 : Vec Ideal S2048x512 .bf16) (x1 : Vec Ideal S2048x2816 .bf16)
    (q : Fin 2) (r : Fin 512) (l : Fin 1408) :
    out0_A_2 c i arg3 harg3 arg4 harg4 arg5 harg5 first x0 x1 (ix3 q r l) = 0 + term x0 x1 (ix3 q r l) := by
  unfold out0_A_2
  rw [View.read_writes_eq_canon _ _ _ (cover0_A_2 c i arg3 harg3 arg4 harg4 arg5 harg5 first x0 x1)]
  unfold kernelRun0_A
  dsimp only
  frame_out
  simp only [View.readCov_eq_canon']
  rcases (by omega : q = 0 ∨ q = 1) with rfl | rfl
  · rw [View.canon_cons_of_not_mem ⟨upper, _⟩ _ (not_upper r l), ← lower_idx r l]
    refine (View.canon_cons_emb lower _ _ _).trans ?_
    rw [pay3_at, lower_idx, term_at]
    refine congrArg (· + ∑ p : Fin 2048, x0 (ix2 p r) * x1 (ix2 p (slab 0 l))) ?_
    exact zero_at _
  · rw [← upper_idx r l]
    refine (View.canon_cons_emb upper _ _ _).trans ?_
    rw [pay4_at, upper_idx, term_at]
    refine congrArg (· + ∑ p : Fin 2048, x0 (ix2 p r) * x1 (ix2 p (slab 1 l))) ?_
    exact under_lower _ r l

variable (m : (ℓ : Loc nD τ sig) → Buf (Elt Ideal) ℓ)

/-- An argument array at launch. -/
abbrev arg0 (c : Dev nD) : FVec Ideal S8192x1024 .f32 := m ((c : Thread nD τ).loc main_arg0)
abbrev arg1 (c : Dev nD) : FVec Ideal S1024 .f32 := m ((c : Thread nD τ).loc main_arg1)
abbrev arg2 (c : Dev nD) : FVec Ideal S8192x5632 .f32 := m ((c : Thread nD τ).loc main_arg2)

/-- The normalised input, as the reference names it. -/
abbrev norm (c : Dev nD) : FVec Ideal S8192x1024 .f32 := val_main_v13 (F := Ideal) (arg0 m c) (arg1 m c)

/-- The left operand's rows are the normalised input's. -/
theorem left_at (c : Dev nD) (t : Fin 8192) (i : Fin 1024) :
    (V m c main_v13 : FVec Ideal S8192x1024 .bf16) (ix2 t i) = norm m c (ix2 t i) := by
  have e : @Eq (FVec Ideal S8192x1024 .bf16) (V m c main_v13) (truncf .bf16 (norm m c) bitsLt_bf16_f32) := by
    unfold_abbrev_sides
    after_reads_simp
    rfl
  rw [e]; pointwise

/-- The right operand's rows are the cotangent's. -/
theorem right_at (c : Dev nD) (t : Fin 8192) (j : Fin 5632) :
    (V m c main_v14 : FVec Ideal S8192x5632 .bf16) (ix2 t j) = arg2 m c (ix2 t j) := by
  have e : @Eq (FVec Ideal S8192x5632 .bf16) (V m c main_v14) (truncf .bf16 (arg2 m c) bitsLt_bf16_f32) := by
    unfold_abbrev_sides
    after_reads_simp
  rw [e]; pointwise

/-- Which blocks each point reads. -/
theorem index_blocks : ∀ t : Fin cfg0.N, win0_0.index t = ![t.val % 4, t.val / 8] ∧ win0_1.index t = ![t.val % 4, t.val / 4 % 2] :=
  (by decide +kernel : ∀ t : Fin grid0.N, _)

/-- Which block each point writes. -/
theorem index_out : ∀ t : Fin cfg0.N, win0_2.index t = ![t.val / 4 % 2, t.val / 8, 0] :=
  (by decide +kernel : ∀ t : Fin grid0.N, _)

/-- Each block of the output is written back by some point. -/
theorem index_onto : ∀ (a : Fin 2) (b : Fin 2), ∃ t : Fin cfg0.N, (cfg0.win 2).flush t = true ∧ win0_2.index t = ![a.val, b.val, 0] :=
  (by decide +kernel : ∀ (a : Fin 2) (b : Fin 2), ∃ t : Fin grid0.N, win0_2.flush t = true ∧ win0_2.index t = ![a.val, b.val, 0])

/-- The column of the normalised input at a column of the point's block. -/
def lcol (n : ℕ) (i : Fin 512) : Fin 1024 := ⟨n / 8 % 2 * 512 + i, by omega⟩

/-- The column's number. -/
theorem lcol_val (n : ℕ) (i : Fin 512) : (lcol n i : ℕ) = n / 8 % 2 * 512 + i := rfl

/-- The column of the cotangent at a column of the point's block. -/
def rcol (n : ℕ) (j : Fin 2816) : Fin 5632 := ⟨n / 4 % 2 * 2816 + j, by omega⟩

/-- The column's number. -/
theorem rcol_val (n : ℕ) (j : Fin 2816) : (rcol n j : ℕ) = n / 4 % 2 * 2816 + j := rfl

/-- The left operand's block. -/
theorem left_blk (c : Dev nD) (t : Fin cfg0.N) (p : Fin 2048) (i : Fin 512) :
    (iblk m c 0 t : Vec Ideal S2048x512 .bf16) (ix2 p i) = norm m c (ix2 (row t.val p) (lcol t.val i)) := by
  have e0 := (index_blocks t).1
  have lt : t.val < 16 := lt_of_lt_of_eq t.isLt N_0
  have d : t.val / 8 % 2 = t.val / 8 := by omega
  have e : (win0_0.blk t).view.emb (ix2 p i) = ix2 (row t.val p) (lcol t.val i) := by
    blk_ext [e0, row_val, lcol_val, d]
  exact (congrArg (V m c main_v13) e).trans (left_at m c _ _)

/-- The right operand's block. -/
theorem right_blk (c : Dev nD) (t : Fin cfg0.N) (p : Fin 2048) (j : Fin 2816) :
    (iblk m c 1 t : Vec Ideal S2048x2816 .bf16) (ix2 p j) = arg2 m c (ix2 (row t.val p) (rcol t.val j)) := by
  have e0 := (index_blocks t).2
  have e : (win0_1.blk t).view.emb (ix2 p j) = ix2 (row t.val p) (rcol t.val j) := by
    blk_ext [e0, row_val, rcol_val]
  exact (congrArg (V m c main_v14) e).trans (right_at m c _ _)

/-- What a point adds at an index of the block. -/
def add (c : Dev nD) (n : ℕ) (y : S2x512x1408.Idx) : EReal :=
  ∑ p : Fin 2048, norm m c (ix2 (row n p) (lcol n (y 1))) * arg2 m c (ix2 (row n p) (rcol n (slab (y 0) (y 2))))

/-- One point's addition, of the argument's rows. -/
theorem term_add (c : Dev nD) (t : Fin cfg0.N) (y : S2x512x1408.Idx) :
    term (iblk m c 0 t) (iblk m c 1 t) y = add m c t.val y :=
  Finset.sum_congr rfl fun p _ => congrArg₂ (· * ·) (left_blk m c t p _) (right_blk m c t p _)

/-- What the first point of a run leaves. -/
def reset (c : Dev nD) (n : ℕ) (h : n < cfg0.N) : S2x512x1408.Idx → EReal := fun y => 0 + add m c n y

/-- What a later point leaves over what it found. -/
def step (c : Dev nD) (n : ℕ) (h : n < cfg0.N) (acc : S2x512x1408.Idx → EReal) : S2x512x1408.Idx → EReal :=
  fun y => acc y + add m c n y

/-- After each point the block holds its run's additions so far. -/
theorem outs_eq (c : Dev nD) (t : Fin cfg0.N) :
    @Eq (S2x512x1408.Idx → EReal) (outsAt0 m c t.val t.isLt)
      (Pipeline.accAt (reset m c) (step m c) (4 * (t.val / 4)) (t.val % 4)
        (by have h1 := t.isLt; have h2 := Nat.div_add_mod t.val 4; omega)) :=
  Pipeline.eq_accAt_of_mod (fun n h => (outsAt0 m c n h : S2x512x1408.Idx → EReal)) 4 (reset m c) (step m c)
    (fun n h first => by
      rw [outsAt0_A m c ⟨n, h⟩ first]
      funext y
      obtain ⟨q, r, l, rfl⟩ := split3 y
      exact (outA_at ..).trans (congrArg (0 + ·) (term_add m c ⟨n, h⟩ _)))
    (fun n h later => by
      rw [outsAt0_B m c ⟨n + 1, h⟩ later]
      funext y
      obtain ⟨q, r, l, rfl⟩ := split3 y
      exact (outB_at ..).trans (congrArg (_ + ·) (term_add m c ⟨n + 1, h⟩ _)))
    (by decide) t.val t.isLt _

/-- The gradient: at a chip's block, the product over all rows. -/
def grad (c : Dev nD) : Buf (Elt Ideal) ((c : Thread nD τ).loc main_v15) := fun i : S4x1024x1408.Idx =>
  (∑ k : Fin 8192, norm m c (ix2 k (i 1)) * arg2 m c (ix2 k ⟨(i 0).val * 1408 + (i 2).val, by
    have h0 : (i 0).val < 4 := (i 0).isLt
    have h2 : (i 2).val < 1408 := (i 2).isLt
    omega⟩) : EReal)

/-- A run's last point leaves the product over all rows. -/
theorem last_at (c : Dev nD) (t : Fin cfg0.N) (last : t.val % 4 = 3) (y : S2x512x1408.Idx) :
    @Eq EReal ((outsAt0 m c t.val t.isLt : S2x512x1408.Idx → EReal) y)
      (∑ k : Fin 8192, norm m c (ix2 k (lcol t.val (y 1))) * arg2 m c (ix2 k (rcol t.val (slab (y 0) (y 2))))) := by
  rw [outs_eq m c t, Pipeline.accAt_add_apply (reset m c) (step m c) (fun _ => 0) (add m c) (4 * (t.val / 4)) 3
    (fun _ _ => rfl) (fun _ _ _ _ _ _ => rfl) (t.val % 4) (by omega), zero_add, last]
  rw [← sum_run (fun k => norm m c (ix2 k (lcol t.val (y 1))) * arg2 m c (ix2 k (rcol t.val (slab (y 0) (y 2)))))
    (4 * (t.val / 4)) (by omega)]
  refine Finset.sum_congr rfl fun s hs => Finset.sum_congr rfl fun p _ => ?_
  have s_lt : s < 4 := Finset.mem_range.mp hs
  have e0 : lcol (4 * (t.val / 4) + s) (y 1) = lcol t.val (y 1) := Fin.ext (by
    show (4 * (t.val / 4) + s) / 8 % 2 * 512 + (y 1).val = t.val / 8 % 2 * 512 + (y 1).val
    omega)
  have e1 : rcol (4 * (t.val / 4) + s) (slab (y 0) (y 2)) = rcol t.val (slab (y 0) (y 2)) := Fin.ext (by
    show (4 * (t.val / 4) + s) / 4 % 2 * 2816 + _ = t.val / 4 % 2 * 2816 + _
    omega)
  exact congrArg₂ (fun a b => norm m c (ix2 _ a) * arg2 m c (ix2 _ b)) e0 e1

/-- What a point writes back is its block of the gradient. -/
theorem flushed_eq (c : Dev nD) (t : Fin cfg0.N) (hf : (cfg0.win 2).flush t = true) :
    (dats m 0 c).flushed 2 t = ((cfg0.win 2).blk t).view.read (Elt Ideal) (grad m c) := by
  rw [flushed2]
  have last : t.val % 4 = 3 := (flush0_2 t).mp hf
  have lt : t.val < 16 := lt_of_lt_of_eq t.isLt N_0
  have e := index_out t
  have i0 : win0_2.index t (0 : Fin 3) = t.val / 4 % 2 := congrFun e 0
  have i1 : win0_2.index t (1 : Fin 3) = t.val / 8 := congrFun e 1
  have i2 : win0_2.index t (2 : Fin 3) = 0 := congrFun e 2
  funext y
  have b0 : (((cfg0.win 2).blk t).view.emb y 0).val = win0_2.index t (0 : Fin 3) * 2 + 1 * (y 0).val := rfl
  have b1 : (((cfg0.win 2).blk t).view.emb y 1).val = win0_2.index t (1 : Fin 3) * 512 + 1 * (y 1).val := rfl
  have b2 : (((cfg0.win 2).blk t).view.emb y 2).val = win0_2.index t (2 : Fin 3) * 1408 + 1 * (y 2).val := rfl
  refine (last_at m c t last ((cfg0.win 2).xinj (grid0.coords t) y)).trans ?_
  have h0 : (((cfg0.win 2).blk t).view.emb y 0).val < 4 := (((cfg0.win 2).blk t).view.emb y 0).isLt
  have h2 : (((cfg0.win 2).blk t).view.emb y 2).val < 1408 := (((cfg0.win 2).blk t).view.emb y 2).isLt
  show @Eq EReal _ (∑ k : Fin 8192, norm m c (ix2 k (((cfg0.win 2).blk t).view.emb y 1)) * arg2 m c (ix2 k
    ⟨(((cfg0.win 2).blk t).view.emb y 0).val * 1408 + (((cfg0.win 2).blk t).view.emb y 2).val, by omega⟩))
  refine Finset.sum_congr rfl fun k _ => ?_
  have e0 : lcol t.val ((cfg0.win 2).xinj (grid0.coords t) y 1) = (((cfg0.win 2).blk t).view.emb y 1) := Fin.ext (by
    rw [b1, i1]
    show t.val / 8 % 2 * 512 + (y 1).val = t.val / 8 * 512 + 1 * (y 1).val
    omega)
  refine congrArg₂ (fun a b => norm m c (ix2 _ a) * arg2 m c (ix2 _ b)) e0 (Fin.ext ?_)
  show t.val / 4 % 2 * 2816 + ((y 0).val * 1408 + (y 2).val)
    = (((cfg0.win 2).blk t).view.emb y 0).val * 1408 + (((cfg0.win 2).blk t).view.emb y 2).val
  rw [b0, b2, i0, i2]
  omega

/-- An index is in a point's block when each coordinate is in the block's range. -/
theorem mem_block (t : Fin cfg0.N) (i : S4x1024x1408.Idx) :
    i ∈ ((cfg0.win 2).blk t).view.set ↔ ∀ a : Fin 3, win0_2.index t a * S2x512x1408.size a ≤ (i a).val
      ∧ (i a).val < win0_2.index t a * S2x512x1408.size a + S2x512x1408.size a := by
  show i ∈ ((View.whole main_v15).slice (win0_2.rect t)).set ↔ _
  rw [View.set_slice_whole, Rect.mem_set_unit]
  exact Iff.rfl

/-- Every index is in a block some point writes back. -/
theorem covered (i : S4x1024x1408.Idx) : ∃ t : Fin cfg0.N, (cfg0.win 2).flush t = true ∧ i ∈ ((cfg0.win 2).blk t).view.set := by
  have h0 : (i 0).val < 4 := (i 0).isLt
  have h1 : (i 1).val < 1024 := (i 1).isLt
  have h2 : (i 2).val < 1408 := (i 2).isLt
  obtain ⟨t, hf, e⟩ := index_onto ⟨(i 0).val / 2, by omega⟩ ⟨(i 1).val / 512, by omega⟩
  have i0 : win0_2.index t (0 : Fin 3) = (i 0).val / 2 := congrFun e 0
  have i1 : win0_2.index t (1 : Fin 3) = (i 1).val / 512 := congrFun e 1
  have i2 : win0_2.index t (2 : Fin 3) = 0 := congrFun e 2
  refine ⟨t, hf, (mem_block t i).mpr fun a => ?_⟩
  match a with
  | ⟨0, _⟩ => show win0_2.index t (0 : Fin 3) * 2 ≤ (i 0).val ∧ (i 0).val < win0_2.index t (0 : Fin 3) * 2 + 2; omega
  | ⟨1, _⟩ => show win0_2.index t (1 : Fin 3) * 512 ≤ (i 1).val ∧ (i 1).val < win0_2.index t (1 : Fin 3) * 512 + 512; omega
  | ⟨2, _⟩ => show win0_2.index t (2 : Fin 3) * 1408 ≤ (i 2).val ∧ (i 2).val < win0_2.index t (2 : Fin 3) * 1408 + 1408; omega

/-- The output array ends holding the gradient. -/
theorem final (c : Dev nD) : (dats m 0 c).arrAt 2 cfg0.N = grad m c :=
  (dats m 0 c).arrAt_eq_of_cover 2 _ (fun t hf => flushed_eq m c t hf) (fun i => covered i)

/-- The reference's result. -/
theorem reference_at (x0 : FVec Ideal S8192x1024 .f32) (x1 : FVec Ideal S1024 .f32) (x2 : FVec Ideal S8192x5632 .f32)
    (i : S4x1024x1408.Idx) (j : Fin 5632) (hj : (j : ℕ) = (i 0).val * 1408 + (i 2).val) :
    val_main_v18 (F := Ideal) x0 x1 x2 i
      = ∑ k : Fin 8192, val_main_v13 (F := Ideal) x0 x1 (ix2 k (i 1)) * x2 (ix2 k j) := by
  have h0 : (i 0).val < 4 := (i 0).isLt
  have h1 : (i 1).val < 1024 := (i 1).isLt
  have h2 : (i 2).val < 1408 := (i 2).isLt
  rw [val_main_v18_apply, val_main_v17_apply, val_main_v16_apply, val_main_v15_apply]
  refine Finset.sum_congr rfl fun k _ => ?_
  rw [mul_comm]
  refine congrArg₂ (· * ·) (congrArg (val_main_v13 (F := Ideal) x0 x1) ?_) (congrArg x2 ?_)
  · funext a
    match a with
    | ⟨0, _⟩ => rfl
    | ⟨1, _⟩ =>
      refine Fin.ext ?_
      show (((i 1).val * 4 + (i 0).val) * 1408 + (i 2).val) / 5632 = (i 1).val
      omega
  · funext a
    match a with
    | ⟨0, _⟩ => rfl
    | ⟨1, _⟩ =>
      refine Fin.ext ?_
      show (((i 1).val * 4 + (i 0).val) * 1408 + (i 2).val) % 5632 = (j : ℕ)
      omega

/-- The reference leaves what the kernel leaves. -/
theorem same (c : Dev nD) : val_main_v18 (F := Ideal) (arg0 m c) (arg1 m c) (arg2 m c) = grad m c :=
  funext fun i => reference_at _ _ _ i _ rfl

end Cert.UpKernelIdeal.Wgrad

namespace Cert.Wgrad

open Idealize.ShloMosaic Idealize.SL.Sem Cert.UpKernelIdeal.Wgrad

/-- Over the reals the kernel and the reference leave the same gradient of the ConvFFN's up projection. -/
theorem up_values : Cert.algebraic_UpKernelIdeal_UpReferenceIdeal := fun m ρ m' ρ' _ hagree =>
  ⟨_, (θ_run (Cert.UpKernelIdeal.defs (F := Ideal)) _ _).mono (fun r h c => ⟨(h c).1.trans (final m c), (h c).2⟩)
      (Cert.UpKernelIdeal.Value.run_blocks m ρ),
    (θ_run (Cert.UpReferenceIdeal.defs (F := Ideal)) _ _).mono (fun r h c => by
      obtain ⟨r1, rest⟩ := h c
      obtain ⟨s0, s1, s2⟩ := hagree c
      refine ⟨r1.trans ((Cert.UpReferenceIdeal.Read.val_main_v18_eq _ _ _).trans ?_), rest⟩
      rw [s0, s1, s2]; exact same m c)
      (Cert.UpReferenceIdeal.Value.run (F := Ideal) m' ρ')⟩

end Cert.Wgrad

end
-- ==== Proof.Wgrad.In.lean ====
/- The gradient of the mixer's input projection: the kernel adds up four blocks of rows and lays the columns out chip by
   chip; the reference sums all rows at once and then reshapes. -/
module

public import proofs.«01_k».proof.Defs
public import proofs.«01_k».proof.Proof.Wgrad.Sum
public import proofs.«01_k».proof.Proof.Gen.InKernelIdeal.Value
public import proofs.«01_k».proof.Proof.Gen.InReferenceIdeal.Run
public import proofs.«01_k».proof.Proof.Gen.InReferenceIdeal.Read
public import Idealize.ShloMosaic.Lib.Claim
public import Idealize.ShloMosaic.Lib.Pointwise
public import Idealize.ShloMosaic.Lib.StableHlo.RunRead
public import Idealize.ShloMosaic.Lib.Pipeline.ValueKit
public import Idealize.ShloMosaic.Lib.Pipeline.ReadBack

@[expose] public section

set_option maxRecDepth 16384

noncomputable section

namespace Cert.InKernelIdeal.Wgrad

open Cert.InKernelIdeal Cert.InKernelIdeal.Gen Cert.InKernelIdeal.Value
open Idealize.ShloMosaic Idealize.ShloMosaic.TcCoe Idealize.ShloMosaic.Tactic Idealize.SL.Sem
open Cert.Wgrad Cert.InReferenceIdeal.Read

/-- The column of the cotangent's block at a column of a slab. -/
def slab (q : Fin 2) (l : Fin 1152) : Fin 2304 := ⟨q * 1152 + l, by omega⟩

/-- The column's number. -/
theorem slab_val (q : Fin 2) (l : Fin 1152) : (slab q l : ℕ) = q * 1152 + l := rfl

/-- What a point's blocks add at an index of the output's block. -/
def term (x0 : Vec Ideal S2048x512 .bf16) (x1 : Vec Ideal S2048x2304 .bf16) (y : S2x512x1152.Idx) : EReal :=
  ∑ p : Fin 2048, x0 (ix2 p (y 1)) * x1 (ix2 p (slab (y 0) (y 2)))

/-- The addition, coordinate by coordinate. -/
theorem term_at (x0 : Vec Ideal S2048x512 .bf16) (x1 : Vec Ideal S2048x2304 .bf16) (q : Fin 2) (r : Fin 512) (l : Fin 1152) :
    term x0 x1 (ix3 q r l) = ∑ p : Fin 2048, x0 (ix2 p r) * x1 (ix2 p (slab q l)) := rfl

/-- The first slab's store. -/
theorem pay3_at (x0 : Vec Ideal S2048x512 .bf16) (x1 : Vec Ideal S2048x2304 .bf16) (acc : Vec Ideal S1x512x1152 .f32)
    (z : Fin 1) (i : Fin 512) (l : Fin 1152) :
    k0_pay3 x0 x1 acc (ix3 z i l) = acc (ix3 z i l) + ∑ p : Fin 2048, x0 (ix2 p i) * x1 (ix2 p (slab 0 l)) := by
  obtain rfl : z = 0 := Subsingleton.elim _ _
  pointwise [k0_pay3, k0_pay2]
  refine congrArg (acc _ + ·) (Finset.sum_congr rfl fun p _ => ?_)
  exact congrArg (fun a => x0 (ix2 p i) * x1 (ix2 p a)) (Fin.ext (by rw [slab_val]; simp))

/-- The second slab's store. -/
theorem pay4_at (x0 : Vec Ideal S2048x512 .bf16) (x1 : Vec Ideal S2048x2304 .bf16) (acc : Vec Ideal S1x512x1152 .f32)
    (z : Fin 1) (i : Fin 512) (l : Fin 1152) :
    k0_pay4 x0 x1 acc (ix3 z i l) = acc (ix3 z i l) + ∑ p : Fin 2048, x0 (ix2 p i) * x1 (ix2 p (slab 1 l)) := by
  obtain rfl : z = 0 := Subsingleton.elim _ _
  pointwise [k0_pay4, k0_pay2]
  refine congrArg (acc _ + ·) (Finset.sum_congr rfl fun p _ => ?_)
  exact congrArg (fun a => x0 (ix2 p i) * x1 (ix2 p a)) (Fin.ext (by rw [slab_val]; simp))

/-- The two slabs of the output's block. -/
abbrev lower : Rect S2x512x1152 := Rect.unit ![0, 0, 0] ![1, 512, 1152] inb_S2x512x1152_S1x512x1152_0_0_0
abbrev upper : Rect S2x512x1152 := Rect.unit ![1, 0, 0] ![1, 512, 1152] inb_S2x512x1152_S1x512x1152_1_0_0

/-- Where the lower slab's indices lie. -/
theorem lower_idx (r : Fin 512) (l : Fin 1152) : lower.idx (ix3 0 r l) = ix3 0 r l :=
  funext fun a => Fin.ext ((Rect.idx_unit_val ..).trans (by
    match a with
    | ⟨0, _⟩ => rfl
    | ⟨1, _⟩ => exact Nat.zero_add _
    | ⟨2, _⟩ => exact Nat.zero_add _))

/-- Where the upper slab's indices lie. -/
theorem upper_idx (r : Fin 512) (l : Fin 1152) : upper.idx (ix3 0 r l) = ix3 1 r l :=
  funext fun a => Fin.ext ((Rect.idx_unit_val ..).trans (by
    match a with
    | ⟨0, _⟩ => rfl
    | ⟨1, _⟩ => exact Nat.zero_add _
    | ⟨2, _⟩ => exact Nat.zero_add _))

/-- The lower slab holds none of the upper slab's indices. -/
theorem not_lower (r : Fin 512) (l : Fin 1152) : ix3 1 r l ∉ lower.set := fun mem =>
  absurd (show (1 : ℕ) < 0 + 1 from (Rect.mem_set_unit.mp mem 0).2) (by decide)

/-- The upper slab holds none of the lower slab's indices. -/
theorem not_upper (r : Fin 512) (l : Fin 1152) : ix3 0 r l ∉ upper.set := fun mem =>
  absurd (show 1 ≤ (0 : ℕ) from (Rect.mem_set_unit.mp mem 0).1) (by decide)

/-- The block starts at zero. -/
theorem zero_at (y : S2x512x1152.Idx) :
    View.canon [(⟨Rect.unit ![0, 0, 0] ![2, 512, 1152] inb_S2x512x1152_S2x512x1152_0_0_0, k0_pay1 (F := Ideal)⟩ : View.Piece (Elt Ideal) S2x512x1152 .f32)] y = 0 := by
  obtain ⟨i, j, k, rfl⟩ := split3 y
  rw [View.canon_unit_zero (S := S2x512x1152) (by decide)]
  pointwise [k0_pay1]

/-- Off the lower slab's store the block is still zero. -/
theorem under_lower (w : lower.shape.Idx → Elt Ideal .f32) (r : Fin 512) (l : Fin 1152) :
    View.canon ((⟨lower, w⟩ : View.Piece (Elt Ideal) S2x512x1152 .f32) ::
      [⟨Rect.unit ![0, 0, 0] ![2, 512, 1152] inb_S2x512x1152_S2x512x1152_0_0_0, k0_pay1 (F := Ideal)⟩]) (ix3 1 r l) = 0 := by
  rw [View.canon_cons_of_not_mem ⟨lower, w⟩ _ (not_lower r l)]
  exact zero_at _

/-- What a later point leaves: what it found and its own addition. -/
theorem outB_at (c : Dev nD) (i : grid0.Coords) (arg3 : Memref sig .tc .vmem S2048x512 .bf16) (harg3 : arg3.IsWhole)
    (arg4 : Memref sig .tc .vmem S2048x2304 .bf16) (harg4 : arg4.IsWhole)
    (arg5 : Memref sig .tc .vmem S2x512x1152 .f32) (harg5 : arg5.IsWhole) (later : ¬cond0_0 i)
    (x0 : Vec Ideal S2048x512 .bf16) (x1 : Vec Ideal S2048x2304 .bf16) (acc : Vec Ideal S2x512x1152 .f32)
    (q : Fin 2) (r : Fin 512) (l : Fin 1152) :
    out0_B_2 c i arg3 harg3 arg4 harg4 arg5 harg5 later x0 x1 acc (ix3 q r l) = acc (ix3 q r l) + term x0 x1 (ix3 q r l) := by
  unfold out0_B_2
  rw [View.read_writes_eq_canon _ _ _ (cover0_B_2 c i arg3 harg3 arg4 harg4 arg5 harg5 later x0 x1 acc)]
  unfold kernelRun0_B
  dsimp only
  frame_out
  canon_tiles x h using View.cover_of_tiledBy (s := S2x512x1152) _ ![1, 512, 1152] (by sl_kernel_rfl) (ix3 q r l)
  · obtain ⟨z, r', l', rfl⟩ := split3 x
    have z_lt : (z : ℕ) < 1 := z.isLt
    obtain rfl : q = 1 := Fin.ext (by
      have h0' : (q : ℕ) = 1 + z := h0
      show (q : ℕ) = 1
      omega)
    obtain rfl : r = r' := Fin.ext h1
    obtain rfl : l = l' := Fin.ext h2
    obtain rfl : z = 0 := Subsingleton.elim _ _
    rw [pay4_at]
    refine congrArg (· + _) ?_
    exact congrArg acc (upper_idx r l)
  · obtain ⟨z, r', l', rfl⟩ := split3 x
    have z_lt : (z : ℕ) < 1 := z.isLt
    obtain rfl : q = 0 := Fin.ext (by
      have h0' : (q : ℕ) = z := h0
      show (q : ℕ) = 0
      omega)
    obtain rfl : r = r' := Fin.ext h1
    obtain rfl : l = l' := Fin.ext h2
    obtain rfl : z = 0 := Subsingleton.elim _ _
    rw [pay3_at]
    refine congrArg (· + _) ?_
    exact congrArg acc (lower_idx r l)

/-- What the first point of a run leaves: its own addition. -/
theorem outA_at (c : Dev nD) (i : grid0.Coords) (arg3 : Memref sig .tc .vmem S2048x512 .bf16) (harg3 : arg3.IsWhole)
    (arg4 : Memref sig .tc .vmem S2048x2304 .bf16) (harg4 : arg4.IsWhole)
    (arg5 : Memref sig .tc .vmem S2x512x1152 .f32) (harg5 : arg5.IsWhole) (first : cond0_0 i)
    (x0 : Vec Ideal S2048x512 .bf16) (x1 : Vec Ideal S2048x2304 .bf16)
    (q : Fin 2) (r : Fin 512) (l : Fin 1152) :
    out0_A_2 c i arg3 harg3 arg4 harg4 arg5 harg5 first x0 x1 (ix3 q r l) = 0 + term x0 x1 (ix3 q r l) := by
  unfold out0_A_2
  rw [View.read_writes_eq_canon _ _ _ (cover0_A_2 c i arg3 harg3 arg4 harg4 arg5 harg5 first x0 x1)]
  unfold kernelRun0_A
  dsimp only
  frame_out
  simp only [View.readCov_eq_canon']
  rcases (by omega : q = 0 ∨ q = 1) with rfl | rfl
  · rw [View.canon_cons_of_not_mem ⟨upper, _⟩ _ (not_upper r l), ← lower_idx r l]
    refine (View.canon_cons_emb lower _ _ _).trans ?_
    rw [pay3_at, lower_idx, term_at]
    refine congrArg (· + ∑ p : Fin 2048, x0 (ix2 p r) * x1 (ix2 p (slab 0 l))) ?_
    exact zero_at _
  · rw [← upper_idx r l]
    refine (View.canon_cons_emb upper _ _ _).trans ?_
    rw [pay4_at, upper_idx, term_at]
    refine congrArg (· + ∑ p : Fin 2048, x0 (ix2 p r) * x1 (ix2 p (slab 1 l))) ?_
    exact under_lower _ r l

variable (m : (ℓ : Loc nD τ sig) → Buf (Elt Ideal) ℓ)

/-- An argument array at launch. -/
abbrev arg0 (c : Dev nD) : FVec Ideal S8192x1024 .f32 := m ((c : Thread nD τ).loc main_arg0)
abbrev arg1 (c : Dev nD) : FVec Ideal S1024 .f32 := m ((c : Thread nD τ).loc main_arg1)
abbrev arg2 (c : Dev nD) : FVec Ideal S8192x4608 .f32 := m ((c : Thread nD τ).loc main_arg2)

/-- The normalised input, as the reference names it. -/
abbrev norm (c : Dev nD) : FVec Ideal S8192x1024 .f32 := val_main_v13 (F := Ideal) (arg0 m c) (arg1 m c)

/-- The left operand's rows are the normalised input's. -/
theorem left_at (c : Dev nD) (t : Fin 8192) (i : Fin 1024) :
    (V m c main_v13 : FVec Ideal S8192x1024 .bf16) (ix2 t i) = norm m c (ix2 t i) := by
  have e : @Eq (FVec Ideal S8192x1024 .bf16) (V m c main_v13) (truncf .bf16 (norm m c) bitsLt_bf16_f32) := by
    unfold_abbrev_sides
    after_reads_simp
    rfl
  rw [e]; pointwise

/-- The right operand's rows are the cotangent's. -/
theorem right_at (c : Dev nD) (t : Fin 8192) (j : Fin 4608) :
    (V m c main_v14 : FVec Ideal S8192x4608 .bf16) (ix2 t j) = arg2 m c (ix2 t j) := by
  have e : @Eq (FVec Ideal S8192x4608 .bf16) (V m c main_v14) (truncf .bf16 (arg2 m c) bitsLt_bf16_f32) := by
    unfold_abbrev_sides
    after_reads_simp
  rw [e]; pointwise

/-- Which blocks each point reads. -/
theorem index_blocks : ∀ t : Fin cfg0.N, win0_0.index t = ![t.val % 4, t.val / 8] ∧ win0_1.index t = ![t.val % 4, t.val / 4 % 2] :=
  (by decide +kernel : ∀ t : Fin grid0.N, _)

/-- Which block each point writes. -/
theorem index_out : ∀ t : Fin cfg0.N, win0_2.index t = ![t.val / 4 % 2, t.val / 8, 0] :=
  (by decide +kernel : ∀ t : Fin grid0.N, _)

/-- Each block of the output is written back by some point. -/
theorem index_onto : ∀ (a : Fin 2) (b : Fin 2), ∃ t : Fin cfg0.N, (cfg0.win 2).flush t = true ∧ win0_2.index t = ![a.val, b.val, 0] :=
  (by decide +kernel : ∀ (a : Fin 2) (b : Fin 2), ∃ t : Fin grid0.N, win0_2.flush t = true ∧ win0_2.index t = ![a.val, b.val, 0])

/-- The column of the normalised input at a column of the point's block. -/
def lcol (n : ℕ) (i : Fin 512) : Fin 1024 := ⟨n / 8 % 2 * 512 + i, by omega⟩

/-- The column's number. -/
theorem lcol_val (n : ℕ) (i : Fin 512) : (lcol n i : ℕ) = n / 8 % 2 * 512 + i := rfl

/-- The column of the cotangent at a column of the point's block. -/
def rcol (n : ℕ) (j : Fin 2304) : Fin 4608 := ⟨n / 4 % 2 * 2304 + j, by omega⟩

/-- The column's number. -/
theorem rcol_val (n : ℕ) (j : Fin 2304) : (rcol n j : ℕ) = n / 4 % 2 * 2304 + j := rfl

/-- The left operand's block. -/
theorem left_blk (c : Dev nD) (t : Fin cfg0.N) (p : Fin 2048) (i : Fin 512) :
    (iblk m c 0 t : Vec Ideal S2048x512 .bf16) (ix2 p i) = norm m c (ix2 (row t.val p) (lcol t.val i)) := by
  have e0 := (index_blocks t).1
  have lt : t.val < 16 := lt_of_lt_of_eq t.isLt N_0
  have d : t.val / 8 % 2 = t.val / 8 := by omega
  have e : (win0_0.blk t).view.emb (ix2 p i) = ix2 (row t.val p) (lcol t.val i) := by
    blk_ext [e0, row_val, lcol_val, d]
  exact (congrArg (V m c main_v13) e).trans (left_at m c _ _)

/-- The right operand's block. -/
theorem right_blk (c : Dev nD) (t : Fin cfg0.N) (p : Fin 2048) (j : Fin 2304) :
    (iblk m c 1 t : Vec Ideal S2048x2304 .bf16) (ix2 p j) = arg2 m c (ix2 (row t.val p) (rcol t.val j)) := by
  have e0 := (index_blocks t).2
  have e : (win0_1.blk t).view.emb (ix2 p j) = ix2 (row t.val p) (rcol t.val j) := by
    blk_ext [e0, row_val, rcol_val]
  exact (congrArg (V m c main_v14) e).trans (right_at m c _ _)

/-- What a point adds at an index of the block. -/
def add (c : Dev nD) (n : ℕ) (y : S2x512x1152.Idx) : EReal :=
  ∑ p : Fin 2048, norm m c (ix2 (row n p) (lcol n (y 1))) * arg2 m c (ix2 (row n p) (rcol n (slab (y 0) (y 2))))

/-- One point's addition, of the argument's rows. -/
theorem term_add (c : Dev nD) (t : Fin cfg0.N) (y : S2x512x1152.Idx) :
    term (iblk m c 0 t) (iblk m c 1 t) y = add m c t.val y :=
  Finset.sum_congr rfl fun p _ => congrArg₂ (· * ·) (left_blk m c t p _) (right_blk m c t p _)

/-- What the first point of a run leaves. -/
def reset (c : Dev nD) (n : ℕ) (h : n < cfg0.N) : S2x512x1152.Idx → EReal := fun y => 0 + add m c n y

/-- What a later point leaves over what it found. -/
def step (c : Dev nD) (n : ℕ) (h : n < cfg0.N) (acc : S2x512x1152.Idx → EReal) : S2x512x1152.Idx → EReal :=
  fun y => acc y + add m c n y

/-- After each point the block holds its run's additions so far. -/
theorem outs_eq (c : Dev nD) (t : Fin cfg0.N) :
    @Eq (S2x512x1152.Idx → EReal) (outsAt0 m c t.val t.isLt)
      (Pipeline.accAt (reset m c) (step m c) (4 * (t.val / 4)) (t.val % 4)
        (by have h1 := t.isLt; have h2 := Nat.div_add_mod t.val 4; omega)) :=
  Pipeline.eq_accAt_of_mod (fun n h => (outsAt0 m c n h : S2x512x1152.Idx → EReal)) 4 (reset m c) (step m c)
    (fun n h first => by
      rw [outsAt0_A m c ⟨n, h⟩ first]
      funext y
      obtain ⟨q, r, l, rfl⟩ := split3 y
      exact (outA_at ..).trans (congrArg (0 + ·) (term_add m c ⟨n, h⟩ _)))
    (fun n h later => by
      rw [outsAt0_B m c ⟨n + 1, h⟩ later]
      funext y
      obtain ⟨q, r, l, rfl⟩ := split3 y
      exact (outB_at ..).trans (congrArg (_ + ·) (term_add m c ⟨n + 1, h⟩ _)))
    (by decide) t.val t.isLt _

/-- The gradient: at a chip's block, the product over all rows. -/
def grad (c : Dev nD) : Buf (Elt Ideal) ((c : Thread nD τ).loc main_v15) := fun i : S4x1024x1152.Idx =>
  (∑ k : Fin 8192, norm m c (ix2 k (i 1)) * arg2 m c (ix2 k ⟨(i 0).val * 1152 + (i 2).val, by
    have h0 : (i 0).val < 4 := (i 0).isLt
    have h2 : (i 2).val < 1152 := (i 2).isLt
    omega⟩) : EReal)

/-- A run's last point leaves the product over all rows. -/
theorem last_at (c : Dev nD) (t : Fin cfg0.N) (last : t.val % 4 = 3) (y : S2x512x1152.Idx) :
    @Eq EReal ((outsAt0 m c t.val t.isLt : S2x512x1152.Idx → EReal) y)
      (∑ k : Fin 8192, norm m c (ix2 k (lcol t.val (y 1))) * arg2 m c (ix2 k (rcol t.val (slab (y 0) (y 2))))) := by
  rw [outs_eq m c t, Pipeline.accAt_add_apply (reset m c) (step m c) (fun _ => 0) (add m c) (4 * (t.val / 4)) 3
    (fun _ _ => rfl) (fun _ _ _ _ _ _ => rfl) (t.val % 4) (by omega), zero_add, last]
  rw [← sum_run (fun k => norm m c (ix2 k (lcol t.val (y 1))) * arg2 m c (ix2 k (rcol t.val (slab (y 0) (y 2)))))
    (4 * (t.val / 4)) (by omega)]
  refine Finset.sum_congr rfl fun s hs => Finset.sum_congr rfl fun p _ => ?_
  have s_lt : s < 4 := Finset.mem_range.mp hs
  have e0 : lcol (4 * (t.val / 4) + s) (y 1) = lcol t.val (y 1) := Fin.ext (by
    show (4 * (t.val / 4) + s) / 8 % 2 * 512 + (y 1).val = t.val / 8 % 2 * 512 + (y 1).val
    omega)
  have e1 : rcol (4 * (t.val / 4) + s) (slab (y 0) (y 2)) = rcol t.val (slab (y 0) (y 2)) := Fin.ext (by
    show (4 * (t.val / 4) + s) / 4 % 2 * 2304 + _ = t.val / 4 % 2 * 2304 + _
    omega)
  exact congrArg₂ (fun a b => norm m c (ix2 _ a) * arg2 m c (ix2 _ b)) e0 e1

/-- What a point writes back is its block of the gradient. -/
theorem flushed_eq (c : Dev nD) (t : Fin cfg0.N) (hf : (cfg0.win 2).flush t = true) :
    (dats m 0 c).flushed 2 t = ((cfg0.win 2).blk t).view.read (Elt Ideal) (grad m c) := by
  rw [flushed2]
  have last : t.val % 4 = 3 := (flush0_2 t).mp hf
  have lt : t.val < 16 := lt_of_lt_of_eq t.isLt N_0
  have e := index_out t
  have i0 : win0_2.index t (0 : Fin 3) = t.val / 4 % 2 := congrFun e 0
  have i1 : win0_2.index t (1 : Fin 3) = t.val / 8 := congrFun e 1
  have i2 : win0_2.index t (2 : Fin 3) = 0 := congrFun e 2
  funext y
  have b0 : (((cfg0.win 2).blk t).view.emb y 0).val = win0_2.index t (0 : Fin 3) * 2 + 1 * (y 0).val := rfl
  have b1 : (((cfg0.win 2).blk t).view.emb y 1).val = win0_2.index t (1 : Fin 3) * 512 + 1 * (y 1).val := rfl
  have b2 : (((cfg0.win 2).blk t).view.emb y 2).val = win0_2.index t (2 : Fin 3) * 1152 + 1 * (y 2).val := rfl
  refine (last_at m c t last ((cfg0.win 2).xinj (grid0.coords t) y)).trans ?_
  have h0 : (((cfg0.win 2).blk t).view.emb y 0).val < 4 := (((cfg0.win 2).blk t).view.emb y 0).isLt
  have h2 : (((cfg0.win 2).blk t).view.emb y 2).val < 1152 := (((cfg0.win 2).blk t).view.emb y 2).isLt
  show @Eq EReal _ (∑ k : Fin 8192, norm m c (ix2 k (((cfg0.win 2).blk t).view.emb y 1)) * arg2 m c (ix2 k
    ⟨(((cfg0.win 2).blk t).view.emb y 0).val * 1152 + (((cfg0.win 2).blk t).view.emb y 2).val, by omega⟩))
  refine Finset.sum_congr rfl fun k _ => ?_
  have e0 : lcol t.val ((cfg0.win 2).xinj (grid0.coords t) y 1) = (((cfg0.win 2).blk t).view.emb y 1) := Fin.ext (by
    rw [b1, i1]
    show t.val / 8 % 2 * 512 + (y 1).val = t.val / 8 * 512 + 1 * (y 1).val
    omega)
  refine congrArg₂ (fun a b => norm m c (ix2 _ a) * arg2 m c (ix2 _ b)) e0 (Fin.ext ?_)
  show t.val / 4 % 2 * 2304 + ((y 0).val * 1152 + (y 2).val)
    = (((cfg0.win 2).blk t).view.emb y 0).val * 1152 + (((cfg0.win 2).blk t).view.emb y 2).val
  rw [b0, b2, i0, i2]
  omega

/-- An index is in a point's block when each coordinate is in the block's range. -/
theorem mem_block (t : Fin cfg0.N) (i : S4x1024x1152.Idx) :
    i ∈ ((cfg0.win 2).blk t).view.set ↔ ∀ a : Fin 3, win0_2.index t a * S2x512x1152.size a ≤ (i a).val
      ∧ (i a).val < win0_2.index t a * S2x512x1152.size a + S2x512x1152.size a := by
  show i ∈ ((View.whole main_v15).slice (win0_2.rect t)).set ↔ _
  rw [View.set_slice_whole, Rect.mem_set_unit]
  exact Iff.rfl

/-- Every index is in a block some point writes back. -/
theorem covered (i : S4x1024x1152.Idx) : ∃ t : Fin cfg0.N, (cfg0.win 2).flush t = true ∧ i ∈ ((cfg0.win 2).blk t).view.set := by
  have h0 : (i 0).val < 4 := (i 0).isLt
  have h1 : (i 1).val < 1024 := (i 1).isLt
  have h2 : (i 2).val < 1152 := (i 2).isLt
  obtain ⟨t, hf, e⟩ := index_onto ⟨(i 0).val / 2, by omega⟩ ⟨(i 1).val / 512, by omega⟩
  have i0 : win0_2.index t (0 : Fin 3) = (i 0).val / 2 := congrFun e 0
  have i1 : win0_2.index t (1 : Fin 3) = (i 1).val / 512 := congrFun e 1
  have i2 : win0_2.index t (2 : Fin 3) = 0 := congrFun e 2
  refine ⟨t, hf, (mem_block t i).mpr fun a => ?_⟩
  match a with
  | ⟨0, _⟩ => show win0_2.index t (0 : Fin 3) * 2 ≤ (i 0).val ∧ (i 0).val < win0_2.index t (0 : Fin 3) * 2 + 2; omega
  | ⟨1, _⟩ => show win0_2.index t (1 : Fin 3) * 512 ≤ (i 1).val ∧ (i 1).val < win0_2.index t (1 : Fin 3) * 512 + 512; omega
  | ⟨2, _⟩ => show win0_2.index t (2 : Fin 3) * 1152 ≤ (i 2).val ∧ (i 2).val < win0_2.index t (2 : Fin 3) * 1152 + 1152; omega

/-- The output array ends holding the gradient. -/
theorem final (c : Dev nD) : (dats m 0 c).arrAt 2 cfg0.N = grad m c :=
  (dats m 0 c).arrAt_eq_of_cover 2 _ (fun t hf => flushed_eq m c t hf) (fun i => covered i)

/-- The reference's result. -/
theorem reference_at (x0 : FVec Ideal S8192x1024 .f32) (x1 : FVec Ideal S1024 .f32) (x2 : FVec Ideal S8192x4608 .f32)
    (i : S4x1024x1152.Idx) (j : Fin 4608) (hj : (j : ℕ) = (i 0).val * 1152 + (i 2).val) :
    val_main_v18 (F := Ideal) x0 x1 x2 i
      = ∑ k : Fin 8192, val_main_v13 (F := Ideal) x0 x1 (ix2 k (i 1)) * x2 (ix2 k j) := by
  have h0 : (i 0).val < 4 := (i 0).isLt
  have h1 : (i 1).val < 1024 := (i 1).isLt
  have h2 : (i 2).val < 1152 := (i 2).isLt
  rw [val_main_v18_apply, val_main_v17_apply, val_main_v16_apply, val_main_v15_apply]
  refine Finset.sum_congr rfl fun k _ => ?_
  rw [mul_comm]
  refine congrArg₂ (· * ·) (congrArg (val_main_v13 (F := Ideal) x0 x1) ?_) (congrArg x2 ?_)
  · funext a
    match a with
    | ⟨0, _⟩ => rfl
    | ⟨1, _⟩ =>
      refine Fin.ext ?_
      show (((i 1).val * 4 + (i 0).val) * 1152 + (i 2).val) / 4608 = (i 1).val
      omega
  · funext a
    match a with
    | ⟨0, _⟩ => rfl
    | ⟨1, _⟩ =>
      refine Fin.ext ?_
      show (((i 1).val * 4 + (i 0).val) * 1152 + (i 2).val) % 4608 = (j : ℕ)
      omega

/-- The reference leaves what the kernel leaves. -/
theorem same (c : Dev nD) : val_main_v18 (F := Ideal) (arg0 m c) (arg1 m c) (arg2 m c) = grad m c :=
  funext fun i => reference_at _ _ _ i _ rfl

end Cert.InKernelIdeal.Wgrad

namespace Cert.Wgrad

open Idealize.ShloMosaic Idealize.SL.Sem Cert.InKernelIdeal.Wgrad

/-- Over the reals the kernel and the reference leave the same gradient of the mixer's input projection. -/
theorem in_values : Cert.algebraic_InKernelIdeal_InReferenceIdeal := fun m ρ m' ρ' _ hagree =>
  ⟨_, (θ_run (Cert.InKernelIdeal.defs (F := Ideal)) _ _).mono (fun r h c => ⟨(h c).1.trans (final m c), (h c).2⟩)
      (Cert.InKernelIdeal.Value.run_blocks m ρ),
    (θ_run (Cert.InReferenceIdeal.defs (F := Ideal)) _ _).mono (fun r h c => by
      obtain ⟨r1, rest⟩ := h c
      obtain ⟨s0, s1, s2⟩ := hagree c
      refine ⟨r1.trans ((Cert.InReferenceIdeal.Read.val_main_v18_eq _ _ _).trans ?_), rest⟩
      rw [s0, s1, s2]; exact same m c)
      (Cert.InReferenceIdeal.Value.run (F := Ideal) m' ρ')⟩

end Cert.Wgrad

end
-- ==== Proof.Wgrad.Down.lean ====
/- The gradient of the ConvFFN's down projection: the kernel adds up four blocks of rows, the reference all rows at once. -/
module

public import proofs.«01_k».proof.Defs
public import proofs.«01_k».proof.Proof.Wgrad.Sum
public import proofs.«01_k».proof.Proof.Gen.DownKernelIdeal.Value
public import proofs.«01_k».proof.Proof.Gen.DownReferenceIdeal.Run
public import proofs.«01_k».proof.Proof.Gen.DownReferenceIdeal.Read
public import Idealize.ShloMosaic.Lib.Claim
public import Idealize.ShloMosaic.Lib.Pointwise
public import Idealize.ShloMosaic.Lib.StableHlo.RunRead
public import Idealize.ShloMosaic.Lib.Pipeline.ValueKit
public import Idealize.ShloMosaic.Lib.Pipeline.ReadBack

@[expose] public section

set_option maxRecDepth 16384

noncomputable section

namespace Cert.DownKernelIdeal.Wgrad

open Cert.DownKernelIdeal Cert.DownKernelIdeal.Gen Cert.DownKernelIdeal.Value
open Idealize.ShloMosaic Idealize.ShloMosaic.TcCoe Idealize.ShloMosaic.Tactic Idealize.SL.Sem
open Cert.Wgrad Cert.DownReferenceIdeal.Read

variable (m : (ℓ : Loc nD τ sig) → Buf (Elt Ideal) ℓ)

/-- An argument array at launch. -/
abbrev arg0 (c : Dev nD) : FVec Ideal S8192x5632 .f32 := m ((c : Thread nD τ).loc main_arg0)
abbrev arg1 (c : Dev nD) : FVec Ideal S3x2816 .f32 := m ((c : Thread nD τ).loc main_arg1)
abbrev arg2 (c : Dev nD) : FVec Ideal S2816 .f32 := m ((c : Thread nD τ).loc main_arg2)
abbrev arg3 (c : Dev nD) : FVec Ideal S8192x1024 .f32 := m ((c : Thread nD τ).loc main_arg3)

/-- The gated activation, as the reference names it. -/
abbrev act (c : Dev nD) : FVec Ideal S8192x2816 .f32 := val_main_v28 (F := Ideal) (arg0 m c) (arg1 m c) (arg2 m c)

/-- The left operand's rows are the gated activation's. -/
theorem left_at (c : Dev nD) (t : Fin 8192) (i : Fin 2816) :
    (V m c main_v28 : FVec Ideal S8192x2816 .bf16) (ix2 t i) = act m c (ix2 t i) := by
  have e : @Eq (FVec Ideal S8192x2816 .bf16) (V m c main_v28) (truncf .bf16 (act m c) bitsLt_bf16_f32) := by
    unfold_abbrev_sides
    after_reads_simp
    rfl
  rw [e]; pointwise

/-- The right operand's rows are the cotangent's. -/
theorem right_at (c : Dev nD) (t : Fin 8192) (j : Fin 1024) :
    (V m c main_v29 : FVec Ideal S8192x1024 .bf16) (ix2 t j) = arg3 m c (ix2 t j) := by
  have e : @Eq (FVec Ideal S8192x1024 .bf16) (V m c main_v29) (truncf .bf16 (arg3 m c) bitsLt_bf16_f32) := by
    unfold_abbrev_sides
    after_reads_simp
  rw [e]; pointwise

/-- Which blocks each point reads. -/
theorem index_blocks : ∀ t : Fin cfg0.N, win0_0.index t = ![t.val % 4, t.val / 4] ∧ win0_1.index t = ![t.val % 4, 0] :=
  (by decide +kernel : ∀ t : Fin grid0.N, _)

/-- The column of the activation at a column of the point's block. -/
def col (n : ℕ) (i : Fin 1408) : Fin 2816 := ⟨n / 4 % 2 * 1408 + i, by omega⟩

/-- The column's number. -/
theorem col_val (n : ℕ) (i : Fin 1408) : (col n i : ℕ) = n / 4 % 2 * 1408 + i := rfl

/-- The left operand's block. -/
theorem left_blk (c : Dev nD) (t : Fin cfg0.N) (p : Fin 2048) (i : Fin 1408) :
    (iblk m c 0 t : Vec Ideal S2048x1408 .bf16) (ix2 p i) = act m c (ix2 (row t.val p) (col t.val i)) := by
  have e0 := (index_blocks t).1
  have lt : t.val < 8 := lt_of_lt_of_eq t.isLt N_0
  have d : t.val / 4 % 2 = t.val / 4 := by omega
  have e : (win0_0.blk t).view.emb (ix2 p i) = ix2 (row t.val p) (col t.val i) := by
    blk_ext [e0, row_val, col_val, d]
  exact (congrArg (V m c main_v28) e).trans (left_at m c _ _)

/-- The right operand's block. -/
theorem right_blk (c : Dev nD) (t : Fin cfg0.N) (p : Fin 2048) (j : Fin 1024) :
    (iblk m c 1 t : Vec Ideal S2048x1024 .bf16) (ix2 p j) = arg3 m c (ix2 (row t.val p) j) := by
  have e0 := (index_blocks t).2
  have e : (win0_1.blk t).view.emb (ix2 p j) = ix2 (row t.val p) j := by
    blk_ext [e0, row_val]
  exact (congrArg (V m c main_v29) e).trans (right_at m c _ _)

/-- One point adds the product of its blocks. -/
theorem pay_at (x0 : Vec Ideal S2048x1408 .bf16) (x1 : Vec Ideal S2048x1024 .bf16) (acc : Vec Ideal S1408x1024 .f32)
    (i : Fin 1408) (j : Fin 1024) :
    k0_pay2 x0 x1 acc (ix2 i j) = acc (ix2 i j) + ∑ p : Fin 2048, x0 (ix2 p i) * x1 (ix2 p j) := by
  pointwise [k0_pay2]

/-- The accumulator starts at zero. -/
theorem zero_at (i : Fin 1408) (j : Fin 1024) : k0_pay1 (F := Ideal) (ix2 i j) = 0 := by
  pointwise [k0_pay1]

/-- What a point adds at an index of the block. -/
def add (c : Dev nD) (n : ℕ) (y : S1408x1024.Idx) : EReal :=
  ∑ p : Fin 2048, act m c (ix2 (row n p) (col n (y 0))) * arg3 m c (ix2 (row n p) (y 1))

/-- One point's addition, of the argument's rows. -/
theorem step_at (c : Dev nD) (n : ℕ) (h : n < cfg0.N) (acc : Vec Ideal S1408x1024 .f32) (y : S1408x1024.Idx) :
    k0_pay2 (iblk m c 0 ⟨n, h⟩) (iblk m c 1 ⟨n, h⟩) acc y = acc y + add m c n y := by
  obtain ⟨i, j, rfl⟩ := split2 y
  rw [pay_at]
  refine congrArg (acc _ + ·) (Finset.sum_congr rfl fun p _ => ?_)
  rw [left_blk, right_blk]
  rfl

/-- What the kernel leaves: the product over all rows. -/
theorem kernel_at (c : Dev nD) (i : S2816x1024.Idx) :
    @Eq EReal (G2 m c i) (∑ k : Fin 8192, act m c (ix2 k (i 0)) * arg3 m c (ix2 k (i 1))) := by
  have h0 : (i 0).val < 2816 := (i 0).isLt
  have h1 : (i 1).val < 1024 := (i 1).isLt
  have r : run2Of i = (i 0).val / 1408 := by
    show 1 * ((i 0).val / 1408 - 0) + 1 * ((i 1).val / 1024 - 0) = (i 0).val / 1408; omega
  have lt : 4 * run2Of i + 3 < cfg0.N := by rw [r, show cfg0.N = 8 from N_0]; omega
  unfold G2
  rw [dif_pos lt, Pipeline.accAt_add_apply (reset2 m c) (step2 m c) (fun _ => 0) (add m c) (4 * run2Of i) 3
    (fun h y => (step_at m c _ h _ y).trans (congrArg (· + _) (by obtain ⟨i, j, rfl⟩ := split2 y; exact zero_at i j)))
    (fun n h acc y _ _ => step_at m c n h acc y) 3 le_rfl lt, zero_add]
  rw [← sum_run (fun k => act m c (ix2 k (i 0)) * arg3 m c (ix2 k (i 1))) (4 * run2Of i) (by omega)]
  refine Finset.sum_congr rfl fun s hs => Finset.sum_congr rfl fun p _ => ?_
  have s_lt : s < 4 := Finset.mem_range.mp hs
  have e0 : col (4 * run2Of i + s) (loc2Of i 0) = i 0 := Fin.ext (by
    show (4 * run2Of i + s) / 4 % 2 * 1408 + (i 0).val % 1408 = (i 0).val
    rw [r]
    omega)
  have e1 : loc2Of i 1 = i 1 := Fin.ext (show (i 1).val % 1024 = (i 1).val by omega)
  exact congrArg₂ (fun a b => act m c (ix2 _ a) * arg3 m c (ix2 _ b)) e0 e1

/-- The reference's result. -/
theorem reference_at (x0 : FVec Ideal S8192x5632 .f32) (x1 : FVec Ideal S3x2816 .f32) (x2 : FVec Ideal S2816 .f32)
    (x3 : FVec Ideal S8192x1024 .f32) (i : S2816x1024.Idx) :
    val_main_v31 (F := Ideal) x0 x1 x2 x3 i
      = ∑ k : Fin 8192, val_main_v28 (F := Ideal) x0 x1 x2 (ix2 k (i 0)) * x3 (ix2 k (i 1)) := by
  rw [val_main_v31_apply, val_main_v30_apply]
  refine Finset.sum_congr rfl fun k _ => ?_
  rw [mul_comm]
  congr 2 <;> (funext a; match a with | ⟨0, _⟩ => rfl | ⟨1, _⟩ => rfl)

/-- The reference leaves what the kernel leaves. -/
theorem same (c : Dev nD) : val_main_v31 (F := Ideal) (arg0 m c) (arg1 m c) (arg2 m c) (arg3 m c) = G2 m c :=
  funext fun i => (reference_at _ _ _ _ i).trans (kernel_at m c i).symm

end Cert.DownKernelIdeal.Wgrad

namespace Cert.Wgrad

open Idealize.ShloMosaic Idealize.SL.Sem Cert.DownKernelIdeal.Wgrad

/-- Over the reals the kernel and the reference leave the same gradient of the ConvFFN's down projection. -/
theorem down_values : Cert.algebraic_DownKernelIdeal_DownReferenceIdeal := fun m ρ m' ρ' _ hagree =>
  ⟨_, Cert.DownKernelIdeal.Value.run m ρ,
    (θ_run (Cert.DownReferenceIdeal.defs (F := Ideal)) _ _).mono (fun r h c => by
      obtain ⟨r1, rest⟩ := h c
      obtain ⟨s0, s1, s2, s3⟩ := hagree c
      refine ⟨r1.trans ((Cert.DownReferenceIdeal.Read.val_main_v31_eq m' c).trans ?_), rest⟩
      rw [s0, s1, s2, s3]; exact same m c)
      (Cert.DownReferenceIdeal.Value.run (F := Ideal) m' ρ')⟩

end Cert.Wgrad

end
-- ==== Proof.Wgrad.Out.lean ====
/- The gradient of the mixer's output weight: the kernel adds up four blocks of rows, the reference all rows at once. -/
module

public import proofs.«01_k».proof.Defs
public import proofs.«01_k».proof.Proof.Wgrad.Sum
public import proofs.«01_k».proof.Proof.Gen.OutKernelIdeal.Value
public import proofs.«01_k».proof.Proof.Gen.OutReferenceIdeal.Run
public import proofs.«01_k».proof.Proof.Gen.OutReferenceIdeal.Read
public import Idealize.ShloMosaic.Lib.Claim
public import Idealize.ShloMosaic.Lib.Pointwise
public import Idealize.ShloMosaic.Lib.StableHlo.RunRead
public import Idealize.ShloMosaic.Lib.Pipeline.ValueKit
public import Idealize.ShloMosaic.Lib.Pipeline.ReadBack

@[expose] public section

set_option maxRecDepth 16384

noncomputable section

namespace Cert.OutKernelIdeal.Wgrad

open Cert.OutKernelIdeal Cert.OutKernelIdeal.Gen Cert.OutKernelIdeal.Value
open Idealize.ShloMosaic Idealize.ShloMosaic.TcCoe Idealize.ShloMosaic.Tactic Idealize.SL.Sem
open Cert.Wgrad Cert.OutReferenceIdeal.Read

variable (m : (ℓ : Loc nD τ sig) → Buf (Elt Ideal) ℓ)

/-- An argument array at launch. -/
abbrev arg0 (c : Dev nD) : FVec Ideal S8192x1024 .f32 := m ((c : Thread nD τ).loc main_arg0)
abbrev arg1 (c : Dev nD) : FVec Ideal S8192x1024 .f32 := m ((c : Thread nD τ).loc main_arg1)

/-- The left operand's rows are the first argument's. -/
theorem left_at (c : Dev nD) (t : Fin 8192) (i : Fin 1024) :
    (V m c main_v0 : FVec Ideal S8192x1024 .bf16) (ix2 t i) = arg0 m c (ix2 t i) := by
  have e : @Eq (FVec Ideal S8192x1024 .bf16) (V m c main_v0) (truncf .bf16 (arg0 m c) bitsLt_bf16_f32) := by
    unfold_abbrev_sides
    after_reads_simp
  rw [e]; pointwise

/-- The right operand's rows are the second argument's. -/
theorem right_at (c : Dev nD) (t : Fin 8192) (j : Fin 1024) :
    (V m c main_v1 : FVec Ideal S8192x1024 .bf16) (ix2 t j) = arg1 m c (ix2 t j) := by
  have e : @Eq (FVec Ideal S8192x1024 .bf16) (V m c main_v1) (truncf .bf16 (arg1 m c) bitsLt_bf16_f32) := by
    unfold_abbrev_sides
    after_reads_simp
  rw [e]; pointwise

/-- Which blocks each point reads. -/
theorem index_blocks : ∀ t : Fin cfg0.N, win0_0.index t = ![t.val % 4, 0] ∧ win0_1.index t = ![t.val % 4, 0] :=
  (by decide +kernel : ∀ t : Fin grid0.N, _)

/-- The left operand's block. -/
theorem left_blk (c : Dev nD) (t : Fin cfg0.N) (p : Fin 2048) (i : Fin 1024) :
    (iblk m c 0 t : Vec Ideal S2048x1024 .bf16) (ix2 p i) = arg0 m c (ix2 (row t.val p) i) := by
  have e0 := (index_blocks t).1
  have e : (win0_0.blk t).view.emb (ix2 p i) = ix2 (row t.val p) i := by
    blk_ext [e0, row_val]
  exact (congrArg (V m c main_v0) e).trans (left_at m c _ _)

/-- The right operand's block. -/
theorem right_blk (c : Dev nD) (t : Fin cfg0.N) (p : Fin 2048) (j : Fin 1024) :
    (iblk m c 1 t : Vec Ideal S2048x1024 .bf16) (ix2 p j) = arg1 m c (ix2 (row t.val p) j) := by
  have e0 := (index_blocks t).2
  have e : (win0_1.blk t).view.emb (ix2 p j) = ix2 (row t.val p) j := by
    blk_ext [e0, row_val]
  exact (congrArg (V m c main_v1) e).trans (right_at m c _ _)

/-- One point adds the product of its blocks. -/
theorem pay_at (x0 : Vec Ideal S2048x1024 .bf16) (x1 : Vec Ideal S2048x1024 .bf16) (acc : Vec Ideal S1024x1024 .f32)
    (i j : Fin 1024) :
    k0_pay2 x0 x1 acc (ix2 i j) = acc (ix2 i j) + ∑ p : Fin 2048, x0 (ix2 p i) * x1 (ix2 p j) := by
  pointwise [k0_pay2]

/-- The accumulator starts at zero. -/
theorem zero_at (i j : Fin 1024) : k0_pay1 (F := Ideal) (ix2 i j) = 0 := by
  pointwise [k0_pay1]

/-- What a point adds at an index of the block. -/
def add (c : Dev nD) (n : ℕ) (y : S1024x1024.Idx) : EReal :=
  ∑ p : Fin 2048, arg0 m c (ix2 (row n p) (y 0)) * arg1 m c (ix2 (row n p) (y 1))

/-- One point's addition, of the argument's rows. -/
theorem step_at (c : Dev nD) (n : ℕ) (h : n < cfg0.N) (acc : Vec Ideal S1024x1024 .f32) (y : S1024x1024.Idx) :
    k0_pay2 (iblk m c 0 ⟨n, h⟩) (iblk m c 1 ⟨n, h⟩) acc y = acc y + add m c n y := by
  obtain ⟨i, j, rfl⟩ := split2 y
  rw [pay_at]
  refine congrArg (acc _ + ·) (Finset.sum_congr rfl fun p _ => ?_)
  rw [left_blk, right_blk]
  rfl

/-- What the kernel leaves: the product over all rows. -/
theorem kernel_at (c : Dev nD) (i : S1024x1024.Idx) :
    G2 m c i = ∑ k : Fin 8192, arg0 m c (ix2 k (i 0)) * arg1 m c (ix2 k (i 1)) := by
  have h0 : (i 0).val < 1024 := (i 0).isLt
  have h1 : (i 1).val < 1024 := (i 1).isLt
  have r : run2Of i = 0 := by show 1 * ((i 0).val / 1024 - 0) + 1 * ((i 1).val / 1024 - 0) = 0; omega
  have l : loc2Of i = i := by
    funext a
    match a with
    | ⟨0, _⟩ => exact Fin.ext (show (i 0).val % 1024 = (i 0).val by omega)
    | ⟨1, _⟩ => exact Fin.ext (show (i 1).val % 1024 = (i 1).val by omega)
  have lt : 4 * run2Of i + 3 < cfg0.N := by rw [r, show cfg0.N = 4 from N_0]; decide
  unfold G2
  rw [dif_pos lt, Pipeline.accAt_add_apply (reset2 m c) (step2 m c) (fun _ => 0) (add m c) (4 * run2Of i) 3
    (fun h y => (step_at m c _ h _ y).trans (congrArg (· + _) (by obtain ⟨i, j, rfl⟩ := split2 y; exact zero_at i j)))
    (fun n h acc y _ _ => step_at m c n h acc y) 3 le_rfl lt, l, zero_add]
  exact sum_run (fun k => arg0 m c (ix2 k (i 0)) * arg1 m c (ix2 k (i 1))) _ (by omega)

/-- The reference's result. -/
theorem reference_at (x0 x1 : FVec Ideal S8192x1024 .f32) (i : S1024x1024.Idx) :
    val_main_v3 (F := Ideal) x0 x1 i = ∑ k : Fin 8192, x0 (ix2 k (i 0)) * x1 (ix2 k (i 1)) := by
  rw [val_main_v3_apply, val_main_v2_apply]
  refine Finset.sum_congr rfl fun k _ => ?_
  rw [mul_comm]
  congr 2 <;> (funext a; match a with | ⟨0, _⟩ => rfl | ⟨1, _⟩ => rfl)

/-- The reference leaves what the kernel leaves. -/
theorem same (c : Dev nD) : val_main_v3 (F := Ideal) (arg0 m c) (arg1 m c) = G2 m c :=
  funext fun i => (reference_at _ _ i).trans (kernel_at m c i).symm

end Cert.OutKernelIdeal.Wgrad

namespace Cert.Wgrad

open Idealize.ShloMosaic Idealize.SL.Sem Cert.OutKernelIdeal.Wgrad

/-- Over the reals the kernel and the reference leave the same gradient of the mixer's output weight. -/
theorem out_values : Cert.algebraic_OutKernelIdeal_OutReferenceIdeal := fun m ρ m' ρ' _ hagree =>
  ⟨_, Cert.OutKernelIdeal.Value.run m ρ,
    (θ_run (Cert.OutReferenceIdeal.defs (F := Ideal)) _ _).mono (fun r h c => by
      obtain ⟨r1, rest⟩ := h c
      obtain ⟨s0, s1⟩ := hagree c
      have q : Cert.OutReferenceIdeal.Read.val_main_v3 (F := Ideal)
          (m' ((c.tc : Thread Cert.OutReferenceIdeal.nD Cert.OutReferenceIdeal.τ).loc Cert.OutReferenceIdeal.main_arg0))
          (m' ((c.tc : Thread Cert.OutReferenceIdeal.nD Cert.OutReferenceIdeal.τ).loc Cert.OutReferenceIdeal.main_arg1))
          = Cert.OutKernelIdeal.Value.G2 m c := by rw [s0, s1]; exact same m c
      exact ⟨r1.trans ((Cert.OutReferenceIdeal.Read.val_main_v3_eq _ _).trans q), rest⟩)
      (Cert.OutReferenceIdeal.Value.run (F := Ideal) m' ρ')⟩

end Cert.Wgrad

end
-- ==== Proof.Wgrad.Branch.lean ====
/- The gradient of the two branch weights: two products at each point, each cut into four slabs of columns, eight slabs in
   all; the reference joins the two gradients, reshapes and transposes. -/
module

public import proofs.«01_k».proof.Defs
public import proofs.«01_k».proof.Proof.Wgrad.Sum
public import proofs.«01_k».proof.Proof.Gen.BranchKernelIdeal.Value
public import proofs.«01_k».proof.Proof.Gen.BranchReferenceIdeal.Run
public import proofs.«01_k».proof.Proof.Gen.BranchReferenceIdeal.Read
public import Idealize.ShloMosaic.Lib.Claim
public import Idealize.ShloMosaic.Lib.Pointwise
public import Idealize.ShloMosaic.Lib.StableHlo.RunRead
public import Idealize.ShloMosaic.Lib.Pipeline.ValueKit
public import Idealize.ShloMosaic.Lib.Pipeline.ReadBack

@[expose] public section

set_option maxRecDepth 16384

noncomputable section

namespace Cert.BranchKernelIdeal.Wgrad

open Cert.BranchKernelIdeal Cert.BranchKernelIdeal.Gen Cert.BranchKernelIdeal.Value
open Idealize.ShloMosaic Idealize.ShloMosaic.TcCoe Idealize.ShloMosaic.Tactic Idealize.SL.Sem
open Cert.Wgrad Cert.BranchReferenceIdeal.Read

/-- The column of the cotangent at a column of a slab. -/
def col (q : Fin 4) (l : Fin 256) : Fin 1024 := ⟨q * 256 + l, by omega⟩

/-- The column's number. -/
theorem col_val (q : Fin 4) (l : Fin 256) : (col q l : ℕ) = q * 256 + l := rfl

/-- What four blocks of rows add at an index of the output: the first branch's product in the first half of the rows, the
    second's in the second half. -/
def term (x0 : Vec Ideal S2048x512 .bf16) (x1 : Vec Ideal S2048x1024 .bf16)
    (x2 : Vec Ideal S2048x512 .bf16) (x3 : Vec Ideal S2048x1024 .bf16) (y : S4x1024x256.Idx) : EReal :=
  if h : (y 1).val < 512 then ∑ p : Fin 2048, x0 (ix2 p ⟨(y 1).val, h⟩) * x1 (ix2 p (col (y 0) (y 2)))
  else ∑ p : Fin 2048, x2 (ix2 p ⟨(y 1).val - 512, by have h1 : (y 1).val < 1024 := (y 1).isLt; omega⟩) * x3 (ix2 p (col (y 0) (y 2)))

/-- In the first half. -/
theorem term_low (x0 : Vec Ideal S2048x512 .bf16) (x1 : Vec Ideal S2048x1024 .bf16)
    (x2 : Vec Ideal S2048x512 .bf16) (x3 : Vec Ideal S2048x1024 .bf16)
    (q : Fin 4) (r : Fin 1024) (l : Fin 256) (r' : Fin 512) (hr : (r : ℕ) = 0 + r') :
    term x0 x1 x2 x3 (ix3 q r l) = ∑ p : Fin 2048, x0 (ix2 p r') * x1 (ix2 p (col q l)) := by
  have h : (r : ℕ) < 512 := by omega
  refine (dif_pos h).trans (Finset.sum_congr rfl fun p _ => ?_)
  exact congrArg (fun a => x0 (ix2 p a) * x1 (ix2 p (col q l))) (Fin.ext (show (r : ℕ) = r' by omega))

/-- In the second half. -/
theorem term_high (x0 : Vec Ideal S2048x512 .bf16) (x1 : Vec Ideal S2048x1024 .bf16)
    (x2 : Vec Ideal S2048x512 .bf16) (x3 : Vec Ideal S2048x1024 .bf16)
    (q : Fin 4) (r : Fin 1024) (l : Fin 256) (r' : Fin 512) (hr : (r : ℕ) = 512 + r') :
    term x0 x1 x2 x3 (ix3 q r l) = ∑ p : Fin 2048, x2 (ix2 p r') * x3 (ix2 p (col q l)) := by
  have h : ¬(r : ℕ) < 512 := by omega
  refine (dif_neg h).trans (Finset.sum_congr rfl fun p _ => ?_)
  exact congrArg (fun a => x2 (ix2 p a) * x3 (ix2 p (col q l))) (Fin.ext (show (r : ℕ) - 512 = r' by omega))

/-- The store of column slab 0, first half of the rows. -/
theorem pay00 (x0 : Vec Ideal S2048x512 .bf16) (x1 : Vec Ideal S2048x1024 .bf16) (acc : Vec Ideal S1x512x256 .f32)
    (r : Fin 512) (l : Fin 256) (j : Fin 1024) (hj : (j : ℕ) = 0 + l) :
    k0_pay6 x0 x1 acc (ix3 0 r l) = acc (ix3 0 r l) + ∑ p : Fin 2048, x0 (ix2 p r) * x1 (ix2 p j) := by
  pointwise [k0_pay6, k0_pay4]
  refine congrArg (acc _ + ·) (Finset.sum_congr rfl fun p _ => ?_)
  exact congrArg (fun a => x0 (ix2 p r) * x1 (ix2 p a)) (Fin.ext (by
    refine Eq.trans ?_ hj.symm
    simp))

/-- The store of column slab 0, second half of the rows. -/
theorem pay01 (x0 : Vec Ideal S2048x512 .bf16) (x1 : Vec Ideal S2048x1024 .bf16) (acc : Vec Ideal S1x512x256 .f32)
    (r : Fin 512) (l : Fin 256) (j : Fin 1024) (hj : (j : ℕ) = 0 + l) :
    k0_pay7 x0 x1 acc (ix3 0 r l) = acc (ix3 0 r l) + ∑ p : Fin 2048, x0 (ix2 p r) * x1 (ix2 p j) := by
  pointwise [k0_pay7, k0_pay5]
  refine congrArg (acc _ + ·) (Finset.sum_congr rfl fun p _ => ?_)
  exact congrArg (fun a => x0 (ix2 p r) * x1 (ix2 p a)) (Fin.ext (by
    refine Eq.trans ?_ hj.symm
    simp))

/-- The store of column slab 1, first half of the rows. -/
theorem pay10 (x0 : Vec Ideal S2048x512 .bf16) (x1 : Vec Ideal S2048x1024 .bf16) (acc : Vec Ideal S1x512x256 .f32)
    (r : Fin 512) (l : Fin 256) (j : Fin 1024) (hj : (j : ℕ) = 256 + l) :
    k0_pay9 (k0_pay4 x0 x1) (k0_pay8 acc) (ix3 0 r l) = acc (ix3 0 r l) + ∑ p : Fin 2048, x0 (ix2 p r) * x1 (ix2 p j) := by
  pointwise [k0_pay9, k0_pay8, k0_pay4]
  refine congrArg (acc _ + ·) (Finset.sum_congr rfl fun p _ => ?_)
  exact congrArg (fun a => x0 (ix2 p r) * x1 (ix2 p a)) (Fin.ext (by
    refine Eq.trans ?_ hj.symm
    simp))

/-- The store of column slab 1, second half of the rows. -/
theorem pay11 (x0 : Vec Ideal S2048x512 .bf16) (x1 : Vec Ideal S2048x1024 .bf16) (acc : Vec Ideal S1x512x256 .f32)
    (r : Fin 512) (l : Fin 256) (j : Fin 1024) (hj : (j : ℕ) = 256 + l) :
    k0_pay10 (k0_pay5 x0 x1) acc (ix3 0 r l) = acc (ix3 0 r l) + ∑ p : Fin 2048, x0 (ix2 p r) * x1 (ix2 p j) := by
  pointwise [k0_pay10, k0_pay5]
  refine congrArg (acc _ + ·) (Finset.sum_congr rfl fun p _ => ?_)
  exact congrArg (fun a => x0 (ix2 p r) * x1 (ix2 p a)) (Fin.ext (by
    refine Eq.trans ?_ hj.symm
    simp))

/-- The store of column slab 2, first half of the rows. -/
theorem pay20 (x0 : Vec Ideal S2048x512 .bf16) (x1 : Vec Ideal S2048x1024 .bf16) (acc : Vec Ideal S1x512x256 .f32)
    (r : Fin 512) (l : Fin 256) (j : Fin 1024) (hj : (j : ℕ) = 512 + l) :
    k0_pay11 (k0_pay4 x0 x1) acc (ix3 0 r l) = acc (ix3 0 r l) + ∑ p : Fin 2048, x0 (ix2 p r) * x1 (ix2 p j) := by
  pointwise [k0_pay11, k0_pay4]
  refine congrArg (acc _ + ·) (Finset.sum_congr rfl fun p _ => ?_)
  exact congrArg (fun a => x0 (ix2 p r) * x1 (ix2 p a)) (Fin.ext (by
    refine Eq.trans ?_ hj.symm
    simp))

/-- The store of column slab 2, second half of the rows. -/
theorem pay21 (x0 : Vec Ideal S2048x512 .bf16) (x1 : Vec Ideal S2048x1024 .bf16) (acc : Vec Ideal S1x512x256 .f32)
    (r : Fin 512) (l : Fin 256) (j : Fin 1024) (hj : (j : ℕ) = 512 + l) :
    k0_pay12 (k0_pay5 x0 x1) acc (ix3 0 r l) = acc (ix3 0 r l) + ∑ p : Fin 2048, x0 (ix2 p r) * x1 (ix2 p j) := by
  pointwise [k0_pay12, k0_pay5]
  refine congrArg (acc _ + ·) (Finset.sum_congr rfl fun p _ => ?_)
  exact congrArg (fun a => x0 (ix2 p r) * x1 (ix2 p a)) (Fin.ext (by
    refine Eq.trans ?_ hj.symm
    simp))

/-- The store of column slab 3, first half of the rows. -/
theorem pay30 (x0 : Vec Ideal S2048x512 .bf16) (x1 : Vec Ideal S2048x1024 .bf16) (acc : Vec Ideal S1x512x256 .f32)
    (r : Fin 512) (l : Fin 256) (j : Fin 1024) (hj : (j : ℕ) = 768 + l) :
    k0_pay1 (k0_pay13 (k0_pay4 x0 x1) acc) (ix3 0 r l) = acc (ix3 0 r l) + ∑ p : Fin 2048, x0 (ix2 p r) * x1 (ix2 p j) := by
  pointwise [k0_pay1, k0_pay13, k0_pay4]
  refine congrArg (acc _ + ·) (Finset.sum_congr rfl fun p _ => ?_)
  exact congrArg (fun a => x0 (ix2 p r) * x1 (ix2 p a)) (Fin.ext (by
    refine Eq.trans ?_ hj.symm
    simp))

/-- The store of column slab 3, second half of the rows. -/
theorem pay31 (x0 : Vec Ideal S2048x512 .bf16) (x1 : Vec Ideal S2048x1024 .bf16) (acc : Vec Ideal S1x512x256 .f32)
    (r : Fin 512) (l : Fin 256) (j : Fin 1024) (hj : (j : ℕ) = 768 + l) :
    k0_pay2 (k0_pay5 x0 x1) acc (ix3 0 r l) = acc (ix3 0 r l) + ∑ p : Fin 2048, x0 (ix2 p r) * x1 (ix2 p j) := by
  pointwise [k0_pay2, k0_pay5]
  refine congrArg (acc _ + ·) (Finset.sum_congr rfl fun p _ => ?_)
  exact congrArg (fun a => x0 (ix2 p r) * x1 (ix2 p a)) (Fin.ext (by
    refine Eq.trans ?_ hj.symm
    simp))

/-- Where a slab's indices lie. -/
theorem place (a b : ℕ) (inb) (q : Fin 4) (r : Fin 1024) (l : Fin 256) (r' : Fin 512) (hq : (q : ℕ) = a) (hr : (r : ℕ) = b + r') :
    (Rect.unit (s := S4x1024x256) ![a, b, 0] ![1, 512, 256] inb).idx (ix3 0 r' l) = ix3 q r l :=
  funext fun x => Fin.ext ((Rect.idx_unit_val ..).trans (by
    match x with
    | ⟨0, _⟩ => exact hq.symm
    | ⟨1, _⟩ => exact hr.symm
    | ⟨2, _⟩ => exact Nat.zero_add _))

/-- A slab holds none of another slab's indices. -/
theorem off (a b : ℕ) (inb) (q : Fin 4) (r : Fin 1024) (l : Fin 256) (h : (q : ℕ) ≠ a ∨ (r : ℕ) < b ∨ b + 512 ≤ r) :
    ix3 q r l ∉ (Rect.unit (s := S4x1024x256) ![a, b, 0] ![1, 512, 256] inb).set := fun mem => by
  have m0 : a ≤ (q : ℕ) ∧ (q : ℕ) < a + 1 := Rect.mem_set_unit.mp mem 0
  have m1 : b ≤ (r : ℕ) ∧ (r : ℕ) < b + 512 := Rect.mem_set_unit.mp mem 1
  omega

/-- The block starts at zero. -/
theorem zero_at (y : S4x1024x256.Idx) :
    View.canon [(⟨Rect.unit ![0, 0, 0] ![4, 1024, 256] inb_S4x1024x256_S4x1024x256_0_0_0, k0_pay3 (F := Ideal)⟩ : View.Piece (Elt Ideal) S4x1024x256 .f32)] y = 0 := by
  obtain ⟨i, j, k, rfl⟩ := split3 y
  rw [View.canon_unit_zero (S := S4x1024x256) (by decide)]
  pointwise [k0_pay3]

/-- Where the last stores cover an index, the stores before them do not matter. -/
theorem canon_over {S : Shape} {e : EltTy} (L L' : List (View.Piece (Elt Ideal) S e)) (y : S.Idx)
    (cover : ∃ p ∈ L, y ∈ p.1.set) : View.canon (L ++ L') y = View.canon L y := by
  induction L with
  | nil => obtain ⟨p, mem, -⟩ := cover; cases mem
  | cons p L ih =>
    rw [List.cons_append]
    by_cases here : y ∈ p.1.set
    · obtain ⟨x, rfl⟩ := p.1.exists_idx_of_mem here
      exact (View.canon_cons_emb p.1 p.2 _ x).trans (View.canon_cons_emb p.1 p.2 _ x).symm
    · rw [View.canon_cons_of_not_mem _ _ here, View.canon_cons_of_not_mem _ _ here]
      obtain ⟨o, mem, inside⟩ := cover
      refine ih ⟨o, (List.mem_cons.mp mem).resolve_left fun e => here (e ▸ inside), inside⟩

/-- An index of slab 0 holds zero when only the zero is stored. -/
theorem under0 (q : Fin 4) (r : Fin 1024) (l : Fin 256) (h : 0 ≤ 2 * (q : ℕ) + (r : ℕ) / 512) :
    View.canon [(⟨Rect.unit ![0, 0, 0] ![4, 1024, 256] inb_S4x1024x256_S4x1024x256_0_0_0, k0_pay3 (F := Ideal)⟩ : View.Piece (Elt Ideal) S4x1024x256 .f32)] (ix3 q r l) = 0 :=
  zero_at _

/-- An index of slab 1 holds zero when only slab 0 are stored. -/
theorem under1 (w0 : Vec Ideal S1x512x256 .f32) (q : Fin 4) (r : Fin 1024) (l : Fin 256) (h : 1 ≤ 2 * (q : ℕ) + (r : ℕ) / 512) :
    View.canon [(⟨Rect.unit (s := S4x1024x256) ![0, 0, 0] ![1, 512, 256] inb_S4x1024x256_S1x512x256_0_0_0, w0⟩ : View.Piece (Elt Ideal) S4x1024x256 .f32), (⟨Rect.unit ![0, 0, 0] ![4, 1024, 256] inb_S4x1024x256_S4x1024x256_0_0_0, k0_pay3 (F := Ideal)⟩ : View.Piece (Elt Ideal) S4x1024x256 .f32)] (ix3 q r l) = 0 :=
  (View.canon_cons_of_not_mem (⟨Rect.unit (s := S4x1024x256) ![0, 0, 0] ![1, 512, 256] inb_S4x1024x256_S1x512x256_0_0_0, w0⟩ : View.Piece (Elt Ideal) S4x1024x256 .f32) _
    (off 0 0 inb_S4x1024x256_S1x512x256_0_0_0 q r l (by omega))).trans
    (under0  q r l (by omega))

/-- An index of slab 2 holds zero when only slabs 0 to 1 are stored. -/
theorem under2 (w1 w0 : Vec Ideal S1x512x256 .f32) (q : Fin 4) (r : Fin 1024) (l : Fin 256) (h : 2 ≤ 2 * (q : ℕ) + (r : ℕ) / 512) :
    View.canon [(⟨Rect.unit (s := S4x1024x256) ![0, 512, 0] ![1, 512, 256] inb_S4x1024x256_S1x512x256_0_512_0, w1⟩ : View.Piece (Elt Ideal) S4x1024x256 .f32), (⟨Rect.unit (s := S4x1024x256) ![0, 0, 0] ![1, 512, 256] inb_S4x1024x256_S1x512x256_0_0_0, w0⟩ : View.Piece (Elt Ideal) S4x1024x256 .f32), (⟨Rect.unit ![0, 0, 0] ![4, 1024, 256] inb_S4x1024x256_S4x1024x256_0_0_0, k0_pay3 (F := Ideal)⟩ : View.Piece (Elt Ideal) S4x1024x256 .f32)] (ix3 q r l) = 0 :=
  (View.canon_cons_of_not_mem (⟨Rect.unit (s := S4x1024x256) ![0, 512, 0] ![1, 512, 256] inb_S4x1024x256_S1x512x256_0_512_0, w1⟩ : View.Piece (Elt Ideal) S4x1024x256 .f32) _
    (off 0 512 inb_S4x1024x256_S1x512x256_0_512_0 q r l (by omega))).trans
    (under1 w0 q r l (by omega))

/-- An index of slab 3 holds zero when only slabs 0 to 2 are stored. -/
theorem under3 (w2 w1 w0 : Vec Ideal S1x512x256 .f32) (q : Fin 4) (r : Fin 1024) (l : Fin 256) (h : 3 ≤ 2 * (q : ℕ) + (r : ℕ) / 512) :
    View.canon [(⟨Rect.unit (s := S4x1024x256) ![1, 0, 0] ![1, 512, 256] inb_S4x1024x256_S1x512x256_1_0_0, w2⟩ : View.Piece (Elt Ideal) S4x1024x256 .f32), (⟨Rect.unit (s := S4x1024x256) ![0, 512, 0] ![1, 512, 256] inb_S4x1024x256_S1x512x256_0_512_0, w1⟩ : View.Piece (Elt Ideal) S4x1024x256 .f32), (⟨Rect.unit (s := S4x1024x256) ![0, 0, 0] ![1, 512, 256] inb_S4x1024x256_S1x512x256_0_0_0, w0⟩ : View.Piece (Elt Ideal) S4x1024x256 .f32), (⟨Rect.unit ![0, 0, 0] ![4, 1024, 256] inb_S4x1024x256_S4x1024x256_0_0_0, k0_pay3 (F := Ideal)⟩ : View.Piece (Elt Ideal) S4x1024x256 .f32)] (ix3 q r l) = 0 :=
  (View.canon_cons_of_not_mem (⟨Rect.unit (s := S4x1024x256) ![1, 0, 0] ![1, 512, 256] inb_S4x1024x256_S1x512x256_1_0_0, w2⟩ : View.Piece (Elt Ideal) S4x1024x256 .f32) _
    (off 1 0 inb_S4x1024x256_S1x512x256_1_0_0 q r l (by omega))).trans
    (under2 w1 w0 q r l (by omega))

/-- An index of slab 4 holds zero when only slabs 0 to 3 are stored. -/
theorem under4 (w3 w2 w1 w0 : Vec Ideal S1x512x256 .f32) (q : Fin 4) (r : Fin 1024) (l : Fin 256) (h : 4 ≤ 2 * (q : ℕ) + (r : ℕ) / 512) :
    View.canon [(⟨Rect.unit (s := S4x1024x256) ![1, 512, 0] ![1, 512, 256] inb_S4x1024x256_S1x512x256_1_512_0, w3⟩ : View.Piece (Elt Ideal) S4x1024x256 .f32), (⟨Rect.unit (s := S4x1024x256) ![1, 0, 0] ![1, 512, 256] inb_S4x1024x256_S1x512x256_1_0_0, w2⟩ : View.Piece (Elt Ideal) S4x1024x256 .f32), (⟨Rect.unit (s := S4x1024x256) ![0, 512, 0] ![1, 512, 256] inb_S4x1024x256_S1x512x256_0_512_0, w1⟩ : View.Piece (Elt Ideal) S4x1024x256 .f32), (⟨Rect.unit (s := S4x1024x256) ![0, 0, 0] ![1, 512, 256] inb_S4x1024x256_S1x512x256_0_0_0, w0⟩ : View.Piece (Elt Ideal) S4x1024x256 .f32), (⟨Rect.unit ![0, 0, 0] ![4, 1024, 256] inb_S4x1024x256_S4x1024x256_0_0_0, k0_pay3 (F := Ideal)⟩ : View.Piece (Elt Ideal) S4x1024x256 .f32)] (ix3 q r l) = 0 :=
  (View.canon_cons_of_not_mem (⟨Rect.unit (s := S4x1024x256) ![1, 512, 0] ![1, 512, 256] inb_S4x1024x256_S1x512x256_1_512_0, w3⟩ : View.Piece (Elt Ideal) S4x1024x256 .f32) _
    (off 1 512 inb_S4x1024x256_S1x512x256_1_512_0 q r l (by omega))).trans
    (under3 w2 w1 w0 q r l (by omega))

/-- An index of slab 5 holds zero when only slabs 0 to 4 are stored. -/
theorem under5 (w4 w3 w2 w1 w0 : Vec Ideal S1x512x256 .f32) (q : Fin 4) (r : Fin 1024) (l : Fin 256) (h : 5 ≤ 2 * (q : ℕ) + (r : ℕ) / 512) :
    View.canon [(⟨Rect.unit (s := S4x1024x256) ![2, 0, 0] ![1, 512, 256] inb_S4x1024x256_S1x512x256_2_0_0, w4⟩ : View.Piece (Elt Ideal) S4x1024x256 .f32), (⟨Rect.unit (s := S4x1024x256) ![1, 512, 0] ![1, 512, 256] inb_S4x1024x256_S1x512x256_1_512_0, w3⟩ : View.Piece (Elt Ideal) S4x1024x256 .f32), (⟨Rect.unit (s := S4x1024x256) ![1, 0, 0] ![1, 512, 256] inb_S4x1024x256_S1x512x256_1_0_0, w2⟩ : View.Piece (Elt Ideal) S4x1024x256 .f32), (⟨Rect.unit (s := S4x1024x256) ![0, 512, 0] ![1, 512, 256] inb_S4x1024x256_S1x512x256_0_512_0, w1⟩ : View.Piece (Elt Ideal) S4x1024x256 .f32), (⟨Rect.unit (s := S4x1024x256) ![0, 0, 0] ![1, 512, 256] inb_S4x1024x256_S1x512x256_0_0_0, w0⟩ : View.Piece (Elt Ideal) S4x1024x256 .f32), (⟨Rect.unit ![0, 0, 0] ![4, 1024, 256] inb_S4x1024x256_S4x1024x256_0_0_0, k0_pay3 (F := Ideal)⟩ : View.Piece (Elt Ideal) S4x1024x256 .f32)] (ix3 q r l) = 0 :=
  (View.canon_cons_of_not_mem (⟨Rect.unit (s := S4x1024x256) ![2, 0, 0] ![1, 512, 256] inb_S4x1024x256_S1x512x256_2_0_0, w4⟩ : View.Piece (Elt Ideal) S4x1024x256 .f32) _
    (off 2 0 inb_S4x1024x256_S1x512x256_2_0_0 q r l (by omega))).trans
    (under4 w3 w2 w1 w0 q r l (by omega))

/-- An index of slab 6 holds zero when only slabs 0 to 5 are stored. -/
theorem under6 (w5 w4 w3 w2 w1 w0 : Vec Ideal S1x512x256 .f32) (q : Fin 4) (r : Fin 1024) (l : Fin 256) (h : 6 ≤ 2 * (q : ℕ) + (r : ℕ) / 512) :
    View.canon [(⟨Rect.unit (s := S4x1024x256) ![2, 512, 0] ![1, 512, 256] inb_S4x1024x256_S1x512x256_2_512_0, w5⟩ : View.Piece (Elt Ideal) S4x1024x256 .f32), (⟨Rect.unit (s := S4x1024x256) ![2, 0, 0] ![1, 512, 256] inb_S4x1024x256_S1x512x256_2_0_0, w4⟩ : View.Piece (Elt Ideal) S4x1024x256 .f32), (⟨Rect.unit (s := S4x1024x256) ![1, 512, 0] ![1, 512, 256] inb_S4x1024x256_S1x512x256_1_512_0, w3⟩ : View.Piece (Elt Ideal) S4x1024x256 .f32), (⟨Rect.unit (s := S4x1024x256) ![1, 0, 0] ![1, 512, 256] inb_S4x1024x256_S1x512x256_1_0_0, w2⟩ : View.Piece (Elt Ideal) S4x1024x256 .f32), (⟨Rect.unit (s := S4x1024x256) ![0, 512, 0] ![1, 512, 256] inb_S4x1024x256_S1x512x256_0_512_0, w1⟩ : View.Piece (Elt Ideal) S4x1024x256 .f32), (⟨Rect.unit (s := S4x1024x256) ![0, 0, 0] ![1, 512, 256] inb_S4x1024x256_S1x512x256_0_0_0, w0⟩ : View.Piece (Elt Ideal) S4x1024x256 .f32), (⟨Rect.unit ![0, 0, 0] ![4, 1024, 256] inb_S4x1024x256_S4x1024x256_0_0_0, k0_pay3 (F := Ideal)⟩ : View.Piece (Elt Ideal) S4x1024x256 .f32)] (ix3 q r l) = 0 :=
  (View.canon_cons_of_not_mem (⟨Rect.unit (s := S4x1024x256) ![2, 512, 0] ![1, 512, 256] inb_S4x1024x256_S1x512x256_2_512_0, w5⟩ : View.Piece (Elt Ideal) S4x1024x256 .f32) _
    (off 2 512 inb_S4x1024x256_S1x512x256_2_512_0 q r l (by omega))).trans
    (under5 w4 w3 w2 w1 w0 q r l (by omega))

/-- An index of slab 7 holds zero when only slabs 0 to 6 are stored. -/
theorem under7 (w6 w5 w4 w3 w2 w1 w0 : Vec Ideal S1x512x256 .f32) (q : Fin 4) (r : Fin 1024) (l : Fin 256) (h : 7 ≤ 2 * (q : ℕ) + (r : ℕ) / 512) :
    View.canon [(⟨Rect.unit (s := S4x1024x256) ![3, 0, 0] ![1, 512, 256] inb_S4x1024x256_S1x512x256_3_0_0, w6⟩ : View.Piece (Elt Ideal) S4x1024x256 .f32), (⟨Rect.unit (s := S4x1024x256) ![2, 512, 0] ![1, 512, 256] inb_S4x1024x256_S1x512x256_2_512_0, w5⟩ : View.Piece (Elt Ideal) S4x1024x256 .f32), (⟨Rect.unit (s := S4x1024x256) ![2, 0, 0] ![1, 512, 256] inb_S4x1024x256_S1x512x256_2_0_0, w4⟩ : View.Piece (Elt Ideal) S4x1024x256 .f32), (⟨Rect.unit (s := S4x1024x256) ![1, 512, 0] ![1, 512, 256] inb_S4x1024x256_S1x512x256_1_512_0, w3⟩ : View.Piece (Elt Ideal) S4x1024x256 .f32), (⟨Rect.unit (s := S4x1024x256) ![1, 0, 0] ![1, 512, 256] inb_S4x1024x256_S1x512x256_1_0_0, w2⟩ : View.Piece (Elt Ideal) S4x1024x256 .f32), (⟨Rect.unit (s := S4x1024x256) ![0, 512, 0] ![1, 512, 256] inb_S4x1024x256_S1x512x256_0_512_0, w1⟩ : View.Piece (Elt Ideal) S4x1024x256 .f32), (⟨Rect.unit (s := S4x1024x256) ![0, 0, 0] ![1, 512, 256] inb_S4x1024x256_S1x512x256_0_0_0, w0⟩ : View.Piece (Elt Ideal) S4x1024x256 .f32), (⟨Rect.unit ![0, 0, 0] ![4, 1024, 256] inb_S4x1024x256_S4x1024x256_0_0_0, k0_pay3 (F := Ideal)⟩ : View.Piece (Elt Ideal) S4x1024x256 .f32)] (ix3 q r l) = 0 :=
  (View.canon_cons_of_not_mem (⟨Rect.unit (s := S4x1024x256) ![3, 0, 0] ![1, 512, 256] inb_S4x1024x256_S1x512x256_3_0_0, w6⟩ : View.Piece (Elt Ideal) S4x1024x256 .f32) _
    (off 3 0 inb_S4x1024x256_S1x512x256_3_0_0 q r l (by omega))).trans
    (under6 w5 w4 w3 w2 w1 w0 q r l (by omega))

/-- What a later point leaves: what it found and its own addition. -/
theorem outB_at (c : Dev nD) (i : grid0.Coords) (arg1 : Memref sig .tc .vmem S2048x512 .bf16) (harg1 : arg1.IsWhole)
    (arg2 : Memref sig .tc .vmem S2048x1024 .bf16) (harg2 : arg2.IsWhole)
    (arg3 : Memref sig .tc .vmem S2048x512 .bf16) (harg3 : arg3.IsWhole)
    (arg4 : Memref sig .tc .vmem S2048x1024 .bf16) (harg4 : arg4.IsWhole)
    (arg5 : Memref sig .tc .vmem S4x1024x256 .f32) (harg5 : arg5.IsWhole) (later : ¬cond0_0 i)
    (x0 : Vec Ideal S2048x512 .bf16) (x1 : Vec Ideal S2048x1024 .bf16)
    (x2 : Vec Ideal S2048x512 .bf16) (x3 : Vec Ideal S2048x1024 .bf16) (acc : Vec Ideal S4x1024x256 .f32)
    (q : Fin 4) (r : Fin 1024) (l : Fin 256) :
    out0_B_4 c i arg1 harg1 arg2 harg2 arg3 harg3 arg4 harg4 arg5 harg5 later x0 x1 x2 x3 acc (ix3 q r l) = acc (ix3 q r l) + term x0 x1 x2 x3 (ix3 q r l) := by
  unfold out0_B_4
  rw [View.read_writes_eq_canon _ _ _ (cover0_B_4 c i arg1 harg1 arg2 harg2 arg3 harg3 arg4 harg4 arg5 harg5 later x0 x1 x2 x3 acc)]
  unfold kernelRun0_B
  dsimp only
  frame_out
  canon_tiles x h using View.cover_of_tiledBy (s := S4x1024x256) _ ![1, 512, 256] (by sl_kernel_rfl) (ix3 q r l)
  · obtain ⟨z, r', l', rfl⟩ := split3 x
    obtain rfl : z = 0 := Subsingleton.elim _ _
    obtain rfl : l = l' := Fin.ext h2
    have hq : (q : ℕ) = 3 := h0
    have hr : (r : ℕ) = 512 + r' := h1
    rw [pay31 _ _ _ r' l (col q l) (by rw [col_val, hq]), term_high _ _ _ _ q r l r' hr]
    exact congrArg (· + _) (congrArg acc (place 3 512 _ q r l r' hq hr))
  · obtain ⟨z, r', l', rfl⟩ := split3 x
    obtain rfl : z = 0 := Subsingleton.elim _ _
    obtain rfl : l = l' := Fin.ext h2
    have hq : (q : ℕ) = 3 := h0
    have hr : (r : ℕ) = 0 + r' := by rw [Nat.zero_add]; exact h1
    rw [pay30 _ _ _ r' l (col q l) (by rw [col_val, hq]), term_low _ _ _ _ q r l r' hr]
    exact congrArg (· + _) (congrArg acc (place 3 0 _ q r l r' hq hr))
  · obtain ⟨z, r', l', rfl⟩ := split3 x
    obtain rfl : z = 0 := Subsingleton.elim _ _
    obtain rfl : l = l' := Fin.ext h2
    have hq : (q : ℕ) = 2 := h0
    have hr : (r : ℕ) = 512 + r' := h1
    rw [pay21 _ _ _ r' l (col q l) (by rw [col_val, hq]), term_high _ _ _ _ q r l r' hr]
    exact congrArg (· + _) (congrArg acc (place 2 512 _ q r l r' hq hr))
  · obtain ⟨z, r', l', rfl⟩ := split3 x
    obtain rfl : z = 0 := Subsingleton.elim _ _
    obtain rfl : l = l' := Fin.ext h2
    have hq : (q : ℕ) = 2 := h0
    have hr : (r : ℕ) = 0 + r' := by rw [Nat.zero_add]; exact h1
    rw [pay20 _ _ _ r' l (col q l) (by rw [col_val, hq]), term_low _ _ _ _ q r l r' hr]
    exact congrArg (· + _) (congrArg acc (place 2 0 _ q r l r' hq hr))
  · obtain ⟨z, r', l', rfl⟩ := split3 x
    obtain rfl : z = 0 := Subsingleton.elim _ _
    obtain rfl : l = l' := Fin.ext h2
    have hq : (q : ℕ) = 1 := h0
    have hr : (r : ℕ) = 512 + r' := h1
    rw [pay11 _ _ _ r' l (col q l) (by rw [col_val, hq]), term_high _ _ _ _ q r l r' hr]
    exact congrArg (· + _) (congrArg acc (place 1 512 _ q r l r' hq hr))
  · obtain ⟨z, r', l', rfl⟩ := split3 x
    obtain rfl : z = 0 := Subsingleton.elim _ _
    obtain rfl : l = l' := Fin.ext h2
    have hq : (q : ℕ) = 1 := h0
    have hr : (r : ℕ) = 0 + r' := by rw [Nat.zero_add]; exact h1
    rw [pay10 _ _ _ r' l (col q l) (by rw [col_val, hq]), term_low _ _ _ _ q r l r' hr]
    exact congrArg (· + _) (congrArg acc (place 1 0 _ q r l r' hq hr))
  · obtain ⟨z, r', l', rfl⟩ := split3 x
    obtain rfl : z = 0 := Subsingleton.elim _ _
    obtain rfl : l = l' := Fin.ext h2
    have hq : (q : ℕ) = 0 := h0
    have hr : (r : ℕ) = 512 + r' := h1
    rw [pay01 _ _ _ r' l (col q l) (by rw [col_val, hq]), term_high _ _ _ _ q r l r' hr]
    exact congrArg (· + _) (congrArg acc (place 0 512 _ q r l r' hq hr))
  · obtain ⟨z, r', l', rfl⟩ := split3 x
    obtain rfl : z = 0 := Subsingleton.elim _ _
    obtain rfl : l = l' := Fin.ext h2
    have hq : (q : ℕ) = 0 := h0
    have hr : (r : ℕ) = 0 + r' := by rw [Nat.zero_add]; exact h1
    rw [pay00 _ _ _ r' l (col q l) (by rw [col_val, hq]), term_low _ _ _ _ q r l r' hr]
    exact congrArg (· + _) (congrArg acc (place 0 0 _ q r l r' hq hr))

/-- What the first point leaves: its own addition. -/
theorem outA_at (c : Dev nD) (i : grid0.Coords) (arg1 : Memref sig .tc .vmem S2048x512 .bf16) (harg1 : arg1.IsWhole)
    (arg2 : Memref sig .tc .vmem S2048x1024 .bf16) (harg2 : arg2.IsWhole)
    (arg3 : Memref sig .tc .vmem S2048x512 .bf16) (harg3 : arg3.IsWhole)
    (arg4 : Memref sig .tc .vmem S2048x1024 .bf16) (harg4 : arg4.IsWhole)
    (arg5 : Memref sig .tc .vmem S4x1024x256 .f32) (harg5 : arg5.IsWhole) (first : cond0_0 i)
    (x0 : Vec Ideal S2048x512 .bf16) (x1 : Vec Ideal S2048x1024 .bf16)
    (x2 : Vec Ideal S2048x512 .bf16) (x3 : Vec Ideal S2048x1024 .bf16)
    (q : Fin 4) (r : Fin 1024) (l : Fin 256) :
    out0_A_4 c i arg1 harg1 arg2 harg2 arg3 harg3 arg4 harg4 arg5 harg5 first x0 x1 x2 x3 (ix3 q r l) = 0 + term x0 x1 x2 x3 (ix3 q r l) := by
  unfold out0_A_4
  rw [View.read_writes_eq_canon _ _ _ (cover0_A_4 c i arg1 harg1 arg2 harg2 arg3 harg3 arg4 harg4 arg5 harg5 first x0 x1 x2 x3)]
  unfold kernelRun0_A
  dsimp only
  frame_out
  refine (canon_over [_, _, _, _, _, _, _, _] [_] (ix3 q r l)
    (View.cover_of_tiledBy (s := S4x1024x256) _ ![1, 512, 256] (by sl_kernel_rfl) (ix3 q r l))).trans ?_
  canon_tiles x h using View.cover_of_tiledBy (s := S4x1024x256) _ ![1, 512, 256] (by sl_kernel_rfl) (ix3 q r l)
  · obtain ⟨z, r', l', rfl⟩ := split3 x
    obtain rfl : z = 0 := Subsingleton.elim _ _
    obtain rfl : l = l' := Fin.ext h2
    have hq : (q : ℕ) = 3 := h0
    have hr : (r : ℕ) = 512 + r' := h1
    rw [pay31 _ _ _ r' l (col q l) (by rw [col_val, hq]), term_high _ _ _ _ q r l r' hr]
    refine congrArg (· + _) ?_
    rw [View.readCov_eq_canon']
    beta_reduce
    refine (congrArg (View.canon _) (place 3 512 inb_S4x1024x256_S1x512x256_3_512_0 q r l r' hq hr)).trans ?_
    exact under7 _ _ _ _ _ _ _ q r l (by omega)
  · obtain ⟨z, r', l', rfl⟩ := split3 x
    obtain rfl : z = 0 := Subsingleton.elim _ _
    obtain rfl : l = l' := Fin.ext h2
    have hq : (q : ℕ) = 3 := h0
    have hr : (r : ℕ) = 0 + r' := by rw [Nat.zero_add]; exact h1
    rw [pay30 _ _ _ r' l (col q l) (by rw [col_val, hq]), term_low _ _ _ _ q r l r' hr]
    refine congrArg (· + _) ?_
    rw [View.readCov_eq_canon']
    beta_reduce
    refine (congrArg (View.canon _) (place 3 0 inb_S4x1024x256_S1x512x256_3_0_0 q r l r' hq hr)).trans ?_
    exact under6 _ _ _ _ _ _ q r l (by omega)
  · obtain ⟨z, r', l', rfl⟩ := split3 x
    obtain rfl : z = 0 := Subsingleton.elim _ _
    obtain rfl : l = l' := Fin.ext h2
    have hq : (q : ℕ) = 2 := h0
    have hr : (r : ℕ) = 512 + r' := h1
    rw [pay21 _ _ _ r' l (col q l) (by rw [col_val, hq]), term_high _ _ _ _ q r l r' hr]
    refine congrArg (· + _) ?_
    rw [View.readCov_eq_canon']
    beta_reduce
    refine (congrArg (View.canon _) (place 2 512 inb_S4x1024x256_S1x512x256_2_512_0 q r l r' hq hr)).trans ?_
    exact under5 _ _ _ _ _ q r l (by omega)
  · obtain ⟨z, r', l', rfl⟩ := split3 x
    obtain rfl : z = 0 := Subsingleton.elim _ _
    obtain rfl : l = l' := Fin.ext h2
    have hq : (q : ℕ) = 2 := h0
    have hr : (r : ℕ) = 0 + r' := by rw [Nat.zero_add]; exact h1
    rw [pay20 _ _ _ r' l (col q l) (by rw [col_val, hq]), term_low _ _ _ _ q r l r' hr]
    refine congrArg (· + _) ?_
    rw [View.readCov_eq_canon']
    beta_reduce
    refine (congrArg (View.canon _) (place 2 0 inb_S4x1024x256_S1x512x256_2_0_0 q r l r' hq hr)).trans ?_
    exact under4 _ _ _ _ q r l (by omega)
  · obtain ⟨z, r', l', rfl⟩ := split3 x
    obtain rfl : z = 0 := Subsingleton.elim _ _
    obtain rfl : l = l' := Fin.ext h2
    have hq : (q : ℕ) = 1 := h0
    have hr : (r : ℕ) = 512 + r' := h1
    rw [pay11 _ _ _ r' l (col q l) (by rw [col_val, hq]), term_high _ _ _ _ q r l r' hr]
    refine congrArg (· + _) ?_
    rw [View.readCov_eq_canon']
    beta_reduce
    refine (congrArg (View.canon _) (place 1 512 inb_S4x1024x256_S1x512x256_1_512_0 q r l r' hq hr)).trans ?_
    exact under3 _ _ _ q r l (by omega)
  · obtain ⟨z, r', l', rfl⟩ := split3 x
    obtain rfl : z = 0 := Subsingleton.elim _ _
    obtain rfl : l = l' := Fin.ext h2
    have hq : (q : ℕ) = 1 := h0
    have hr : (r : ℕ) = 0 + r' := by rw [Nat.zero_add]; exact h1
    rw [pay10 _ _ _ r' l (col q l) (by rw [col_val, hq]), term_low _ _ _ _ q r l r' hr]
    refine congrArg (· + _) ?_
    rw [View.readCov_eq_canon']
    beta_reduce
    refine (congrArg (View.canon _) (place 1 0 inb_S4x1024x256_S1x512x256_1_0_0 q r l r' hq hr)).trans ?_
    exact under2 _ _ q r l (by omega)
  · obtain ⟨z, r', l', rfl⟩ := split3 x
    obtain rfl : z = 0 := Subsingleton.elim _ _
    obtain rfl : l = l' := Fin.ext h2
    have hq : (q : ℕ) = 0 := h0
    have hr : (r : ℕ) = 512 + r' := h1
    rw [pay01 _ _ _ r' l (col q l) (by rw [col_val, hq]), term_high _ _ _ _ q r l r' hr]
    refine congrArg (· + _) ?_
    rw [View.readCov_eq_canon']
    beta_reduce
    refine (congrArg (View.canon _) (place 0 512 inb_S4x1024x256_S1x512x256_0_512_0 q r l r' hq hr)).trans ?_
    exact under1 _ q r l (by omega)
  · obtain ⟨z, r', l', rfl⟩ := split3 x
    obtain rfl : z = 0 := Subsingleton.elim _ _
    obtain rfl : l = l' := Fin.ext h2
    have hq : (q : ℕ) = 0 := h0
    have hr : (r : ℕ) = 0 + r' := by rw [Nat.zero_add]; exact h1
    rw [pay00 _ _ _ r' l (col q l) (by rw [col_val, hq]), term_low _ _ _ _ q r l r' hr]
    refine congrArg (· + _) ?_
    rw [View.readCov_eq_canon']
    beta_reduce
    refine (congrArg (View.canon _) (place 0 0 inb_S4x1024x256_S1x512x256_0_0_0 q r l r' hq hr)).trans ?_
    exact under0 q r l (by omega)

variable (m : (ℓ : Loc nD τ sig) → Buf (Elt Ideal) ℓ)

/-- An argument array at launch. -/
abbrev arg0 (c : Dev nD) : FVec Ideal S8192x512 .f32 := m ((c : Thread nD τ).loc main_arg0)
abbrev arg1 (c : Dev nD) : FVec Ideal S8192x512 .f32 := m ((c : Thread nD τ).loc main_arg1)
abbrev arg2 (c : Dev nD) : FVec Ideal S8192x1024 .f32 := m ((c : Thread nD τ).loc main_arg2)
abbrev arg3 (c : Dev nD) : FVec Ideal S8192x1024 .f32 := m ((c : Thread nD τ).loc main_arg3)

/-- The first branch's rows are the first argument's. -/
theorem array0_at (c : Dev nD) (t : Fin 8192) (i : Fin 512) :
    (V m c main_v0 : FVec Ideal S8192x512 .bf16) (ix2 t i) = arg0 m c (ix2 t i) := by
  have e : @Eq (FVec Ideal S8192x512 .bf16) (V m c main_v0) (truncf .bf16 (arg0 m c) bitsLt_bf16_f32) := by
    unfold_abbrev_sides
    after_reads_simp
  rw [e]; pointwise

/-- Which blocks of it each point reads. -/
theorem index_block0 : ∀ t : Fin cfg0.N, win0_0.index t = ![t.val % 4, 0] :=
  (by decide +kernel : ∀ t : Fin grid0.N, _)

/-- The block a point reads. -/
theorem blk0_at (c : Dev nD) (t : Fin cfg0.N) (p : Fin 2048) (i : Fin 512) :
    (iblk m c 0 t : Vec Ideal S2048x512 .bf16) (ix2 p i) = arg0 m c (ix2 (row t.val p) i) := by
  have e0 := index_block0 t
  have e : (win0_0.blk t).view.emb (ix2 p i) = ix2 (row t.val p) i := by
    blk_ext [e0, row_val]
  exact (congrArg (V m c main_v0) e).trans (array0_at m c _ _)

/-- The rows of the first branch's cotangent. -/
theorem array1_at (c : Dev nD) (t : Fin 8192) (i : Fin 1024) :
    (V m c main_v1 : FVec Ideal S8192x1024 .bf16) (ix2 t i) = arg2 m c (ix2 t i) := by
  have e : @Eq (FVec Ideal S8192x1024 .bf16) (V m c main_v1) (truncf .bf16 (arg2 m c) bitsLt_bf16_f32) := by
    unfold_abbrev_sides
    after_reads_simp
  rw [e]; pointwise

/-- Which blocks of it each point reads. -/
theorem index_block1 : ∀ t : Fin cfg0.N, win0_1.index t = ![t.val % 4, 0] :=
  (by decide +kernel : ∀ t : Fin grid0.N, _)

/-- The block a point reads. -/
theorem blk1_at (c : Dev nD) (t : Fin cfg0.N) (p : Fin 2048) (i : Fin 1024) :
    (iblk m c 1 t : Vec Ideal S2048x1024 .bf16) (ix2 p i) = arg2 m c (ix2 (row t.val p) i) := by
  have e0 := index_block1 t
  have e : (win0_1.blk t).view.emb (ix2 p i) = ix2 (row t.val p) i := by
    blk_ext [e0, row_val]
  exact (congrArg (V m c main_v1) e).trans (array1_at m c _ _)

/-- The second branch's rows are the second argument's. -/
theorem array2_at (c : Dev nD) (t : Fin 8192) (i : Fin 512) :
    (V m c main_v2 : FVec Ideal S8192x512 .bf16) (ix2 t i) = arg1 m c (ix2 t i) := by
  have e : @Eq (FVec Ideal S8192x512 .bf16) (V m c main_v2) (truncf .bf16 (arg1 m c) bitsLt_bf16_f32) := by
    unfold_abbrev_sides
    after_reads_simp
  rw [e]; pointwise

/-- Which blocks of it each point reads. -/
theorem index_block2 : ∀ t : Fin cfg0.N, win0_2.index t = ![t.val % 4, 0] :=
  (by decide +kernel : ∀ t : Fin grid0.N, _)

/-- The block a point reads. -/
theorem blk2_at (c : Dev nD) (t : Fin cfg0.N) (p : Fin 2048) (i : Fin 512) :
    (iblk m c 2 t : Vec Ideal S2048x512 .bf16) (ix2 p i) = arg1 m c (ix2 (row t.val p) i) := by
  have e0 := index_block2 t
  have e : (win0_2.blk t).view.emb (ix2 p i) = ix2 (row t.val p) i := by
    blk_ext [e0, row_val]
  exact (congrArg (V m c main_v2) e).trans (array2_at m c _ _)

/-- The rows of the second branch's cotangent. -/
theorem array3_at (c : Dev nD) (t : Fin 8192) (i : Fin 1024) :
    (V m c main_v3 : FVec Ideal S8192x1024 .bf16) (ix2 t i) = arg3 m c (ix2 t i) := by
  have e : @Eq (FVec Ideal S8192x1024 .bf16) (V m c main_v3) (truncf .bf16 (arg3 m c) bitsLt_bf16_f32) := by
    unfold_abbrev_sides
    after_reads_simp
  rw [e]; pointwise

/-- Which blocks of it each point reads. -/
theorem index_block3 : ∀ t : Fin cfg0.N, win0_3.index t = ![t.val % 4, 0] :=
  (by decide +kernel : ∀ t : Fin grid0.N, _)

/-- The block a point reads. -/
theorem blk3_at (c : Dev nD) (t : Fin cfg0.N) (p : Fin 2048) (i : Fin 1024) :
    (iblk m c 3 t : Vec Ideal S2048x1024 .bf16) (ix2 p i) = arg3 m c (ix2 (row t.val p) i) := by
  have e0 := index_block3 t
  have e : (win0_3.blk t).view.emb (ix2 p i) = ix2 (row t.val p) i := by
    blk_ext [e0, row_val]
  exact (congrArg (V m c main_v3) e).trans (array3_at m c _ _)

/-- Which block each point writes. -/
theorem index_out : ∀ t : Fin cfg0.N, win0_4.index t = ![0, 0, 0] :=
  (by decide +kernel : ∀ t : Fin grid0.N, _)

/-- The last point writes the output back. -/
theorem flush_last : ∃ t : Fin cfg0.N, (cfg0.win 4).flush t = true :=
  (by decide +kernel : ∃ t : Fin grid0.N, win0_4.flush t = true)

/-- What one row adds at an index of the output. -/
def one (c : Dev nD) (y : S4x1024x256.Idx) (k : Fin 8192) : EReal :=
  if h : (y 1).val < 512 then arg0 m c (ix2 k ⟨(y 1).val, h⟩) * arg2 m c (ix2 k (col (y 0) (y 2)))
  else arg1 m c (ix2 k ⟨(y 1).val - 512, by have h1 : (y 1).val < 1024 := (y 1).isLt; omega⟩) * arg3 m c (ix2 k (col (y 0) (y 2)))

/-- In the first half. -/
theorem one_low (c : Dev nD) (q : Fin 4) (r : Fin 1024) (l : Fin 256) (k : Fin 8192) (h : (r : ℕ) < 512) :
    one m c (ix3 q r l) k = arg0 m c (ix2 k ⟨r, h⟩) * arg2 m c (ix2 k (col q l)) :=
  dif_pos h

/-- In the second half. -/
theorem one_high (c : Dev nD) (q : Fin 4) (r : Fin 1024) (l : Fin 256) (k : Fin 8192) (h : ¬(r : ℕ) < 512) :
    one m c (ix3 q r l) k = arg1 m c (ix2 k ⟨r - 512, by omega⟩) * arg3 m c (ix2 k (col q l)) :=
  dif_neg h

/-- What a point adds at an index of the output. -/
def add (c : Dev nD) (n : ℕ) (y : S4x1024x256.Idx) : EReal := ∑ p : Fin 2048, one m c y (row n p)

/-- One point's addition, of the arguments' rows. -/
theorem term_add (c : Dev nD) (t : Fin cfg0.N) (y : S4x1024x256.Idx) :
    term (iblk m c 0 t) (iblk m c 1 t) (iblk m c 2 t) (iblk m c 3 t) y = add m c t.val y := by
  unfold term add one
  by_cases h : (y 1).val < 512
  · refine (dif_pos h).trans (Finset.sum_congr rfl fun p _ => Eq.trans ?_ (dif_pos h).symm)
    exact congrArg₂ (· * ·) (blk0_at m c t p _) (blk1_at m c t p _)
  · refine (dif_neg h).trans (Finset.sum_congr rfl fun p _ => Eq.trans ?_ (dif_neg h).symm)
    exact congrArg₂ (· * ·) (blk2_at m c t p _) (blk3_at m c t p _)

/-- What the first point leaves. -/
def reset (c : Dev nD) (n : ℕ) (h : n < cfg0.N) : S4x1024x256.Idx → EReal := fun y => 0 + add m c n y

/-- What a later point leaves over what it found. -/
def step (c : Dev nD) (n : ℕ) (h : n < cfg0.N) (acc : S4x1024x256.Idx → EReal) : S4x1024x256.Idx → EReal :=
  fun y => acc y + add m c n y

/-- After each point the block holds the additions so far. -/
theorem outs_eq (c : Dev nD) (t : Fin cfg0.N) :
    @Eq (S4x1024x256.Idx → EReal) (outsAt0 m c t.val t.isLt)
      (Pipeline.accAt (reset m c) (step m c) (4 * (t.val / 4)) (t.val % 4)
        (by have h1 := t.isLt; have h2 := Nat.div_add_mod t.val 4; omega)) :=
  Pipeline.eq_accAt_of_mod (fun n h => (outsAt0 m c n h : S4x1024x256.Idx → EReal)) 4 (reset m c) (step m c)
    (fun n h first => by
      rw [outsAt0_A m c ⟨n, h⟩ first]
      funext y
      obtain ⟨q, r, l, rfl⟩ := split3 y
      exact (outA_at ..).trans (congrArg (0 + ·) (term_add m c ⟨n, h⟩ _)))
    (fun n h later => by
      rw [outsAt0_B m c ⟨n + 1, h⟩ later]
      funext y
      obtain ⟨q, r, l, rfl⟩ := split3 y
      exact (outB_at ..).trans (congrArg (_ + ·) (term_add m c ⟨n + 1, h⟩ _)))
    (by decide) t.val t.isLt _

/-- The gradient: at an index, the sum over all rows. -/
def grad (c : Dev nD) : Buf (Elt Ideal) ((c : Thread nD τ).loc main_v4) := fun i : S4x1024x256.Idx =>
  (∑ k : Fin 8192, one m c i k : EReal)

/-- The last point leaves the sum over all rows. -/
theorem last_at (c : Dev nD) (t : Fin cfg0.N) (last : t.val % 4 = 3) (y : S4x1024x256.Idx) :
    @Eq EReal ((outsAt0 m c t.val t.isLt : S4x1024x256.Idx → EReal) y) (∑ k : Fin 8192, one m c y k) := by
  rw [outs_eq m c t, Pipeline.accAt_add_apply (reset m c) (step m c) (fun _ => 0) (add m c) (4 * (t.val / 4)) 3
    (fun _ _ => rfl) (fun _ _ _ _ _ _ => rfl) (t.val % 4) (by omega), zero_add, last]
  exact sum_run (one m c y) (4 * (t.val / 4)) (by omega)

/-- What a point writes back is its block of the gradient. -/
theorem flushed_eq (c : Dev nD) (t : Fin cfg0.N) (hf : (cfg0.win 4).flush t = true) :
    (dats m 0 c).flushed 4 t = ((cfg0.win 4).blk t).view.read (Elt Ideal) (grad m c) := by
  rw [flushed4]
  have lt : t.val < 4 := lt_of_lt_of_eq t.isLt N_0
  have last : t.val % 4 = 3 := (flush0_4 t).mp hf
  have e := index_out t
  have i0 : win0_4.index t (0 : Fin 3) = 0 := congrFun e 0
  have i1 : win0_4.index t (1 : Fin 3) = 0 := congrFun e 1
  have i2 : win0_4.index t (2 : Fin 3) = 0 := congrFun e 2
  funext y
  have b0 : (((cfg0.win 4).blk t).view.emb y 0).val = win0_4.index t (0 : Fin 3) * 4 + 1 * (y 0).val := rfl
  have b1 : (((cfg0.win 4).blk t).view.emb y 1).val = win0_4.index t (1 : Fin 3) * 1024 + 1 * (y 1).val := rfl
  have b2 : (((cfg0.win 4).blk t).view.emb y 2).val = win0_4.index t (2 : Fin 3) * 256 + 1 * (y 2).val := rfl
  refine (last_at m c t last ((cfg0.win 4).xinj (grid0.coords t) y)).trans ?_
  show @Eq EReal _ (∑ k : Fin 8192, one m c (((cfg0.win 4).blk t).view.emb y) k)
  refine congrArg (fun z : S4x1024x256.Idx => ∑ k : Fin 8192, one m c z k) (funext fun a => Fin.ext ?_)
  match a with
  | ⟨0, _⟩ => show (y 0).val = (((cfg0.win 4).blk t).view.emb y 0).val; rw [b0, i0]; omega
  | ⟨1, _⟩ => show (y 1).val = (((cfg0.win 4).blk t).view.emb y 1).val; rw [b1, i1]; omega
  | ⟨2, _⟩ => show (y 2).val = (((cfg0.win 4).blk t).view.emb y 2).val; rw [b2, i2]; omega

/-- An index is in a point's block when each coordinate is in the block's range. -/
theorem mem_block (t : Fin cfg0.N) (i : S4x1024x256.Idx) :
    i ∈ ((cfg0.win 4).blk t).view.set ↔ ∀ a : Fin 3, win0_4.index t a * S4x1024x256.size a ≤ (i a).val
      ∧ (i a).val < win0_4.index t a * S4x1024x256.size a + S4x1024x256.size a := by
  show i ∈ ((View.whole main_v4).slice (win0_4.rect t)).set ↔ _
  rw [View.set_slice_whole, Rect.mem_set_unit]
  exact Iff.rfl

/-- Every index is in the block the last point writes back. -/
theorem covered (i : S4x1024x256.Idx) : ∃ t : Fin cfg0.N, (cfg0.win 4).flush t = true ∧ i ∈ ((cfg0.win 4).blk t).view.set := by
  obtain ⟨t, hf⟩ := flush_last
  refine ⟨t, hf, (mem_block t i).mpr fun a => ?_⟩
  have e : win0_4.index t a = 0 := (congrFun (index_out t) a).trans (match a with | ⟨0, _⟩ => rfl | ⟨1, _⟩ => rfl | ⟨2, _⟩ => rfl)
  have lt : (i a).val < S4x1024x256.size a := (i a).isLt
  rw [e]
  omega

/-- The output array ends holding the gradient. -/
theorem final (c : Dev nD) : (dats m 0 c).arrAt 4 cfg0.N = grad m c :=
  (dats m 0 c).arrAt_eq_of_cover 4 _ (fun t hf => flushed_eq m c t hf) (fun i => covered i)

/-- The reference's product for the first branch. -/
theorem first_at (x0 : FVec Ideal S8192x512 .f32) (x2 : FVec Ideal S8192x1024 .f32) (r : Fin 512) (j : Fin 1024) :
    val_main_v6 (F := Ideal) x0 x2 (ix2 r j) = ∑ k : Fin 8192, x0 (ix2 k r) * x2 (ix2 k j) := by
  rw [val_main_v6_apply, val_main_v5_apply]
  refine Finset.sum_congr rfl fun k _ => ?_
  rw [mul_comm]
  congr 2 <;> (funext a; match a with | ⟨0, _⟩ => rfl | ⟨1, _⟩ => rfl)

/-- The reference's product for the second branch. -/
theorem second_at (x1 : FVec Ideal S8192x512 .f32) (x3 : FVec Ideal S8192x1024 .f32) (r : Fin 512) (j : Fin 1024) :
    val_main_v4 (F := Ideal) x1 x3 (ix2 r j) = ∑ k : Fin 8192, x1 (ix2 k r) * x3 (ix2 k j) := by
  rw [val_main_v4_apply, val_main_v3_apply]
  refine Finset.sum_congr rfl fun k _ => ?_
  rw [mul_comm]
  congr 2 <;> (funext a; match a with | ⟨0, _⟩ => rfl | ⟨1, _⟩ => rfl)

/-- The reference's two gradients joined: the first branch's rows, then the second's. -/
theorem joined_at (x0 x1 : FVec Ideal S8192x512 .f32) (x2 x3 : FVec Ideal S8192x1024 .f32) (r j : Fin 1024) :
    val_main_v7 (F := Ideal) x0 x1 x2 x3 (ix2 r j)
      = if h : (r : ℕ) < 512 then val_main_v6 (F := Ideal) x0 x2 (ix2 ⟨r, h⟩ j)
        else val_main_v4 (F := Ideal) x1 x3 (ix2 ⟨r - 512, by omega⟩ j) := by
  unfold val_main_v7
  generalize val_main_v6 (F := Ideal) x0 x2 = a
  generalize val_main_v4 (F := Ideal) x1 x3 = b
  by_cases h : (r : ℕ) < 512
  · rw [dif_pos h]
    pointwise [h]
  · rw [dif_neg h]
    pointwise [h]

/-- The reference's result. -/
theorem reference_at (c : Dev nD) (i : S4x1024x256.Idx) :
    val_main_v9 (F := Ideal) (arg0 m c) (arg1 m c) (arg2 m c) (arg3 m c) i = grad m c i := by
  obtain ⟨q, r, l, rfl⟩ := split3 i
  have e : idx_main_v8 (idx_main_v9 (ix3 q r l)) = ix2 r (col q l) := by
    funext a
    match a with
    | ⟨0, _⟩ =>
      refine Fin.ext ?_
      show ((r.val * 4 + q.val) * 256 + l.val) / 1024 = r.val
      omega
    | ⟨1, _⟩ =>
      refine Fin.ext ?_
      show ((r.val * 4 + q.val) * 256 + l.val) % 1024 = q.val * 256 + l.val
      omega
  rw [val_main_v9_apply, val_main_v8_apply, e, joined_at]
  by_cases h : r.val < 512
  · exact (dif_pos h).trans ((first_at ..).trans (Finset.sum_congr rfl fun k _ => (one_low m c q r l k h).symm))
  · exact (dif_neg h).trans ((second_at ..).trans (Finset.sum_congr rfl fun k _ => (one_high m c q r l k h).symm))

/-- The reference leaves what the kernel leaves. -/
theorem same (c : Dev nD) : val_main_v9 (F := Ideal) (arg0 m c) (arg1 m c) (arg2 m c) (arg3 m c) = grad m c :=
  funext fun i => reference_at m c i

end Cert.BranchKernelIdeal.Wgrad

namespace Cert.Wgrad

open Idealize.ShloMosaic Idealize.SL.Sem Cert.BranchKernelIdeal.Wgrad

/-- Over the reals the kernel and the reference leave the same gradient of the two branch weights. -/
theorem branch_values : Cert.algebraic_BranchKernelIdeal_BranchReferenceIdeal := fun m ρ m' ρ' _ hagree =>
  ⟨_, (θ_run (Cert.BranchKernelIdeal.defs (F := Ideal)) _ _).mono (fun r h c => ⟨(h c).1.trans (final m c), (h c).2⟩)
      (Cert.BranchKernelIdeal.Value.run_blocks m ρ),
    (θ_run (Cert.BranchReferenceIdeal.defs (F := Ideal)) _ _).mono (fun r h c => by
      obtain ⟨r1, rest⟩ := h c
      obtain ⟨s0, s1, s2, s3⟩ := hagree c
      refine ⟨r1.trans ((Cert.BranchReferenceIdeal.Read.val_main_v9_eq _ _ _ _).trans ?_), rest⟩
      rw [s0, s1, s2, s3]; exact same m c)
      (Cert.BranchReferenceIdeal.Value.run (F := Ideal) m' ρ')⟩

end Cert.Wgrad

end
-- ==== Proof.Fwd.KernelIdeal.RunA.lean ====
/- The kernel body at the first grid point: there it copies both weights into its scratch, shard by shard, and clears the
   carried rows. The run lists what every buffer is left with. -/
module

public import proofs.«01_k».proof.Proof.Gen.FwdKernelIdeal.Frame.Runs

@[expose] public section

set_option maxRecDepth 16384

noncomputable section

namespace Cert.FwdKernelIdeal.Fwd

open Cert.FwdKernelIdeal Cert.FwdKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- the copies into one scratch go to disjoint windows of it
set_option sl_exec.dmaWindow true in
set_option sl_exec.dmaWindowSet true in
set_option maxHeartbeats 1000000 in
/-- At the first point the body, from its input blocks `x0 … x3` and the two sharded weight arrays `fh0`, `fh1`, runs to its
    end: each output block and each scratch buffer ends with the listed pieces written over what it held, the inputs and the
    weight arrays are as they were and every copy has been waited for. The lists are what the run itself finds. -/
noncomputable def kernelRun0_A (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S8x2816 .f32) (harg3 : arg3.IsWhole) (arg4 : Memref sig .tc .vmem S1x2816 .f32) (harg4 : arg4.IsWhole) (arg7 : Memref sig .tc .vmem S256x5632 .bf16) (harg7 : arg7.IsWhole) (arg8 : Memref sig .tc .vmem S256x2816 .bf16) (harg8 : arg8.IsWhole) (arg9 : Memref sig .tc .vmem S256x2816 .bf16) (harg9 : arg9.IsWhole) (arg10 : Memref sig .tc .vmem S256x2816 .bf16) (harg10 : arg10.IsWhole) (arg11 : Memref sig .tc .vmem S256x1024 .bf16) (harg11 : arg11.IsWhole) (arg12 : Memref sig .tc .vmem S256x1024 .f32) (harg12 : arg12.IsWhole) (arg13 : Memref sig .tc .vmem S1024x5632 .bf16) (harg13 : arg13.IsWhole) (arg14 : Memref sig .tc .vmem S2816x1024 .bf16) (harg14 : arg14.IsWhole) (arg15 : Memref sig .tc .vmem S8x2816 .f32) (harg15 : arg15.IsWhole) (hc0 : cond0_0 i)
    (x0 : Vec F S256x1024 .f32) (x1 : Vec F S1x1024 .f32) (x2 : Vec F S8x2816 .f32) (x3 : Vec F S1x2816 .f32) (fh0 : HbBuf0 (F := F) c hbM0_0) (fh1 : HbBuf0 (F := F) c hbM0_1) :
    Σ' (L4 : List (View.Piece (Elt F) S256x5632 .bf16)), Σ' (L5 : List (View.Piece (Elt F) S256x2816 .bf16)), Σ' (L6 : List (View.Piece (Elt F) S256x2816 .bf16)), Σ' (L7 : List (View.Piece (Elt F) S256x2816 .bf16)), Σ' (L8 : List (View.Piece (Elt F) S256x1024 .bf16)), Σ' (L9 : List (View.Piece (Elt F) S256x1024 .f32)), Σ' (LS0 : List (View.Piece (Elt F) S1024x5632 .bf16)), Σ' (LS1 : List (View.Piece (Elt F) S2816x1024 .bf16)), { LS2 : List (View.Piece (Elt F) S8x2816 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2) ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn_fwd_l0 i arg1 harg1 arg2 harg2 arg3 harg3 arg4 harg4 (Memref.whole main_v5) (Memref.isWhole_whole _) (Memref.whole main_v7) (Memref.isWhole_whole _) arg7 harg7 arg8 harg8 arg9 harg9 arg10 harg10 arg11 harg11 arg12 harg12 arg13 harg13 arg14 harg14 arg15 harg15 cc0_scratch3) K } := by
  refine ⟨?_, ?_, ?_, ?_, ?_, ?_, ?_, ?_, ?_, fun W K => ?run⟩
  case run =>
    simp only [cc0_ffn_fwd_l0_eq_skeleton]; unfold cc0_ffn_fwd_l0_skel
    simp only [k0_part4_eq_skeleton, k0_part1_eq_skeleton, k0_part2_eq_skeleton, k0_part3_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, Hq0, Hq1, Hq2, Hq3, Hq4, Hq5, Hq6, Hq7, Hh0, Hh1, HW, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]; · iexists _; iexact HS0
    isplitl [HS1]; · iexists _; iexact HS1
    isplitl [HS2]; · iexists _; iexact HS2
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    isplitl [Hh1]; · iexact Hh1
    iexists _; iexact HW

end Cert.FwdKernelIdeal.Fwd

end
-- ==== Proof.Fwd.KernelIdeal.RunB.lean ====
/- The kernel body at every grid point but the first. The run lists what every buffer is left with, over the input blocks
   and the carried scratch as the point before left them. -/
module

public import proofs.«01_k».proof.Proof.Fwd.KernelIdeal.RunA

@[expose] public section

set_option maxRecDepth 16384

noncomputable section

namespace Cert.FwdKernelIdeal.Fwd

open Cert.FwdKernelIdeal Cert.FwdKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1200000 in
/-- At a later point the body, from its input blocks and the three scratch buffers
    `xs0 … xs2`, runs to its end: each output block and each scratch buffer ends with the listed pieces written over what it
    held (none over the two weights). The lists are what the run itself finds. -/
noncomputable def kernelRun0_B (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S8x2816 .f32) (harg3 : arg3.IsWhole) (arg4 : Memref sig .tc .vmem S1x2816 .f32) (harg4 : arg4.IsWhole) (arg7 : Memref sig .tc .vmem S256x5632 .bf16) (harg7 : arg7.IsWhole) (arg8 : Memref sig .tc .vmem S256x2816 .bf16) (harg8 : arg8.IsWhole) (arg9 : Memref sig .tc .vmem S256x2816 .bf16) (harg9 : arg9.IsWhole) (arg10 : Memref sig .tc .vmem S256x2816 .bf16) (harg10 : arg10.IsWhole) (arg11 : Memref sig .tc .vmem S256x1024 .bf16) (harg11 : arg11.IsWhole) (arg12 : Memref sig .tc .vmem S256x1024 .f32) (harg12 : arg12.IsWhole) (arg13 : Memref sig .tc .vmem S1024x5632 .bf16) (harg13 : arg13.IsWhole) (arg14 : Memref sig .tc .vmem S2816x1024 .bf16) (harg14 : arg14.IsWhole) (arg15 : Memref sig .tc .vmem S8x2816 .f32) (harg15 : arg15.IsWhole) (hc0 : ¬cond0_0 i)
    (x0 : Vec F S256x1024 .f32) (x1 : Vec F S1x1024 .f32) (x2 : Vec F S8x2816 .f32) (x3 : Vec F S1x2816 .f32) (xs0 : Vec F S1024x5632 .bf16) (xs1 : Vec F S2816x1024 .bf16) (xs2 : Vec F S8x2816 .f32) (fh0 : HbBuf0 (F := F) c hbM0_0) (fh1 : HbBuf0 (F := F) c hbM0_1) :
    Σ' (L4 : List (View.Piece (Elt F) S256x5632 .bf16)), Σ' (L5 : List (View.Piece (Elt F) S256x2816 .bf16)), Σ' (L6 : List (View.Piece (Elt F) S256x2816 .bf16)), Σ' (L7 : List (View.Piece (Elt F) S256x2816 .bf16)), Σ' (L8 : List (View.Piece (Elt F) S256x1024 .bf16)), Σ' (L9 : List (View.Piece (Elt F) S256x1024 .f32)), Σ' (LS0 : List (View.Piece (Elt F) S1024x5632 .bf16)), Σ' (LS1 : List (View.Piece (Elt F) S2816x1024 .bf16)), { LS2 : List (View.Piece (Elt F) S8x2816 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1 ∗ owns (c : Thread nD τ) arg15 fullShare xs2 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ owns (c : Thread nD τ) arg13 fullShare xs0 ∗ owns (c : Thread nD τ) arg14 fullShare xs1 ∗ (∃ f, arg15.view.loc (c : Thread nD τ) ↦[arg15.view.set]{fullShare} arg15.view.writes (Elt F) f LS2) ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn_fwd_l0 i arg1 harg1 arg2 harg2 arg3 harg3 arg4 harg4 (Memref.whole main_v5) (Memref.isWhole_whole _) (Memref.whole main_v7) (Memref.isWhole_whole _) arg7 harg7 arg8 harg8 arg9 harg9 arg10 harg10 arg11 harg11 arg12 harg12 arg13 harg13 arg14 harg14 arg15 harg15 cc0_scratch3) K } := by
  refine ⟨?_, ?_, ?_, ?_, ?_, ?_, [], [], ?_, fun W K => ?run⟩
  case run =>
    simp only [cc0_ffn_fwd_l0_eq_skeleton]; unfold cc0_ffn_fwd_l0_skel
    simp only [k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%fs0, %hfs0, HS0⟩, ⟨%fs1, %hfs1, HS1⟩, ⟨%fs2, %hfs2, HS2⟩, Hq0, Hq1, Hq2, Hq3, Hq4, Hq5, Hq6, Hq7, Hh0, Hh1, HW, Hk⟩
    obtain rfl := harg1.eq_unread hf0; obtain rfl := harg2.eq_unread hf1; obtain rfl := harg3.eq_unread hf2; obtain rfl := harg4.eq_unread hf3; obtain rfl := harg13.eq_unread hfs0; obtain rfl := harg14.eq_unread hfs1; obtain rfl := harg15.eq_unread hfs2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]
    · iexists _; isplitr; · ipureintro; exact harg13.read_unread _
      iexact HS0
    isplitl [HS1]
    · iexists _; isplitr; · ipureintro; exact harg14.read_unread _
      iexact HS1
    isplitl [HS2]; · iexists _; iexact HS2
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    isplitl [Hh1]; · iexact Hh1
    iexists _; iexact HW

end Cert.FwdKernelIdeal.Fwd

end
-- ==== Proof.Fwd.KernelIdeal.Frame.lean ====
/- The frame of the ConvFFN forward kernel: what its output blocks and its scratch hold after every grid point, the proof
   data of the pipeline, the body at every point, and the claim that every run ends with the argument arrays as they were. -/
module

public import proofs.«01_k».proof.Proof.Fwd.KernelIdeal.RunB
public import Idealize.ShloMosaic.Lib.Claim

@[expose] public section

set_option maxRecDepth 16384

noncomputable section

namespace Cert.FwdKernelIdeal.Fwd

open Cert.FwdKernelIdeal Cert.FwdKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What one grid point leaves -/

/-- What a grid point leaves: the six output blocks (the hidden rows, the activation, its slope, the product,
    the normalised rows, the output), then the three scratch buffers (the two weights, the carried rows). -/
abbrev Outs (F : FTy → Type) [FloatOps F] : Type :=
  Vec F S256x5632 .bf16 × Vec F S256x2816 .bf16 × Vec F S256x2816 .bf16 × Vec F S256x2816 .bf16 × Vec F S256x1024 .bf16 × Vec F S256x1024 .f32 × Vec F S1024x5632 .bf16 × Vec F S2816x1024 .bf16 × Vec F S8x2816 .f32

/-- The body's run at the first point, on that point's blocks. -/
def runA (c : Dev nD) (t : Fin cfg0.N) (h0 : t.val % 32 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0)
    (iblk m c 0 t) (iblk m c 1 t) (iblk m c 2 t) (iblk m c 3 t) (V m c main_v5) (V m c main_v7)

/-- The body's run at a later point, on that point's blocks and on what the point before left. -/
def runB (c : Dev nD) (t : Fin cfg0.N) (h0 : ¬t.val % 32 = 0) (p : Outs F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h))
    (iblk m c 0 t) (iblk m c 1 t) (iblk m c 2 t) (iblk m c 3 t)
    p.2.2.2.2.2.2.1 p.2.2.2.2.2.2.2.1 p.2.2.2.2.2.2.2.2 (V m c main_v5) (V m c main_v7)

/-- At the first point the pieces written to the block of the hidden rows cover it. -/
theorem coverA_0 (c : Dev nD) (t : Fin cfg0.N) (h0 : t.val % 32 = 0) (y : S256x5632.Idx) :
    ∃ pc ∈ (runA m c t h0).1, y ∈ pc.1.set :=
  View.cover_of_tiledL (runA m c t h0).1 S256x2816.size (by sl_kernel_rfl) y

/-- At the first point the pieces written to the block of the activation cover it. -/
theorem coverA_1 (c : Dev nD) (t : Fin cfg0.N) (h0 : t.val % 32 = 0) (y : S256x2816.Idx) :
    ∃ pc ∈ (runA m c t h0).2.1, y ∈ pc.1.set :=
  View.cover_of_tiledL (runA m c t h0).2.1 S256x2816.size (by sl_kernel_rfl) y

/-- At the first point the pieces written to the block of its slope cover it. -/
theorem coverA_2 (c : Dev nD) (t : Fin cfg0.N) (h0 : t.val % 32 = 0) (y : S256x2816.Idx) :
    ∃ pc ∈ (runA m c t h0).2.2.1, y ∈ pc.1.set :=
  View.cover_of_tiledL (runA m c t h0).2.2.1 S256x2816.size (by sl_kernel_rfl) y

/-- At the first point the pieces written to the block of the product cover it. -/
theorem coverA_3 (c : Dev nD) (t : Fin cfg0.N) (h0 : t.val % 32 = 0) (y : S256x2816.Idx) :
    ∃ pc ∈ (runA m c t h0).2.2.2.1, y ∈ pc.1.set :=
  View.cover_of_tiledL (runA m c t h0).2.2.2.1 S256x2816.size (by sl_kernel_rfl) y

/-- At the first point the pieces written to the block of the normalised rows cover it. -/
theorem coverA_4 (c : Dev nD) (t : Fin cfg0.N) (h0 : t.val % 32 = 0) (y : S256x1024.Idx) :
    ∃ pc ∈ (runA m c t h0).2.2.2.2.1, y ∈ pc.1.set :=
  View.cover_of_tiledL (runA m c t h0).2.2.2.2.1 S256x1024.size (by sl_kernel_rfl) y

/-- At the first point the pieces written to the block of the output cover it. -/
theorem coverA_5 (c : Dev nD) (t : Fin cfg0.N) (h0 : t.val % 32 = 0) (y : S256x1024.Idx) :
    ∃ pc ∈ (runA m c t h0).2.2.2.2.2.1, y ∈ pc.1.set :=
  View.cover_of_tiledL (runA m c t h0).2.2.2.2.2.1 S256x1024.size (by sl_kernel_rfl) y

/-- At the first point the pieces written to the copy of `w_up` cover it. -/
theorem coverA_6 (c : Dev nD) (t : Fin cfg0.N) (h0 : t.val % 32 = 0) (y : S1024x5632.Idx) :
    ∃ pc ∈ (runA m c t h0).2.2.2.2.2.2.1, y ∈ pc.1.set :=
  View.cover_of_tiledL (runA m c t h0).2.2.2.2.2.2.1 S1024x1408.size (by sl_kernel_rfl) y

/-- At the first point the pieces written to the copy of `w_down` cover it. -/
theorem coverA_7 (c : Dev nD) (t : Fin cfg0.N) (h0 : t.val % 32 = 0) (y : S2816x1024.Idx) :
    ∃ pc ∈ (runA m c t h0).2.2.2.2.2.2.2.1, y ∈ pc.1.set :=
  View.cover_of_tiledL (runA m c t h0).2.2.2.2.2.2.2.1 S704x1024.size (by sl_kernel_rfl) y

/-- At the first point the pieces written to the carried rows cover it. -/
theorem coverA_8 (c : Dev nD) (t : Fin cfg0.N) (h0 : t.val % 32 = 0) (y : S8x2816.Idx) :
    ∃ pc ∈ (runA m c t h0).2.2.2.2.2.2.2.2.1, y ∈ pc.1.set :=
  View.cover_of_tiledL (runA m c t h0).2.2.2.2.2.2.2.2.1 S8x2816.size (by sl_kernel_rfl) y

/-- At the first point: every output block and scratch buffer after the body, its pieces read back. -/
def outA (c : Dev nD) (t : Fin cfg0.N) (h0 : t.val % 32 = 0) : Outs F :=
  (VO0_4.read (Elt F) (VO0_4.writes (Elt F) VO0_4.junk (runA m c t h0).1),
    VO0_5.read (Elt F) (VO0_5.writes (Elt F) VO0_5.junk (runA m c t h0).2.1),
    VO0_6.read (Elt F) (VO0_6.writes (Elt F) VO0_6.junk (runA m c t h0).2.2.1),
    VO0_7.read (Elt F) (VO0_7.writes (Elt F) VO0_7.junk (runA m c t h0).2.2.2.1),
    VO0_8.read (Elt F) (VO0_8.writes (Elt F) VO0_8.junk (runA m c t h0).2.2.2.2.1),
    VO0_9.read (Elt F) (VO0_9.writes (Elt F) VO0_9.junk (runA m c t h0).2.2.2.2.2.1),
    VS0_0.read (Elt F) (VS0_0.writes (Elt F) VS0_0.junk (runA m c t h0).2.2.2.2.2.2.1),
    VS0_1.read (Elt F) (VS0_1.writes (Elt F) VS0_1.junk (runA m c t h0).2.2.2.2.2.2.2.1),
    VS0_2.read (Elt F) (VS0_2.writes (Elt F) VS0_2.junk (runA m c t h0).2.2.2.2.2.2.2.2.1))

/-- At a later point the pieces written to the block of the hidden rows cover it. -/
theorem coverB_0 (c : Dev nD) (t : Fin cfg0.N) (h0 : ¬t.val % 32 = 0) (p : Outs F) (y : S256x5632.Idx) :
    ∃ pc ∈ (runB m c t h0 p).1, y ∈ pc.1.set :=
  View.cover_of_tiledL (runB m c t h0 p).1 S256x2816.size (by sl_kernel_rfl) y

/-- At a later point the pieces written to the block of the activation cover it. -/
theorem coverB_1 (c : Dev nD) (t : Fin cfg0.N) (h0 : ¬t.val % 32 = 0) (p : Outs F) (y : S256x2816.Idx) :
    ∃ pc ∈ (runB m c t h0 p).2.1, y ∈ pc.1.set :=
  View.cover_of_tiledL (runB m c t h0 p).2.1 S256x2816.size (by sl_kernel_rfl) y

/-- At a later point the pieces written to the block of its slope cover it. -/
theorem coverB_2 (c : Dev nD) (t : Fin cfg0.N) (h0 : ¬t.val % 32 = 0) (p : Outs F) (y : S256x2816.Idx) :
    ∃ pc ∈ (runB m c t h0 p).2.2.1, y ∈ pc.1.set :=
  View.cover_of_tiledL (runB m c t h0 p).2.2.1 S256x2816.size (by sl_kernel_rfl) y

/-- At a later point the pieces written to the block of the product cover it. -/
theorem coverB_3 (c : Dev nD) (t : Fin cfg0.N) (h0 : ¬t.val % 32 = 0) (p : Outs F) (y : S256x2816.Idx) :
    ∃ pc ∈ (runB m c t h0 p).2.2.2.1, y ∈ pc.1.set :=
  View.cover_of_tiledL (runB m c t h0 p).2.2.2.1 S256x2816.size (by sl_kernel_rfl) y

/-- At a later point the pieces written to the block of the normalised rows cover it. -/
theorem coverB_4 (c : Dev nD) (t : Fin cfg0.N) (h0 : ¬t.val % 32 = 0) (p : Outs F) (y : S256x1024.Idx) :
    ∃ pc ∈ (runB m c t h0 p).2.2.2.2.1, y ∈ pc.1.set :=
  View.cover_of_tiledL (runB m c t h0 p).2.2.2.2.1 S256x1024.size (by sl_kernel_rfl) y

/-- At a later point the pieces written to the block of the output cover it. -/
theorem coverB_5 (c : Dev nD) (t : Fin cfg0.N) (h0 : ¬t.val % 32 = 0) (p : Outs F) (y : S256x1024.Idx) :
    ∃ pc ∈ (runB m c t h0 p).2.2.2.2.2.1, y ∈ pc.1.set :=
  View.cover_of_tiledL (runB m c t h0 p).2.2.2.2.2.1 S256x1024.size (by sl_kernel_rfl) y

/-- At a later point the pieces written to the carried rows cover it. -/
theorem coverB_8 (c : Dev nD) (t : Fin cfg0.N) (h0 : ¬t.val % 32 = 0) (p : Outs F) (y : S8x2816.Idx) :
    ∃ pc ∈ (runB m c t h0 p).2.2.2.2.2.2.2.2.1, y ∈ pc.1.set :=
  View.cover_of_tiledL (runB m c t h0 p).2.2.2.2.2.2.2.2.1 S8x2816.size (by sl_kernel_rfl) y

/-- At a later point: every output block and scratch buffer after the body, its pieces read back. -/
def outB (c : Dev nD) (t : Fin cfg0.N) (h0 : ¬t.val % 32 = 0) (p : Outs F) : Outs F :=
  (VO0_4.read (Elt F) (VO0_4.writes (Elt F) VO0_4.junk (runB m c t h0 p).1),
    VO0_5.read (Elt F) (VO0_5.writes (Elt F) VO0_5.junk (runB m c t h0 p).2.1),
    VO0_6.read (Elt F) (VO0_6.writes (Elt F) VO0_6.junk (runB m c t h0 p).2.2.1),
    VO0_7.read (Elt F) (VO0_7.writes (Elt F) VO0_7.junk (runB m c t h0 p).2.2.2.1),
    VO0_8.read (Elt F) (VO0_8.writes (Elt F) VO0_8.junk (runB m c t h0 p).2.2.2.2.1),
    VO0_9.read (Elt F) (VO0_9.writes (Elt F) VO0_9.junk (runB m c t h0 p).2.2.2.2.2.1),
    p.2.2.2.2.2.2.1,
    p.2.2.2.2.2.2.2.1,
    VS0_2.read (Elt F) (VS0_2.writes (Elt F) VS0_2.junk (runB m c t h0 p).2.2.2.2.2.2.2.2.1))

/-! ## What every grid point leaves -/

/-- The output blocks and the scratch after point `n`, by recursion on `n`: a later point works on what the one before left. -/
def outsAt0 (c : Dev nD) : (n : ℕ) → n < cfg0.N → Outs F
  | 0, hn => outA m c ⟨0, hn⟩ (Nat.zero_mod _)
  | n + 1, hn =>
    if h0 : (n + 1) % 32 = 0 then outA m c ⟨n + 1, hn⟩ h0
    else outB m c ⟨n + 1, hn⟩ h0 (outsAt0 c n (Nat.lt_of_succ_lt hn))

/-- `outsAt0` at the first point. -/
theorem outsAt0_A (c : Dev nD) (t : Fin cfg0.N) (h0 : t.val % 32 = 0) :
    outsAt0 m c t.val t.isLt = outA m c t h0 := by
  obtain ⟨n, hn⟩ := t
  cases n with
  | zero => exact rfl
  | succ n => exact (dif_pos h0).trans rfl

/-- `outsAt0` at a later point, over what the point before left. -/
theorem outsAt0_B (c : Dev nD) (t : Fin cfg0.N) (h0 : ¬t.val % 32 = 0) :
    outsAt0 m c t.val t.isLt
      = outB m c t h0 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans rfl

/-- The carried scratch, the generator register, the copies' counters at zero and the weight arrays, over a point's results. -/
def carried (c : Dev nD) (p : Outs F) : sProp 𝕄 :=
  iprop(iprop(owns (c : Thread nD τ) scM0_0 fullShare (p.2.2.2.2.2.2.1) ∗ owns (c : Thread nD τ) scM0_1 fullShare (p.2.2.2.2.2.2.2.1) ∗ owns (c : Thread nD τ) scM0_2 fullShare (p.2.2.2.2.2.2.2.2)) ∗ (∃ r, prngReg c r) ∗ iprop(semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0) ∗ iprop(hbPt0 c hbM0_0 (V m c main_v5) ∗ hbPt0 c hbM0_1 (V m c main_v7)))

/-- The invariant before position `n`: at the start the launch's own, afterwards the scratch as the point before left it. -/
def PhiS (c : Dev nD) : (n : ℕ) → n ≤ cfg0.N → sProp 𝕄
  | 0, _ => Pipeline.ΦD osem0 spec0 H0 (V m) c
  | n + 1, hn => carried m c (outsAt0 m c n hn)

/-- Before the first point nothing is carried. -/
theorem PhiS_zero (c : Dev nD) (n : ℕ) (h : n ≤ cfg0.N) (hz : n = 0) : PhiS m c n h = Pipeline.ΦD osem0 spec0 H0 (V m) c := by
  subst hz; rfl

/-- After a point its outputs are carried. -/
theorem PhiS_succ (c : Dev nD) (n : ℕ) (hn : n < cfg0.N) : PhiS m c (n + 1) hn = carried m c (outsAt0 m c n hn) := rfl

/-- Before a later point the outputs of the one before are carried. -/
theorem PhiS_pos (c : Dev nD) (n : ℕ) (h : n ≤ cfg0.N) (hz : n ≠ 0) :
    PhiS m c n h = carried m c (outsAt0 m c (n - 1) (by omega)) := by
  cases n with
  | zero => exact absurd rfl hz
  | succ n => rfl

/-! ## The pipeline's proof data -/

/-- The proof data of the pipeline: each input block as the launch staged it, each output block as `outsAt0` says, the
    scratch by `PhiS`, every array whole. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2.1
    | ⟨7, _⟩ => (outsAt0 m c t.val t.isLt).2.2.2.1
    | ⟨8, _⟩ => (outsAt0 m c t.val t.isLt).2.2.2.2.1
    | ⟨9, _⟩ => (outsAt0 m c t.val t.isLt).2.2.2.2.2.1
  Φ t := PhiS m c t.val (Nat.le_of_lt_succ t.isLt)
  q _ := fullShare
  owed _ := 0

/-- The arrays of the proof data are those the launch finds. -/
theorem A_eq (c : Dev nD) (w : Fin cfg0.W) : (dats m 0 c).A w = V m c (Pipeline.arrRef spec0 w) := by
  dsimp only [dats]

/-- The invariant at the start of a point. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What every block holds after the body. -/
theorem after0_0 (c : Dev nD) (t : Fin cfg0.N) : (dats m 0 c).after 0 t = iblk m c 0 t := by dsimp only [dats]
/-- What the window's slot holds after a point. -/
theorem after0_1 (c : Dev nD) (t : Fin cfg0.N) : (dats m 0 c).after 1 t = iblk m c 1 t := by dsimp only [dats]
/-- What the window's slot holds after a point. -/
theorem after0_2 (c : Dev nD) (t : Fin cfg0.N) : (dats m 0 c).after 2 t = iblk m c 2 t := by dsimp only [dats]
/-- What the window's slot holds after a point. -/
theorem after0_3 (c : Dev nD) (t : Fin cfg0.N) : (dats m 0 c).after 3 t = iblk m c 3 t := by dsimp only [dats]
/-- What the window's slot holds after a point. -/
theorem after0_4 (c : Dev nD) (t : Fin cfg0.N) : (dats m 0 c).after 4 t = (outsAt0 m c t.val t.isLt).1 := by dsimp only [dats]
/-- What the window's slot holds after a point. -/
theorem after0_5 (c : Dev nD) (t : Fin cfg0.N) : (dats m 0 c).after 5 t = (outsAt0 m c t.val t.isLt).2.1 := by dsimp only [dats]
/-- What the window's slot holds after a point. -/
theorem after0_6 (c : Dev nD) (t : Fin cfg0.N) : (dats m 0 c).after 6 t = (outsAt0 m c t.val t.isLt).2.2.1 := by dsimp only [dats]
/-- What the window's slot holds after a point. -/
theorem after0_7 (c : Dev nD) (t : Fin cfg0.N) : (dats m 0 c).after 7 t = (outsAt0 m c t.val t.isLt).2.2.2.1 := by dsimp only [dats]
/-- What the window's slot holds after a point. -/
theorem after0_8 (c : Dev nD) (t : Fin cfg0.N) : (dats m 0 c).after 8 t = (outsAt0 m c t.val t.isLt).2.2.2.2.1 := by dsimp only [dats]
/-- What the window's slot holds after a point. -/
theorem after0_9 (c : Dev nD) (t : Fin cfg0.N) : (dats m 0 c).after 9 t = (outsAt0 m c t.val t.isLt).2.2.2.2.2.1 := by dsimp only [dats]

/-- Every input block holds its part of the array when the body starts. -/
theorem before0_0 (c : Dev nD) (t : Fin cfg0.N) (d) : (dats m 0 c).before 0 t d = iblk m c 0 t :=
  before0_0_of m (dats m 0 c) (A_eq m c 0) (after0_0 m c) t d
/-- What the window's slot holds before a point. -/
theorem before0_1 (c : Dev nD) (t : Fin cfg0.N) (d) : (dats m 0 c).before 1 t d = iblk m c 1 t :=
  before0_1_of m (dats m 0 c) (A_eq m c 1) (after0_1 m c) t d
/-- What the window's slot holds before a point. -/
theorem before0_2 (c : Dev nD) (t : Fin cfg0.N) (d) : (dats m 0 c).before 2 t d = iblk m c 2 t :=
  before0_2_of m (dats m 0 c) (A_eq m c 2) (after0_2 m c) t d
/-- What the window's slot holds before a point. -/
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is given at a point: the invariant and every window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- What the body gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 9600000 in
/-- The body at any point. At the first it finds the scratch at anything and runs as `runA`; at a later one it finds the
    scratch as the point before left it and runs as `runB`. The lists of pieces cover their buffers, so
    what is written is all they hold. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = PhiS m c (t.val + 1) t.isLt from rfl, PhiS_succ,
    after0_0, after0_1, after0_2, after0_3, after0_4, after0_5, after0_6, after0_7, after0_8, after0_9]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  by_cases h0 : t.val % 32 = 0
  · by_cases hz : t.val = 0
    · rw [PhiS_castSucc m c t, PhiS_zero m c _ _ hz, PhiD0_eq]
      rw [outsAt0_A m c t h0]
      unfold outA carried; dsimp only
      iintro ⟨⟨⟨HS0, HS1, HS2⟩, Hg, ⟨Hq0, Hq1, Hq2, Hq3, Hq4, Hq5, Hq6, Hq7⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runA m c t h0).2.2.2.2.2.2.2.2.2 W _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      isplitl [HS0]; · iexact HS0
      isplitl [HS1]; · iexact HS1
      isplitl [HS2]; · iexact HS2
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hh0]; · iexact Hh0
      isplitl [Hh1]; · iexact Hh1
      isplitl [HW]; · iexact HW
      iintro ⟨H0, H1, H2, H3, ⟨%e4, H4⟩, ⟨%e5, H5⟩, ⟨%e6, H6⟩, ⟨%e7, H7⟩, ⟨%e8, H8⟩, ⟨%e9, H9⟩, ⟨%es0, HS0⟩, ⟨%es1, HS1⟩, ⟨%es2, HS2⟩, Hq0, Hq1, Hq2, Hq3, Hq4, Hq5, Hq6, Hq7, Hh0, Hh1, ⟨%W', HW'⟩⟩
      isplitl [HS0 HS1 HS2 Hg Hq0 Hq1 Hq2 Hq3 Hq4 Hq5 Hq6 Hq7 Hh0 Hh1]
      · isplitl [HS0 HS1 HS2]
        · isplitl [HS0]
          · unfold owns; iexists _; isplitr
            swap; · iexact HS0
            ipureintro; exact View.read_writes_of_cover _ _ _ _ _ (coverA_6 m c t h0)
          isplitl [HS1]
          · unfold owns; iexists _; isplitr
            swap; · iexact HS1
            ipureintro; exact View.read_writes_of_cover _ _ _ _ _ (coverA_7 m c t h0)
          unfold owns; iexists _; isplitr
          swap; · iexact HS2
          ipureintro; exact View.read_writes_of_cover _ _ _ _ _ (coverA_8 m c t h0)
        isplitl [Hg]
        · iexact Hg
        isplitl [Hq0 Hq1 Hq2 Hq3 Hq4 Hq5 Hq6 Hq7]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          iexact Hq7
        isplitl [Hh0]; · iexact Hh0
        iexact Hh1
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverA_0 m c t h0)
      isplitl [H5]
      · unfold owns; iexists _; isplitr
        swap; · iexact H5
        ipureintro; exact View.read_writes_of_cover _ _ _ _ _ (coverA_1 m c t h0)
      isplitl [H6]
      · unfold owns; iexists _; isplitr
        swap; · iexact H6
        ipureintro; exact View.read_writes_of_cover _ _ _ _ _ (coverA_2 m c t h0)
      isplitl [H7]
      · unfold owns; iexists _; isplitr
        swap; · iexact H7
        ipureintro; exact View.read_writes_of_cover _ _ _ _ _ (coverA_3 m c t h0)
      isplitl [H8]
      · unfold owns; iexists _; isplitr
        swap; · iexact H8
        ipureintro; exact View.read_writes_of_cover _ _ _ _ _ (coverA_4 m c t h0)
      unfold owns; iexists _; isplitr
      swap; · iexact H9
      ipureintro; exact View.read_writes_of_cover _ _ _ _ _ (coverA_5 m c t h0)
    · exfalso; have hN : t.val < 32 := lt_of_lt_of_eq t.isLt (show cfg0.N = 32 from N_0); omega
  · by_cases hz : t.val = 0
    · exfalso; have hN : t.val < 32 := lt_of_lt_of_eq t.isLt (show cfg0.N = 32 from N_0); omega
    · rw [PhiS_castSucc m c t, PhiS_pos m c _ _ hz]
      rw [outsAt0_B m c t h0]
      generalize outsAt0 m c (t.val - 1) (Nat.lt_of_le_of_lt (Nat.sub_le _ _) t.isLt) = p
      unfold outB carried; dsimp only
      iintro ⟨⟨⟨HS0, HS1, HS2⟩, Hg, ⟨Hq0, Hq1, Hq2, Hq3, Hq4, Hq5, Hq6, Hq7⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runB m c t h0 p).2.2.2.2.2.2.2.2.2 W _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      isplitl [HS0]; · iexact HS0
      isplitl [HS1]; · iexact HS1
      isplitl [HS2]; · iexact HS2
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hh0]; · iexact Hh0
      isplitl [Hh1]; · iexact Hh1
      isplitl [HW]; · iexact HW
      iintro ⟨H0, H1, H2, H3, ⟨%e4, H4⟩, ⟨%e5, H5⟩, ⟨%e6, H6⟩, ⟨%e7, H7⟩, ⟨%e8, H8⟩, ⟨%e9, H9⟩, HS0, HS1, ⟨%es2, HS2⟩, Hq0, Hq1, Hq2, Hq3, Hq4, Hq5, Hq6, Hq7, Hh0, Hh1, ⟨%W', HW'⟩⟩
      isplitl [HS0 HS1 HS2 Hg Hq0 Hq1 Hq2 Hq3 Hq4 Hq5 Hq6 Hq7 Hh0 Hh1]
      · isplitl [HS0 HS1 HS2]
        · isplitl [HS0]; · iexact HS0
          isplitl [HS1]; · iexact HS1
          unfold owns; iexists _; isplitr
          swap; · iexact HS2
          ipureintro; exact View.read_writes_of_cover _ _ _ _ _ (coverB_8 m c t h0 p)
        isplitl [Hg]
        · iexact Hg
        isplitl [Hq0 Hq1 Hq2 Hq3 Hq4 Hq5 Hq6 Hq7]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          iexact Hq7
        isplitl [Hh0]; · iexact Hh0
        iexact Hh1
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverB_0 m c t h0 p)
      isplitl [H5]
      · unfold owns; iexists _; isplitr
        swap; · iexact H5
        ipureintro; exact View.read_writes_of_cover _ _ _ _ _ (coverB_1 m c t h0 p)
      isplitl [H6]
      · unfold owns; iexists _; isplitr
        swap; · iexact H6
        ipureintro; exact View.read_writes_of_cover _ _ _ _ _ (coverB_2 m c t h0 p)
      isplitl [H7]
      · unfold owns; iexists _; isplitr
        swap; · iexact H7
        ipureintro; exact View.read_writes_of_cover _ _ _ _ _ (coverB_3 m c t h0 p)
      isplitl [H8]
      · unfold owns; iexists _; isplitr
        swap; · iexact H8
        ipureintro; exact View.read_writes_of_cover _ _ _ _ _ (coverB_4 m c t h0 p)
      unfold owns; iexists _; isplitr
      swap; · iexact H9
      ipureintro; exact View.read_writes_of_cover _ _ _ _ _ (coverB_5 m c t h0 p)

/-- The body at a point, as the launch calls it. -/
theorem defs₀_row (t : Fin cfg0.N) :
    defs₀ (F := F) .tc cfg0.body (cfg0.bodyArgs t (cfg0.slots t)) = bodyAt0 t := by
  unfold defs₀; rw [Defs.onTc_tc]

/-- The body at every point, in the form the pipeline asks for. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch gives the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch its resources back: what the scratch holds is forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  unfold carried
  iintro ⟨⟨HS0, HS1, HS2⟩, Hg, ⟨Hq0, Hq1, Hq2, Hq3, Hq4, Hq5, Hq6, Hq7⟩, ⟨Hh0, Hh1⟩⟩
  isplitl [HS0 HS1 HS2]
  · isplitl [HS0]
    · iexists _; iexact HS0
    isplitl [HS1]
    · iexists _; iexact HS1
    iexists _; iexact HS2
  isplitl [Hg]; · iexact Hg
  isplitl [Hq0 Hq1 Hq2 Hq3 Hq4 Hq5 Hq6 Hq7]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    iexact Hq7
  isplitl [Hh0]; · iexact Hh0
  iexact Hh1

/-- The same after the last point. -/
theorem hout (c : Dev nD) : (dats m 0 c).Φ (Fin.last cfg0.N) ⊢ Pipeline.ΦD osem0 spec0 H0 (V m) c :=
  Phi_out m c _ (by rw [Fin.val_last]; have : cfg0.N = 32 := N_0; omega)

/-! ## The run and the frame -/

set_option backward.isDefEq.respectTransparency.types false in
/-- Every run of the program ends, with every array as the proof data computes it and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- Every run of the program ends, with every array as the proof data computes it. -/
theorem run_main : θ_run defs (onTc (τ := τ) (main (F := F))) (s₀ m ρ) (Pipeline.FramePost cfgs (dats m) 0 (V m)) :=
  (θ_run defs _ _).mono (fun _ h => h.1) (run_main_quiescent m ρ)

/-- Every run ends with the argument arrays as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: every run ends, the argument arrays are as they were and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.FwdKernelIdeal.Fwd

end
-- ==== Proof.Fwd.Spec.lean ====
/- The layer's forward pass, entry by entry. -/
module

public import proofs.«01_k».proof.Proof.Gen.FwdKernelIdeal.Frame.Runs
public import Idealize.ShloMosaic.Lib.Claim
public import Idealize.ShloMosaic.Lib.Pointwise

@[expose] public section

set_option maxRecDepth 16384

noncomputable section

namespace Cert.FwdKernelIdeal.Fwd

open Cert.FwdKernelIdeal Cert.FwdKernelIdeal.Gen
open Idealize.ShloMosaic Idealize.ShloMosaic.TcCoe Idealize.ShloMosaic.Tactic

variable (x0 : FVec Ideal S8192x1024 .f32) (x1 : FVec Ideal S1024 .f32) (x2 : FVec Ideal S1024x5632 .f32)
  (x3 : FVec Ideal S3x2816 .f32) (x4 : FVec Ideal S2816 .f32) (x5 : FVec Ideal S2816x1024 .f32)

/-- The normalised input. -/
def HN (t : Fin 8192) (k : Fin 1024) : EReal :=
  x0 (ix2 t k) * Ideal.rsqrt (Ideal.div (∑ k : Fin 1024, x0 (ix2 t k) * x0 (ix2 t k)) (Ideal.ofBits FTy.f32 1149239296#32)
    + Ideal.ofBits FTy.f32 897988541#32) * x1 (ix1 k)

/-- The hidden array: the normalised input times the first weight. -/
def UP (t : Fin 8192) (e : Fin 5632) : EReal := ∑ k : Fin 1024, HN x0 x1 t k * x2 (ix2 k e)

/-- A column moved down by `d` rows, with zeros in front. -/
def PREV (f : Fin 8192 → EReal) (d : ℕ) (t : Fin 8192) : EReal :=
  if h : d ≤ (t : ℕ) then f ⟨t - d, by omega⟩ else 0

/-- A column of the gate, which is the left half of the hidden array. -/
def GATE (l : Fin 2816) (t : Fin 8192) : EReal := UP x0 x1 x2 t ⟨l, by omega⟩

/-- The gate after the causal convolution along the rows, with its bias. -/
def CONV (t : Fin 8192) (l : Fin 2816) : EReal :=
  x3 (ix2 0 l) * PREV (GATE x0 x1 x2 l) 2 t + x3 (ix2 1 l) * PREV (GATE x0 x1 x2 l) 1 t
    + x3 (ix2 2 l) * GATE x0 x1 x2 l t + x4 (ix1 l)

/-- The activation of an entry, and its slope. -/
def act (v : EReal) : EReal := v * Ideal.logistic v
def slope (v : EReal) : EReal := Ideal.logistic v + v * Ideal.logistic v * (1 - Ideal.logistic v)

/-- The activated gate times the right half of the hidden array. -/
def ACT (t : Fin 8192) (l : Fin 2816) : EReal := act (CONV x0 x1 x2 x3 x4 t l) * UP x0 x1 x2 t ⟨2816 + l, by omega⟩

/-- The layer's result: the input plus the activated array times the second weight. -/
def OUT (t : Fin 8192) (k : Fin 1024) : EReal := x0 (ix2 t k) + ∑ l : Fin 2816, ACT x0 x1 x2 x3 x4 t l * x5 (ix2 l k)

end Cert.FwdKernelIdeal.Fwd

end
-- ==== Proof.Fwd.Host.lean ====
/- What the host lines before the kernel hand it, and the input blocks of a point. -/
module

public import proofs.«01_k».proof.Proof.Gen.FwdKernelIdeal.Frame.Runs
public import Idealize.ShloMosaic.Lib.Claim
public import Idealize.ShloMosaic.Lib.Pointwise
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.FwdKernelIdeal.Fwd

open Cert.FwdKernelIdeal Cert.FwdKernelIdeal.Gen
open Idealize.ShloMosaic Idealize.ShloMosaic.TcCoe Idealize.ShloMosaic.Tactic

variable (m : (ℓ : Loc nD τ sig) → Buf (Elt Ideal) ℓ)

/-- An argument array at launch. -/
abbrev arg0 (c : Dev nD) : FVec Ideal S8192x1024 .f32 := m ((c : Thread nD τ).loc main_arg0)
abbrev arg1 (c : Dev nD) : FVec Ideal S1024 .f32 := m ((c : Thread nD τ).loc main_arg1)
abbrev arg2 (c : Dev nD) : FVec Ideal S1024x5632 .f32 := m ((c : Thread nD τ).loc main_arg2)
abbrev arg3 (c : Dev nD) : FVec Ideal S3x2816 .f32 := m ((c : Thread nD τ).loc main_arg3)
abbrev arg4 (c : Dev nD) : FVec Ideal S2816 .f32 := m ((c : Thread nD τ).loc main_arg4)
abbrev arg5 (c : Dev nD) : FVec Ideal S2816x1024 .f32 := m ((c : Thread nD τ).loc main_arg5)

/-- The input is as it was at launch. -/
theorem V_arg0 (c : Dev nD) : (V m c main_arg0 : FVec Ideal S8192x1024 .f32) = arg0 m c := by
  unfold_abbrev_sides
  after_reads_simp

/-- The gain as the kernel reads it. -/
theorem g_at (c : Dev nD) (k : Fin 1024) :
    (V m c main_v0 : FVec Ideal S1x1024 .f32) (ix2 0 k) = arg1 m c (ix1 k) := by
  have e : (V m c main_v0 : FVec Ideal S1x1024 .f32) = shapeCast S1x1024 (arg1 m c) shapeCasts_S1024_S1x1024 := by
    unfold_abbrev_sides
    after_reads_simp
    rfl
  rw [e]; pointwise

/-- The filter's three rows are the first three of the eight the kernel is given. -/
theorem wc_at (c : Dev nD) (j : Fin 3) (k : Fin 2816) :
    (V m c main_v1 : FVec Ideal S8x2816 .f32) (ix2 ⟨j, by omega⟩ k) = arg3 m c (ix2 j k) := by
  have e : @Eq (FVec Ideal S8x2816 .f32) (V m c main_v1)
      (pad S8x2816 ![0, 0] ![5, 0] ![0, 0] (arg3 m c) (sitofp .f32 (constantI S_ 32 0#32)) pads_S3x2816_S8x2816_050_000 h_S_) := by
    unfold_abbrev_sides
    after_reads_simp
    rfl
  rw [e]; pointwise

/-- The bias as the kernel reads it. -/
theorem b_at (c : Dev nD) (k : Fin 2816) :
    (V m c main_v2 : FVec Ideal S1x2816 .f32) (ix2 0 k) = arg4 m c (ix1 k) := by
  have e : (V m c main_v2 : FVec Ideal S1x2816 .f32) = shapeCast S1x2816 (arg4 m c) shapeCasts_S2816_S1x2816 := by
    unfold_abbrev_sides
    after_reads_simp
    rfl
  rw [e]; pointwise

/-- Slot `q` of the first weight holds its columns `1408 q …`. -/
theorem wup_at (c : Dev nD) (q : Fin 4) (k : Fin 1024) (j : Fin 1408) :
    (V m c main_v5 : FVec Ideal S4x1024x1408 .bf16) (ix3 q k j) = arg2 m c (ix2 k ⟨q * 1408 + j, by omega⟩) := by
  have e : (V m c main_v5 : FVec Ideal S4x1024x1408 .bf16) = truncf .bf16 (transpose S4x1024x1408 [1, 0, 2]
      (shapeCast S1024x4x1408 (arg2 m c) shapeCasts_S1024x5632_S1024x4x1408) transposes_S1024x4x1408_S4x1024x1408_1_0_2) bitsLt_bf16_f32 := by
    unfold_abbrev_sides
    after_reads_simp
    rfl
  rw [e]; pointwise

/-- Slot `q` of the second weight holds its rows `704 q …`. -/
theorem wdn_at (c : Dev nD) (q : Fin 4) (j : Fin 704) (k : Fin 1024) :
    (V m c main_v7 : FVec Ideal S4x704x1024 .bf16) (ix3 q j k) = arg5 m c (ix2 ⟨q * 704 + j, by omega⟩ k) := by
  have e : (V m c main_v7 : FVec Ideal S4x704x1024 .bf16)
      = truncf .bf16 (shapeCast S4x704x1024 (arg5 m c) shapeCasts_S2816x1024_S4x704x1024) bitsLt_bf16_f32 := by
    unfold_abbrev_sides
    after_reads_simp
    rfl
  rw [e]; pointwise

/-- The row of the whole arrays that is row `r` of tile `n`. -/
def row (n : ℕ) (lt : n < 32) (r : Fin 256) : Fin 8192 := ⟨n * 256 + r, by omega⟩

/-- Its number. -/
theorem row_val (n : ℕ) (lt : n < 32) (r : Fin 256) : (row n lt r).val = n * 256 + r := rfl

/-- There are 32 points. -/
theorem pt (t : Fin cfg0.N) : t.val < 32 := lt_of_lt_of_eq t.isLt N_0

/-- Which block each window reads and writes at each point. -/
theorem index_tiles : ∀ t : Fin cfg0.N,
    win0_0.index t = ![t.val, 0] ∧ win0_1.index t = ![0, 0] ∧ win0_2.index t = ![0, 0] ∧ win0_3.index t = ![0, 0]
      ∧ win0_4.index t = ![t.val, 0] ∧ win0_5.index t = ![t.val, 0] ∧ win0_6.index t = ![t.val, 0]
      ∧ win0_7.index t = ![t.val, 0] ∧ win0_8.index t = ![t.val, 0] ∧ win0_9.index t = ![t.val, 0] :=
  (by decide +kernel : ∀ t : Fin grid0.N, _)

/-- The input blocks of a point: a tile of rows, the gain, the filter and the bias. -/
abbrev xb0 (c : Dev nD) (t : Fin cfg0.N) : Vec Ideal S256x1024 .f32 := iblk m c 0 t
abbrev xb1 (c : Dev nD) (t : Fin cfg0.N) : Vec Ideal S1x1024 .f32 := iblk m c 1 t
abbrev xb2 (c : Dev nD) (t : Fin cfg0.N) : Vec Ideal S8x2816 .f32 := iblk m c 2 t
abbrev xb3 (c : Dev nD) (t : Fin cfg0.N) : Vec Ideal S1x2816 .f32 := iblk m c 3 t

/-- The input's tile. -/
theorem xb0_at (c : Dev nD) (t : Fin cfg0.N) (r : Fin 256) (k : Fin 1024) :
    xb0 m c t (ix2 r k) = arg0 m c (ix2 (row t.val (pt t) r) k) := by
  obtain ⟨e0, -⟩ := index_tiles t
  have e : (win0_0.blk t).view.emb (ix2 r k) = ix2 (row t.val (pt t) r) k := by
    blk_ext [e0, row_val]
  exact (congrArg (V m c main_arg0) e).trans (congrFun (V_arg0 m c) _)

/-- The gain's row. -/
theorem xb1_at (c : Dev nD) (t : Fin cfg0.N) (k : Fin 1024) : xb1 m c t (ix2 0 k) = arg1 m c (ix1 k) := by
  obtain ⟨e0, e1, -⟩ := index_tiles t
  have e : (win0_1.blk t).view.emb (ix2 0 k) = ix2 0 k := by
    blk_ext [e1]
  exact (congrArg (V m c main_v0) e).trans (g_at m c k)

/-- The filter's rows. -/
theorem xb2_at (c : Dev nD) (t : Fin cfg0.N) (j : Fin 3) (k : Fin 2816) :
    xb2 m c t (ix2 ⟨j, by omega⟩ k) = arg3 m c (ix2 j k) := by
  obtain ⟨e0, e1, e2, -⟩ := index_tiles t
  have e : (win0_2.blk t).view.emb (ix2 (⟨j, by omega⟩ : Fin 8) k) = ix2 (⟨j, by omega⟩ : Fin 8) k := by
    blk_ext [e2]
  exact (congrArg (V m c main_v1) e).trans (wc_at m c j k)

/-- The bias's row. -/
theorem xb3_at (c : Dev nD) (t : Fin cfg0.N) (k : Fin 2816) : xb3 m c t (ix2 0 k) = arg4 m c (ix1 k) := by
  obtain ⟨e0, e1, e2, e3, -⟩ := index_tiles t
  have e : (win0_3.blk t).view.emb (ix2 0 k) = ix2 0 k := by
    blk_ext [e3]
  exact (congrArg (V m c main_v2) e).trans (b_at m c k)

/-- A slab of the first weight's array, read through the transfer's view. -/
theorem slab5 (q : ℕ) (q_lt : q < 4) (inb) (hn) (f : Vec Ideal S4x1024x1408 .bf16) (x : S1024x1408.Idx) :
    ReadAs.same.apply (View.read (Elt Ideal) (((View.whole main_v5).slice (Rect.unit ![q, 0, 0] ![1, 1024, 1408] inb)).reshape S1024x1408 hn) f) x
      = f (ix3 ⟨q, q_lt⟩ (x 0) (x 1)) := by
  refine congrArg f ?_
  have e : Shape.reshapeEquiv hn x = (ix3 (0 : Fin 1) (x 0) (x 1) : (⟨3, ![1, 1024, 1408]⟩ : Shape).Idx) :=
    Shape.reshapeEquiv_eq_of_vals hn x _ _ _ (rowMajor_val3 _ (1024 * 1408) 1408 rfl rfl) (rowMajor_val2 x 1408 rfl)
      (by show 0 * (1024 * 1408) + (x 0).val * 1408 + (x 1).val = (x 0).val * 1408 + (x 1).val; omega)
  show (Rect.unit (s := S4x1024x1408) ![q, 0, 0] ![1, 1024, 1408] inb).emb (Shape.reshapeEquiv hn x) = _
  rw [e]
  funext a
  apply Fin.ext
  fin_cases a
  · show q + 0 * 1 = q; omega
  · show 0 + 1 * (x 0).val = (x 0).val; omega
  · show 0 + 1 * (x 1).val = (x 1).val; omega

/-- A slab of the second weight's array, read through the transfer's view. -/
theorem slab7 (q : ℕ) (q_lt : q < 4) (inb) (hn) (f : Vec Ideal S4x704x1024 .bf16) (x : S704x1024.Idx) :
    ReadAs.same.apply (View.read (Elt Ideal) (((View.whole main_v7).slice (Rect.unit ![q, 0, 0] ![1, 704, 1024] inb)).reshape S704x1024 hn) f) x
      = f (ix3 ⟨q, q_lt⟩ (x 0) (x 1)) := by
  refine congrArg f ?_
  have e : Shape.reshapeEquiv hn x = (ix3 (0 : Fin 1) (x 0) (x 1) : (⟨3, ![1, 704, 1024]⟩ : Shape).Idx) :=
    Shape.reshapeEquiv_eq_of_vals hn x _ _ _ (rowMajor_val3 _ (704 * 1024) 1024 rfl rfl) (rowMajor_val2 x 1024 rfl)
      (by show 0 * (704 * 1024) + (x 0).val * 1024 + (x 1).val = (x 0).val * 1024 + (x 1).val; omega)
  show (Rect.unit (s := S4x704x1024) ![q, 0, 0] ![1, 704, 1024] inb).emb (Shape.reshapeEquiv hn x) = _
  rw [e]
  funext a
  apply Fin.ext
  fin_cases a
  · show q + 0 * 1 = q; omega
  · show 0 + 1 * (x 0).val = (x 0).val; omega
  · show 0 + 1 * (x 1).val = (x 1).val; omega

end Cert.FwdKernelIdeal.Fwd

end
-- ==== Proof.Fwd.Conv.lean ====
/- The causal convolution over one tile of rows, and the activation. -/
module

public import proofs.«01_k».proof.Proof.Gen.FwdKernelIdeal.Skeleton
public import Idealize.ShloMosaic.Lib.Pointwise

@[expose] public section

set_option maxRecDepth 16384

noncomputable section

namespace Cert.FwdKernelIdeal.Fwd

open Cert.FwdKernelIdeal Cert.FwdKernelIdeal.Gen
open Idealize.ShloMosaic Idealize.ShloMosaic.TcCoe Idealize.ShloMosaic.Tactic

variable (m : (ℓ : Loc nD τ sig) → Buf (Elt Ideal) ℓ)

/-- Row `r` of a tile moved down by one row; its first row is the last of the rows carried from the tile before it. -/
def low1 (f : Fin 256 → EReal) (q : Fin 8 → EReal) (r : Fin 256) : EReal :=
  if h : 1 ≤ (r : ℕ) then f ⟨r - 1, by omega⟩ else q 7

/-- Row `r` of a tile moved down by two rows; its first two rows are the last two of the carried ones. -/
def low2 (f : Fin 256 → EReal) (q : Fin 8 → EReal) (r : Fin 256) : EReal :=
  if h : 2 ≤ (r : ℕ) then f ⟨r - 2, by omega⟩ else q ⟨r + 6, by omega⟩

/-- A column moved down by one row, as the kernel forms it: the first eight rows apart. -/
theorem low1_eq (f : Fin 256 → EReal) (q : Fin 8 → EReal) (r : Fin 256) :
    (if h : (r : ℕ) < 8 then Scalar.select (IntOp.cmpi CmpIPredicate.eq (BitVec.ofNat 32 ↑r) 0#32) (q 7) (f ⟨(↑r + 256 - 1) % 256, by omega⟩)
      else f ⟨(8 + (↑r - 8) + 256 - 1) % 256, by omega⟩) = low1 f q r := by
  unfold low1
  split
  next a =>
    obtain ⟨r, r_lt⟩ := r
    have : r = 0 ∨ r = 1 ∨ r = 2 ∨ r = 3 ∨ r = 4 ∨ r = 5 ∨ r = 6 ∨ r = 7 := by simp at a; omega
    rcases this with rfl | rfl | rfl | rfl | rfl | rfl | rfl | rfl <;> simp [Scalar.select, IntOp.cmpi]
  next a =>
    rw [dif_pos (by omega)]
    exact congrArg f (Fin.ext (by show (8 + (r.val - 8) + 256 - 1) % 256 = r.val - 1; omega))

/-- A column moved down by two rows, as the kernel forms it. -/
theorem low2_eq (f : Fin 256 → EReal) (q : Fin 8 → EReal) (r : Fin 256) :
    (if h : (r : ℕ) < 8 then Scalar.select (IntOp.cmpi CmpIPredicate.eq (BitVec.ofNat 32 ↑r) 1#32) (q 7)
        (Scalar.select (IntOp.cmpi CmpIPredicate.eq (BitVec.ofNat 32 ↑r) 0#32) (q 6) (f ⟨(↑r + 256 - 2) % 256, by omega⟩))
      else f ⟨(8 + (↑r - 8) + 256 - 2) % 256, by omega⟩) = low2 f q r := by
  unfold low2
  split
  next a =>
    obtain ⟨r, r_lt⟩ := r
    have : r = 0 ∨ r = 1 ∨ r = 2 ∨ r = 3 ∨ r = 4 ∨ r = 5 ∨ r = 6 ∨ r = 7 := by simp at a; omega
    rcases this with rfl | rfl | rfl | rfl | rfl | rfl | rfl | rfl <;> simp [Scalar.select, IntOp.cmpi]
  next a =>
    rw [dif_pos (by omega)]
    exact congrArg f (Fin.ext (by show (8 + (r.val - 8) + 256 - 2) % 256 = r.val - 2; omega))

/-- The convolution of the gate over the rows, with its bias. -/
theorem conv_pay (a : Vec Ideal S256x1024 .bf16) (w : Vec Ideal S1024x2816 .bf16) (q : Vec Ideal S8x2816 .f32)
    (w0 w1 w2 b : Vec Ideal S1x2816 .f32) (r : Fin 256) (l : Fin 2816) :
    k0_pay8 (k0_pay3 a w) q (k0_pay5 w0) (iota .tc S8x2816 32 [0] iota_S8x2816_d0_w32) (k0_pay6 a w) (k0_pay7 a w) 0#32 w1 w2 b (ix2 r l)
      = w0 (ix2 0 l) * low2 (fun r => k0_pay3 a w (ix2 r l)) (fun j => q (ix2 j l)) r
        + w1 (ix2 0 l) * low1 (fun r => k0_pay3 a w (ix2 r l)) (fun j => q (ix2 j l)) r
        + w2 (ix2 0 l) * k0_pay3 a w (ix2 r l) + b (ix2 0 l) := by
  unfold k0_pay7 k0_pay6
  generalize k0_pay3 a w = f
  pointwise [k0_pay8, k0_pay5]
  rw [← low2_eq (fun r => f (ix2 r l)) (fun j => q (ix2 j l)) r, ← low1_eq (fun r => f (ix2 r l)) (fun j => q (ix2 j l)) r]

/-- The literal one half. -/
theorem bits_half : Ideal.ofBits .f32 0x3F000000#32 = ((1 / 2 : ℝ) : EReal) := by
  simp [Ideal.ofBits, Ideal.ieee, -EReal.coe_mul]; norm_num

/-- The literal one. -/
theorem bits_one : Ideal.ofBits .f32 0x3F800000#32 = (1 : EReal) := by
  simp [Ideal.ofBits, Ideal.ieee, -EReal.coe_mul]; norm_num

/-- Half of the hyperbolic tangent of half the argument, plus one half, is the logistic function. -/
theorem half_tanh (x : EReal) :
    Ideal.ofBits FTy.f32 0x3F000000#32 * Ideal.tanh (Ideal.ofBits FTy.f32 0x3F000000#32 * x) + Ideal.ofBits FTy.f32 0x3F000000#32
      = Ideal.logistic x := by
  rw [bits_half]
  induction x with
  | bot =>
    rw [EReal.coe_mul_bot_of_pos (by norm_num), Ideal.tanh_bot, Ideal.logistic_bot,
      show (-1 : EReal) = ((-1 : ℝ) : EReal) from rfl, ← EReal.coe_mul, ← EReal.coe_add]
    norm_num
  | top =>
    rw [EReal.coe_mul_top_of_pos (by norm_num), Ideal.tanh_top, Ideal.logistic_top,
      show (1 : EReal) = ((1 : ℝ) : EReal) from rfl, ← EReal.coe_mul, ← EReal.coe_add]
    norm_num
  | coe r =>
    rw [← EReal.coe_mul, Ideal.tanh_coe, ← EReal.coe_mul, ← EReal.coe_add, Ideal.logistic_coe]
    congr 1
    rw [Real.tanh_eq_sinh_div_cosh, Real.sinh_eq, Real.cosh_eq]
    have e : Real.exp (-r) = Real.exp (-(1 / 2 * r)) * Real.exp (-(1 / 2 * r)) := by rw [← Real.exp_add]; congr 1; ring
    have o : Real.exp (1 / 2 * r) * Real.exp (-(1 / 2 * r)) = 1 := by rw [← Real.exp_add]; simp
    have p := Real.exp_pos (1 / 2 * r)
    have n := Real.exp_pos (-(1 / 2 * r))
    rw [e]
    generalize Real.exp (1 / 2 * r) = a at *
    generalize Real.exp (-(1 / 2 * r)) = b at *
    have d : a + b ≠ 0 := (add_pos p n).ne'
    have d' : 1 + b * b ≠ 0 := by positivity
    field_simp
    linear_combination (2 * b) * o

end Cert.FwdKernelIdeal.Fwd

end
-- ==== Proof.Fwd.Point.lean ====
/- The entries of a point's values, in terms of the arguments. -/
module

public import proofs.«01_k».proof.Proof.Fwd.Spec
public import proofs.«01_k».proof.Proof.Fwd.Host
public import proofs.«01_k».proof.Proof.Fwd.Conv
public import proofs.«01_k».proof.Proof.Fwd.KernelIdeal.Frame
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.FwdKernelIdeal.Fwd

open Cert.FwdKernelIdeal Cert.FwdKernelIdeal.Gen
open Idealize.ShloMosaic Idealize.ShloMosaic.TcCoe Idealize.ShloMosaic.Tactic

variable (m : (ℓ : Loc nD τ sig) → Buf (Elt Ideal) ℓ)

/-- The arguments' hidden array, gate after the convolution, activated product and result. -/
abbrev mHN (c : Dev nD) := HN (arg0 m c) (arg1 m c)
abbrev mUP (c : Dev nD) := UP (arg0 m c) (arg1 m c) (arg2 m c)
abbrev mGATE (c : Dev nD) := GATE (arg0 m c) (arg1 m c) (arg2 m c)
abbrev mCONV (c : Dev nD) := CONV (arg0 m c) (arg1 m c) (arg2 m c) (arg3 m c) (arg4 m c)
abbrev mACT (c : Dev nD) := ACT (arg0 m c) (arg1 m c) (arg2 m c) (arg3 m c) (arg4 m c)
abbrev mOUT (c : Dev nD) := OUT (arg0 m c) (arg1 m c) (arg2 m c) (arg3 m c) (arg4 m c) (arg5 m c)

/-- The last eight rows of the gate in the tile before tile `n`; zeros before the first tile. -/
def back (c : Dev nD) (n : ℕ) (lt : n < 32) (j : Fin 8) (l : Fin 2816) : EReal :=
  if h : 1 ≤ n then mGATE m c l ⟨(n - 1) * 256 + 248 + j, by omega⟩ else 0

/-- The normalised rows. -/
theorem h_pay (x : Vec Ideal S256x1024 .f32) (g : Vec Ideal S1x1024 .f32) (r : Fin 256) (k : Fin 1024) :
    k0_pay2 x g (ix2 r k) = x (ix2 r k) * Ideal.rsqrt (Ideal.div (∑ k : Fin 1024, x (ix2 r k) * x (ix2 r k)) (Ideal.ofBits FTy.f32 1149239296#32)
      + Ideal.ofBits FTy.f32 897988541#32) * g (ix2 0 k) := by
  pointwise [k0_pay2]

/-- A product with a block of a weight's columns. -/
theorem gate_pay (a : Vec Ideal S256x1024 .bf16) (w : Vec Ideal S1024x2816 .bf16) (r : Fin 256) (l : Fin 2816) :
    k0_pay3 a w (ix2 r l) = ∑ k : Fin 1024, a (ix2 r k) * w (ix2 k l) := by
  pointwise [k0_pay3]

/-- The same product, for the value half. -/
theorem val_pay (a : Vec Ideal S256x1024 .bf16) (w : Vec Ideal S1024x2816 .bf16) (r : Fin 256) (l : Fin 2816) :
    k0_pay15 a w (ix2 r l) = ∑ k : Fin 1024, a (ix2 r k) * w (ix2 k l) := by
  pointwise [k0_pay15]

/-- The last eight rows of a tile. -/
theorem tail_pay (f : FVec Ideal S256x2816 .f32) (j : Fin 8) (l : Fin 2816) :
    k0_pay9 f (ix2 j l) = f (ix2 ⟨248 + j, by omega⟩ l) := by
  pointwise [k0_pay9]

/-- The activation from the convolved gate and its half. -/
theorem silu_pay (v : FVec Ideal S256x2816 .f32) (u : FVec Ideal S256x2816 .f32) (r : Fin 256) (l : Fin 2816)
    (u_eq : u (ix2 r l) = Ideal.ofBits FTy.f32 0x3F000000#32 * v (ix2 r l)) :
    k0_pay12 v u (ix2 r l) = act (v (ix2 r l)) := by
  pointwise [k0_pay12, k0_pay11]
  rw [u_eq, half_tanh]; rfl

/-- The activation's slope. -/
theorem slope_pay (v : FVec Ideal S256x2816 .f32) (u : FVec Ideal S256x2816 .f32) (r : Fin 256) (l : Fin 2816)
    (u_eq : u (ix2 r l) = Ideal.ofBits FTy.f32 0x3F000000#32 * v (ix2 r l)) :
    k0_pay14 v u (ix2 r l) = slope (v (ix2 r l)) := by
  pointwise [k0_pay14, k0_pay12, k0_pay11]
  rw [u_eq, half_tanh]; rfl

/-- The layer's result from the activated product. -/
theorem out_pay (x : Vec Ideal S256x1024 .f32) (a : Vec Ideal S256x2816 .bf16) (w : Vec Ideal S2816x1024 .bf16) (r : Fin 256) (k : Fin 1024) :
    k0_pay18 x a w (ix2 r k) = x (ix2 r k) + ∑ l : Fin 2816, a (ix2 r l) * w (ix2 l k) := by
  pointwise [k0_pay18]

/-- The rows of a block of the filter. -/
theorem ld_row0 (w : Vec Ideal S8x2816 .f32) (inb) (l : Fin 2816) :
    (View.ld w (Rect.unit ![0, 0] ![1, 2816] inb) : Vec Ideal S1x2816 .f32) (ix2 0 l) = w (ix2 0 l) := by
  pointwise
theorem ld_row1 (w : Vec Ideal S8x2816 .f32) (inb) (l : Fin 2816) :
    (View.ld w (Rect.unit ![1, 0] ![1, 2816] inb) : Vec Ideal S1x2816 .f32) (ix2 0 l) = w (ix2 1 l) := by
  pointwise
theorem ld_row2 (w : Vec Ideal S8x2816 .f32) (inb) (l : Fin 2816) :
    (View.ld w (Rect.unit ![2, 0] ![1, 2816] inb) : Vec Ideal S1x2816 .f32) (ix2 0 l) = w (ix2 2 l) := by
  pointwise

/-- A point's normalised rows. -/
theorem hn_pt (c : Dev nD) (t : Fin cfg0.N) (r : Fin 256) (k : Fin 1024) :
    k0_pay2 (xb0 m c t) (xb1 m c t) (ix2 r k) = mHN m c (row t.val (pt t) r) k := by
  rw [h_pay, xb1_at]
  simp only [xb0_at]
  rfl

/-- The convolved gate of a point, from the weight's left half `w` and the rows `q` carried to it; and half of it. -/
abbrev cv (c : Dev nD) (t : Fin cfg0.N) (w : Vec Ideal S1024x2816 .bf16) (q : Vec Ideal S8x2816 .f32) : FVec Ideal S256x2816 .f32 :=
  k0_pay8 (k0_pay3 (k0_pay2 (xb0 m c t) (xb1 m c t)) w) q
    (k0_pay5 (View.ld (xb2 m c t) (Rect.unit ![0, 0] ![1, 2816] inb_S8x2816_S1x2816_0_0)))
    (iota .tc S8x2816 32 [0] iota_S8x2816_d0_w32)
    (k0_pay6 (k0_pay2 (xb0 m c t) (xb1 m c t)) w) (k0_pay7 (k0_pay2 (xb0 m c t) (xb1 m c t)) w) 0#32
    (View.ld (xb2 m c t) (Rect.unit ![1, 0] ![1, 2816] inb_S8x2816_S1x2816_1_0))
    (View.ld (xb2 m c t) (Rect.unit ![2, 0] ![1, 2816] inb_S8x2816_S1x2816_2_0)) (xb3 m c t)
abbrev cvh (c : Dev nD) (t : Fin cfg0.N) (w : Vec Ideal S1024x2816 .bf16) (q : Vec Ideal S8x2816 .f32) : FVec Ideal S256x2816 .f32 :=
  k0_pay10 (k0_pay3 (k0_pay2 (xb0 m c t) (xb1 m c t)) w) q
    (k0_pay5 (View.ld (xb2 m c t) (Rect.unit ![0, 0] ![1, 2816] inb_S8x2816_S1x2816_0_0)))
    (iota .tc S8x2816 32 [0] iota_S8x2816_d0_w32)
    (k0_pay6 (k0_pay2 (xb0 m c t) (xb1 m c t)) w) (k0_pay7 (k0_pay2 (xb0 m c t) (xb1 m c t)) w) 0#32
    (View.ld (xb2 m c t) (Rect.unit ![1, 0] ![1, 2816] inb_S8x2816_S1x2816_1_0))
    (View.ld (xb2 m c t) (Rect.unit ![2, 0] ![1, 2816] inb_S8x2816_S1x2816_2_0)) (xb3 m c t)

/-- The half, from the whole. -/
theorem half_pay (a : FVec Ideal S256x2816 .f32) (q : Vec Ideal S8x2816 .f32) (w0 : FVec Ideal S1x2816 .f32) (i : IVec S8x2816 32)
    (f : FVec Ideal S256x2816 .f32) (g : FVec Ideal S8x2816 .f32) (z : BitVec 32) (w1 w2 b : Vec Ideal S1x2816 .f32) (r : Fin 256) (l : Fin 2816) :
    k0_pay10 a q w0 i f g z w1 w2 b (ix2 r l) = Ideal.ofBits FTy.f32 0x3F000000#32 * k0_pay8 a q w0 i f g z w1 w2 b (ix2 r l) := by
  unfold k0_pay10
  generalize k0_pay8 a q w0 i f g z w1 w2 b = v
  pointwise

section
variable (c : Dev nD) (t : Fin cfg0.N) (w wr : Vec Ideal S1024x2816 .bf16) (d : Vec Ideal S2816x1024 .bf16) (q : Vec Ideal S8x2816 .f32)

/-- A point's gate. -/
theorem gate_pt (hw : ∀ (k : Fin 1024) (l : Fin 2816), w (ix2 k l) = arg2 m c (ix2 k ⟨l, by omega⟩)) (r : Fin 256) (l : Fin 2816) :
    k0_pay3 (k0_pay2 (xb0 m c t) (xb1 m c t)) w (ix2 r l) = mGATE m c l (row t.val (pt t) r) := by
  rw [gate_pay]
  simp only [hn_pt, hw]
  rfl

/-- A point's value half. -/
theorem val_pt (hr : ∀ (k : Fin 1024) (l : Fin 2816), wr (ix2 k l) = arg2 m c (ix2 k ⟨2816 + l, by omega⟩)) (r : Fin 256) (l : Fin 2816) :
    k0_pay15 (k0_pay2 (xb0 m c t) (xb1 m c t)) wr (ix2 r l) = mUP m c (row t.val (pt t) r) ⟨2816 + l, by omega⟩ := by
  rw [val_pay]
  simp only [hn_pt, hr]
  rfl

/-- The rows a point carries on. -/
theorem carry_pt (hw : ∀ (k : Fin 1024) (l : Fin 2816), w (ix2 k l) = arg2 m c (ix2 k ⟨l, by omega⟩)) (j : Fin 8) (l : Fin 2816) :
    k0_pay9 (k0_pay3 (k0_pay2 (xb0 m c t) (xb1 m c t)) w) (ix2 j l) = mGATE m c l ⟨t.val * 256 + 248 + j, by have := pt t; omega⟩ := by
  rw [tail_pay, gate_pt m c t w hw]
  exact congrArg (mGATE m c l) (Fin.ext (by rw [row_val]; show t.val * 256 + (248 + j.val) = t.val * 256 + 248 + j.val; omega))

/-- The gate one row earlier, from the tile and the carried rows. -/
theorem low1_pt (l : Fin 2816) (r : Fin 256) :
    low1 (fun r => mGATE m c l (row t.val (pt t) r)) (fun j => back m c t.val (pt t) j l) r = PREV (mGATE m c l) 1 (row t.val (pt t) r) := by
  have rv := row_val t.val (pt t) r
  unfold low1 PREV back
  by_cases h : 1 ≤ r.val
  · rw [dif_pos h, dif_pos (by omega)]
    exact congrArg (mGATE m c l) (Fin.ext (by rw [row_val]; show t.val * 256 + (r.val - 1) = (row t.val (pt t) r).val - 1; omega))
  · rw [dif_neg h]
    dsimp only
    by_cases h' : 1 ≤ t.val
    · rw [dif_pos h', dif_pos (by omega)]
      exact congrArg (mGATE m c l) (Fin.ext (by show (t.val - 1) * 256 + 248 + 7 = (row t.val (pt t) r).val - 1; omega))
    · rw [dif_neg h', dif_neg (by omega)]

/-- The gate two rows earlier. -/
theorem low2_pt (l : Fin 2816) (r : Fin 256) :
    low2 (fun r => mGATE m c l (row t.val (pt t) r)) (fun j => back m c t.val (pt t) j l) r = PREV (mGATE m c l) 2 (row t.val (pt t) r) := by
  have rv := row_val t.val (pt t) r
  unfold low2 PREV back
  by_cases h : 2 ≤ r.val
  · rw [dif_pos h, dif_pos (by omega)]
    exact congrArg (mGATE m c l) (Fin.ext (by rw [row_val]; show t.val * 256 + (r.val - 2) = (row t.val (pt t) r).val - 2; omega))
  · rw [dif_neg h]
    dsimp only
    by_cases h' : 1 ≤ t.val
    · rw [dif_pos h', dif_pos (by omega)]
      exact congrArg (mGATE m c l) (Fin.ext (by show (t.val - 1) * 256 + 248 + (r.val + 6) = (row t.val (pt t) r).val - 2; omega))
    · rw [dif_neg h', dif_neg (by omega)]

variable (hw : ∀ (k : Fin 1024) (l : Fin 2816), w (ix2 k l) = arg2 m c (ix2 k ⟨l, by omega⟩))
  (hr : ∀ (k : Fin 1024) (l : Fin 2816), wr (ix2 k l) = arg2 m c (ix2 k ⟨2816 + l, by omega⟩))
  (hq : ∀ (j : Fin 8) (l : Fin 2816), q (ix2 j l) = back m c t.val (pt t) j l)
  (hd : ∀ (l : Fin 2816) (k : Fin 1024), d (ix2 l k) = arg5 m c (ix2 l k))

include hw hq in
/-- A point's convolved gate. -/
theorem conv_pt (r : Fin 256) (l : Fin 2816) : cv m c t w q (ix2 r l) = mCONV m c (row t.val (pt t) r) l := by
  refine (conv_pay ..).trans ?_
  rw [ld_row0, ld_row1, ld_row2, gate_pt m c t w hw]
  rw [show (fun r => k0_pay3 (k0_pay2 (xb0 m c t) (xb1 m c t)) w (ix2 r l)) = fun r => mGATE m c l (row t.val (pt t) r) from
    funext fun r => gate_pt m c t w hw r l, show (fun j => q (ix2 j l)) = fun j => back m c t.val (pt t) j l from funext fun j => hq j l,
    low1_pt, low2_pt, xb3_at]
  rw [show xb2 m c t (ix2 0 l) = _ from xb2_at m c t 0 l, show xb2 m c t (ix2 1 l) = _ from xb2_at m c t 1 l,
    show xb2 m c t (ix2 2 l) = _ from xb2_at m c t 2 l]
  rfl

include hw hq in
/-- A point's activation. -/
theorem silu_pt (r : Fin 256) (l : Fin 2816) :
    k0_pay12 (cv m c t w q) (cvh m c t w q) (ix2 r l) = act (mCONV m c (row t.val (pt t) r) l) := by
  exact (silu_pay _ _ _ _ (half_pay ..)).trans (congrArg act (conv_pt m c t w q hw hq r l))

include hw hq in
/-- A point's slope of the activation. -/
theorem slope_pt (r : Fin 256) (l : Fin 2816) :
    k0_pay14 (cv m c t w q) (cvh m c t w q) (ix2 r l) = slope (mCONV m c (row t.val (pt t) r) l) := by
  exact (slope_pay _ _ _ _ (half_pay ..)).trans (congrArg slope (conv_pt m c t w q hw hq r l))

/-- The activation, stored. -/
theorem stored (v u : FVec Ideal S256x2816 .f32) (y : S256x2816.Idx) : k0_pay13 v u y = k0_pay12 v u y := by
  unfold k0_pay13
  generalize k0_pay12 v u = f
  rfl

/-- The product, stored. -/
theorem stored_act (v u : FVec Ideal S256x2816 .f32) (a : Vec Ideal S256x1024 .bf16) (b : Vec Ideal S1024x2816 .bf16) (y : S256x2816.Idx) :
    k0_pay17 v u a b y = k0_pay12 v u y * k0_pay15 a b y := by
  unfold k0_pay17
  generalize k0_pay12 v u = f
  generalize k0_pay15 a b = g
  rfl

include hw hq hr in
/-- A point's activated product. -/
theorem act_pt (r : Fin 256) (l : Fin 2816) :
    k0_pay17 (cv m c t w q) (cvh m c t w q) (k0_pay2 (xb0 m c t) (xb1 m c t)) wr (ix2 r l) = mACT m c (row t.val (pt t) r) l := by
  rw [stored_act, silu_pt m c t w q hw hq, val_pt m c t wr hr]
  rfl

include hw hq hr hd in
/-- A point's rows of the result. -/
theorem out_pt (r : Fin 256) (k : Fin 1024) :
    k0_pay18 (xb0 m c t) (k0_pay17 (cv m c t w q) (cvh m c t w q) (k0_pay2 (xb0 m c t) (xb1 m c t)) wr) d (ix2 r k)
      = mOUT m c (row t.val (pt t) r) k := by
  rw [out_pay, xb0_at]
  simp only [act_pt m c t w wr q hw hr hq, hd]
  rfl

end

end Cert.FwdKernelIdeal.Fwd

end
-- ==== Proof.Fwd.Pieces.lean ====
/- The weights as the first point transfers them, and what every point leaves. -/
module

public import proofs.«01_k».proof.Proof.Fwd.Point
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.FwdKernelIdeal.Fwd

open Cert.FwdKernelIdeal Cert.FwdKernelIdeal.Gen
open Idealize.ShloMosaic Idealize.ShloMosaic.TcCoe Idealize.ShloMosaic.Tactic

variable (m : (ℓ : Loc nD τ sig) → Buf (Elt Ideal) ℓ)

/-- A point's results by name: the six output blocks, then the three scratch buffers. -/
abbrev upOf (p : Outs Ideal) : Vec Ideal S256x5632 .bf16 := p.1
abbrev siluOf (p : Outs Ideal) : Vec Ideal S256x2816 .bf16 := p.2.1
abbrev slopeOf (p : Outs Ideal) : Vec Ideal S256x2816 .bf16 := p.2.2.1
abbrev actOf (p : Outs Ideal) : Vec Ideal S256x2816 .bf16 := p.2.2.2.1
abbrev hOf (p : Outs Ideal) : Vec Ideal S256x1024 .bf16 := p.2.2.2.2.1
abbrev outOf (p : Outs Ideal) : Vec Ideal S256x1024 .f32 := p.2.2.2.2.2.1
abbrev wupOf (p : Outs Ideal) : Vec Ideal S1024x5632 .bf16 := p.2.2.2.2.2.2.1
abbrev wdnOf (p : Outs Ideal) : Vec Ideal S2816x1024 .bf16 := p.2.2.2.2.2.2.2.1
abbrev carryOf (p : Outs Ideal) : Vec Ideal S8x2816 .f32 := p.2.2.2.2.2.2.2.2

/-- The left half of a weight's columns, read as a block. -/
theorem ld_left (w : Vec Ideal S1024x5632 .bf16) (inb) (k : Fin 1024) (l : Fin 2816) :
    (View.ld w (Rect.unit ![0, 0] ![1024, 2816] inb) : Vec Ideal S1024x2816 .bf16) (ix2 k l) = w (ix2 k ⟨l, by omega⟩) := by
  pointwise

/-- The right half of a weight's columns. -/
theorem ld_right (w : Vec Ideal S1024x5632 .bf16) (inb) (k : Fin 1024) (l : Fin 2816) :
    (View.ld w (Rect.unit ![0, 2816] ![1024, 2816] inb) : Vec Ideal S1024x2816 .bf16) (ix2 k l) = w (ix2 k ⟨2816 + l, by omega⟩) := by
  pointwise

set_option maxHeartbeats 4000000 in
/-- The four transferred pieces hold the first weight. -/
theorem pieces_at (c : Dev nD) (p0 p1 p2 p3 : FVec Ideal S1024x1408 .bf16) (i0) (i1) (i2) (i3)
    (e0 : ∀ x, p0 x = (V m c main_v5 : FVec Ideal S4x1024x1408 .bf16) (ix3 0 (x 0) (x 1)))
    (e1 : ∀ x, p1 x = (V m c main_v5 : FVec Ideal S4x1024x1408 .bf16) (ix3 1 (x 0) (x 1)))
    (e2 : ∀ x, p2 x = (V m c main_v5 : FVec Ideal S4x1024x1408 .bf16) (ix3 2 (x 0) (x 1)))
    (e3 : ∀ x, p3 x = (V m c main_v5 : FVec Ideal S4x1024x1408 .bf16) (ix3 3 (x 0) (x 1))) (k : Fin 1024) (j : Fin 5632) :
    View.canon ([⟨Rect.unit ![0, 4224] ![1024, 1408] i3, p3⟩, ⟨Rect.unit ![0, 2816] ![1024, 1408] i2, p2⟩, ⟨Rect.unit ![0, 1408] ![1024, 1408] i1, p1⟩, ⟨Rect.unit ![0, 0] ![1024, 1408] i0, p0⟩] : List (View.Piece (Elt Ideal) S1024x5632 .bf16)) (ix2 k j) = arg2 m c (ix2 k j) := by
  obtain ⟨j, j_lt⟩ := j
  canon_tiles x h using View.cover_of_tiledBy (s := S1024x5632) _ ![1024, 1408] (by sl_kernel_rfl) (ix2 k ⟨j, j_lt⟩)
  · obtain rfl : k = x 0 := Fin.ext h0
    obtain rfl : j = _ := h1
    exact (e3 x).trans (wup_at m c 3 (x 0) (x 1))
  · obtain rfl : k = x 0 := Fin.ext h0
    obtain rfl : j = _ := h1
    exact (e2 x).trans (wup_at m c 2 (x 0) (x 1))
  · obtain rfl : k = x 0 := Fin.ext h0
    obtain rfl : j = _ := h1
    exact (e1 x).trans (wup_at m c 1 (x 0) (x 1))
  · obtain rfl : k = x 0 := Fin.ext h0
    obtain rfl : j = _ := h1
    exact (e0 x).trans ((wup_at m c 0 (x 0) (x 1)).trans
      (congrArg (fun e => arg2 m c (ix2 (x 0) e)) (Fin.ext (by show 0 * 1408 + (x 1).val = (x 1).val; omega))))

set_option maxHeartbeats 4000000 in
/-- The four transferred pieces hold the second weight. -/
theorem pieces2_at (c : Dev nD) (p0 p1 p2 p3 : FVec Ideal S704x1024 .bf16) (i0) (i1) (i2) (i3)
    (e0 : ∀ x, p0 x = (V m c main_v7 : FVec Ideal S4x704x1024 .bf16) (ix3 0 (x 0) (x 1)))
    (e1 : ∀ x, p1 x = (V m c main_v7 : FVec Ideal S4x704x1024 .bf16) (ix3 1 (x 0) (x 1)))
    (e2 : ∀ x, p2 x = (V m c main_v7 : FVec Ideal S4x704x1024 .bf16) (ix3 2 (x 0) (x 1)))
    (e3 : ∀ x, p3 x = (V m c main_v7 : FVec Ideal S4x704x1024 .bf16) (ix3 3 (x 0) (x 1))) (j : Fin 2816) (k : Fin 1024) :
    View.canon ([⟨Rect.unit ![2112, 0] ![704, 1024] i3, p3⟩, ⟨Rect.unit ![1408, 0] ![704, 1024] i2, p2⟩, ⟨Rect.unit ![704, 0] ![704, 1024] i1, p1⟩, ⟨Rect.unit ![0, 0] ![704, 1024] i0, p0⟩] : List (View.Piece (Elt Ideal) S2816x1024 .bf16)) (ix2 j k) = arg5 m c (ix2 j k) := by
  obtain ⟨j, j_lt⟩ := j
  canon_tiles x h using View.cover_of_tiledBy (s := S2816x1024) _ ![704, 1024] (by sl_kernel_rfl) (ix2 ⟨j, j_lt⟩ k)
  · obtain rfl : k = x 1 := Fin.ext h1
    obtain rfl : j = _ := h0
    exact (e3 x).trans (wdn_at m c 3 (x 0) (x 1))
  · obtain rfl : k = x 1 := Fin.ext h1
    obtain rfl : j = _ := h0
    exact (e2 x).trans (wdn_at m c 2 (x 0) (x 1))
  · obtain rfl : k = x 1 := Fin.ext h1
    obtain rfl : j = _ := h0
    exact (e1 x).trans (wdn_at m c 1 (x 0) (x 1))
  · obtain rfl : k = x 1 := Fin.ext h1
    obtain rfl : j = _ := h0
    exact (e0 x).trans ((wdn_at m c 0 (x 0) (x 1)).trans
      (congrArg (fun e => arg5 m c (ix2 e (x 1))) (Fin.ext (by show 0 * 704 + (x 0).val = (x 0).val; omega))))

/-- The left half of the first weight, as the first point reads it back. -/
theorem left_at (c : Dev nD) (p0 p1 p2 p3 : FVec Ideal S1024x1408 .bf16) (i0) (i1) (i2) (i3)
    (e0 : ∀ x, p0 x = (V m c main_v5 : FVec Ideal S4x1024x1408 .bf16) (ix3 0 (x 0) (x 1)))
    (e1 : ∀ x, p1 x = (V m c main_v5 : FVec Ideal S4x1024x1408 .bf16) (ix3 1 (x 0) (x 1)))
    (e2 : ∀ x, p2 x = (V m c main_v5 : FVec Ideal S4x1024x1408 .bf16) (ix3 2 (x 0) (x 1)))
    (e3 : ∀ x, p3 x = (V m c main_v5 : FVec Ideal S4x1024x1408 .bf16) (ix3 3 (x 0) (x 1))) (v : View sig .tc .vmem S1024x5632 .bf16) (inb) (k : Fin 1024) (l : Fin 2816) :
    @Eq EReal (v.readCov ([⟨Rect.unit ![0, 4224] ![1024, 1408] i3, p3⟩, ⟨Rect.unit ![0, 2816] ![1024, 1408] i2, p2⟩, ⟨Rect.unit ![0, 1408] ![1024, 1408] i1, p1⟩, ⟨Rect.unit ![0, 0] ![1024, 1408] i0, p0⟩] : List (View.Piece (Elt Ideal) S1024x5632 .bf16)) (Rect.unit (s := S1024x5632) ![0, 0] ![1024, 2816] inb).toLoadRect (ix2 k l)) (arg2 m c (ix2 k ⟨l, by omega⟩)) := by
  rw [View.readCov_eq_canon']
  have e : (Rect.unit (s := S1024x5632) ![0, 0] ![1024, 2816] inb).toLoadRect.idx (ix2 k l) = (ix2 k ⟨l, by omega⟩) := by
    funext a
    match a with
    | ⟨0, _⟩ => exact Fin.ext (by show 0 + 1 * k.val = k.val; omega)
    | ⟨1, _⟩ => exact Fin.ext (by show 0 + 1 * l.val = l.val; omega)
  exact (congrArg _ e).trans (pieces_at m c p0 p1 p2 p3 i0 i1 i2 i3 e0 e1 e2 e3 _ _)

/-- The right half of the first weight. -/
theorem right_at (c : Dev nD) (p0 p1 p2 p3 : FVec Ideal S1024x1408 .bf16) (i0) (i1) (i2) (i3)
    (e0 : ∀ x, p0 x = (V m c main_v5 : FVec Ideal S4x1024x1408 .bf16) (ix3 0 (x 0) (x 1)))
    (e1 : ∀ x, p1 x = (V m c main_v5 : FVec Ideal S4x1024x1408 .bf16) (ix3 1 (x 0) (x 1)))
    (e2 : ∀ x, p2 x = (V m c main_v5 : FVec Ideal S4x1024x1408 .bf16) (ix3 2 (x 0) (x 1)))
    (e3 : ∀ x, p3 x = (V m c main_v5 : FVec Ideal S4x1024x1408 .bf16) (ix3 3 (x 0) (x 1))) (v : View sig .tc .vmem S1024x5632 .bf16) (inb) (k : Fin 1024) (l : Fin 2816) :
    @Eq EReal (v.readCov ([⟨Rect.unit ![0, 4224] ![1024, 1408] i3, p3⟩, ⟨Rect.unit ![0, 2816] ![1024, 1408] i2, p2⟩, ⟨Rect.unit ![0, 1408] ![1024, 1408] i1, p1⟩, ⟨Rect.unit ![0, 0] ![1024, 1408] i0, p0⟩] : List (View.Piece (Elt Ideal) S1024x5632 .bf16)) (Rect.unit (s := S1024x5632) ![0, 2816] ![1024, 2816] inb).toLoadRect (ix2 k l)) (arg2 m c (ix2 k ⟨2816 + l, by omega⟩)) := by
  rw [View.readCov_eq_canon']
  have e : (Rect.unit (s := S1024x5632) ![0, 2816] ![1024, 2816] inb).toLoadRect.idx (ix2 k l) = (ix2 k ⟨2816 + l, by omega⟩) := by
    funext a
    match a with
    | ⟨0, _⟩ => exact Fin.ext (by show 0 + 1 * k.val = k.val; omega)
    | ⟨1, _⟩ => exact Fin.ext (by show 2816 + 1 * l.val = 2816 + l.val; omega)
  exact (congrArg _ e).trans (pieces_at m c p0 p1 p2 p3 i0 i1 i2 i3 e0 e1 e2 e3 _ _)

/-- The second weight, as the first point reads it back. -/
theorem down_at (c : Dev nD) (p0 p1 p2 p3 : FVec Ideal S704x1024 .bf16) (i0) (i1) (i2) (i3)
    (e0 : ∀ x, p0 x = (V m c main_v7 : FVec Ideal S4x704x1024 .bf16) (ix3 0 (x 0) (x 1)))
    (e1 : ∀ x, p1 x = (V m c main_v7 : FVec Ideal S4x704x1024 .bf16) (ix3 1 (x 0) (x 1)))
    (e2 : ∀ x, p2 x = (V m c main_v7 : FVec Ideal S4x704x1024 .bf16) (ix3 2 (x 0) (x 1)))
    (e3 : ∀ x, p3 x = (V m c main_v7 : FVec Ideal S4x704x1024 .bf16) (ix3 3 (x 0) (x 1))) (v : View sig .tc .vmem S2816x1024 .bf16) (inb) (l : Fin 2816) (k : Fin 1024) :
    @Eq EReal (v.readCov ([⟨Rect.unit ![2112, 0] ![704, 1024] i3, p3⟩, ⟨Rect.unit ![1408, 0] ![704, 1024] i2, p2⟩, ⟨Rect.unit ![704, 0] ![704, 1024] i1, p1⟩, ⟨Rect.unit ![0, 0] ![704, 1024] i0, p0⟩] : List (View.Piece (Elt Ideal) S2816x1024 .bf16)) (Rect.unit (s := S2816x1024) ![0, 0] ![2816, 1024] inb).toLoadRect (ix2 l k)) (arg5 m c (ix2 l k)) := by
  rw [View.readCov_eq_canon']
  have e : (Rect.unit (s := S2816x1024) ![0, 0] ![2816, 1024] inb).toLoadRect.idx (ix2 l k) = (ix2 l k) := by
    funext a
    match a with
    | ⟨0, _⟩ => exact Fin.ext (by show 0 + 1 * l.val = l.val; omega)
    | ⟨1, _⟩ => exact Fin.ext (by show 0 + 1 * k.val = k.val; omega)
  exact (congrArg _ e).trans (pieces2_at m c p0 p1 p2 p3 i0 i1 i2 i3 e0 e1 e2 e3 _ _)

/-- What every point leaves: its rows of the six results, the two weights, and the last rows of its gate. -/
structure Sound (c : Dev nD) (n : ℕ) (lt : n < 32) (p : Outs Ideal) : Prop where
  up : ∀ (r : Fin 256) (e : Fin 5632), upOf p (ix2 r e) = mUP m c (row n lt r) e
  silu : ∀ (r : Fin 256) (l : Fin 2816), siluOf p (ix2 r l) = act (mCONV m c (row n lt r) l)
  slope : ∀ (r : Fin 256) (l : Fin 2816), slopeOf p (ix2 r l) = slope (mCONV m c (row n lt r) l)
  act : ∀ (r : Fin 256) (l : Fin 2816), actOf p (ix2 r l) = mACT m c (row n lt r) l
  h : ∀ (r : Fin 256) (k : Fin 1024), hOf p (ix2 r k) = mHN m c (row n lt r) k
  out : ∀ (r : Fin 256) (k : Fin 1024), outOf p (ix2 r k) = mOUT m c (row n lt r) k
  wup : ∀ (k : Fin 1024) (e : Fin 5632), wupOf p (ix2 k e) = arg2 m c (ix2 k e)
  wdn : ∀ (l : Fin 2816) (k : Fin 1024), wdnOf p (ix2 l k) = arg5 m c (ix2 l k)
  carry : ∀ (j : Fin 8) (l : Fin 2816), carryOf p (ix2 j l) = mGATE m c l ⟨n * 256 + 248 + j, by omega⟩

/-- No rows before the first tile. -/
theorem none_pt (c : Dev nD) (t : Fin cfg0.N) (z : t.val % 32 = 0) (j : Fin 8) (l : Fin 2816) :
    (k0_pay1 (F := Ideal) : Vec Ideal S8x2816 .f32) (ix2 j l) = back m c t.val (pt t) j l := by
  have := pt t
  have n : ¬1 ≤ t.val := by omega
  unfold back
  rw [dif_neg n]
  pointwise [k0_pay1]

/-- The hidden rows from the two stored halves. -/
theorem up_canon (i0 i1) (a b : FVec Ideal S256x2816 .bf16) (f : Fin 256 → Fin 5632 → EReal)
    (ha : ∀ (r : Fin 256) (l : Fin 2816), a (ix2 r l) = f r ⟨l, by omega⟩) (hb : ∀ (r : Fin 256) (l : Fin 2816), b (ix2 r l) = f r ⟨2816 + l, by omega⟩)
    (r : Fin 256) (e : Fin 5632) :
    View.canon ([⟨Rect.unit ![0, 2816] ![256, 2816] i1, b⟩, ⟨Rect.unit ![0, 0] ![256, 2816] i0, a⟩] : List (View.Piece (Elt Ideal) S256x5632 .bf16)) (ix2 r e) = f r e := by
  obtain ⟨e, e_lt⟩ := e
  canon_tiles x h using View.cover_of_tiledBy (s := S256x5632) _ ![256, 2816] (by sl_kernel_rfl) (ix2 r ⟨e, e_lt⟩)
  · obtain rfl : r = x 0 := Fin.ext h0
    obtain rfl : e = _ := h1
    refine Eq.trans (congrArg b ?_) (hb (x 0) (x 1))
    funext a
    match a with
    | ⟨0, _⟩ => rfl
    | ⟨1, _⟩ => rfl
  · obtain rfl : r = x 0 := Fin.ext h0
    obtain rfl : e = _ := h1
    refine Eq.trans (congrArg a ?_) (ha (x 0) (x 1))
    funext a
    match a with
    | ⟨0, _⟩ => rfl
    | ⟨1, _⟩ => rfl

/-- The stored halves of the hidden rows. -/
theorem stored_up (a : Vec Ideal S256x1024 .bf16) (w : Vec Ideal S1024x2816 .bf16) (y : S256x2816.Idx) : k0_pay4 a w y = k0_pay3 a w y := by
  unfold k0_pay4
  generalize k0_pay3 a w = f
  rfl
theorem stored_val (a : Vec Ideal S256x1024 .bf16) (w : Vec Ideal S1024x2816 .bf16) (y : S256x2816.Idx) : k0_pay16 a w y = k0_pay15 a w y := by
  unfold k0_pay16
  generalize k0_pay15 a w = f
  rfl

end Cert.FwdKernelIdeal.Fwd

end
-- ==== Proof.Fwd.StepA.lean ====
/- What the first point leaves, entry by entry. -/
module

public import proofs.«01_k».proof.Proof.Fwd.Pieces
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.FwdKernelIdeal.Fwd

open Cert.FwdKernelIdeal Cert.FwdKernelIdeal.Gen
open Idealize.ShloMosaic Idealize.ShloMosaic.TcCoe Idealize.ShloMosaic.Tactic

variable (m : (ℓ : Loc nD τ sig) → Buf (Elt Ideal) ℓ)

set_option maxHeartbeats 4000000 in
/-- The first point's hidden rows. -/
theorem A_up (c : Dev nD) (t : Fin cfg0.N) (z : t.val % 32 = 0) (r : Fin 256) (e : Fin 5632) : upOf (outA m c t z) (ix2 r e) = mUP m c (row t.val (pt t) r) e := by
  unfold outA runA
  dsimp only
  frame_out
  dsimp only [upOf]
  refine up_canon _ _ _ _ (fun r e => mUP m c (row t.val (pt t) r) e) (fun r l => (stored_up ..).trans (gate_pt m c t _ ?_ r l))
    (fun r l => (stored_val ..).trans (val_pt m c t _ ?_ r l)) r e
  · refine left_at m c _ _ _ _ _ _ _ _ ?_ ?_ ?_ ?_ _ _ <;> exact slab5 _ (by decide) _ _ _
  · refine right_at m c _ _ _ _ _ _ _ _ ?_ ?_ ?_ ?_ _ _ <;> exact slab5 _ (by decide) _ _ _

set_option maxHeartbeats 4000000 in
/-- The first point's activation. -/
theorem A_silu (c : Dev nD) (t : Fin cfg0.N) (z : t.val % 32 = 0) (r : Fin 256) (l : Fin 2816) : siluOf (outA m c t z) (ix2 r l) = act (mCONV m c (row t.val (pt t) r) l) := by
  unfold outA runA
  dsimp only
  frame_out
  dsimp only [siluOf]
  refine (stored ..).trans (silu_pt m c t _ _ ?_ ?_ r l)
  · refine left_at m c _ _ _ _ _ _ _ _ ?_ ?_ ?_ ?_ _ _ <;> exact slab5 _ (by decide) _ _ _
  · exact none_pt m c t z

set_option maxHeartbeats 4000000 in
/-- The first point's slope of the activation. -/
theorem A_slope (c : Dev nD) (t : Fin cfg0.N) (z : t.val % 32 = 0) (r : Fin 256) (l : Fin 2816) : slopeOf (outA m c t z) (ix2 r l) = slope (mCONV m c (row t.val (pt t) r) l) := by
  unfold outA runA
  dsimp only
  frame_out
  dsimp only [slopeOf]
  refine slope_pt m c t _ _ ?_ ?_ r l
  · refine left_at m c _ _ _ _ _ _ _ _ ?_ ?_ ?_ ?_ _ _ <;> exact slab5 _ (by decide) _ _ _
  · exact none_pt m c t z

set_option maxHeartbeats 4000000 in
/-- The first point's activated product. -/
theorem A_act (c : Dev nD) (t : Fin cfg0.N) (z : t.val % 32 = 0) (r : Fin 256) (l : Fin 2816) : actOf (outA m c t z) (ix2 r l) = mACT m c (row t.val (pt t) r) l := by
  unfold outA runA
  dsimp only
  frame_out
  dsimp only [actOf]
  refine act_pt m c t _ _ _ ?_ ?_ ?_ r l
  · refine left_at m c _ _ _ _ _ _ _ _ ?_ ?_ ?_ ?_ _ _ <;> exact slab5 _ (by decide) _ _ _
  · refine right_at m c _ _ _ _ _ _ _ _ ?_ ?_ ?_ ?_ _ _ <;> exact slab5 _ (by decide) _ _ _
  · exact none_pt m c t z

set_option maxHeartbeats 4000000 in
/-- The first point's normalised rows. -/
theorem A_h (c : Dev nD) (t : Fin cfg0.N) (z : t.val % 32 = 0) (r : Fin 256) (k : Fin 1024) : hOf (outA m c t z) (ix2 r k) = mHN m c (row t.val (pt t) r) k := by
  unfold outA runA
  dsimp only
  frame_out
  dsimp only [hOf]
  exact hn_pt m c t r k

set_option maxHeartbeats 4000000 in
/-- The first point's rows of the result. -/
theorem A_out (c : Dev nD) (t : Fin cfg0.N) (z : t.val % 32 = 0) (r : Fin 256) (k : Fin 1024) : outOf (outA m c t z) (ix2 r k) = mOUT m c (row t.val (pt t) r) k := by
  unfold outA runA
  dsimp only
  frame_out
  dsimp only [outOf]
  refine out_pt m c t _ _ _ _ ?_ ?_ ?_ ?_ r k
  · refine left_at m c _ _ _ _ _ _ _ _ ?_ ?_ ?_ ?_ _ _ <;> exact slab5 _ (by decide) _ _ _
  · refine right_at m c _ _ _ _ _ _ _ _ ?_ ?_ ?_ ?_ _ _ <;> exact slab5 _ (by decide) _ _ _
  · exact none_pt m c t z
  · refine down_at m c _ _ _ _ _ _ _ _ ?_ ?_ ?_ ?_ _ _ <;> exact slab7 _ (by decide) _ _ _

set_option maxHeartbeats 4000000 in
/-- The first point's first weight. -/
theorem A_wup (c : Dev nD) (t : Fin cfg0.N) (z : t.val % 32 = 0) (k : Fin 1024) (e : Fin 5632) : wupOf (outA m c t z) (ix2 k e) = arg2 m c (ix2 k e) := by
  unfold outA runA
  dsimp only
  frame_out
  dsimp only [wupOf]
  refine pieces_at m c _ _ _ _ _ _ _ _ ?_ ?_ ?_ ?_ k e <;> exact slab5 _ (by decide) _ _ _

set_option maxHeartbeats 4000000 in
/-- The first point's second weight. -/
theorem A_wdn (c : Dev nD) (t : Fin cfg0.N) (z : t.val % 32 = 0) (l : Fin 2816) (k : Fin 1024) : wdnOf (outA m c t z) (ix2 l k) = arg5 m c (ix2 l k) := by
  unfold outA runA
  dsimp only
  frame_out
  dsimp only [wdnOf]
  refine pieces2_at m c _ _ _ _ _ _ _ _ ?_ ?_ ?_ ?_ l k <;> exact slab7 _ (by decide) _ _ _

set_option maxHeartbeats 4000000 in
/-- The first point's carried rows. -/
theorem A_carry (c : Dev nD) (t : Fin cfg0.N) (z : t.val % 32 = 0) (j : Fin 8) (l : Fin 2816) : carryOf (outA m c t z) (ix2 j l) = mGATE m c l ⟨t.val * 256 + 248 + j, by have := pt t; omega⟩ := by
  unfold outA runA
  dsimp only
  frame_out
  dsimp only [carryOf]
  refine carry_pt m c t _ ?_ j l
  refine left_at m c _ _ _ _ _ _ _ _ ?_ ?_ ?_ ?_ _ _ <;> exact slab5 _ (by decide) _ _ _

end Cert.FwdKernelIdeal.Fwd

end
-- ==== Proof.Fwd.StepB.lean ====
/- What a later point leaves, entry by entry. -/
module

public import proofs.«01_k».proof.Proof.Fwd.Pieces
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.FwdKernelIdeal.Fwd

open Cert.FwdKernelIdeal Cert.FwdKernelIdeal.Gen
open Idealize.ShloMosaic Idealize.ShloMosaic.TcCoe Idealize.ShloMosaic.Tactic

variable (m : (ℓ : Loc nD τ sig) → Buf (Elt Ideal) ℓ)

variable (c : Dev nD) (t : Fin cfg0.N) (ne : ¬t.val % 32 = 0) (p : Outs Ideal)
  (hw : ∀ (k : Fin 1024) (e : Fin 5632), wupOf p (ix2 k e) = arg2 m c (ix2 k e))
  (hd : ∀ (l : Fin 2816) (k : Fin 1024), wdnOf p (ix2 l k) = arg5 m c (ix2 l k))
  (hq : ∀ (j : Fin 8) (l : Fin 2816), carryOf p (ix2 j l) = back m c t.val (pt t) j l)

include hw in
set_option maxHeartbeats 4000000 in
/-- A later point's hidden rows. -/
theorem B_up (r : Fin 256) (e : Fin 5632) : upOf (outB m c t ne p) (ix2 r e) = mUP m c (row t.val (pt t) r) e := by
  unfold outB runB
  dsimp only
  frame_out
  dsimp only [upOf]
  simp only [read_unread_whole]
  refine up_canon _ _ _ _ (fun r e => mUP m c (row t.val (pt t) r) e) (fun r l => (stored_up ..).trans (gate_pt m c t _ ?_ r l))
    (fun r l => (stored_val ..).trans (val_pt m c t _ ?_ r l)) r e
  · exact (fun k l => (ld_left ..).trans (hw k _))
  · exact (fun k l => (ld_right ..).trans (hw k _))

include hw hq in
set_option maxHeartbeats 4000000 in
/-- A later point's activation. -/
theorem B_silu (r : Fin 256) (l : Fin 2816) : siluOf (outB m c t ne p) (ix2 r l) = act (mCONV m c (row t.val (pt t) r) l) := by
  unfold outB runB
  dsimp only
  frame_out
  dsimp only [siluOf]
  simp only [read_unread_whole]
  refine (stored ..).trans (silu_pt m c t _ _ ?_ ?_ r l)
  · exact (fun k l => (ld_left ..).trans (hw k _))
  · exact hq

include hw hq in
set_option maxHeartbeats 4000000 in
/-- A later point's slope of the activation. -/
theorem B_slope (r : Fin 256) (l : Fin 2816) : slopeOf (outB m c t ne p) (ix2 r l) = slope (mCONV m c (row t.val (pt t) r) l) := by
  unfold outB runB
  dsimp only
  frame_out
  dsimp only [slopeOf]
  simp only [read_unread_whole]
  refine slope_pt m c t _ _ ?_ ?_ r l
  · exact (fun k l => (ld_left ..).trans (hw k _))
  · exact hq

include hw hq in
set_option maxHeartbeats 4000000 in
/-- A later point's activated product. -/
theorem B_act (r : Fin 256) (l : Fin 2816) : actOf (outB m c t ne p) (ix2 r l) = mACT m c (row t.val (pt t) r) l := by
  unfold outB runB
  dsimp only
  frame_out
  dsimp only [actOf]
  simp only [read_unread_whole]
  refine act_pt m c t _ _ _ ?_ ?_ ?_ r l
  · exact (fun k l => (ld_left ..).trans (hw k _))
  · exact (fun k l => (ld_right ..).trans (hw k _))
  · exact hq

set_option maxHeartbeats 4000000 in
/-- A later point's normalised rows. -/
theorem B_h (r : Fin 256) (k : Fin 1024) : hOf (outB m c t ne p) (ix2 r k) = mHN m c (row t.val (pt t) r) k := by
  unfold outB runB
  dsimp only
  frame_out
  dsimp only [hOf]
  exact hn_pt m c t r k

include hw hd hq in
set_option maxHeartbeats 4000000 in
/-- A later point's rows of the result. -/
theorem B_out (r : Fin 256) (k : Fin 1024) : outOf (outB m c t ne p) (ix2 r k) = mOUT m c (row t.val (pt t) r) k := by
  unfold outB runB
  dsimp only
  frame_out
  dsimp only [outOf]
  simp only [read_unread_whole]
  refine out_pt m c t _ _ _ _ ?_ ?_ ?_ ?_ r k
  · exact (fun k l => (ld_left ..).trans (hw k _))
  · exact (fun k l => (ld_right ..).trans (hw k _))
  · exact hq
  · exact hd

/-- A later point leaves the first weight as it was. -/
theorem B_wup : wupOf (outB m c t ne p) = wupOf p := by
  unfold outB
  rfl

/-- A later point leaves the second weight as it was. -/
theorem B_wdn : wdnOf (outB m c t ne p) = wdnOf p := by
  unfold outB
  rfl

include hw in
set_option maxHeartbeats 4000000 in
/-- A later point's carried rows. -/
theorem B_carry (j : Fin 8) (l : Fin 2816) : carryOf (outB m c t ne p) (ix2 j l) = mGATE m c l ⟨t.val * 256 + 248 + j, by have := pt t; omega⟩ := by
  unfold outB runB
  dsimp only
  frame_out
  dsimp only [carryOf]
  simp only [read_unread_whole]
  refine carry_pt m c t _ ?_ j l
  exact (fun k l => (ld_left ..).trans (hw k _))

end Cert.FwdKernelIdeal.Fwd

end
-- ==== Proof.Fwd.Step.lean ====
/- What every point leaves. -/
module

public import proofs.«01_k».proof.Proof.Fwd.StepA
public import proofs.«01_k».proof.Proof.Fwd.StepB
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.FwdKernelIdeal.Fwd

open Cert.FwdKernelIdeal Cert.FwdKernelIdeal.Gen
open Idealize.ShloMosaic Idealize.ShloMosaic.TcCoe Idealize.ShloMosaic.Tactic

variable (m : (ℓ : Loc nD τ sig) → Buf (Elt Ideal) ℓ)

/-- The first point is sound. -/
theorem sound_A (c : Dev nD) (t : Fin cfg0.N) (z : t.val % 32 = 0) : Sound m c t.val (pt t) (outA m c t z) :=
  ⟨A_up m c t z, A_silu m c t z, A_slope m c t z, A_act m c t z, A_h m c t z, A_out m c t z, A_wup m c t z, A_wdn m c t z, A_carry m c t z⟩

/-- A later point is sound when the one before it is. -/
theorem sound_B (c : Dev nD) (t : Fin cfg0.N) (ne : ¬t.val % 32 = 0) (p : Outs Ideal) (lt : t.val - 1 < 32)
    (before : Sound m c (t.val - 1) lt p) : Sound m c t.val (pt t) (outB m c t ne p) := by
  have hq : ∀ (j : Fin 8) (l : Fin 2816), carryOf p (ix2 j l) = back m c t.val (pt t) j l := fun j l => by
    have n : 1 ≤ t.val := by omega
    unfold back
    rw [dif_pos n]
    exact before.carry j l
  exact ⟨B_up m c t ne p before.wup, B_silu m c t ne p before.wup hq, B_slope m c t ne p before.wup hq, B_act m c t ne p before.wup hq,
    B_h m c t ne p, B_out m c t ne p before.wup before.wdn hq, fun k e => (congrFun (B_wup m c t ne p) _).trans (before.wup k e),
    fun l k => (congrFun (B_wdn m c t ne p) _).trans (before.wdn l k), B_carry m c t ne p before.wup⟩

/-- Every point is sound. -/
theorem sound (c : Dev nD) : ∀ (n : ℕ) (hn : n < cfg0.N), Sound m c n (lt_of_lt_of_eq hn N_0) (outsAt0 m c n hn) := by
  intro n
  induction n with
  | zero =>
    intro hn
    have e := outsAt0_A m c ⟨0, hn⟩ rfl
    exact e ▸ sound_A m c ⟨0, hn⟩ rfl
  | succ n ih =>
    intro hn
    have lt : n + 1 < 32 := lt_of_lt_of_eq hn N_0
    have ne : ¬(n + 1) % 32 = 0 := by omega
    have e := outsAt0_B m c ⟨n + 1, hn⟩ ne
    rw [show outsAt0 m c (n + 1) hn = _ from e]
    exact sound_B m c ⟨n + 1, hn⟩ ne _ (by show n + 1 - 1 < 32; omega) (ih (Nat.lt_of_succ_lt hn))

end Cert.FwdKernelIdeal.Fwd

end
-- ==== Proof.Fwd.Ref.lean ====
/- The reference, read at coordinates. -/
module

public import proofs.«01_k».proof.Proof.Fwd.Spec
public import proofs.«01_k».proof.Proof.Gen.FwdReferenceIdeal.Read
public import Idealize.ShloMosaic.Lib.Claim
public import Idealize.ShloMosaic.Lib.Pointwise

@[expose] public section

set_option maxRecDepth 16384

noncomputable section

namespace Cert.FwdKernelIdeal.Fwd

open Cert.FwdKernelIdeal Cert.FwdKernelIdeal.Gen
open Idealize.ShloMosaic Idealize.ShloMosaic.TcCoe Idealize.ShloMosaic.Tactic

open Cert.FwdReferenceIdeal.Read

variable (x0 : FVec Ideal S8192x1024 .f32) (x1 : FVec Ideal S1024 .f32) (x2 : FVec Ideal S1024x5632 .f32)
  (x3 : FVec Ideal S3x2816 .f32) (x4 : FVec Ideal S2816 .f32) (x5 : FVec Ideal S2816x1024 .f32)

/-- The reference's mean square of a row plus the small constant. -/
theorem v6_at (t : Fin 8192) : val_main_v6 (F := Ideal) x0 (ix2 t 0)
    = Ideal.div (∑ k : Fin 1024, x0 (ix2 t k) * x0 (ix2 t k)) (Ideal.ofBits FTy.f32 1149239296#32) + Ideal.ofBits FTy.f32 897988541#32 := by
  pointwise [val_main_v6, val_main_v3, val_main_v5, val_main_cst, val_main_cst_0, val_main_cst_1, val_main_v4, val_main_v2, val_main_v1, val_main_v0]

/-- The reference's normalised input. -/
theorem v12_at (t : Fin 8192) (k : Fin 1024) : val_main_v12 (F := Ideal) x0 x1 (ix2 t k) = HN x0 x1 t k := by
  have e : val_main_v7 (F := Ideal) x0 (ix2 t 0) = Ideal.rsqrt (Ideal.div (∑ k : Fin 1024, x0 (ix2 t k) * x0 (ix2 t k)) (Ideal.ofBits FTy.f32 1149239296#32)
      + Ideal.ofBits FTy.f32 897988541#32) := by
    rw [val_main_v7_apply, v6_at]; rfl
  unfold HN
  rw [← e]
  pointwise [val_main_v12, val_main_v11, val_main_v10, val_main_v9, val_main_v8]

/-- The reference's hidden array. -/
theorem v13_at (t : Fin 8192) (e : Fin 5632) : val_main_v13 (F := Ideal) x0 x1 x2 (ix2 t e) = UP x0 x1 x2 t e := by
  rw [val_main_v13_apply]
  unfold UP
  refine Finset.sum_congr rfl fun k _ => ?_
  rw [← v12_at]
  congr 2 <;> (funext a; match a with | ⟨0, _⟩ => rfl | ⟨1, _⟩ => rfl)

/-- The reference's gate. -/
theorem v14_at (t : Fin 8192) (l : Fin 2816) : val_main_v14 (F := Ideal) x0 x1 x2 (ix2 t l) = GATE x0 x1 x2 l t := by
  unfold GATE
  rw [← v13_at]
  unfold val_main_v14
  generalize val_main_v13 (F := Ideal) x0 x1 x2 = a
  pointwise

/-- The reference's gate with two rows of zeros in front. -/
theorem v16_at (r : Fin 8194) (l : Fin 2816) : val_main_v16 (F := Ideal) x0 x1 x2 (ix2 r l)
    = if h : (r : ℕ) < 2 then 0 else GATE x0 x1 x2 l ⟨r - 2, by omega⟩ := by
  have z : ∀ j : Fin 2, val_main_v15 (F := Ideal) (ix2 j l) = 0 := fun j => by
    pointwise [val_main_v15, val_main_cst_2]
  unfold val_main_v16
  by_cases h : (r : ℕ) < 2
  · rw [dif_pos h, ← z ⟨r, h⟩]
    generalize val_main_v15 (F := Ideal) = a
    generalize val_main_v14 (F := Ideal) x0 x1 x2 = b
    pointwise [h]
  · rw [dif_neg h, ← v14_at]
    generalize val_main_v15 (F := Ideal) = a
    generalize val_main_v14 (F := Ideal) x0 x1 x2 = b
    pointwise [h]

/-- The gate two rows earlier. -/
theorem v19_at (t : Fin 8192) (l : Fin 2816) : val_main_v19 (F := Ideal) x0 x1 x2 (ix2 t l) = PREV (GATE x0 x1 x2 l) 2 t := by
  have e : val_main_v19 (F := Ideal) x0 x1 x2 (ix2 t l) = val_main_v16 (F := Ideal) x0 x1 x2 (ix2 ⟨t, by omega⟩ l) := by
    unfold val_main_v19
    generalize val_main_v16 (F := Ideal) x0 x1 x2 = a
    pointwise
  rw [e, v16_at]
  unfold PREV
  by_cases h : t.val < 2
  · have n : ¬2 ≤ t.val := by omega
    rw [dif_pos h, dif_neg n]
  · have n : 2 ≤ t.val := by omega
    rw [dif_neg h, dif_pos n]

/-- The gate one row earlier. -/
theorem v25_at (t : Fin 8192) (l : Fin 2816) : val_main_v25 (F := Ideal) x0 x1 x2 (ix2 t l) = PREV (GATE x0 x1 x2 l) 1 t := by
  have e : val_main_v25 (F := Ideal) x0 x1 x2 (ix2 t l) = val_main_v16 (F := Ideal) x0 x1 x2 (ix2 ⟨1 + t, by omega⟩ l) := by
    unfold val_main_v25
    generalize val_main_v16 (F := Ideal) x0 x1 x2 = a
    pointwise
  rw [e, v16_at]
  unfold PREV
  by_cases h : t.val < 1
  · have n : ¬1 ≤ t.val := by omega
    have s : 1 + t.val < 2 := by omega
    rw [dif_pos s, dif_neg n]
  · have n : 1 ≤ t.val := by omega
    have s : ¬1 + t.val < 2 := by omega
    rw [dif_neg s, dif_pos n]
    exact congrArg (GATE x0 x1 x2 l) (Fin.ext (by show 1 + t.val - 2 = t.val - 1; omega))

/-- The reference's gate after the convolution. -/
theorem v38_at (t : Fin 8192) (l : Fin 2816) : val_main_v38 (F := Ideal) x0 x1 x2 x3 x4 (ix2 t l) = CONV x0 x1 x2 x3 x4 t l := by
  unfold CONV
  rw [← v19_at, ← v25_at, ← v14_at]
  unfold val_main_v38 val_main_v35 val_main_v29 val_main_v34 val_main_v28 val_main_v22
  generalize val_main_v19 (F := Ideal) x0 x1 x2 = a
  generalize val_main_v25 (F := Ideal) x0 x1 x2 = b
  generalize val_main_v14 (F := Ideal) x0 x1 x2 = d
  pointwise [val_main_v37, val_main_v36, val_main_v33, val_main_v32, val_main_v31, val_main_v30, val_main_v27, val_main_v26, val_main_v24, val_main_v23, val_main_v21, val_main_v20, val_main_v18, val_main_v17]

/-- The reference's logistic of the gate. -/
theorem sig_at (t : Fin 8192) (l : Fin 2816) :
    val_main_v39_2 (F := Ideal) x0 x1 x2 x3 x4 (ix2 t l) = Ideal.logistic (CONV x0 x1 x2 x3 x4 t l) := by
  rw [← v38_at]
  unfold val_main_v39_2 val_main_call0_v3 val_main_call0_v1 val_main_call0_v0
  generalize val_main_v38 (F := Ideal) x0 x1 x2 x3 x4 = a
  pointwise [val_main_call0_v4, val_main_call0_v2, val_main_call0_cst, val_main_call0_cst_0]
  rfl

/-- The reference's activation. -/
theorem v39_at (t : Fin 8192) (l : Fin 2816) :
    val_main_v39_0 (F := Ideal) x0 x1 x2 x3 x4 (ix2 t l) = act (CONV x0 x1 x2 x3 x4 t l) := by
  rw [val_main_v39_0_apply, v38_at, sig_at]; rfl

/-- The reference's slope. -/
theorem v43_at (t : Fin 8192) (l : Fin 2816) :
    val_main_v43 (F := Ideal) x0 x1 x2 x3 x4 (ix2 t l) = slope (CONV x0 x1 x2 x3 x4 t l) := by
  unfold slope
  rw [← sig_at, ← v38_at]
  unfold val_main_v43 val_main_call1_v1 val_main_call1_v2 val_main_call1_v0 val_main_v39_1 val_main_call0_v7
  generalize val_main_v38 (F := Ideal) x0 x1 x2 x3 x4 = a
  generalize val_main_v39_2 (F := Ideal) x0 x1 x2 x3 x4 = b
  pointwise [val_main_v42, val_main_call0_v6, val_main_cst_3, val_main_call0_cst_1]
  rw [mul_assoc]

/-- The reference's activated product. -/
theorem v41_at (t : Fin 8192) (l : Fin 2816) :
    val_main_v41 (F := Ideal) x0 x1 x2 x3 x4 (ix2 t l) = ACT x0 x1 x2 x3 x4 t l := by
  have e : val_main_v40 (F := Ideal) x0 x1 x2 (ix2 t l) = UP x0 x1 x2 t ⟨2816 + l, by omega⟩ := by
    rw [← v13_at]
    unfold val_main_v40
    generalize val_main_v13 (F := Ideal) x0 x1 x2 = a
    pointwise
  rw [val_main_v41_apply, v39_at, e]; rfl

/-- The reference's result of the layer. -/
theorem v50_at (t : Fin 8192) (k : Fin 1024) :
    val_main_v50 (F := Ideal) x0 x1 x2 x3 x4 x5 (ix2 t k) = OUT x0 x1 x2 x3 x4 x5 t k := by
  have e : val_main_v49 (F := Ideal) x0 x1 x2 x3 x4 x5 (ix2 t k) = ∑ l : Fin 2816, ACT x0 x1 x2 x3 x4 t l * x5 (ix2 l k) := by
    rw [val_main_v49_apply]
    refine Finset.sum_congr rfl fun l _ => ?_
    rw [← v41_at]
    congr 2 <;> (funext a; match a with | ⟨0, _⟩ => rfl | ⟨1, _⟩ => rfl)
  rw [val_main_v50_apply, e]; rfl

end Cert.FwdKernelIdeal.Fwd

end
-- ==== Proof.Fwd.Values.lean ====
/- The arrays after the last point, and the agreement with the reference. -/
module

public import proofs.«01_k».proof.Defs
public import proofs.«01_k».proof.Proof.Fwd.Step
public import proofs.«01_k».proof.Proof.Fwd.Ref
public import proofs.«01_k».proof.Proof.Gen.FwdReferenceIdeal.Run
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.FwdKernelIdeal.Fwd

open Cert.FwdKernelIdeal Cert.FwdKernelIdeal.Gen
open Idealize.ShloMosaic Idealize.ShloMosaic.TcCoe Idealize.ShloMosaic.Tactic

variable (m : (ℓ : Loc nD τ sig) → Buf (Elt Ideal) ℓ)

open Cert.FwdReferenceIdeal.Read

/-- The hidden array after the last point. -/
theorem arr4 (c : Dev nD) : (dats m 0 c).arrAt 4 cfg0.N = fun i : S8192x5632.Idx => mUP m c (i 0) (i 1) := by
  refine (dats m 0 c).arrAt_eq_of_covers 4 _ (by decide +kernel) fun t hf y => ?_
  obtain ⟨e0, e1, e2, e3, e4, e5, e6, e7, e8, e9⟩ := index_tiles t
  blk_simp
  have w : ∀ (r : Fin 256) (k : Fin 5632), (dats m 0 c).after 4 t (ix2 r k)
      = (fun i : S8192x5632.Idx => mUP m c (i 0) (i 1)) ((win0_4.blk t).view.emb (ix2 r k)) := fun r k => by
    rw [show (win0_4.blk t).view.emb (ix2 r k) = ix2 (row t.val (pt t) r) k by blk_ext [e4, row_val], after0_4]
    exact (sound m c t.val t.isLt).up r k
  have eta : y = ix2 (y 0) (y 1) := by
    funext a; fin_cases a <;> rfl
  rw [eta]
  exact w (y 0) (y 1)

/-- The activation after the last point. -/
theorem arr5 (c : Dev nD) : (dats m 0 c).arrAt 5 cfg0.N = fun i : S8192x2816.Idx => act (mCONV m c (i 0) (i 1)) := by
  refine (dats m 0 c).arrAt_eq_of_covers 5 _ (by decide +kernel) fun t hf y => ?_
  obtain ⟨e0, e1, e2, e3, e4, e5, e6, e7, e8, e9⟩ := index_tiles t
  blk_simp
  have w : ∀ (r : Fin 256) (k : Fin 2816), (dats m 0 c).after 5 t (ix2 r k)
      = (fun i : S8192x2816.Idx => act (mCONV m c (i 0) (i 1))) ((win0_5.blk t).view.emb (ix2 r k)) := fun r k => by
    rw [show (win0_5.blk t).view.emb (ix2 r k) = ix2 (row t.val (pt t) r) k by blk_ext [e5, row_val], after0_5]
    exact (sound m c t.val t.isLt).silu r k
  have eta : y = ix2 (y 0) (y 1) := by
    funext a; fin_cases a <;> rfl
  rw [eta]
  exact w (y 0) (y 1)

/-- The slope of the activation after the last point. -/
theorem arr6 (c : Dev nD) : (dats m 0 c).arrAt 6 cfg0.N = fun i : S8192x2816.Idx => slope (mCONV m c (i 0) (i 1)) := by
  refine (dats m 0 c).arrAt_eq_of_covers 6 _ (by decide +kernel) fun t hf y => ?_
  obtain ⟨e0, e1, e2, e3, e4, e5, e6, e7, e8, e9⟩ := index_tiles t
  blk_simp
  have w : ∀ (r : Fin 256) (k : Fin 2816), (dats m 0 c).after 6 t (ix2 r k)
      = (fun i : S8192x2816.Idx => slope (mCONV m c (i 0) (i 1))) ((win0_6.blk t).view.emb (ix2 r k)) := fun r k => by
    rw [show (win0_6.blk t).view.emb (ix2 r k) = ix2 (row t.val (pt t) r) k by blk_ext [e6, row_val], after0_6]
    exact (sound m c t.val t.isLt).slope r k
  have eta : y = ix2 (y 0) (y 1) := by
    funext a; fin_cases a <;> rfl
  rw [eta]
  exact w (y 0) (y 1)

/-- The activated product after the last point. -/
theorem arr7 (c : Dev nD) : (dats m 0 c).arrAt 7 cfg0.N = fun i : S8192x2816.Idx => mACT m c (i 0) (i 1) := by
  refine (dats m 0 c).arrAt_eq_of_covers 7 _ (by decide +kernel) fun t hf y => ?_
  obtain ⟨e0, e1, e2, e3, e4, e5, e6, e7, e8, e9⟩ := index_tiles t
  blk_simp
  have w : ∀ (r : Fin 256) (k : Fin 2816), (dats m 0 c).after 7 t (ix2 r k)
      = (fun i : S8192x2816.Idx => mACT m c (i 0) (i 1)) ((win0_7.blk t).view.emb (ix2 r k)) := fun r k => by
    rw [show (win0_7.blk t).view.emb (ix2 r k) = ix2 (row t.val (pt t) r) k by blk_ext [e7, row_val], after0_7]
    exact (sound m c t.val t.isLt).act r k
  have eta : y = ix2 (y 0) (y 1) := by
    funext a; fin_cases a <;> rfl
  rw [eta]
  exact w (y 0) (y 1)

/-- The normalised input after the last point. -/
theorem arr8 (c : Dev nD) : (dats m 0 c).arrAt 8 cfg0.N = fun i : S8192x1024.Idx => mHN m c (i 0) (i 1) := by
  refine (dats m 0 c).arrAt_eq_of_covers 8 _ (by decide +kernel) fun t hf y => ?_
  obtain ⟨e0, e1, e2, e3, e4, e5, e6, e7, e8, e9⟩ := index_tiles t
  blk_simp
  have w : ∀ (r : Fin 256) (k : Fin 1024), (dats m 0 c).after 8 t (ix2 r k)
      = (fun i : S8192x1024.Idx => mHN m c (i 0) (i 1)) ((win0_8.blk t).view.emb (ix2 r k)) := fun r k => by
    rw [show (win0_8.blk t).view.emb (ix2 r k) = ix2 (row t.val (pt t) r) k by blk_ext [e8, row_val], after0_8]
    exact (sound m c t.val t.isLt).h r k
  have eta : y = ix2 (y 0) (y 1) := by
    funext a; fin_cases a <;> rfl
  rw [eta]
  exact w (y 0) (y 1)

/-- The result of the layer after the last point. -/
theorem arr9 (c : Dev nD) : (dats m 0 c).arrAt 9 cfg0.N = fun i : S8192x1024.Idx => mOUT m c (i 0) (i 1) := by
  refine (dats m 0 c).arrAt_eq_of_covers 9 _ (by decide +kernel) fun t hf y => ?_
  obtain ⟨e0, e1, e2, e3, e4, e5, e6, e7, e8, e9⟩ := index_tiles t
  blk_simp
  have w : ∀ (r : Fin 256) (k : Fin 1024), (dats m 0 c).after 9 t (ix2 r k)
      = (fun i : S8192x1024.Idx => mOUT m c (i 0) (i 1)) ((win0_9.blk t).view.emb (ix2 r k)) := fun r k => by
    rw [show (win0_9.blk t).view.emb (ix2 r k) = ix2 (row t.val (pt t) r) k by blk_ext [e9, row_val], after0_9]
    exact (sound m c t.val t.isLt).out r k
  have eta : y = ix2 (y 0) (y 1) := by
    funext a; fin_cases a <;> rfl
  rw [eta]
  exact w (y 0) (y 1)

/-- Every run ends with the six results in terms of the arguments, and the arguments as they were. -/
theorem run_values (ρ : Dev nD → PrngReg) : θ_run defs (onTc (τ := τ) (main (F := Ideal))) ⟨m, fun _ => 0, ρ⟩ (fun r => ∀ c : Dev nD,
      (r.2.mem ((c.tc : Thread nD τ).loc main_v8_0) = (fun i : S8192x5632.Idx => mUP m c (i 0) (i 1))
      ∧ r.2.mem ((c.tc : Thread nD τ).loc main_v8_1) = (fun i : S8192x2816.Idx => act (mCONV m c (i 0) (i 1)))
      ∧ r.2.mem ((c.tc : Thread nD τ).loc main_v8_2) = (fun i : S8192x2816.Idx => slope (mCONV m c (i 0) (i 1)))
      ∧ r.2.mem ((c.tc : Thread nD τ).loc main_v8_3) = (fun i : S8192x2816.Idx => mACT m c (i 0) (i 1))
      ∧ r.2.mem ((c.tc : Thread nD τ).loc main_v8_4) = (fun i : S8192x1024.Idx => mHN m c (i 0) (i 1))
      ∧ r.2.mem ((c.tc : Thread nD τ).loc main_v8_5) = (fun i : S8192x1024.Idx => mOUT m c (i 0) (i 1)))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))) :=
  (θ_run defs _ _).mono (fun _ both c => ⟨⟨(both.1 c |>.1 4).trans (arr4 m c), (both.1 c |>.1 5).trans (arr5 m c), (both.1 c |>.1 6).trans (arr6 m c), (both.1 c |>.1 7).trans (arr7 m c), (both.1 c |>.1 8).trans (arr8 m c), (both.1 c |>.1 9).trans (arr9 m c)⟩, both.2 c⟩)
    (θ_run_and (run_main m ρ) (unchanged m ρ))

/-- An index of two axes from its coordinates. -/
theorem idx2 {a b : ℕ} (i : Shape.Idx ⟨2, ![a, b]⟩) : ix2 (i 0) (i 1) = i := by
  funext k
  match k with
  | ⟨0, _⟩ => rfl
  | ⟨1, _⟩ => rfl

/-- The reference's hidden array is what the kernel leaves. -/
theorem v44_agree (c : Dev nD) : val_main_v44 (F := Ideal) (arg0 m c) (arg1 m c) (arg2 m c) = (fun i : S8192x5632.Idx => mUP m c (i 0) (i 1)) := by
  unfold val_main_v44
  funext i
  exact (congrArg (val_main_v13 (F := Ideal) (arg0 m c) (arg1 m c) (arg2 m c)) (idx2 i).symm).trans (v13_at _ _ _ (i 0) (i 1))

/-- The reference's activation is what the kernel leaves. -/
theorem v45_agree (c : Dev nD) : val_main_v45 (F := Ideal) (arg0 m c) (arg1 m c) (arg2 m c) (arg3 m c) (arg4 m c) = (fun i : S8192x2816.Idx => act (mCONV m c (i 0) (i 1))) := by
  unfold val_main_v45
  funext i
  exact (congrArg (val_main_v39_0 (F := Ideal) (arg0 m c) (arg1 m c) (arg2 m c) (arg3 m c) (arg4 m c)) (idx2 i).symm).trans (v39_at _ _ _ _ _ (i 0) (i 1))

/-- The reference's slope of the activation is what the kernel leaves. -/
theorem v46_agree (c : Dev nD) : val_main_v46 (F := Ideal) (arg0 m c) (arg1 m c) (arg2 m c) (arg3 m c) (arg4 m c) = (fun i : S8192x2816.Idx => slope (mCONV m c (i 0) (i 1))) := by
  unfold val_main_v46
  funext i
  exact (congrArg (val_main_v43 (F := Ideal) (arg0 m c) (arg1 m c) (arg2 m c) (arg3 m c) (arg4 m c)) (idx2 i).symm).trans (v43_at _ _ _ _ _ (i 0) (i 1))

/-- The reference's activated product is what the kernel leaves. -/
theorem v47_agree (c : Dev nD) : val_main_v47 (F := Ideal) (arg0 m c) (arg1 m c) (arg2 m c) (arg3 m c) (arg4 m c) = (fun i : S8192x2816.Idx => mACT m c (i 0) (i 1)) := by
  unfold val_main_v47
  funext i
  exact (congrArg (val_main_v41 (F := Ideal) (arg0 m c) (arg1 m c) (arg2 m c) (arg3 m c) (arg4 m c)) (idx2 i).symm).trans (v41_at _ _ _ _ _ (i 0) (i 1))

/-- The reference's normalised input is what the kernel leaves. -/
theorem v48_agree (c : Dev nD) : val_main_v48 (F := Ideal) (arg0 m c) (arg1 m c) = (fun i : S8192x1024.Idx => mHN m c (i 0) (i 1)) := by
  unfold val_main_v48
  funext i
  exact (congrArg (val_main_v12 (F := Ideal) (arg0 m c) (arg1 m c)) (idx2 i).symm).trans (v12_at _ _ (i 0) (i 1))

/-- The reference's result of the layer is what the kernel leaves. -/
theorem v50_agree (c : Dev nD) : val_main_v50 (F := Ideal) (arg0 m c) (arg1 m c) (arg2 m c) (arg3 m c) (arg4 m c) (arg5 m c) = (fun i : S8192x1024.Idx => mOUT m c (i 0) (i 1)) := by
  funext i
  exact (congrArg (val_main_v50 (F := Ideal) (arg0 m c) (arg1 m c) (arg2 m c) (arg3 m c) (arg4 m c) (arg5 m c)) (idx2 i).symm).trans (v50_at _ _ _ _ _ _ (i 0) (i 1))

/-- Over the reals the kernel and the reference leave the same six arrays. -/
theorem values : Cert.algebraic_FwdKernelIdeal_FwdReferenceIdeal := fun m ρ m' ρ' _ hagree =>
  ⟨fun c => (fun i : S8192x5632.Idx => mUP m c (i 0) (i 1)),
    fun c => (fun i : S8192x2816.Idx => act (mCONV m c (i 0) (i 1))),
    fun c => (fun i : S8192x2816.Idx => slope (mCONV m c (i 0) (i 1))),
    fun c => (fun i : S8192x2816.Idx => mACT m c (i 0) (i 1)),
    fun c => (fun i : S8192x1024.Idx => mHN m c (i 0) (i 1)),
    fun c => (fun i : S8192x1024.Idx => mOUT m c (i 0) (i 1)),
    (θ_run (Cert.FwdKernelIdeal.defs (F := Ideal)) _ _).mono (fun r h c => by
      obtain ⟨⟨h1, h2, h3, h4, h5, h6⟩, rest⟩ := h c
      exact ⟨h1, h2, h3, h4, h5, h6, rest⟩) (run_values m ρ),
    (θ_run (Cert.FwdReferenceIdeal.defs (F := Ideal)) _ _).mono (fun r h c => by
      obtain ⟨r1, r2, r3, r4, r5, r6, rest⟩ := h c
      obtain ⟨s0, s1, s2, s3, s4, s5⟩ := hagree c
      refine ⟨r1.trans ((val_main_v44_eq _ _ _).trans ?_), r2.trans ((val_main_v45_eq m' c).trans ?_), r3.trans ((val_main_v46_eq m' c).trans ?_),
        r4.trans ((val_main_v47_eq m' c).trans ?_), r5.trans ((val_main_v48_eq _ _).trans ?_), r6.trans ((val_main_v50_eq m' c).trans ?_), rest⟩
      · rw [s0, s1, s2]; exact v44_agree m c
      · rw [s0, s1, s2, s3, s4]; exact v45_agree m c
      · rw [s0, s1, s2, s3, s4]; exact v46_agree m c
      · rw [s0, s1, s2, s3, s4]; exact v47_agree m c
      · rw [s0, s1]; exact v48_agree m c
      · rw [s0, s1, s2, s3, s4, s5]; exact v50_agree m c)
      (Cert.FwdReferenceIdeal.Value.run (F := Ideal) m' ρ')⟩

end Cert.FwdKernelIdeal.Fwd

end
-- ==== Proof.lean ====
/- The claims of the ConvFFN backward kernel, of five weight gradient kernels and of the ConvFFN forward kernel: the frames of each kernel, of its
   idealization and of its reference, and that the idealization keeps the kernel's text, and that over the reals kernel and
   reference leave the same results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.UpKernel
public import proofs.«01_k».proof.Proof.Gen.UpKernel.Frame
public import proofs.«01_k».proof.Proof.Gen.UpKernelIdeal
public import proofs.«01_k».proof.Proof.Gen.UpKernelIdeal.Frame
public import proofs.«01_k».proof.Proof.Gen.UpKernelIdeal.Value
public import proofs.«01_k».proof.Proof.Gen.UpReferenceIdeal
public import proofs.«01_k».proof.Proof.Gen.UpReferenceIdeal.Run
public import proofs.«01_k».proof.Proof.Gen.UpReferenceIdeal.Read
public import proofs.«01_k».proof.Proof.Gen.InKernel
public import proofs.«01_k».proof.Proof.Gen.InKernel.Frame
public import proofs.«01_k».proof.Proof.Gen.InKernelIdeal
public import proofs.«01_k».proof.Proof.Gen.InKernelIdeal.Frame
public import proofs.«01_k».proof.Proof.Gen.InKernelIdeal.Value
public import proofs.«01_k».proof.Proof.Gen.InReferenceIdeal
public import proofs.«01_k».proof.Proof.Gen.InReferenceIdeal.Run
public import proofs.«01_k».proof.Proof.Gen.InReferenceIdeal.Read
public import proofs.«01_k».proof.Proof.Gen.DownKernel
public import proofs.«01_k».proof.Proof.Gen.DownKernel.Frame
public import proofs.«01_k».proof.Proof.Gen.DownKernelIdeal
public import proofs.«01_k».proof.Proof.Gen.DownKernelIdeal.Frame
public import proofs.«01_k».proof.Proof.Gen.DownKernelIdeal.Value
public import proofs.«01_k».proof.Proof.Gen.DownReferenceIdeal
public import proofs.«01_k».proof.Proof.Gen.DownReferenceIdeal.Run
public import proofs.«01_k».proof.Proof.Gen.DownReferenceIdeal.Read
public import proofs.«01_k».proof.Proof.Gen.OutKernel
public import proofs.«01_k».proof.Proof.Gen.OutKernel.Frame
public import proofs.«01_k».proof.Proof.Gen.OutKernelIdeal
public import proofs.«01_k».proof.Proof.Gen.OutKernelIdeal.Frame
public import proofs.«01_k».proof.Proof.Gen.OutKernelIdeal.Value
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Gen.BranchKernel
public import proofs.«01_k».proof.Proof.Gen.BranchKernel.Frame
public import proofs.«01_k».proof.Proof.Gen.BranchKernelIdeal
public import proofs.«01_k».proof.Proof.Gen.BranchKernelIdeal.Frame
public import proofs.«01_k».proof.Proof.Gen.BranchKernelIdeal.Value
public import proofs.«01_k».proof.Proof.Gen.BranchReferenceIdeal
public import proofs.«01_k».proof.Proof.Gen.BranchReferenceIdeal.Run
public import proofs.«01_k».proof.Proof.Gen.BranchReferenceIdeal.Read
public import proofs.«01_k».proof.Proof.Gen.FwdKernel
public import proofs.«01_k».proof.Proof.Gen.FwdKernelIdeal
public import proofs.«01_k».proof.Proof.Gen.FwdReferenceIdeal
public import proofs.«01_k».proof.Proof.Gen.FwdReferenceIdeal.Run
public import proofs.«01_k».proof.Proof.Gen.FwdReferenceIdeal.Read
public import proofs.«01_k».proof.Proof.Gen.Pre_finite
public import proofs.«01_k».proof.Proof.Ffn.Kernel.Frame
public import proofs.«01_k».proof.Proof.Ffn.KernelIdeal.Frame
public import proofs.«01_k».proof.Proof.Ffn.Agree
public import proofs.«01_k».proof.Proof.Ffn.Finite
public import proofs.«01_k».proof.Proof.Wgrad.Up
public import proofs.«01_k».proof.Proof.Wgrad.In
public import proofs.«01_k».proof.Proof.Wgrad.Down
public import proofs.«01_k».proof.Proof.Wgrad.Out
public import proofs.«01_k».proof.Proof.Wgrad.Branch
public import proofs.«01_k».proof.Proof.Fwd.Kernel.Frame
public import proofs.«01_k».proof.Proof.Fwd.KernelIdeal.Frame
public import proofs.«01_k».proof.Proof.Fwd.Values
public import Idealize.ShloMosaic.Lib.Claim
public import Idealize.ShloMosaic.Lib.Quiescent

@[expose] public section

noncomputable section

namespace Cert.Proof

open Idealize.ShloMosaic Idealize.SL.Sem

/-- The reference ends with its arguments as they were; it has no counter. -/
theorem frame_reference : Cert.quiescent_ReferenceIdeal := fun m ρ _ =>
  (θ_run (Cert.ReferenceIdeal.defs (F := Ideal)) _ _).mono (fun r h => And.intro (fun c => (h c).2.2.2.2.2.2)
    (sem_eq_zero_of_no_sems rfl r.2)) (Cert.ReferenceIdeal.Value.run (F := Ideal) m ρ)

/-- The reference of the up projection's gradient ends with its arguments as they were; it has no counter. -/
theorem frame_up_reference : Cert.quiescent_UpReferenceIdeal := fun m ρ _ =>
  (θ_run (Cert.UpReferenceIdeal.defs (F := Ideal)) _ _).mono (fun r h => And.intro (fun c => (h c).2)
    (sem_eq_zero_of_no_sems rfl r.2)) (Cert.UpReferenceIdeal.Value.run (F := Ideal) m ρ)

/-- The reference of the mixer's input projection's gradient ends with its arguments as they were; it has no counter. -/
theorem frame_in_reference : Cert.quiescent_InReferenceIdeal := fun m ρ _ =>
  (θ_run (Cert.InReferenceIdeal.defs (F := Ideal)) _ _).mono (fun r h => And.intro (fun c => (h c).2)
    (sem_eq_zero_of_no_sems rfl r.2)) (Cert.InReferenceIdeal.Value.run (F := Ideal) m ρ)

/-- The reference of the down projection's gradient ends with its arguments as they were; it has no counter. -/
theorem frame_down_reference : Cert.quiescent_DownReferenceIdeal := fun m ρ _ =>
  (θ_run (Cert.DownReferenceIdeal.defs (F := Ideal)) _ _).mono (fun r h => And.intro (fun c => (h c).2)
    (sem_eq_zero_of_no_sems rfl r.2)) (Cert.DownReferenceIdeal.Value.run (F := Ideal) m ρ)

/-- The reference of the mixer's output weight's gradient ends with its arguments as they were; it has no counter. -/
theorem frame_out_reference : Cert.quiescent_OutReferenceIdeal := fun m ρ _ =>
  (θ_run (Cert.OutReferenceIdeal.defs (F := Ideal)) _ _).mono (fun r h => And.intro (fun c => (h c).2)
    (sem_eq_zero_of_no_sems rfl r.2)) (Cert.OutReferenceIdeal.Value.run (F := Ideal) m ρ)

/-- The reference of the branch weights' gradient ends with its arguments as they were; it has no counter. -/
theorem frame_branch_reference : Cert.quiescent_BranchReferenceIdeal := fun m ρ _ =>
  (θ_run (Cert.BranchReferenceIdeal.defs (F := Ideal)) _ _).mono (fun r h => And.intro (fun c => (h c).2)
    (sem_eq_zero_of_no_sems rfl r.2)) (Cert.BranchReferenceIdeal.Value.run (F := Ideal) m ρ)

/-- The reference of the ConvFFN forward pass ends with its arguments as they were; it has no counter. -/
theorem frame_fwd_reference : Cert.quiescent_FwdReferenceIdeal := fun m ρ _ =>
  (θ_run (Cert.FwdReferenceIdeal.defs (F := Ideal)) _ _).mono (fun r h => And.intro (fun c => (h c).2.2.2.2.2.2)
    (sem_eq_zero_of_no_sems rfl r.2)) (Cert.FwdReferenceIdeal.Value.run (F := Ideal) m ρ)

/-- Under the precondition every element of the kernel's arguments is real. -/
theorem real_args (m : (ℓ : Loc Cert.KernelIdeal.nD Cert.KernelIdeal.τ Cert.KernelIdeal.sig) → Buf (Elt Ideal) ℓ)
    (h : Cert.Pre_KernelIdeal_finite m) (c : Dev Cert.KernelIdeal.nD) : Cert.KernelIdeal.Ffn.RealArgs m c :=
  have e := Cert.FfnReal.finite_args _ _ _ _ _ _ _ (h c)
  ⟨e.1, e.2.1, e.2.2.1, e.2.2.2.1, e.2.2.2.2.1, e.2.2.2.2.2.1, e.2.2.2.2.2.2⟩

/-- Over the reals the kernel and the reference leave the same six results. -/
theorem same_values : Cert.algebraic_KernelIdeal_ReferenceIdeal_pre_finite := fun m ρ m' ρ' hpre hagree =>
  ⟨_, _, _, _, _, _,
    (θ_run (Cert.KernelIdeal.defs (F := Ideal)) _ _).mono
      (fun r h c => ⟨(h c).1.1, (h c).1.2.1, (h c).1.2.2.1, (h c).1.2.2.2.1, (h c).1.2.2.2.2.1, (h c).1.2.2.2.2.2, (h c).2⟩)
      (Cert.KernelIdeal.Ffn.run_values m ρ),
    Cert.KernelIdeal.Ffn.reference_values m (real_args m hpre) m' ρ' hagree⟩

/-- Every claim. -/
theorem claim : Cert.Claim :=
  ⟨Cert.Kernel.Gen.facts, Cert.KernelIdeal.Gen.facts, Cert.ReferenceIdeal.Gen.facts,
    Cert.UpKernel.Gen.facts, Cert.UpKernelIdeal.Gen.facts, Cert.UpReferenceIdeal.Gen.facts,
    Cert.InKernel.Gen.facts, Cert.InKernelIdeal.Gen.facts, Cert.InReferenceIdeal.Gen.facts,
    Cert.DownKernel.Gen.facts, Cert.DownKernelIdeal.Gen.facts, Cert.DownReferenceIdeal.Gen.facts,
    Cert.OutKernel.Gen.facts, Cert.OutKernelIdeal.Gen.facts, Cert.OutReferenceIdeal.Gen.facts,
    Cert.BranchKernel.Gen.facts, Cert.BranchKernelIdeal.Gen.facts, Cert.BranchReferenceIdeal.Gen.facts,
    Cert.FwdKernel.Gen.facts, Cert.FwdKernelIdeal.Gen.facts, Cert.FwdReferenceIdeal.Gen.facts,
    Cert.Pre_finite.Gen.facts,
    fun m ρ _ => Cert.Kernel.Ffn.frame m ρ,
    fun m ρ _ => Cert.KernelIdeal.Ffn.frame m ρ,
    fun m ρ _ => Cert.KernelIdeal.Ffn.frame m ρ,
    frame_reference,
    fun m ρ _ => frame_reference m ρ trivial,
    fun m ρ _ => Cert.UpKernel.Gen.frame m ρ,
    fun m ρ _ => Cert.UpKernelIdeal.Gen.frame m ρ,
    frame_up_reference,
    fun m ρ _ => Cert.InKernel.Gen.frame m ρ,
    fun m ρ _ => Cert.InKernelIdeal.Gen.frame m ρ,
    frame_in_reference,
    fun m ρ _ => Cert.DownKernel.Gen.frame m ρ,
    fun m ρ _ => Cert.DownKernelIdeal.Gen.frame m ρ,
    frame_down_reference,
    fun m ρ _ => Cert.OutKernel.Gen.frame m ρ,
    fun m ρ _ => Cert.OutKernelIdeal.Gen.frame m ρ,
    frame_out_reference,
    fun m ρ _ => Cert.BranchKernel.Gen.frame m ρ,
    fun m ρ _ => Cert.BranchKernelIdeal.Gen.frame m ρ,
    frame_branch_reference,
    fun m ρ _ => Cert.FwdKernel.Fwd.frame m ρ,
    fun m ρ _ => Cert.FwdKernelIdeal.Fwd.frame m ρ,
    frame_fwd_reference,
    trivial,
    same_values,
    trivial,
    Cert.Wgrad.up_values,
    trivial,
    Cert.Wgrad.in_values,
    trivial,
    Cert.Wgrad.down_values,
    trivial,
    Cert.Wgrad.out_values,
    trivial,
    Cert.Wgrad.branch_values,
    trivial,
    Cert.FwdKernelIdeal.Fwd.values⟩

end Cert.Proof

end
